-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "log2e_16" .f32 0x3DB8AA3B#32 (((1 / 16) * (Real.log 2)⁻¹ : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v3)) (v3 : (c : Dev Cert.KernelIdeal.nD) → Buf (Elt Ideal) ((c.tc : Thread Cert.KernelIdeal.nD Cert.KernelIdeal.τ).loc Cert.KernelIdeal.main_v4)) (v4 : (c : Dev Cert.KernelIdeal.nD) → Buf (Elt Ideal) ((c.tc : Thread Cert.KernelIdeal.nD Cert.KernelIdeal.τ).loc Cert.KernelIdeal.main_v5)) (v5 : (c : Dev Cert.KernelIdeal.nD) → Buf (Elt Ideal) ((c.tc : Thread Cert.KernelIdeal.nD Cert.KernelIdeal.τ).loc Cert.KernelIdeal.main_v6)) (v6 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_v4) = v3 c
          ∧ r.2.mem ((c.tc : Thread Cert.KernelIdeal.nD Cert.KernelIdeal.τ).loc Cert.KernelIdeal.main_v5) = v4 c
          ∧ r.2.mem ((c.tc : Thread Cert.KernelIdeal.nD Cert.KernelIdeal.τ).loc Cert.KernelIdeal.main_v6) = v5 c
          ∧ r.2.mem ((c.tc : Thread Cert.KernelIdeal.nD Cert.KernelIdeal.τ).loc Cert.KernelIdeal.main_v7) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_v81_0) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_v81_1) = v3 c
          ∧ r.2.mem ((c.tc : Thread Cert.ReferenceIdeal.nD Cert.ReferenceIdeal.τ).loc Cert.ReferenceIdeal.main_v53) = v4 c
          ∧ r.2.mem ((c.tc : Thread Cert.ReferenceIdeal.nD Cert.ReferenceIdeal.τ).loc Cert.ReferenceIdeal.main_v81_2) = v5 c
          ∧ r.2.mem ((c.tc : Thread Cert.ReferenceIdeal.nD Cert.ReferenceIdeal.τ).loc Cert.ReferenceIdeal.main_v80) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S9x8192x2048 : Shape := ⟨3, ![9, 8192, 2048]⟩
abbrev S9x8192x512 : Shape := ⟨3, ![9, 8192, 512]⟩
abbrev S_ : Shape := ⟨0, ![]⟩

class Facts : Prop where
  bcast_S_S9x8192x2048 : S_.BroadcastsInDim S9x8192x2048 (![] : Fin 0 → Fin S9x8192x2048.rank)
  reducesTo_S9x8192x2048_S_d0_1_2 : S9x8192x2048.ReducesTo [0, 1, 2] S_
  h_S_ : 0 < S_.numel
  bcast_S_S9x8192x512 : S_.BroadcastsInDim S9x8192x512 (![] : Fin 0 → Fin S9x8192x512.rank)
  reducesTo_S9x8192x512_S_d0_1_2 : S9x8192x512.ReducesTo [0, 1, 2] S_

variable [Facts]

def fn {F : FTy → Type} [FloatOps F] (main_arg0 : FVec F S9x8192x2048 .bf16) (main_arg1 : FVec F S9x8192x512 .bf16) (main_arg2 : FVec F S9x8192x512 .bf16) : IVec S_ 1 × IVec S_ 1 × IVec S_ 1 :=
  let main_v0 : FVec F S9x8192x2048 .bf16 := Host.absf main_arg0
  let main_cst : FVec F S_ .bf16 := constant S_ .bf16 0x7F7F#16
  let main_v1 : FVec F S9x8192x2048 .bf16 := broadcastInDim S9x8192x2048 ![] bcast_S_S9x8192x2048 main_cst
  let main_v2 : IVec S9x8192x2048 1 := cmpf .ole main_v0 main_v1
  let main_c : IVec S_ 1 := constantI S_ 1 1#1
  let main_v3 : IVec S_ 1 := (fun x v => Host.reduce IntOp.andi x v reducesTo_S9x8192x2048_S_d0_1_2 h_S_) main_v2 main_c
  let main_v4 : FVec F S9x8192x512 .bf16 := Host.absf main_arg1
  let main_cst_0 : FVec F S_ .bf16 := constant S_ .bf16 0x7F7F#16
  let main_v5 : FVec F S9x8192x512 .bf16 := broadcastInDim S9x8192x512 ![] bcast_S_S9x8192x512 main_cst_0
  let main_v6 : IVec S9x8192x512 1 := cmpf .ole main_v4 main_v5
  let main_c_1 : IVec S_ 1 := constantI S_ 1 1#1
  let main_v7 : IVec S_ 1 := (fun x v => Host.reduce IntOp.andi x v reducesTo_S9x8192x512_S_d0_1_2 h_S_) main_v6 main_c_1
  let main_v8 : FVec F S9x8192x512 .bf16 := Host.absf main_arg2
  let main_cst_2 : FVec F S_ .bf16 := constant S_ .bf16 0x7F7F#16
  let main_v9 : FVec F S9x8192x512 .bf16 := broadcastInDim S9x8192x512 ![] bcast_S_S9x8192x512 main_cst_2
  let main_v10 : IVec S9x8192x512 1 := cmpf .ole main_v8 main_v9
  let main_c_3 : IVec S_ 1 := constantI S_ 1 1#1
  let main_v11 : IVec S_ 1 := (fun x v => Host.reduce IntOp.andi x v reducesTo_S9x8192x512_S_d0_1_2 h_S_) main_v10 main_c_3
  (main_v3, main_v7, main_v11)
-- ==== Kernel.lean ====
abbrev S9x8192x2048 : Shape := ⟨3, ![9, 8192, 2048]⟩
abbrev S9x8192x512 : Shape := ⟨3, ![9, 8192, 512]⟩
abbrev S9x8192x2x8x128 : Shape := ⟨5, ![9, 8192, 2, 8, 128]⟩
abbrev S9x8x8192 : Shape := ⟨3, ![9, 8, 8192]⟩
abbrev S9x2x8192x256 : Shape := ⟨4, ![9, 2, 8192, 256]⟩
abbrev S9x2x8192 : Shape := ⟨3, ![9, 2, 8192]⟩
abbrev S1x256x2048 : Shape := ⟨3, ![1, 256, 2048]⟩
abbrev S1x256x512 : Shape := ⟨3, ![1, 256, 512]⟩
abbrev S1x256x2x8x128 : Shape := ⟨5, ![1, 256, 2, 8, 128]⟩
abbrev S1x8x256 : Shape := ⟨3, ![1, 8, 256]⟩
abbrev S1x2x256x256 : Shape := ⟨4, ![1, 2, 256, 256]⟩
abbrev S1x2x256 : Shape := ⟨3, ![1, 2, 256]⟩
abbrev S2x32x256x256 : Shape := ⟨4, ![2, 32, 256, 256]⟩
abbrev S2x32x256x128 : Shape := ⟨4, ![2, 32, 256, 128]⟩
abbrev S8x256x256 : Shape := ⟨3, ![8, 256, 256]⟩
abbrev S8x256 : Shape := ⟨2, ![8, 256]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩
abbrev S1x1x256x256 : Shape := ⟨4, ![1, 1, 256, 256]⟩
abbrev S256x128 : Shape := ⟨2, ![256, 128]⟩
abbrev S1x1x256x128 : Shape := ⟨4, ![1, 1, 256, 128]⟩
abbrev S128x256 : Shape := ⟨2, ![128, 256]⟩
abbrev S1x256 : Shape := ⟨2, ![1, 256]⟩
abbrev S1x1x256 : Shape := ⟨3, ![1, 1, 256]⟩
abbrev S256x1x256 : Shape := ⟨3, ![256, 1, 256]⟩
abbrev S256x4x256 : Shape := ⟨3, ![256, 4, 256]⟩
abbrev S256x4x128 : Shape := ⟨3, ![256, 4, 128]⟩
abbrev S1x256x1x4x128 : Shape := ⟨5, ![1, 256, 1, 4, 128]⟩
abbrev S9x8192x8x2x128 : Shape := ⟨5, ![9, 8192, 8, 2, 128]⟩
abbrev S9x8192x8x256 : Shape := ⟨4, ![9, 8192, 8, 256]⟩
abbrev S9x8192x8 : Shape := ⟨3, ![9, 8192, 8]⟩
abbrev S9x8192x2x256 : Shape := ⟨4, ![9, 8192, 2, 256]⟩
abbrev S9x8192x2 : Shape := ⟨3, ![9, 8192, 2]⟩

abbrev nBuf : Space → Nat
  | .hbm => 17
  | .vmem => 25
  | .smem => 0
  | _ => 0

abbrev bufTy : (tb : Table) → Fin (tcTables nBuf tb) → BufTy
  | .hbm, ⟨0, _⟩ => ⟨S9x8192x2048, .bf16⟩
  | .hbm, ⟨1, _⟩ => ⟨S9x8192x512, .bf16⟩
  | .hbm, ⟨2, _⟩ => ⟨S9x8192x512, .bf16⟩
  | .hbm, ⟨3, _⟩ => ⟨S9x8192x2048, .bf16⟩
  | .hbm, ⟨4, _⟩ => ⟨S9x8192x2x8x128, .fp8e4m3⟩
  | .hbm, ⟨5, _⟩ => ⟨S9x8x8192, .f32⟩
  | .hbm, ⟨6, _⟩ => ⟨S9x2x8192x256, .fp8e4m3⟩
  | .hbm, ⟨7, _⟩ => ⟨S9x2x8192, .f32⟩
  | .hbm, ⟨8, _⟩ => ⟨S9x2x8192x256, .fp8e4m3⟩
  | .hbm, ⟨9, _⟩ => ⟨S9x2x8192, .f32⟩
  | .hbm, ⟨10, _⟩ => ⟨S9x8192x8x2x128, .fp8e4m3⟩
  | .hbm, ⟨11, _⟩ => ⟨S9x8192x8x256, .fp8e4m3⟩
  | .hbm, ⟨12, _⟩ => ⟨S9x8192x8, .f32⟩
  | .hbm, ⟨13, _⟩ => ⟨S9x8192x2x256, .fp8e4m3⟩
  | .hbm, ⟨14, _⟩ => ⟨S9x8192x2, .f32⟩
  | .hbm, ⟨15, _⟩ => ⟨S9x8192x2x256, .fp8e4m3⟩
  | .hbm, ⟨16, _⟩ => ⟨S9x8192x2, .f32⟩
  | .local _ .vmem, ⟨0, _⟩ => ⟨S1x256x2048, .bf16⟩
  | .local _ .vmem, ⟨1, _⟩ => ⟨S1x256x2048, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x2048, .bf16⟩
  | .local _ .vmem, ⟨7, _⟩ => ⟨S1x256x2048, .bf16⟩
  | .local _ .vmem, ⟨8, _⟩ => ⟨S1x256x2x8x128, .fp8e4m3⟩
  | .local _ .vmem, ⟨9, _⟩ => ⟨S1x256x2x8x128, .fp8e4m3⟩
  | .local _ .vmem, ⟨10, _⟩ => ⟨S1x8x256, .f32⟩
  | .local _ .vmem, ⟨11, _⟩ => ⟨S1x8x256, .f32⟩
  | .local _ .vmem, ⟨12, _⟩ => ⟨S1x2x256x256, .fp8e4m3⟩
  | .local _ .vmem, ⟨13, _⟩ => ⟨S1x2x256x256, .fp8e4m3⟩
  | .local _ .vmem, ⟨14, _⟩ => ⟨S1x2x256, .f32⟩
  | .local _ .vmem, ⟨15, _⟩ => ⟨S1x2x256, .f32⟩
  | .local _ .vmem, ⟨16, _⟩ => ⟨S1x2x256x256, .fp8e4m3⟩
  | .local _ .vmem, ⟨17, _⟩ => ⟨S1x2x256x256, .fp8e4m3⟩
  | .local _ .vmem, ⟨18, _⟩ => ⟨S1x2x256, .f32⟩
  | .local _ .vmem, ⟨19, _⟩ => ⟨S1x2x256, .f32⟩
  | .local _ .vmem, ⟨20, _⟩ => ⟨S2x32x256x256, .fp8e4m3⟩
  | .local _ .vmem, ⟨21, _⟩ => ⟨S2x32x256x128, .f32⟩
  | .local _ .vmem, ⟨22, _⟩ => ⟨S2x32x256x256, .bf16⟩
  | .local _ .vmem, ⟨23, _⟩ => ⟨S8x256x256, .fp8e4m3⟩
  | .local _ .vmem, ⟨24, _⟩ => ⟨S8x256, .f32⟩
  | _, _ => ⟨S9x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![9, 32], ![false, false]⟩

def k0_off1 (i : grid0.Coords) : Fin 4 → Nat :=
  let c0_21 : Index := 0#32
  let arg1 : BitVec 32 := BitVec.ofNat 32 (i 1).val
  let v94 : Index := Scalar.indexCast arg1
  let c0_22 : Index := 0#32
  let c0_23 : Index := 0#32
  ![0, v94.toNat, 0, 0]
def k0_off2 (i : grid0.Coords) : Fin 4 → Nat :=
  let c0_24 : Index := 0#32
  let arg1 : BitVec 32 := BitVec.ofNat 32 (i 1).val
  let v100 : Index := Scalar.indexCast arg1
  let c0_25 : Index := 0#32
  let c0_26 : Index := 0#32
  ![0, v100.toNat, 0, 0]
def k0_off3 (i : grid0.Coords) : Fin 4 → Nat :=
  let c1_266 : Index := 1#32
  let arg1 : BitVec 32 := BitVec.ofNat 32 (i 1).val
  let v744 : Index := Scalar.indexCast arg1
  let c0_267 : Index := 0#32
  let c0_268 : Index := 0#32
  ![1, v744.toNat, 0, 0]
def k0_off4 (i : grid0.Coords) : Fin 4 → Nat :=
  let c1_269 : Index := 1#32
  let arg1 : BitVec 32 := BitVec.ofNat 32 (i 1).val
  let v750 : Index := Scalar.indexCast arg1
  let c0_270 : Index := 0#32
  let c0_271 : Index := 0#32
  ![1, v750.toNat, 0, 0]
def k0_cond1 (i : grid0.Coords) : BitVec 1 :=
  let arg1 : BitVec 32 := BitVec.ofNat 32 (i 1).val
  let c0_i32_474 : BitVec 32 := 0#32
  let v1300 : BitVec 1 := Scalar.cmpi .eq arg1 c0_i32_474
  let v1301 : BitVec 32 := Scalar.extui v1300
  let c0_i32_475 : BitVec 32 := 0#32
  let v1302 : BitVec 1 := Scalar.cmpi .ne v1301 c0_i32_475
  v1302

def k0_off5 (i : grid0.Coords) : Fin 4 → Nat :=
  let c0_489 : Index := 0#32
  let arg1 : BitVec 32 := BitVec.ofNat 32 (i 1).val
  let v1323 : Index := Scalar.indexCast arg1
  let c0_490 : Index := 0#32
  let c0_491 : Index := 0#32
  ![0, v1323.toNat, 0, 0]
def k0_off6 (i : grid0.Coords) : Fin 4 → Nat :=
  let c0_493 : Index := 0#32
  let arg1 : BitVec 32 := BitVec.ofNat 32 (i 1).val
  let v1327 : Index := Scalar.indexCast arg1
  let c0_494 : Index := 0#32
  let c0_495 : Index := 0#32
  ![0, v1327.toNat, 0, 0]
def k0_off7 (i : grid0.Coords) : Fin 4 → Nat :=
  let c1_605 : Index := 1#32
  let arg1 : BitVec 32 := BitVec.ofNat 32 (i 1).val
  let v1523 : Index := Scalar.indexCast arg1
  let c0_606 : Index := 0#32
  let c0_607 : Index := 0#32
  ![1, v1523.toNat, 0, 0]
def k0_off8 (i : grid0.Coords) : Fin 4 → Nat :=
  let c1_609 : Index := 1#32
  let arg1 : BitVec 32 := BitVec.ofNat 32 (i 1).val
  let v1527 : Index := Scalar.indexCast arg1
  let c0_610 : Index := 0#32
  let c0_611 : Index := 0#32
  ![1, v1527.toNat, 0, 0]
def k0_cond2 (i : grid0.Coords) : BitVec 1 :=
  let arg1 : BitVec 32 := BitVec.ofNat 32 (i 1).val
  let c1_i32_476 : BitVec 32 := 1#32
  let v1303 : BitVec 1 := Scalar.cmpi .eq arg1 c1_i32_476
  let v1304 : BitVec 32 := Scalar.extui v1303
  let c0_i32_477 : BitVec 32 := 0#32
  let v1305 : BitVec 1 := Scalar.cmpi .ne v1304 c0_i32_477
  v1305

def k0_off9 (i : grid0.Coords) : Fin 4 → Nat :=
  let c0_489 : Index := 0#32
  let arg1 : BitVec 32 := BitVec.ofNat 32 (i 1).val
  let v1323 : Index := Scalar.indexCast arg1
  let c0_490 : Index := 0#32
  let c0_491 : Index := 0#32
  ![0, v1323.toNat, 0, 0]
def k0_off10 (i : grid0.Coords) : Fin 4 → Nat :=
  let c0_493 : Index := 0#32
  let arg1 : BitVec 32 := BitVec.ofNat 32 (i 1).val
  let v1327 : Index := Scalar.indexCast arg1
  let c0_494 : Index := 0#32
  let c0_495 : Index := 0#32
  ![0, v1327.toNat, 0, 0]
def k0_off11 (i : grid0.Coords) : Fin 4 → Nat :=
  let c0_498 : Index := 0#32
  let arg1 : BitVec 32 := BitVec.ofNat 32 (i 1).val
  let c1_i32_497 : BitVec 32 := 1#32
  let v1334 : BitVec 32 := Scalar.subi arg1 c1_i32_497
  let v1335 : Index := Scalar.indexCast v1334
  let c0_499 : Index := 0#32
  let c0_500 : Index := 0#32
  ![0, v1335.toNat, 0, 0]
def k0_off12 (i : grid0.Coords) : Fin 4 → Nat :=
  let c0_502 : Index := 0#32
  let arg1 : BitVec 32 := BitVec.ofNat 32 (i 1).val
  let c1_i32_497 : BitVec 32 := 1#32
  let v1334 : BitVec 32 := Scalar.subi arg1 c1_i32_497
  let v1339 : Index := Scalar.indexCast v1334
  let c0_503 : Index := 0#32
  let c0_504 : Index := 0#32
  ![0, v1339.toNat, 0, 0]
def k0_off13 (i : grid0.Coords) : Fin 4 → Nat :=
  let c0_522 : Index := 0#32
  let arg1 : BitVec 32 := BitVec.ofNat 32 (i 1).val
  let c0_i32_518 : BitVec 32 := 0#32
  let v1380 : BitVec 32 := Scalar.subi arg1 c0_i32_518
  let c1_i32_519 : BitVec 32 := 1#32
  let v1381 : BitVec 32 := Scalar.subi v1380 c1_i32_519
  let v1387 : Index := Scalar.indexCast v1381
  let c0_523 : Index := 0#32
  let c0_524 : Index := 0#32
  ![0, v1387.toNat, 0, 0]
def k0_off14 (i : grid0.Coords) : Fin 4 → Nat :=
  let c1_677 : Index := 1#32
  let arg1 : BitVec 32 := BitVec.ofNat 32 (i 1).val
  let v1655 : Index := Scalar.indexCast arg1
  let c0_678 : Index := 0#32
  let c0_679 : Index := 0#32
  ![1, v1655.toNat, 0, 0]
def k0_off15 (i : grid0.Coords) : Fin 4 → Nat :=
  let c1_681 : Index := 1#32
  let arg1 : BitVec 32 := BitVec.ofNat 32 (i 1).val
  let v1659 : Index := Scalar.indexCast arg1
  let c0_682 : Index := 0#32
  let c0_683 : Index := 0#32
  ![1, v1659.toNat, 0, 0]
def k0_off16 (i : grid0.Coords) : Fin 4 → Nat :=
  let c1_686 : Index := 1#32
  let arg1 : BitVec 32 := BitVec.ofNat 32 (i 1).val
  let c1_i32_685 : BitVec 32 := 1#32
  let v1666 : BitVec 32 := Scalar.subi arg1 c1_i32_685
  let v1667 : Index := Scalar.indexCast v1666
  let c0_687 : Index := 0#32
  let c0_688 : Index := 0#32
  ![1, v1667.toNat, 0, 0]
def k0_off17 (i : grid0.Coords) : Fin 4 → Nat :=
  let c1_690 : Index := 1#32
  let arg1 : BitVec 32 := BitVec.ofNat 32 (i 1).val
  let c1_i32_685 : BitVec 32 := 1#32
  let v1666 : BitVec 32 := Scalar.subi arg1 c1_i32_685
  let v1671 : Index := Scalar.indexCast v1666
  let c0_691 : Index := 0#32
  let c0_692 : Index := 0#32
  ![1, v1671.toNat, 0, 0]
def k0_off18 (i : grid0.Coords) : Fin 4 → Nat :=
  let c1_710 : Index := 1#32
  let arg1 : BitVec 32 := BitVec.ofNat 32 (i 1).val
  let c0_i32_706 : BitVec 32 := 0#32
  let v1712 : BitVec 32 := Scalar.subi arg1 c0_i32_706
  let c1_i32_707 : BitVec 32 := 1#32
  let v1713 : BitVec 32 := Scalar.subi v1712 c1_i32_707
  let v1719 : Index := Scalar.indexCast v1713
  let c0_711 : Index := 0#32
  let c0_712 : Index := 0#32
  ![1, v1719.toNat, 0, 0]
def k0_cond3 (i : grid0.Coords) : BitVec 1 :=
  let arg1 : BitVec 32 := BitVec.ofNat 32 (i 1).val
  let c2_i32_478 : BitVec 32 := 2#32
  let v1306 : BitVec 1 := Scalar.cmpi .eq arg1 c2_i32_478
  let v1307 : BitVec 32 := Scalar.extui v1306
  let c0_i32_479 : BitVec 32 := 0#32
  let v1308 : BitVec 1 := Scalar.cmpi .ne v1307 c0_i32_479
  v1308

def k0_off19 (i : grid0.Coords) : Fin 4 → Nat :=
  let c0_489 : Index := 0#32
  let arg1 : BitVec 32 := BitVec.ofNat 32 (i 1).val
  let v1323 : Index := Scalar.indexCast arg1
  let c0_490 : Index := 0#32
  let c0_491 : Index := 0#32
  ![0, v1323.toNat, 0, 0]
def k0_off20 (i : grid0.Coords) : Fin 4 → Nat :=
  let c0_493 : Index := 0#32
  let arg1 : BitVec 32 := BitVec.ofNat 32 (i 1).val
  let v1327 : Index := Scalar.indexCast arg1
  let c0_494 : Index := 0#32
  let c0_495 : Index := 0#32
  ![0, v1327.toNat, 0, 0]
def k0_off21 (i : grid0.Coords) (c1_i32_497 : BitVec 32) : Fin 4 → Nat :=
  let c0_498 : Index := 0#32
  let arg1 : BitVec 32 := BitVec.ofNat 32 (i 1).val
  let v1334 : BitVec 32 := Scalar.subi arg1 c1_i32_497
  let v1335 : Index := Scalar.indexCast v1334
  let c0_499 : Index := 0#32
  let c0_500 : Index := 0#32
  ![0, v1335.toNat, 0, 0]
def k0_off22 (i : grid0.Coords) (c1_i32_497 : BitVec 32) : Fin 4 → Nat :=
  let c0_502 : Index := 0#32
  let arg1 : BitVec 32 := BitVec.ofNat 32 (i 1).val
  let v1334 : BitVec 32 := Scalar.subi arg1 c1_i32_497
  let v1339 : Index := Scalar.indexCast v1334
  let c0_503 : Index := 0#32
  let c0_504 : Index := 0#32
  ![0, v1339.toNat, 0, 0]
def k0_off23 (i : grid0.Coords) (c0_i32_528 : BitVec 32) : Fin 4 → Nat :=
  let c0_532 : Index := 0#32
  let arg1 : BitVec 32 := BitVec.ofNat 32 (i 1).val
  let v1401 : BitVec 32 := Scalar.subi arg1 c0_i32_528
  let c1_i32_529 : BitVec 32 := 1#32
  let v1402 : BitVec 32 := Scalar.subi v1401 c1_i32_529
  let v1408 : Index := Scalar.indexCast v1402
  let c0_533 : Index := 0#32
  let c0_534 : Index := 0#32
  ![0, v1408.toNat, 0, 0]
def k0_off24 (i : grid0.Coords) : Fin 4 → Nat :=
  let c1_749 : Index := 1#32
  let arg1 : BitVec 32 := BitVec.ofNat 32 (i 1).val
  let v1787 : Index := Scalar.indexCast arg1
  let c0_750 : Index := 0#32
  let c0_751 : Index := 0#32
  ![1, v1787.toNat, 0, 0]
def k0_off25 (i : grid0.Coords) : Fin 4 → Nat :=
  let c1_753 : Index := 1#32
  let arg1 : BitVec 32 := BitVec.ofNat 32 (i 1).val
  let v1791 : Index := Scalar.indexCast arg1
  let c0_754 : Index := 0#32
  let c0_755 : Index := 0#32
  ![1, v1791.toNat, 0, 0]
def k0_off26 (i : grid0.Coords) (c1_i32_757 : BitVec 32) : Fin 4 → Nat :=
  let c1_758 : Index := 1#32
  let arg1 : BitVec 32 := BitVec.ofNat 32 (i 1).val
  let v1798 : BitVec 32 := Scalar.subi arg1 c1_i32_757
  let v1799 : Index := Scalar.indexCast v1798
  let c0_759 : Index := 0#32
  let c0_760 : Index := 0#32
  ![1, v1799.toNat, 0, 0]
def k0_off27 (i : grid0.Coords) (c1_i32_757 : BitVec 32) : Fin 4 → Nat :=
  let c1_762 : Index := 1#32
  let arg1 : BitVec 32 := BitVec.ofNat 32 (i 1).val
  let v1798 : BitVec 32 := Scalar.subi arg1 c1_i32_757
  let v1803 : Index := Scalar.indexCast v1798
  let c0_763 : Index := 0#32
  let c0_764 : Index := 0#32
  ![1, v1803.toNat, 0, 0]
def k0_off28 (i : grid0.Coords) (c0_i32_788 : BitVec 32) : Fin 4 → Nat :=
  let c1_792 : Index := 1#32
  let arg1 : BitVec 32 := BitVec.ofNat 32 (i 1).val
  let v1865 : BitVec 32 := Scalar.subi arg1 c0_i32_788
  let c1_i32_789 : BitVec 32 := 1#32
  let v1866 : BitVec 32 := Scalar.subi v1865 c1_i32_789
  let v1872 : Index := Scalar.indexCast v1866
  let c0_793 : Index := 0#32
  let c0_794 : Index := 0#32
  ![1, v1872.toNat, 0, 0]
def k0_cond4 (i : grid0.Coords) : BitVec 1 :=
  let arg1 : BitVec 32 := BitVec.ofNat 32 (i 1).val
  let c3_i32 : BitVec 32 := 3#32
  let v1309 : BitVec 1 := Scalar.cmpi .eq arg1 c3_i32
  let v1310 : BitVec 32 := Scalar.extui v1309
  let c0_i32_480 : BitVec 32 := 0#32
  let v1311 : BitVec 1 := Scalar.cmpi .ne v1310 c0_i32_480
  v1311

def k0_off29 (i : grid0.Coords) : Fin 4 → Nat :=
  let c0_489 : Index := 0#32
  let arg1 : BitVec 32 := BitVec.ofNat 32 (i 1).val
  let v1323 : Index := Scalar.indexCast arg1
  let c0_490 : Index := 0#32
  let c0_491 : Index := 0#32
  ![0, v1323.toNat, 0, 0]
def k0_off30 (i : grid0.Coords) : Fin 4 → Nat :=
  let c0_493 : Index := 0#32
  let arg1 : BitVec 32 := BitVec.ofNat 32 (i 1).val
  let v1327 : Index := Scalar.indexCast arg1
  let c0_494 : Index := 0#32
  let c0_495 : Index := 0#32
  ![0, v1327.toNat, 0, 0]
def k0_off31 (i : grid0.Coords) (c1_i32_497 : BitVec 32) : Fin 4 → Nat :=
  let c0_498 : Index := 0#32
  let arg1 : BitVec 32 := BitVec.ofNat 32 (i 1).val
  let v1334 : BitVec 32 := Scalar.subi arg1 c1_i32_497
  let v1335 : Index := Scalar.indexCast v1334
  let c0_499 : Index := 0#32
  let c0_500 : Index := 0#32
  ![0, v1335.toNat, 0, 0]
def k0_off32 (i : grid0.Coords) (c1_i32_497 : BitVec 32) : Fin 4 → Nat :=
  let c0_502 : Index := 0#32
  let arg1 : BitVec 32 := BitVec.ofNat 32 (i 1).val
  let v1334 : BitVec 32 := Scalar.subi arg1 c1_i32_497
  let v1339 : Index := Scalar.indexCast v1334
  let c0_503 : Index := 0#32
  let c0_504 : Index := 0#32
  ![0, v1339.toNat, 0, 0]
def k0_off33 (i : grid0.Coords) (c0_i32_538 : BitVec 32) : Fin 4 → Nat :=
  let c0_542 : Index := 0#32
  let arg1 : BitVec 32 := BitVec.ofNat 32 (i 1).val
  let v1422 : BitVec 32 := Scalar.subi arg1 c0_i32_538
  let c1_i32_539 : BitVec 32 := 1#32
  let v1423 : BitVec 32 := Scalar.subi v1422 c1_i32_539
  let v1429 : Index := Scalar.indexCast v1423
  let c0_543 : Index := 0#32
  let c0_544 : Index := 0#32
  ![0, v1429.toNat, 0, 0]
def k0_off34 (i : grid0.Coords) : Fin 4 → Nat :=
  let c1_821 : Index := 1#32
  let arg1 : BitVec 32 := BitVec.ofNat 32 (i 1).val
  let v1919 : Index := Scalar.indexCast arg1
  let c0_822 : Index := 0#32
  let c0_823 : Index := 0#32
  ![1, v1919.toNat, 0, 0]
def k0_off35 (i : grid0.Coords) : Fin 4 → Nat :=
  let c1_825 : Index := 1#32
  let arg1 : BitVec 32 := BitVec.ofNat 32 (i 1).val
  let v1923 : Index := Scalar.indexCast arg1
  let c0_826 : Index := 0#32
  let c0_827 : Index := 0#32
  ![1, v1923.toNat, 0, 0]
def k0_off36 (i : grid0.Coords) (c1_i32_829 : BitVec 32) : Fin 4 → Nat :=
  let c1_830 : Index := 1#32
  let arg1 : BitVec 32 := BitVec.ofNat 32 (i 1).val
  let v1930 : BitVec 32 := Scalar.subi arg1 c1_i32_829
  let v1931 : Index := Scalar.indexCast v1930
  let c0_831 : Index := 0#32
  let c0_832 : Index := 0#32
  ![1, v1931.toNat, 0, 0]
def k0_off37 (i : grid0.Coords) (c1_i32_829 : BitVec 32) : Fin 4 → Nat :=
  let c1_834 : Index := 1#32
  let arg1 : BitVec 32 := BitVec.ofNat 32 (i 1).val
  let v1930 : BitVec 32 := Scalar.subi arg1 c1_i32_829
  let v1935 : Index := Scalar.indexCast v1930
  let c0_835 : Index := 0#32
  let c0_836 : Index := 0#32
  ![1, v1935.toNat, 0, 0]
def k0_off38 (i : grid0.Coords) (c0_i32_870 : BitVec 32) : Fin 4 → Nat :=
  let c1_874 : Index := 1#32
  let arg1 : BitVec 32 := BitVec.ofNat 32 (i 1).val
  let v2018 : BitVec 32 := Scalar.subi arg1 c0_i32_870
  let c1_i32_871 : BitVec 32 := 1#32
  let v2019 : BitVec 32 := Scalar.subi v2018 c1_i32_871
  let v2025 : Index := Scalar.indexCast v2019
  let c0_875 : Index := 0#32
  let c0_876 : Index := 0#32
  ![1, v2025.toNat, 0, 0]
def k0_cond5 (i : grid0.Coords) : BitVec 1 :=
  let arg1 : BitVec 32 := BitVec.ofNat 32 (i 1).val
  let c4_i32_481 : BitVec 32 := 4#32
  let v1312 : BitVec 1 := Scalar.cmpi .sge arg1 c4_i32_481
  let v1313 : BitVec 32 := Scalar.extui v1312
  let c0_i32_482 : BitVec 32 := 0#32
  let v1314 : BitVec 1 := Scalar.cmpi .ne v1313 c0_i32_482
  v1314

def k0_off39 (i : grid0.Coords) : Fin 4 → Nat :=
  let c0_489 : Index := 0#32
  let arg1 : BitVec 32 := BitVec.ofNat 32 (i 1).val
  let v1323 : Index := Scalar.indexCast arg1
  let c0_490 : Index := 0#32
  let c0_491 : Index := 0#32
  ![0, v1323.toNat, 0, 0]
def k0_off40 (i : grid0.Coords) : Fin 4 → Nat :=
  let c0_493 : Index := 0#32
  let arg1 : BitVec 32 := BitVec.ofNat 32 (i 1).val
  let v1327 : Index := Scalar.indexCast arg1
  let c0_494 : Index := 0#32
  let c0_495 : Index := 0#32
  ![0, v1327.toNat, 0, 0]
def k0_off41 (i : grid0.Coords) (c4_i32_496 : BitVec 32) : Fin 4 → Nat :=
  let c0_497 : Index := 0#32
  let arg1 : BitVec 32 := BitVec.ofNat 32 (i 1).val
  let v1332 : BitVec 32 := Scalar.subi arg1 c4_i32_496
  let v1333 : Index := Scalar.indexCast v1332
  let c0_498 : Index := 0#32
  let c0_499 : Index := 0#32
  ![0, v1333.toNat, 0, 0]
def k0_off42 (i : grid0.Coords) (c4_i32_496 : BitVec 32) : Fin 4 → Nat :=
  let c0_501 : Index := 0#32
  let arg1 : BitVec 32 := BitVec.ofNat 32 (i 1).val
  let v1332 : BitVec 32 := Scalar.subi arg1 c4_i32_496
  let v1337 : Index := Scalar.indexCast v1332
  let c0_502 : Index := 0#32
  let c0_503 : Index := 0#32
  ![0, v1337.toNat, 0, 0]
def k0_off43 (i : grid0.Coords) (c0_i32_552 : BitVec 32) : Fin 4 → Nat :=
  let c0_556 : Index := 0#32
  let arg1 : BitVec 32 := BitVec.ofNat 32 (i 1).val
  let v1442 : BitVec 32 := Scalar.subi arg1 c0_i32_552
  let c1_i32_553 : BitVec 32 := 1#32
  let v1443 : BitVec 32 := Scalar.subi v1442 c1_i32_553
  let v1449 : Index := Scalar.indexCast v1443
  let c0_557 : Index := 0#32
  let c0_558 : Index := 0#32
  ![0, v1449.toNat, 0, 0]
def k0_off44 (i : grid0.Coords) : Fin 4 → Nat :=
  let c1_877 : Index := 1#32
  let arg1 : BitVec 32 := BitVec.ofNat 32 (i 1).val
  let v1999 : Index := Scalar.indexCast arg1
  let c0_878 : Index := 0#32
  let c0_879 : Index := 0#32
  ![1, v1999.toNat, 0, 0]
def k0_off45 (i : grid0.Coords) : Fin 4 → Nat :=
  let c1_881 : Index := 1#32
  let arg1 : BitVec 32 := BitVec.ofNat 32 (i 1).val
  let v2003 : Index := Scalar.indexCast arg1
  let c0_882 : Index := 0#32
  let c0_883 : Index := 0#32
  ![1, v2003.toNat, 0, 0]
def k0_off46 (i : grid0.Coords) (c4_i32_884 : BitVec 32) : Fin 4 → Nat :=
  let c1_885 : Index := 1#32
  let arg1 : BitVec 32 := BitVec.ofNat 32 (i 1).val
  let v2008 : BitVec 32 := Scalar.subi arg1 c4_i32_884
  let v2009 : Index := Scalar.indexCast v2008
  let c0_886 : Index := 0#32
  let c0_887 : Index := 0#32
  ![1, v2009.toNat, 0, 0]
def k0_off47 (i : grid0.Coords) (c4_i32_884 : BitVec 32) : Fin 4 → Nat :=
  let c1_889 : Index := 1#32
  let arg1 : BitVec 32 := BitVec.ofNat 32 (i 1).val
  let v2008 : BitVec 32 := Scalar.subi arg1 c4_i32_884
  let v2013 : Index := Scalar.indexCast v2008
  let c0_890 : Index := 0#32
  let c0_891 : Index := 0#32
  ![1, v2013.toNat, 0, 0]
def k0_off48 (i : grid0.Coords) (c0_i32_940 : BitVec 32) : Fin 4 → Nat :=
  let c1_944 : Index := 1#32
  let arg1 : BitVec 32 := BitVec.ofNat 32 (i 1).val
  let v2118 : BitVec 32 := Scalar.subi arg1 c0_i32_940
  let c1_i32_941 : BitVec 32 := 1#32
  let v2119 : BitVec 32 := Scalar.subi v2118 c1_i32_941
  let v2125 : Index := Scalar.indexCast v2119
  let c0_945 : Index := 0#32
  let c0_946 : Index := 0#32
  ![1, v2125.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2x8x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x256x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x256x256 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "log2e_16" => some (((1 / 16) * (Real.log 2)⁻¹ : ℝ) : EReal)
  | _ => none
-- ==== ReferenceIdeal.lean ====
abbrev S9x8192x2048 : Shape := ⟨3, ![9, 8192, 2048]⟩
abbrev S9x8192x512 : Shape := ⟨3, ![9, 8192, 512]⟩
abbrev S9x8192x8x256 : Shape := ⟨4, ![9, 8192, 8, 256]⟩
abbrev S_ : Shape := ⟨0, ![]⟩
abbrev S9x8192x8 : Shape := ⟨3, ![9, 8192, 8]⟩
abbrev S9x8192x8x1 : Shape := ⟨4, ![9, 8192, 8, 1]⟩
abbrev S253 : Shape := ⟨1, ![253]⟩
abbrev S1x1x1x253 : Shape := ⟨4, ![1, 1, 1, 253]⟩
abbrev S9x8192x8x253 : Shape := ⟨4, ![9, 8192, 8, 253]⟩
abbrev S9x8192x2x256 : Shape := ⟨4, ![9, 8192, 2, 256]⟩
abbrev S9x8192x2 : Shape := ⟨3, ![9, 8192, 2]⟩
abbrev S9x8192x2x1 : Shape := ⟨4, ![9, 8192, 2, 1]⟩
abbrev S9x8192x2x253 : Shape := ⟨4, ![9, 8192, 2, 253]⟩
abbrev S9x8192x2x4x256 : Shape := ⟨5, ![9, 8192, 2, 4, 256]⟩
abbrev S9x2x8192x4x8192 : Shape := ⟨5, ![9, 2, 8192, 4, 8192]⟩
abbrev S9x8192x2x4 : Shape := ⟨4, ![9, 8192, 2, 4]⟩
abbrev S9x2x8192x4 : Shape := ⟨4, ![9, 2, 8192, 4]⟩
abbrev S9x2x8192 : Shape := ⟨3, ![9, 2, 8192]⟩
abbrev S9x2x8192x4x1 : Shape := ⟨5, ![9, 2, 8192, 4, 1]⟩
abbrev S9x2x1x1x8192 : Shape := ⟨5, ![9, 2, 1, 1, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8192x1x8192 : Shape := ⟨3, ![8192, 1, 8192]⟩
abbrev S9x2x8192x4x256 : Shape := ⟨5, ![9, 2, 8192, 4, 256]⟩

abbrev nBuf : Space → Nat
  | .hbm => 218
  | .vmem => 9
  | .smem => 0
  | _ => 0

abbrev hbmTy0_0 (i : Nat) : BufTy := match i % 128 with
  | 0 => ⟨S9x8192x2048, .bf16⟩
  | 1 => ⟨S9x8192x512, .bf16⟩
  | 2 => ⟨S9x8192x512, .bf16⟩
  | 3 => ⟨S9x8192x8x256, .bf16⟩
  | 4 => ⟨S9x8192x8x256, .f32⟩
  | 5 => ⟨S9x8192x8x256, .f32⟩
  | 6 => ⟨S_, .f32⟩
  | 7 => ⟨S9x8192x8, .f32⟩
  | 8 => ⟨S_, .f32⟩
  | 9 => ⟨S9x8192x8, .f32⟩
  | 10 => ⟨S9x8192x8, .f32⟩
  | 11 => ⟨S9x8192x8x1, .f32⟩
  | 12 => ⟨S253, .i32⟩
  | 13 => ⟨S_, .i32⟩
  | 14 => ⟨S253, .i32⟩
  | 15 => ⟨S253, .i32⟩
  | 16 => ⟨S253, .f32⟩
  | 17 => ⟨S_, .f32⟩
  | 18 => ⟨S253, .f32⟩
  | 19 => ⟨S253, .f32⟩
  | 20 => ⟨S1x1x1x253, .f32⟩
  | 21 => ⟨S9x8192x8x253, .f32⟩
  | 22 => ⟨S9x8192x8x253, .f32⟩
  | 23 => ⟨S9x8192x8x253, .i1⟩
  | 24 => ⟨S_, .f32⟩
  | 25 => ⟨S_, .f32⟩
  | 26 => ⟨S9x8192x8x253, .f32⟩
  | 27 => ⟨S9x8192x8x253, .f32⟩
  | 28 => ⟨S9x8192x8x253, .f32⟩
  | 29 => ⟨S_, .f32⟩
  | 30 => ⟨S9x8192x8, .f32⟩
  | 31 => ⟨S9x8192x8x1, .f32⟩
  | 32 => ⟨S_, .f32⟩
  | 33 => ⟨S9x8192x8x1, .f32⟩
  | 34 => ⟨S9x8192x8x1, .i1⟩
  | 35 => ⟨S_, .f32⟩
  | 36 => ⟨S_, .f32⟩
  | 37 => ⟨S9x8192x8x1, .f32⟩
  | 38 => ⟨S9x8192x8x1, .f32⟩
  | 39 => ⟨S9x8192x8x256, .f32⟩
  | 40 => ⟨S9x8192x8x256, .f32⟩
  | 41 => ⟨S_, .f32⟩
  | 42 => ⟨S_, .f32⟩
  | 43 => ⟨S_, .f32⟩
  | 44 => ⟨S9x8192x8x256, .f32⟩
  | 45 => ⟨S9x8192x8x256, .f32⟩
  | 46 => ⟨S_, .f32⟩
  | 47 => ⟨S9x8192x8x256, .f32⟩
  | 48 => ⟨S9x8192x8x256, .f32⟩
  | 49 => ⟨S9x8192x8, .f32⟩
  | 50 => ⟨S9x8192x2x256, .bf16⟩
  | 51 => ⟨S9x8192x2x256, .f32⟩
  | 52 => ⟨S9x8192x2x256, .f32⟩
  | 53 => ⟨S_, .f32⟩
  | 54 => ⟨S9x8192x2, .f32⟩
  | 55 => ⟨S_, .f32⟩
  | 56 => ⟨S9x8192x2, .f32⟩
  | 57 => ⟨S9x8192x2, .f32⟩
  | 58 => ⟨S9x8192x2x1, .f32⟩
  | 59 => ⟨S253, .i32⟩
  | 60 => ⟨S_, .i32⟩
  | 61 => ⟨S253, .i32⟩
  | 62 => ⟨S253, .i32⟩
  | 63 => ⟨S253, .f32⟩
  | 64 => ⟨S_, .f32⟩
  | 65 => ⟨S253, .f32⟩
  | 66 => ⟨S253, .f32⟩
  | 67 => ⟨S1x1x1x253, .f32⟩
  | 68 => ⟨S9x8192x2x253, .f32⟩
  | 69 => ⟨S9x8192x2x253, .f32⟩
  | 70 => ⟨S9x8192x2x253, .i1⟩
  | 71 => ⟨S_, .f32⟩
  | 72 => ⟨S_, .f32⟩
  | 73 => ⟨S9x8192x2x253, .f32⟩
  | 74 => ⟨S9x8192x2x253, .f32⟩
  | 75 => ⟨S9x8192x2x253, .f32⟩
  | 76 => ⟨S_, .f32⟩
  | 77 => ⟨S9x8192x2, .f32⟩
  | 78 => ⟨S9x8192x2x1, .f32⟩
  | 79 => ⟨S_, .f32⟩
  | 80 => ⟨S9x8192x2x1, .f32⟩
  | 81 => ⟨S9x8192x2x1, .i1⟩
  | 82 => ⟨S_, .f32⟩
  | 83 => ⟨S_, .f32⟩
  | 84 => ⟨S9x8192x2x1, .f32⟩
  | 85 => ⟨S9x8192x2x1, .f32⟩
  | 86 => ⟨S9x8192x2x256, .f32⟩
  | 87 => ⟨S9x8192x2x256, .f32⟩
  | 88 => ⟨S_, .f32⟩
  | 89 => ⟨S_, .f32⟩
  | 90 => ⟨S_, .f32⟩
  | 91 => ⟨S9x8192x2x256, .f32⟩
  | 92 => ⟨S9x8192x2x256, .f32⟩
  | 93 => ⟨S_, .f32⟩
  | 94 => ⟨S9x8192x2x256, .f32⟩
  | 95 => ⟨S9x8192x2x256, .f32⟩
  | 96 => ⟨S9x8192x2, .f32⟩
  | 97 => ⟨S9x8192x2x256, .bf16⟩
  | 98 => ⟨S9x8192x2x256, .f32⟩
  | 99 => ⟨S9x8192x2x256, .f32⟩
  | 100 => ⟨S_, .f32⟩
  | 101 => ⟨S9x8192x2, .f32⟩
  | 102 => ⟨S_, .f32⟩
  | 103 => ⟨S9x8192x2, .f32⟩
  | 104 => ⟨S9x8192x2, .f32⟩
  | 105 => ⟨S9x8192x2x1, .f32⟩
  | 106 => ⟨S253, .i32⟩
  | 107 => ⟨S_, .i32⟩
  | 108 => ⟨S253, .i32⟩
  | 109 => ⟨S253, .i32⟩
  | 110 => ⟨S253, .f32⟩
  | 111 => ⟨S_, .f32⟩
  | 112 => ⟨S253, .f32⟩
  | 113 => ⟨S253, .f32⟩
  | 114 => ⟨S1x1x1x253, .f32⟩
  | 115 => ⟨S9x8192x2x253, .f32⟩
  | 116 => ⟨S9x8192x2x253, .f32⟩
  | 117 => ⟨S9x8192x2x253, .i1⟩
  | 118 => ⟨S_, .f32⟩
  | 119 => ⟨S_, .f32⟩
  | 120 => ⟨S9x8192x2x253, .f32⟩
  | 121 => ⟨S9x8192x2x253, .f32⟩
  | 122 => ⟨S9x8192x2x253, .f32⟩
  | 123 => ⟨S_, .f32⟩
  | 124 => ⟨S9x8192x2, .f32⟩
  | 125 => ⟨S9x8192x2x1, .f32⟩
  | 126 => ⟨S_, .f32⟩
  | 127 => ⟨S9x8192x2x1, .f32⟩
  | _ => ⟨S9x8192x2048, .bf16⟩

abbrev hbmTy0_1 (i : Nat) : BufTy := match i % 128 with
  | 0 => ⟨S9x8192x2x1, .i1⟩
  | 1 => ⟨S_, .f32⟩
  | 2 => ⟨S_, .f32⟩
  | 3 => ⟨S9x8192x2x1, .f32⟩
  | 4 => ⟨S9x8192x2x1, .f32⟩
  | 5 => ⟨S9x8192x2x256, .f32⟩
  | 6 => ⟨S9x8192x2x256, .f32⟩
  | 7 => ⟨S_, .f32⟩
  | 8 => ⟨S_, .f32⟩
  | 9 => ⟨S_, .f32⟩
  | 10 => ⟨S9x8192x2x256, .f32⟩
  | 11 => ⟨S9x8192x2x256, .f32⟩
  | 12 => ⟨S_, .f32⟩
  | 13 => ⟨S9x8192x2x256, .f32⟩
  | 14 => ⟨S9x8192x2x256, .f32⟩
  | 15 => ⟨S9x8192x2, .f32⟩
  | 16 => ⟨S9x8192x8x256, .fp8e4m3⟩
  | 17 => ⟨S9x8192x2x256, .fp8e4m3⟩
  | 18 => ⟨S9x8192x2x256, .fp8e4m3⟩
  | 19 => ⟨S9x8192x8x256, .bf16⟩
  | 20 => ⟨S9x8192x2x256, .bf16⟩
  | 21 => ⟨S9x8192x2x256, .bf16⟩
  | 22 => ⟨S9x8192x2x4x256, .bf16⟩
  | 23 => ⟨S9x2x8192x4x8192, .f32⟩
  | 24 => ⟨S9x8192x2x4, .f32⟩
  | 25 => ⟨S9x2x8192x4, .f32⟩
  | 26 => ⟨S_, .f32⟩
  | 27 => ⟨S9x2x8192x4, .f32⟩
  | 28 => ⟨S9x2x8192x4, .f32⟩
  | 29 => ⟨S9x2x8192, .f32⟩
  | 30 => ⟨S9x2x8192x4x1, .f32⟩
  | 31 => ⟨S9x2x8192x4x8192, .f32⟩
  | 32 => ⟨S9x2x8192x4x8192, .f32⟩
  | 33 => ⟨S9x2x1x1x8192, .f32⟩
  | 34 => ⟨S9x2x8192x4x8192, .f32⟩
  | 35 => ⟨S9x2x8192x4x8192, .f32⟩
  | 36 => ⟨S8192, .i32⟩
  | 37 => ⟨S8192x1, .i32⟩
  | 38 => ⟨S8192, .i32⟩
  | 39 => ⟨S1x8192, .i32⟩
  | 40 => ⟨S8192x8192, .i32⟩
  | 41 => ⟨S8192x8192, .i32⟩
  | 42 => ⟨S8192x8192, .i1⟩
  | 43 => ⟨S_, .i32⟩
  | 44 => ⟨S8192x1, .i32⟩
  | 45 => ⟨S8192x1, .i32⟩
  | 46 => ⟨S8192x8192, .i32⟩
  | 47 => ⟨S8192x8192, .i32⟩
  | 48 => ⟨S8192x8192, .i1⟩
  | 49 => ⟨S8192x8192, .i1⟩
  | 50 => ⟨S8192x1x8192, .i1⟩
  | 51 => ⟨S_, .f32⟩
  | 52 => ⟨S_, .f32⟩
  | 53 => ⟨S9x2x8192x4x8192, .i1⟩
  | 54 => ⟨S9x2x8192x4x8192, .f32⟩
  | 55 => ⟨S9x2x8192x4x8192, .f32⟩
  | 56 => ⟨S_, .f32⟩
  | 57 => ⟨S9x2x8192x4, .f32⟩
  | 58 => ⟨S9x2x8192x4x1, .f32⟩
  | 59 => ⟨S9x2x8192x4x8192, .f32⟩
  | 60 => ⟨S9x2x8192x4x8192, .f32⟩
  | 61 => ⟨S9x2x8192x4x8192, .f32⟩
  | 62 => ⟨S_, .f32⟩
  | 63 => ⟨S9x2x8192x4, .f32⟩
  | 64 => ⟨S_, .f32⟩
  | 65 => ⟨S9x2x8192x4x8192, .f32⟩
  | 66 => ⟨S9x2x8192x4x8192, .f32⟩
  | 67 => ⟨S_, .f32⟩
  | 68 => ⟨S_, .f32⟩
  | 69 => ⟨S_, .f32⟩
  | 70 => ⟨S9x2x8192x4x8192, .f32⟩
  | 71 => ⟨S9x2x8192x4x8192, .f32⟩
  | 72 => ⟨S_, .f32⟩
  | 73 => ⟨S9x2x8192x4x8192, .f32⟩
  | 74 => ⟨S9x2x8192x4x8192, .f32⟩
  | 75 => ⟨S9x2x8192x4x8192, .bf16⟩
  | 76 => ⟨S9x8192x2, .bf16⟩
  | 77 => ⟨S9x8192x2x1, .bf16⟩
  | 78 => ⟨S9x8192x2x256, .bf16⟩
  | 79 => ⟨S9x8192x2x256, .bf16⟩
  | 80 => ⟨S9x2x8192x4x256, .f32⟩
  | 81 => ⟨S_, .f32⟩
  | 82 => ⟨S9x2x8192x4, .f32⟩
  | 83 => ⟨S9x2x8192x4, .f32⟩
  | 84 => ⟨S9x2x8192x4x1, .f32⟩
  | 85 => ⟨S9x2x8192x4x256, .f32⟩
  | 86 => ⟨S9x2x8192x4x256, .f32⟩
  | 87 => ⟨S9x8192x2x4x256, .f32⟩
  | 88 => ⟨S9x8192x2048, .f32⟩
  | 89 => ⟨S9x8192x2048, .bf16⟩
  | _ => ⟨S9x8192x2048, .bf16⟩

abbrev hbmTy (i : Nat) : BufTy := match i / 128 with
  | 0 => hbmTy0_0 i
  | 1 => hbmTy0_1 i
  | _ => ⟨S9x8192x2048, .bf16⟩

abbrev bufTy : (tb : Table) → Fin (tcTables nBuf tb) → BufTy
  | .hbm, ⟨i, _⟩ => hbmTy i
  | .local _ .vmem, ⟨0, _⟩ => ⟨S9x8192x8x256, .f32⟩
  | .local _ .vmem, ⟨1, _⟩ => ⟨S9x8192x2x256, .f32⟩
  | .local _ .vmem, ⟨2, _⟩ => ⟨S9x8192x2x256, .f32⟩
  | .local _ .vmem, ⟨3, _⟩ => ⟨S9x8192x8x256, .fp8e4m3⟩
  | .local _ .vmem, ⟨4, _⟩ => ⟨S9x8192x2x256, .fp8e4m3⟩
  | .local _ .vmem, ⟨5, _⟩ => ⟨S9x8192x2x256, .fp8e4m3⟩
  | .local _ .vmem, ⟨6, _⟩ => ⟨S9x8192x8x256, .bf16⟩
  | .local _ .vmem, ⟨7, _⟩ => ⟨S9x8192x2x256, .bf16⟩
  | .local _ .vmem, ⟨8, _⟩ => ⟨S9x8192x2x256, .bf16⟩
  | _, _ => ⟨S9x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_call1_v0 : Ref sig .tc := ⟨.hbm, 36, rfl⟩
abbrev main_call1_v1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_cst_7 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_8 : Ref sig .tc := ⟨.hbm, 53, rfl⟩
abbrev main_v30 : Ref sig .tc := ⟨.hbm, 54, rfl⟩
abbrev main_cst_9 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_10 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_11 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_12 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_v44 : Ref sig .tc := ⟨.hbm, 75, rfl⟩
abbrev main_cst_13 : Ref sig .tc := ⟨.hbm, 76, rfl⟩
abbrev main_v45 : Ref sig .tc := ⟨.hbm, 77, rfl⟩
abbrev main_v46 : Ref sig .tc := ⟨.hbm, 78, rfl⟩
abbrev main_cst_14 : Ref sig .tc := ⟨.hbm, 79, rfl⟩
abbrev main_v47 : Ref sig .tc := ⟨.hbm, 80, rfl⟩
abbrev main_v48 : Ref sig .tc := ⟨.hbm, 81, rfl⟩
abbrev main_cst_15 : Ref sig .tc := ⟨.hbm, 82, rfl⟩
abbrev main_call4_v0 : Ref sig .tc := ⟨.hbm, 83, rfl⟩
abbrev main_call4_v1 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst_16 : Ref sig .tc := ⟨.hbm, 88, rfl⟩
abbrev main_cst_17 : Ref sig .tc := ⟨.hbm, 89, rfl⟩
abbrev main_call5_v0 : Ref sig .tc := ⟨.hbm, 90, rfl⟩
abbrev main_call5_v1 : Ref sig .tc := ⟨.hbm, 91, rfl⟩
abbrev main_call5_v2 : Ref sig .tc := ⟨.hbm, 92, rfl⟩
abbrev main_call5_v3 : Ref sig .tc := ⟨.hbm, 93, rfl⟩
abbrev main_call5_v4 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_cst_18 : Ref sig .tc := ⟨.hbm, 100, rfl⟩
abbrev main_v57 : Ref sig .tc := ⟨.hbm, 101, rfl⟩
abbrev main_cst_19 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_c_20 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_cst_21 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_cst_22 : Ref sig .tc := ⟨.hbm, 118, rfl⟩
abbrev main_call6_v0 : Ref sig .tc := ⟨.hbm, 119, rfl⟩
abbrev main_call6_v1 : Ref sig .tc := ⟨.hbm, 120, rfl⟩
abbrev main_call6_v2 : Ref sig .tc := ⟨.hbm, 121, rfl⟩
abbrev main_v71 : Ref sig .tc := ⟨.hbm, 122, rfl⟩
abbrev main_cst_23 : Ref sig .tc := ⟨.hbm, 123, rfl⟩
abbrev main_v72 : Ref sig .tc := ⟨.hbm, 124, rfl⟩
abbrev main_v73 : Ref sig .tc := ⟨.hbm, 125, rfl⟩
abbrev main_cst_24 : Ref sig .tc := ⟨.hbm, 126, rfl⟩
abbrev main_v74 : Ref sig .tc := ⟨.hbm, 127, rfl⟩
abbrev main_v75 : Ref sig .tc := ⟨.hbm, 128, rfl⟩
abbrev main_cst_25 : Ref sig .tc := ⟨.hbm, 129, rfl⟩
abbrev main_call7_v0 : Ref sig .tc := ⟨.hbm, 130, rfl⟩
abbrev main_call7_v1 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_cst_26 : Ref sig .tc := ⟨.hbm, 135, rfl⟩
abbrev main_cst_27 : Ref sig .tc := ⟨.hbm, 136, rfl⟩
abbrev main_call8_v0 : Ref sig .tc := ⟨.hbm, 137, rfl⟩
abbrev main_call8_v1 : Ref sig .tc := ⟨.hbm, 138, rfl⟩
abbrev main_call8_v2 : Ref sig .tc := ⟨.hbm, 139, rfl⟩
abbrev main_call8_v3 : Ref sig .tc := ⟨.hbm, 140, rfl⟩
abbrev main_call8_v4 : Ref sig .tc := ⟨.hbm, 141, rfl⟩
abbrev main_v79 : Ref sig .tc := ⟨.hbm, 142, rfl⟩
abbrev main_v80 : Ref sig .tc := ⟨.hbm, 143, rfl⟩
abbrev main_v81_0 : Ref sig .tc := ⟨.hbm, 144, rfl⟩
abbrev main_v81_1 : Ref sig .tc := ⟨.hbm, 145, rfl⟩
abbrev main_v81_2 : Ref sig .tc := ⟨.hbm, 146, rfl⟩
abbrev main_v81_3 : Ref sig .tc := ⟨.hbm, 147, rfl⟩
abbrev main_v81_4 : Ref sig .tc := ⟨.hbm, 148, rfl⟩
abbrev main_v81_5 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_cst_28 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩
abbrev main_v101 : Ref sig .tc := ⟨.hbm, 170, rfl⟩
abbrev main_c_29 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_cst_30 : Ref sig .tc := ⟨.hbm, 179, rfl⟩
abbrev main_call9_v0 : Ref sig .tc := ⟨.hbm, 180, rfl⟩
abbrev main_call9_v1 : Ref sig .tc := ⟨.hbm, 181, rfl⟩
abbrev main_call9_v2 : Ref sig .tc := ⟨.hbm, 182, rfl⟩
abbrev main_v109 : Ref sig .tc := ⟨.hbm, 183, rfl⟩
abbrev main_cst_31 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_cst_32 : Ref sig .tc := ⟨.hbm, 190, rfl⟩
abbrev main_v115 : Ref sig .tc := ⟨.hbm, 191, rfl⟩
abbrev main_cst_33 : Ref sig .tc := ⟨.hbm, 192, rfl⟩
abbrev main_v116 : Ref sig .tc := ⟨.hbm, 193, rfl⟩
abbrev main_v117 : Ref sig .tc := ⟨.hbm, 194, rfl⟩
abbrev main_cst_34 : Ref sig .tc := ⟨.hbm, 195, rfl⟩
abbrev main_cst_35 : Ref sig .tc := ⟨.hbm, 196, rfl⟩
abbrev main_call10_v0 : Ref sig .tc := ⟨.hbm, 197, rfl⟩
abbrev main_call10_v1 : Ref sig .tc := ⟨.hbm, 198, rfl⟩
abbrev main_call10_v2 : Ref sig .tc := ⟨.hbm, 199, rfl⟩
abbrev main_call10_v3 : Ref sig .tc := ⟨.hbm, 200, rfl⟩
abbrev main_call10_v4 : Ref sig .tc := ⟨.hbm, 201, rfl⟩
abbrev main_v118 : Ref sig .tc := ⟨.hbm, 202, rfl⟩
abbrev main_v119 : Ref sig .tc := ⟨.hbm, 203, rfl⟩
abbrev main_v120 : Ref sig .tc := ⟨.hbm, 204, rfl⟩
abbrev main_v121 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩
abbrev main_cst_36 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_v131 : Ref sig .tc := ⟨.hbm, 216, rfl⟩
abbrev main_v132 : Ref sig .tc := ⟨.hbm, 217, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S9x8192x8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9x8192x2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9x8192x2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9x8192x8x256 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S9x8192x2x256 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S9x8192x2x256 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S9x8192x8x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S9x8192x2x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S9x8192x2x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.KernelCases.lean ====
/- @main around its region, the branch conditions in closed form, the staging memrefs and the scratch buffers by name. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (none here). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [] [hostOps1] (by simp only [List.Forall])
    (by simp only [List.Forall]) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v1, main_v2, main_v3, main_v4, main_v5, main_v6, main_v7}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePostR.arr_in h c 0 rfl).trans ((hA c 0).trans (V_main_arg0 m c)),
      (Pipeline.RDat.FramePostR.arr_in h c 1 rfl).trans ((hA c 1).trans (V_main_arg1 m c)),
      (Pipeline.RDat.FramePostR.arr_in h c 2 rfl).trans ((hA c 2).trans (V_main_arg2 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 32) — by arithmetic of the point. -/
theorem hcond0_0 : ∀ t : Fin cfg0.N, cond0_0 (grid0.coords t) ↔ t.val % 32 = 0 :=
  (fun t => by
    have ht : t.val < 288 := Nat.lt_of_lt_of_eq t.isLt N_0
    have e0 : (grid0.coords t 0).val = t.val / 32 % 9 := Pipeline.Grid.coords_val t 0 (by decide) rfl
    have e1 : (grid0.coords t 1).val = t.val / 1 % 32 := Pipeline.Grid.coords_val t 1 (by decide) rfl
    simp only [cond0_0, k0_cond1, e0, e1]
    word_cmp
   : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := k0_cond2 i = 1#1
/-- It holds at the points ≡ 1 (mod 32) — by arithmetic of the point. -/
theorem hcond0_1 : ∀ t : Fin cfg0.N, cond0_1 (grid0.coords t) ↔ t.val % 32 = 1 :=
  (fun t => by
    have ht : t.val < 288 := Nat.lt_of_lt_of_eq t.isLt N_0
    have e0 : (grid0.coords t 0).val = t.val / 32 % 9 := Pipeline.Grid.coords_val t 0 (by decide) rfl
    have e1 : (grid0.coords t 1).val = t.val / 1 % 32 := Pipeline.Grid.coords_val t 1 (by decide) rfl
    simp only [cond0_1, k0_cond2, e0, e1]
    word_cmp
   : ∀ t : Fin grid0.N, cond0_1 (grid0.coords t) ↔ t.val % 32 = 1)

/-- The condition of the body's `scf.if` 2 (`k0_h3`), from the grid coordinates (the skeleton's scalar
    chain substituted). -/
abbrev cond0_2 (i : grid0.Coords) : Prop := k0_cond3 i = 1#1
/-- It holds at the points ≡ 2 (mod 32) — by arithmetic of the point. -/
theorem hcond0_2 : ∀ t : Fin cfg0.N, cond0_2 (grid0.coords t) ↔ t.val % 32 = 2 :=
  (fun t => by
    have ht : t.val < 288 := Nat.lt_of_lt_of_eq t.isLt N_0
    have e0 : (grid0.coords t 0).val = t.val / 32 % 9 := Pipeline.Grid.coords_val t 0 (by decide) rfl
    have e1 : (grid0.coords t 1).val = t.val / 1 % 32 := Pipeline.Grid.coords_val t 1 (by decide) rfl
    simp only [cond0_2, k0_cond3, e0, e1]
    word_cmp
   : ∀ t : Fin grid0.N, cond0_2 (grid0.coords t) ↔ t.val % 32 = 2)

/-- The condition of the body's `scf.if` 3 (`k0_h4`), from the grid coordinates (the skeleton's scalar
    chain substituted). -/
abbrev cond0_3 (i : grid0.Coords) : Prop := k0_cond4 i = 1#1
/-- It holds at the points ≡ 3 (mod 32) — by arithmetic of the point. -/
theorem hcond0_3 : ∀ t : Fin cfg0.N, cond0_3 (grid0.coords t) ↔ t.val % 32 = 3 :=
  (fun t => by
    have ht : t.val < 288 := Nat.lt_of_lt_of_eq t.isLt N_0
    have e0 : (grid0.coords t 0).val = t.val / 32 % 9 := Pipeline.Grid.coords_val t 0 (by decide) rfl
    have e1 : (grid0.coords t 1).val = t.val / 1 % 32 := Pipeline.Grid.coords_val t 1 (by decide) rfl
    simp only [cond0_3, k0_cond4, e0, e1]
    word_cmp
   : ∀ t : Fin grid0.N, cond0_3 (grid0.coords t) ↔ t.val % 32 = 3)

/-- The condition of the body's `scf.if` 4 (`k0_h5`), from the grid coordinates (the skeleton's scalar
    chain substituted). -/
abbrev cond0_4 (i : grid0.Coords) : Prop := k0_cond5 i = 1#1
/-- It holds at the points whose coordinates have 4 ≤ i1 — decided over the grid. -/
theorem hcond0_4 : ∀ t : Fin cfg0.N, cond0_4 (grid0.coords t) ↔ 4 ≤ t.val % 32 :=
  (by decide +kernel : ∀ t : Fin grid0.N, cond0_4 (grid0.coords t) ↔ 4 ≤ t.val % 32)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x256x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x2x8x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2x256x256 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2x256x256 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2x256 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S2x32x256x256 .fp8e4m3 := Memref.whole cc0_scratch0
abbrev scM0_1 : Memref sig .tc .vmem S2x32x256x128 .f32 := Memref.whole cc0_scratch1
abbrev scM0_2 : Memref sig .tc .vmem S2x32x256x256 .bf16 := Memref.whole cc0_scratch2
abbrev scM0_3 : Memref sig .tc .vmem S8x256x256 .fp8e4m3 := Memref.whole cc0_scratch3
abbrev scM0_4 : Memref sig .tc .vmem S8x256 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Gen

end
-- ==== Proof.KernelSlots.lean ====
module

public import proofs.«01_k».proof.Proof.Gen.Kernel.Points
public import Idealize.ShloMosaic.Lib.Exec

/-! The ring slots a tile reads behind its own, each written as a number of the point. The subtraction is that of
words, so the number is taken modulo two to the thirty-second, which is the plain difference where the tile exists. -/

@[expose] public section

noncomputable section

namespace Cert.Kernel.Gen

open Idealize.ShloMosaic Idealize.ShloMosaic.TcCoe

theorem vec4 {g a b : Nat} (h : a = b) : (![g, a, 0, 0] : Fin 4 → Nat) = ![g, b, 0, 0] := by rw [h]

/-- One subtraction. -/
theorem back1 (t : Nat) (h : t < 32) (k : Nat) (hk : k < 32) :
    (Scalar.indexCast (Scalar.subi (BitVec.ofNat 32 t) (BitVec.ofNat 32 k))).toNat = (t + (4294967296 - k)) % 4294967296 := by
  show (BitVec.ofNat 32 t - BitVec.ofNat 32 k).toNat = _
  rw [BitVec.toNat_sub, BitVec.toNat_ofNat, BitVec.toNat_ofNat]; omega

/-- Two subtractions, the second of one. -/
theorem back2 (t : Nat) (h : t < 32) (k : Nat) (hk : k < 32) :
    (Scalar.indexCast (Scalar.subi (Scalar.subi (BitVec.ofNat 32 t) (BitVec.ofNat 32 k)) (BitVec.ofNat 32 1))).toNat
      = (t + (4294967296 - (k + 1))) % 4294967296 := by
  show (BitVec.ofNat 32 t - BitVec.ofNat 32 k - BitVec.ofNat 32 1).toNat = _
  rw [BitVec.toNat_sub, BitVec.toNat_sub, BitVec.toNat_ofNat, BitVec.toNat_ofNat, BitVec.toNat_ofNat]; omega

theorem k0_off11_form (i : grid0.Coords) : k0_off11 i = ![0, ((i 1).val + 4294967295) % 4294967296, 0, 0] := by
  have h : (i 1).val < 32 := (i 1).isLt
  unfold k0_off11
  refine vec4 ?_
  exact back1 _ h 1 (by omega)
instance k0_off11_closed (i : grid0.Coords) : ClosedOff (k0_off11 i) := ⟨_, k0_off11_form i⟩

theorem k0_off12_form (i : grid0.Coords) : k0_off12 i = ![0, ((i 1).val + 4294967295) % 4294967296, 0, 0] := by
  have h : (i 1).val < 32 := (i 1).isLt
  unfold k0_off12
  refine vec4 ?_
  exact back1 _ h 1 (by omega)
instance k0_off12_closed (i : grid0.Coords) : ClosedOff (k0_off12 i) := ⟨_, k0_off12_form i⟩

theorem k0_off13_form (i : grid0.Coords) : k0_off13 i = ![0, ((i 1).val + 4294967295) % 4294967296, 0, 0] := by
  have h : (i 1).val < 32 := (i 1).isLt
  unfold k0_off13
  refine vec4 ?_
  exact back2 _ h 0 (by omega)
instance k0_off13_closed (i : grid0.Coords) : ClosedOff (k0_off13 i) := ⟨_, k0_off13_form i⟩

theorem k0_off16_form (i : grid0.Coords) : k0_off16 i = ![1, ((i 1).val + 4294967295) % 4294967296, 0, 0] := by
  have h : (i 1).val < 32 := (i 1).isLt
  unfold k0_off16
  refine vec4 ?_
  exact back1 _ h 1 (by omega)
instance k0_off16_closed (i : grid0.Coords) : ClosedOff (k0_off16 i) := ⟨_, k0_off16_form i⟩

theorem k0_off17_form (i : grid0.Coords) : k0_off17 i = ![1, ((i 1).val + 4294967295) % 4294967296, 0, 0] := by
  have h : (i 1).val < 32 := (i 1).isLt
  unfold k0_off17
  refine vec4 ?_
  exact back1 _ h 1 (by omega)
instance k0_off17_closed (i : grid0.Coords) : ClosedOff (k0_off17 i) := ⟨_, k0_off17_form i⟩

theorem k0_off18_form (i : grid0.Coords) : k0_off18 i = ![1, ((i 1).val + 4294967295) % 4294967296, 0, 0] := by
  have h : (i 1).val < 32 := (i 1).isLt
  unfold k0_off18
  refine vec4 ?_
  exact back2 _ h 0 (by omega)
instance k0_off18_closed (i : grid0.Coords) : ClosedOff (k0_off18 i) := ⟨_, k0_off18_form i⟩

theorem k0_off21_1_form (i : grid0.Coords) : k0_off21 i 1#32 = ![0, ((i 1).val + 4294967295) % 4294967296, 0, 0] := by
  have h : (i 1).val < 32 := (i 1).isLt
  unfold k0_off21
  refine vec4 ?_
  exact back1 _ h 1 (by omega)
instance k0_off21_1_closed (i : grid0.Coords) : ClosedOff (k0_off21 i 1#32) := ⟨_, k0_off21_1_form i⟩

theorem k0_off21_2_form (i : grid0.Coords) : k0_off21 i 2#32 = ![0, ((i 1).val + 4294967294) % 4294967296, 0, 0] := by
  have h : (i 1).val < 32 := (i 1).isLt
  unfold k0_off21
  refine vec4 ?_
  exact back1 _ h 2 (by omega)
instance k0_off21_2_closed (i : grid0.Coords) : ClosedOff (k0_off21 i 2#32) := ⟨_, k0_off21_2_form i⟩

theorem k0_off22_1_form (i : grid0.Coords) : k0_off22 i 1#32 = ![0, ((i 1).val + 4294967295) % 4294967296, 0, 0] := by
  have h : (i 1).val < 32 := (i 1).isLt
  unfold k0_off22
  refine vec4 ?_
  exact back1 _ h 1 (by omega)
instance k0_off22_1_closed (i : grid0.Coords) : ClosedOff (k0_off22 i 1#32) := ⟨_, k0_off22_1_form i⟩

theorem k0_off22_2_form (i : grid0.Coords) : k0_off22 i 2#32 = ![0, ((i 1).val + 4294967294) % 4294967296, 0, 0] := by
  have h : (i 1).val < 32 := (i 1).isLt
  unfold k0_off22
  refine vec4 ?_
  exact back1 _ h 2 (by omega)
instance k0_off22_2_closed (i : grid0.Coords) : ClosedOff (k0_off22 i 2#32) := ⟨_, k0_off22_2_form i⟩

theorem k0_off23_0_form (i : grid0.Coords) : k0_off23 i 0#32 = ![0, ((i 1).val + 4294967295) % 4294967296, 0, 0] := by
  have h : (i 1).val < 32 := (i 1).isLt
  unfold k0_off23
  refine vec4 ?_
  exact back2 _ h 0 (by omega)
instance k0_off23_0_closed (i : grid0.Coords) : ClosedOff (k0_off23 i 0#32) := ⟨_, k0_off23_0_form i⟩

theorem k0_off23_1_form (i : grid0.Coords) : k0_off23 i 1#32 = ![0, ((i 1).val + 4294967294) % 4294967296, 0, 0] := by
  have h : (i 1).val < 32 := (i 1).isLt
  unfold k0_off23
  refine vec4 ?_
  exact back2 _ h 1 (by omega)
instance k0_off23_1_closed (i : grid0.Coords) : ClosedOff (k0_off23 i 1#32) := ⟨_, k0_off23_1_form i⟩

theorem k0_off26_1_form (i : grid0.Coords) : k0_off26 i 1#32 = ![1, ((i 1).val + 4294967295) % 4294967296, 0, 0] := by
  have h : (i 1).val < 32 := (i 1).isLt
  unfold k0_off26
  refine vec4 ?_
  exact back1 _ h 1 (by omega)
instance k0_off26_1_closed (i : grid0.Coords) : ClosedOff (k0_off26 i 1#32) := ⟨_, k0_off26_1_form i⟩

theorem k0_off26_2_form (i : grid0.Coords) : k0_off26 i 2#32 = ![1, ((i 1).val + 4294967294) % 4294967296, 0, 0] := by
  have h : (i 1).val < 32 := (i 1).isLt
  unfold k0_off26
  refine vec4 ?_
  exact back1 _ h 2 (by omega)
instance k0_off26_2_closed (i : grid0.Coords) : ClosedOff (k0_off26 i 2#32) := ⟨_, k0_off26_2_form i⟩

theorem k0_off27_1_form (i : grid0.Coords) : k0_off27 i 1#32 = ![1, ((i 1).val + 4294967295) % 4294967296, 0, 0] := by
  have h : (i 1).val < 32 := (i 1).isLt
  unfold k0_off27
  refine vec4 ?_
  exact back1 _ h 1 (by omega)
instance k0_off27_1_closed (i : grid0.Coords) : ClosedOff (k0_off27 i 1#32) := ⟨_, k0_off27_1_form i⟩

theorem k0_off27_2_form (i : grid0.Coords) : k0_off27 i 2#32 = ![1, ((i 1).val + 4294967294) % 4294967296, 0, 0] := by
  have h : (i 1).val < 32 := (i 1).isLt
  unfold k0_off27
  refine vec4 ?_
  exact back1 _ h 2 (by omega)
instance k0_off27_2_closed (i : grid0.Coords) : ClosedOff (k0_off27 i 2#32) := ⟨_, k0_off27_2_form i⟩

theorem k0_off28_0_form (i : grid0.Coords) : k0_off28 i 0#32 = ![1, ((i 1).val + 4294967295) % 4294967296, 0, 0] := by
  have h : (i 1).val < 32 := (i 1).isLt
  unfold k0_off28
  refine vec4 ?_
  exact back2 _ h 0 (by omega)
instance k0_off28_0_closed (i : grid0.Coords) : ClosedOff (k0_off28 i 0#32) := ⟨_, k0_off28_0_form i⟩

theorem k0_off28_1_form (i : grid0.Coords) : k0_off28 i 1#32 = ![1, ((i 1).val + 4294967294) % 4294967296, 0, 0] := by
  have h : (i 1).val < 32 := (i 1).isLt
  unfold k0_off28
  refine vec4 ?_
  exact back2 _ h 1 (by omega)
instance k0_off28_1_closed (i : grid0.Coords) : ClosedOff (k0_off28 i 1#32) := ⟨_, k0_off28_1_form i⟩

theorem k0_off31_1_form (i : grid0.Coords) : k0_off31 i 1#32 = ![0, ((i 1).val + 4294967295) % 4294967296, 0, 0] := by
  have h : (i 1).val < 32 := (i 1).isLt
  unfold k0_off31
  refine vec4 ?_
  exact back1 _ h 1 (by omega)
instance k0_off31_1_closed (i : grid0.Coords) : ClosedOff (k0_off31 i 1#32) := ⟨_, k0_off31_1_form i⟩

theorem k0_off31_2_form (i : grid0.Coords) : k0_off31 i 2#32 = ![0, ((i 1).val + 4294967294) % 4294967296, 0, 0] := by
  have h : (i 1).val < 32 := (i 1).isLt
  unfold k0_off31
  refine vec4 ?_
  exact back1 _ h 2 (by omega)
instance k0_off31_2_closed (i : grid0.Coords) : ClosedOff (k0_off31 i 2#32) := ⟨_, k0_off31_2_form i⟩

theorem k0_off31_3_form (i : grid0.Coords) : k0_off31 i 3#32 = ![0, ((i 1).val + 4294967293) % 4294967296, 0, 0] := by
  have h : (i 1).val < 32 := (i 1).isLt
  unfold k0_off31
  refine vec4 ?_
  exact back1 _ h 3 (by omega)
instance k0_off31_3_closed (i : grid0.Coords) : ClosedOff (k0_off31 i 3#32) := ⟨_, k0_off31_3_form i⟩

theorem k0_off32_1_form (i : grid0.Coords) : k0_off32 i 1#32 = ![0, ((i 1).val + 4294967295) % 4294967296, 0, 0] := by
  have h : (i 1).val < 32 := (i 1).isLt
  unfold k0_off32
  refine vec4 ?_
  exact back1 _ h 1 (by omega)
instance k0_off32_1_closed (i : grid0.Coords) : ClosedOff (k0_off32 i 1#32) := ⟨_, k0_off32_1_form i⟩

theorem k0_off32_2_form (i : grid0.Coords) : k0_off32 i 2#32 = ![0, ((i 1).val + 4294967294) % 4294967296, 0, 0] := by
  have h : (i 1).val < 32 := (i 1).isLt
  unfold k0_off32
  refine vec4 ?_
  exact back1 _ h 2 (by omega)
instance k0_off32_2_closed (i : grid0.Coords) : ClosedOff (k0_off32 i 2#32) := ⟨_, k0_off32_2_form i⟩

theorem k0_off32_3_form (i : grid0.Coords) : k0_off32 i 3#32 = ![0, ((i 1).val + 4294967293) % 4294967296, 0, 0] := by
  have h : (i 1).val < 32 := (i 1).isLt
  unfold k0_off32
  refine vec4 ?_
  exact back1 _ h 3 (by omega)
instance k0_off32_3_closed (i : grid0.Coords) : ClosedOff (k0_off32 i 3#32) := ⟨_, k0_off32_3_form i⟩

theorem k0_off33_0_form (i : grid0.Coords) : k0_off33 i 0#32 = ![0, ((i 1).val + 4294967295) % 4294967296, 0, 0] := by
  have h : (i 1).val < 32 := (i 1).isLt
  unfold k0_off33
  refine vec4 ?_
  exact back2 _ h 0 (by omega)
instance k0_off33_0_closed (i : grid0.Coords) : ClosedOff (k0_off33 i 0#32) := ⟨_, k0_off33_0_form i⟩

theorem k0_off33_1_form (i : grid0.Coords) : k0_off33 i 1#32 = ![0, ((i 1).val + 4294967294) % 4294967296, 0, 0] := by
  have h : (i 1).val < 32 := (i 1).isLt
  unfold k0_off33
  refine vec4 ?_
  exact back2 _ h 1 (by omega)
instance k0_off33_1_closed (i : grid0.Coords) : ClosedOff (k0_off33 i 1#32) := ⟨_, k0_off33_1_form i⟩

theorem k0_off33_2_form (i : grid0.Coords) : k0_off33 i 2#32 = ![0, ((i 1).val + 4294967293) % 4294967296, 0, 0] := by
  have h : (i 1).val < 32 := (i 1).isLt
  unfold k0_off33
  refine vec4 ?_
  exact back2 _ h 2 (by omega)
instance k0_off33_2_closed (i : grid0.Coords) : ClosedOff (k0_off33 i 2#32) := ⟨_, k0_off33_2_form i⟩

theorem k0_off36_1_form (i : grid0.Coords) : k0_off36 i 1#32 = ![1, ((i 1).val + 4294967295) % 4294967296, 0, 0] := by
  have h : (i 1).val < 32 := (i 1).isLt
  unfold k0_off36
  refine vec4 ?_
  exact back1 _ h 1 (by omega)
instance k0_off36_1_closed (i : grid0.Coords) : ClosedOff (k0_off36 i 1#32) := ⟨_, k0_off36_1_form i⟩

theorem k0_off36_2_form (i : grid0.Coords) : k0_off36 i 2#32 = ![1, ((i 1).val + 4294967294) % 4294967296, 0, 0] := by
  have h : (i 1).val < 32 := (i 1).isLt
  unfold k0_off36
  refine vec4 ?_
  exact back1 _ h 2 (by omega)
instance k0_off36_2_closed (i : grid0.Coords) : ClosedOff (k0_off36 i 2#32) := ⟨_, k0_off36_2_form i⟩

theorem k0_off36_3_form (i : grid0.Coords) : k0_off36 i 3#32 = ![1, ((i 1).val + 4294967293) % 4294967296, 0, 0] := by
  have h : (i 1).val < 32 := (i 1).isLt
  unfold k0_off36
  refine vec4 ?_
  exact back1 _ h 3 (by omega)
instance k0_off36_3_closed (i : grid0.Coords) : ClosedOff (k0_off36 i 3#32) := ⟨_, k0_off36_3_form i⟩

theorem k0_off37_1_form (i : grid0.Coords) : k0_off37 i 1#32 = ![1, ((i 1).val + 4294967295) % 4294967296, 0, 0] := by
  have h : (i 1).val < 32 := (i 1).isLt
  unfold k0_off37
  refine vec4 ?_
  exact back1 _ h 1 (by omega)
instance k0_off37_1_closed (i : grid0.Coords) : ClosedOff (k0_off37 i 1#32) := ⟨_, k0_off37_1_form i⟩

theorem k0_off37_2_form (i : grid0.Coords) : k0_off37 i 2#32 = ![1, ((i 1).val + 4294967294) % 4294967296, 0, 0] := by
  have h : (i 1).val < 32 := (i 1).isLt
  unfold k0_off37
  refine vec4 ?_
  exact back1 _ h 2 (by omega)
instance k0_off37_2_closed (i : grid0.Coords) : ClosedOff (k0_off37 i 2#32) := ⟨_, k0_off37_2_form i⟩

theorem k0_off37_3_form (i : grid0.Coords) : k0_off37 i 3#32 = ![1, ((i 1).val + 4294967293) % 4294967296, 0, 0] := by
  have h : (i 1).val < 32 := (i 1).isLt
  unfold k0_off37
  refine vec4 ?_
  exact back1 _ h 3 (by omega)
instance k0_off37_3_closed (i : grid0.Coords) : ClosedOff (k0_off37 i 3#32) := ⟨_, k0_off37_3_form i⟩

theorem k0_off38_0_form (i : grid0.Coords) : k0_off38 i 0#32 = ![1, ((i 1).val + 4294967295) % 4294967296, 0, 0] := by
  have h : (i 1).val < 32 := (i 1).isLt
  unfold k0_off38
  refine vec4 ?_
  exact back2 _ h 0 (by omega)
instance k0_off38_0_closed (i : grid0.Coords) : ClosedOff (k0_off38 i 0#32) := ⟨_, k0_off38_0_form i⟩

theorem k0_off38_1_form (i : grid0.Coords) : k0_off38 i 1#32 = ![1, ((i 1).val + 4294967294) % 4294967296, 0, 0] := by
  have h : (i 1).val < 32 := (i 1).isLt
  unfold k0_off38
  refine vec4 ?_
  exact back2 _ h 1 (by omega)
instance k0_off38_1_closed (i : grid0.Coords) : ClosedOff (k0_off38 i 1#32) := ⟨_, k0_off38_1_form i⟩

theorem k0_off38_2_form (i : grid0.Coords) : k0_off38 i 2#32 = ![1, ((i 1).val + 4294967293) % 4294967296, 0, 0] := by
  have h : (i 1).val < 32 := (i 1).isLt
  unfold k0_off38
  refine vec4 ?_
  exact back2 _ h 2 (by omega)
instance k0_off38_2_closed (i : grid0.Coords) : ClosedOff (k0_off38 i 2#32) := ⟨_, k0_off38_2_form i⟩

theorem k0_off41_1_form (i : grid0.Coords) : k0_off41 i 1#32 = ![0, ((i 1).val + 4294967295) % 4294967296, 0, 0] := by
  have h : (i 1).val < 32 := (i 1).isLt
  unfold k0_off41
  refine vec4 ?_
  exact back1 _ h 1 (by omega)
instance k0_off41_1_closed (i : grid0.Coords) : ClosedOff (k0_off41 i 1#32) := ⟨_, k0_off41_1_form i⟩

theorem k0_off41_2_form (i : grid0.Coords) : k0_off41 i 2#32 = ![0, ((i 1).val + 4294967294) % 4294967296, 0, 0] := by
  have h : (i 1).val < 32 := (i 1).isLt
  unfold k0_off41
  refine vec4 ?_
  exact back1 _ h 2 (by omega)
instance k0_off41_2_closed (i : grid0.Coords) : ClosedOff (k0_off41 i 2#32) := ⟨_, k0_off41_2_form i⟩

theorem k0_off41_3_form (i : grid0.Coords) : k0_off41 i 3#32 = ![0, ((i 1).val + 4294967293) % 4294967296, 0, 0] := by
  have h : (i 1).val < 32 := (i 1).isLt
  unfold k0_off41
  refine vec4 ?_
  exact back1 _ h 3 (by omega)
instance k0_off41_3_closed (i : grid0.Coords) : ClosedOff (k0_off41 i 3#32) := ⟨_, k0_off41_3_form i⟩

theorem k0_off41_4_form (i : grid0.Coords) : k0_off41 i 4#32 = ![0, ((i 1).val + 4294967292) % 4294967296, 0, 0] := by
  have h : (i 1).val < 32 := (i 1).isLt
  unfold k0_off41
  refine vec4 ?_
  exact back1 _ h 4 (by omega)
instance k0_off41_4_closed (i : grid0.Coords) : ClosedOff (k0_off41 i 4#32) := ⟨_, k0_off41_4_form i⟩

theorem k0_off42_1_form (i : grid0.Coords) : k0_off42 i 1#32 = ![0, ((i 1).val + 4294967295) % 4294967296, 0, 0] := by
  have h : (i 1).val < 32 := (i 1).isLt
  unfold k0_off42
  refine vec4 ?_
  exact back1 _ h 1 (by omega)
instance k0_off42_1_closed (i : grid0.Coords) : ClosedOff (k0_off42 i 1#32) := ⟨_, k0_off42_1_form i⟩

theorem k0_off42_2_form (i : grid0.Coords) : k0_off42 i 2#32 = ![0, ((i 1).val + 4294967294) % 4294967296, 0, 0] := by
  have h : (i 1).val < 32 := (i 1).isLt
  unfold k0_off42
  refine vec4 ?_
  exact back1 _ h 2 (by omega)
instance k0_off42_2_closed (i : grid0.Coords) : ClosedOff (k0_off42 i 2#32) := ⟨_, k0_off42_2_form i⟩

theorem k0_off42_3_form (i : grid0.Coords) : k0_off42 i 3#32 = ![0, ((i 1).val + 4294967293) % 4294967296, 0, 0] := by
  have h : (i 1).val < 32 := (i 1).isLt
  unfold k0_off42
  refine vec4 ?_
  exact back1 _ h 3 (by omega)
instance k0_off42_3_closed (i : grid0.Coords) : ClosedOff (k0_off42 i 3#32) := ⟨_, k0_off42_3_form i⟩

theorem k0_off42_4_form (i : grid0.Coords) : k0_off42 i 4#32 = ![0, ((i 1).val + 4294967292) % 4294967296, 0, 0] := by
  have h : (i 1).val < 32 := (i 1).isLt
  unfold k0_off42
  refine vec4 ?_
  exact back1 _ h 4 (by omega)
instance k0_off42_4_closed (i : grid0.Coords) : ClosedOff (k0_off42 i 4#32) := ⟨_, k0_off42_4_form i⟩

theorem k0_off43_0_form (i : grid0.Coords) : k0_off43 i 0#32 = ![0, ((i 1).val + 4294967295) % 4294967296, 0, 0] := by
  have h : (i 1).val < 32 := (i 1).isLt
  unfold k0_off43
  refine vec4 ?_
  exact back2 _ h 0 (by omega)
instance k0_off43_0_closed (i : grid0.Coords) : ClosedOff (k0_off43 i 0#32) := ⟨_, k0_off43_0_form i⟩

theorem k0_off43_1_form (i : grid0.Coords) : k0_off43 i 1#32 = ![0, ((i 1).val + 4294967294) % 4294967296, 0, 0] := by
  have h : (i 1).val < 32 := (i 1).isLt
  unfold k0_off43
  refine vec4 ?_
  exact back2 _ h 1 (by omega)
instance k0_off43_1_closed (i : grid0.Coords) : ClosedOff (k0_off43 i 1#32) := ⟨_, k0_off43_1_form i⟩

theorem k0_off43_2_form (i : grid0.Coords) : k0_off43 i 2#32 = ![0, ((i 1).val + 4294967293) % 4294967296, 0, 0] := by
  have h : (i 1).val < 32 := (i 1).isLt
  unfold k0_off43
  refine vec4 ?_
  exact back2 _ h 2 (by omega)
instance k0_off43_2_closed (i : grid0.Coords) : ClosedOff (k0_off43 i 2#32) := ⟨_, k0_off43_2_form i⟩

theorem k0_off46_1_form (i : grid0.Coords) : k0_off46 i 1#32 = ![1, ((i 1).val + 4294967295) % 4294967296, 0, 0] := by
  have h : (i 1).val < 32 := (i 1).isLt
  unfold k0_off46
  refine vec4 ?_
  exact back1 _ h 1 (by omega)
instance k0_off46_1_closed (i : grid0.Coords) : ClosedOff (k0_off46 i 1#32) := ⟨_, k0_off46_1_form i⟩

theorem k0_off46_2_form (i : grid0.Coords) : k0_off46 i 2#32 = ![1, ((i 1).val + 4294967294) % 4294967296, 0, 0] := by
  have h : (i 1).val < 32 := (i 1).isLt
  unfold k0_off46
  refine vec4 ?_
  exact back1 _ h 2 (by omega)
instance k0_off46_2_closed (i : grid0.Coords) : ClosedOff (k0_off46 i 2#32) := ⟨_, k0_off46_2_form i⟩

theorem k0_off46_3_form (i : grid0.Coords) : k0_off46 i 3#32 = ![1, ((i 1).val + 4294967293) % 4294967296, 0, 0] := by
  have h : (i 1).val < 32 := (i 1).isLt
  unfold k0_off46
  refine vec4 ?_
  exact back1 _ h 3 (by omega)
instance k0_off46_3_closed (i : grid0.Coords) : ClosedOff (k0_off46 i 3#32) := ⟨_, k0_off46_3_form i⟩

theorem k0_off46_4_form (i : grid0.Coords) : k0_off46 i 4#32 = ![1, ((i 1).val + 4294967292) % 4294967296, 0, 0] := by
  have h : (i 1).val < 32 := (i 1).isLt
  unfold k0_off46
  refine vec4 ?_
  exact back1 _ h 4 (by omega)
instance k0_off46_4_closed (i : grid0.Coords) : ClosedOff (k0_off46 i 4#32) := ⟨_, k0_off46_4_form i⟩

theorem k0_off47_1_form (i : grid0.Coords) : k0_off47 i 1#32 = ![1, ((i 1).val + 4294967295) % 4294967296, 0, 0] := by
  have h : (i 1).val < 32 := (i 1).isLt
  unfold k0_off47
  refine vec4 ?_
  exact back1 _ h 1 (by omega)
instance k0_off47_1_closed (i : grid0.Coords) : ClosedOff (k0_off47 i 1#32) := ⟨_, k0_off47_1_form i⟩

theorem k0_off47_2_form (i : grid0.Coords) : k0_off47 i 2#32 = ![1, ((i 1).val + 4294967294) % 4294967296, 0, 0] := by
  have h : (i 1).val < 32 := (i 1).isLt
  unfold k0_off47
  refine vec4 ?_
  exact back1 _ h 2 (by omega)
instance k0_off47_2_closed (i : grid0.Coords) : ClosedOff (k0_off47 i 2#32) := ⟨_, k0_off47_2_form i⟩

theorem k0_off47_3_form (i : grid0.Coords) : k0_off47 i 3#32 = ![1, ((i 1).val + 4294967293) % 4294967296, 0, 0] := by
  have h : (i 1).val < 32 := (i 1).isLt
  unfold k0_off47
  refine vec4 ?_
  exact back1 _ h 3 (by omega)
instance k0_off47_3_closed (i : grid0.Coords) : ClosedOff (k0_off47 i 3#32) := ⟨_, k0_off47_3_form i⟩

theorem k0_off47_4_form (i : grid0.Coords) : k0_off47 i 4#32 = ![1, ((i 1).val + 4294967292) % 4294967296, 0, 0] := by
  have h : (i 1).val < 32 := (i 1).isLt
  unfold k0_off47
  refine vec4 ?_
  exact back1 _ h 4 (by omega)
instance k0_off47_4_closed (i : grid0.Coords) : ClosedOff (k0_off47 i 4#32) := ⟨_, k0_off47_4_form i⟩

theorem k0_off48_0_form (i : grid0.Coords) : k0_off48 i 0#32 = ![1, ((i 1).val + 4294967295) % 4294967296, 0, 0] := by
  have h : (i 1).val < 32 := (i 1).isLt
  unfold k0_off48
  refine vec4 ?_
  exact back2 _ h 0 (by omega)
instance k0_off48_0_closed (i : grid0.Coords) : ClosedOff (k0_off48 i 0#32) := ⟨_, k0_off48_0_form i⟩

theorem k0_off48_1_form (i : grid0.Coords) : k0_off48 i 1#32 = ![1, ((i 1).val + 4294967294) % 4294967296, 0, 0] := by
  have h : (i 1).val < 32 := (i 1).isLt
  unfold k0_off48
  refine vec4 ?_
  exact back2 _ h 1 (by omega)
instance k0_off48_1_closed (i : grid0.Coords) : ClosedOff (k0_off48 i 1#32) := ⟨_, k0_off48_1_form i⟩

theorem k0_off48_2_form (i : grid0.Coords) : k0_off48 i 2#32 = ![1, ((i 1).val + 4294967293) % 4294967296, 0, 0] := by
  have h : (i 1).val < 32 := (i 1).isLt
  unfold k0_off48
  refine vec4 ?_
  exact back2 _ h 2 (by omega)
instance k0_off48_2_closed (i : grid0.Coords) : ClosedOff (k0_off48 i 2#32) := ⟨_, k0_off48_2_form i⟩

end Cert.Kernel.Gen

end
-- ==== Proof.KernelRunA.lean ====
/- The body's triple in case A: at any contents of the rings, the outputs left at some contents. -/
module

public import proofs.«01_k».proof.Proof.KernelCases
public import proofs.«01_k».proof.Proof.KernelSlots

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1492000 in
/-- The body's triple IN CASE A (`scf.if` 0 taken, `scf.if` 1 not taken, `scf.if` 2 not taken, `scf.if` 3 not taken, `scf.if` 4 not taken: points 0, 32, … 256: 9 of 288): on whole staging memrefs — the inputs' at their contents,
    the FORGOTTEN outputs' (3, 4, 5, 6, 7, 8, 9) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S1x256x2048 .bf16) (harg2 : arg2.IsWhole) (arg3 : Memref sig .tc .vmem S1x256x512 .bf16) (harg3 : arg3.IsWhole) (arg4 : Memref sig .tc .vmem S1x256x512 .bf16) (harg4 : arg4.IsWhole) (arg5 : Memref sig .tc .vmem S1x256x2048 .bf16) (harg5 : arg5.IsWhole) (arg6 : Memref sig .tc .vmem S1x256x2x8x128 .fp8e4m3) (harg6 : arg6.IsWhole) (arg7 : Memref sig .tc .vmem S1x8x256 .f32) (harg7 : arg7.IsWhole) (arg8 : Memref sig .tc .vmem S1x2x256x256 .fp8e4m3) (harg8 : arg8.IsWhole) (arg9 : Memref sig .tc .vmem S1x2x256 .f32) (harg9 : arg9.IsWhole) (arg10 : Memref sig .tc .vmem S1x2x256x256 .fp8e4m3) (harg10 : arg10.IsWhole) (arg11 : Memref sig .tc .vmem S1x2x256 .f32) (harg11 : arg11.IsWhole) (arg12 : Memref sig .tc .vmem S2x32x256x256 .fp8e4m3) (harg12 : arg12.IsWhole) (arg13 : Memref sig .tc .vmem S2x32x256x128 .f32) (harg13 : arg13.IsWhole) (arg14 : Memref sig .tc .vmem S2x32x256x256 .bf16) (harg14 : arg14.IsWhole) (arg15 : Memref sig .tc .vmem S8x256x256 .fp8e4m3) (harg15 : arg15.IsWhole) (arg16 : Memref sig .tc .vmem S8x256 .f32) (harg16 : arg16.IsWhole) (hc0 : cond0_0 i) (hc1 : ¬cond0_1 i) (hc2 : ¬cond0_2 i) (hc3 : ¬cond0_3 i) (hc4 : ¬cond0_4 i)
    (x0 : Vec F S1x256x2048 .bf16) (x1 : Vec F S1x256x512 .bf16) (x2 : Vec F S1x256x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_swa_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_swa_fp8_eq_skeleton]; unfold cc0_swa_fp8_skel
    simp only [k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Gen

end
-- ==== Proof.KernelRunB.lean ====
/- The body's triple in case B: at any contents of the rings, the outputs left at some contents. -/
module

public import proofs.«01_k».proof.Proof.KernelRunA
public import proofs.«01_k».proof.Proof.KernelSlots

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 8000000 in
/-- The body's triple IN CASE B (`scf.if` 0 not taken, `scf.if` 1 taken, `scf.if` 2 not taken, `scf.if` 3 not taken, `scf.if` 4 not taken: points 1, 33, … 257: 9 of 288): on whole staging memrefs — the inputs' at their contents,
    the FORGOTTEN outputs' (3, 4, 5, 6, 7, 8, 9) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S1x256x2048 .bf16) (harg2 : arg2.IsWhole) (arg3 : Memref sig .tc .vmem S1x256x512 .bf16) (harg3 : arg3.IsWhole) (arg4 : Memref sig .tc .vmem S1x256x512 .bf16) (harg4 : arg4.IsWhole) (arg5 : Memref sig .tc .vmem S1x256x2048 .bf16) (harg5 : arg5.IsWhole) (arg6 : Memref sig .tc .vmem S1x256x2x8x128 .fp8e4m3) (harg6 : arg6.IsWhole) (arg7 : Memref sig .tc .vmem S1x8x256 .f32) (harg7 : arg7.IsWhole) (arg8 : Memref sig .tc .vmem S1x2x256x256 .fp8e4m3) (harg8 : arg8.IsWhole) (arg9 : Memref sig .tc .vmem S1x2x256 .f32) (harg9 : arg9.IsWhole) (arg10 : Memref sig .tc .vmem S1x2x256x256 .fp8e4m3) (harg10 : arg10.IsWhole) (arg11 : Memref sig .tc .vmem S1x2x256 .f32) (harg11 : arg11.IsWhole) (arg12 : Memref sig .tc .vmem S2x32x256x256 .fp8e4m3) (harg12 : arg12.IsWhole) (arg13 : Memref sig .tc .vmem S2x32x256x128 .f32) (harg13 : arg13.IsWhole) (arg14 : Memref sig .tc .vmem S2x32x256x256 .bf16) (harg14 : arg14.IsWhole) (arg15 : Memref sig .tc .vmem S8x256x256 .fp8e4m3) (harg15 : arg15.IsWhole) (arg16 : Memref sig .tc .vmem S8x256 .f32) (harg16 : arg16.IsWhole) (hc0 : ¬cond0_0 i) (hc1 : cond0_1 i) (hc2 : ¬cond0_2 i) (hc3 : ¬cond0_3 i) (hc4 : ¬cond0_4 i)
    (x0 : Vec F S1x256x2048 .bf16) (x1 : Vec F S1x256x512 .bf16) (x2 : Vec F S1x256x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_swa_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_swa_fp8_eq_skeleton]; unfold cc0_swa_fp8_skel
    simp only [k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Gen

end
-- ==== Proof.KernelRunC.lean ====
/- The body's triple in case C: at any contents of the rings, the outputs left at some contents. -/
module

public import proofs.«01_k».proof.Proof.KernelRunB
public import proofs.«01_k».proof.Proof.KernelSlots

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 8000000 in
/-- The body's triple IN CASE C (`scf.if` 0 not taken, `scf.if` 1 not taken, `scf.if` 2 taken, `scf.if` 3 not taken, `scf.if` 4 not taken: points 2, 34, … 258: 9 of 288): on whole staging memrefs — the inputs' at their contents,
    the FORGOTTEN outputs' (3, 4, 5, 6, 7, 8, 9) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_C (c : Dev nD) (i : grid0.Coords) (arg2 : Memref sig .tc .vmem S1x256x2048 .bf16) (harg2 : arg2.IsWhole) (arg3 : Memref sig .tc .vmem S1x256x512 .bf16) (harg3 : arg3.IsWhole) (arg4 : Memref sig .tc .vmem S1x256x512 .bf16) (harg4 : arg4.IsWhole) (arg5 : Memref sig .tc .vmem S1x256x2048 .bf16) (harg5 : arg5.IsWhole) (arg6 : Memref sig .tc .vmem S1x256x2x8x128 .fp8e4m3) (harg6 : arg6.IsWhole) (arg7 : Memref sig .tc .vmem S1x8x256 .f32) (harg7 : arg7.IsWhole) (arg8 : Memref sig .tc .vmem S1x2x256x256 .fp8e4m3) (harg8 : arg8.IsWhole) (arg9 : Memref sig .tc .vmem S1x2x256 .f32) (harg9 : arg9.IsWhole) (arg10 : Memref sig .tc .vmem S1x2x256x256 .fp8e4m3) (harg10 : arg10.IsWhole) (arg11 : Memref sig .tc .vmem S1x2x256 .f32) (harg11 : arg11.IsWhole) (arg12 : Memref sig .tc .vmem S2x32x256x256 .fp8e4m3) (harg12 : arg12.IsWhole) (arg13 : Memref sig .tc .vmem S2x32x256x128 .f32) (harg13 : arg13.IsWhole) (arg14 : Memref sig .tc .vmem S2x32x256x256 .bf16) (harg14 : arg14.IsWhole) (arg15 : Memref sig .tc .vmem S8x256x256 .fp8e4m3) (harg15 : arg15.IsWhole) (arg16 : Memref sig .tc .vmem S8x256 .f32) (harg16 : arg16.IsWhole) (hc0 : ¬cond0_0 i) (hc1 : ¬cond0_1 i) (hc2 : cond0_2 i) (hc3 : ¬cond0_3 i) (hc4 : ¬cond0_4 i)
    (x0 : Vec F S1x256x2048 .bf16) (x1 : Vec F S1x256x512 .bf16) (x2 : Vec F S1x256x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_swa_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_swa_fp8_eq_skeleton]; unfold cc0_swa_fp8_skel
    simp only [k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Gen

end
-- ==== Proof.KernelRunD.lean ====
/- The body's triple in case D: at any contents of the rings, the outputs left at some contents. -/
module

public import proofs.«01_k».proof.Proof.KernelRunC
public import proofs.«01_k».proof.Proof.KernelSlots

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 8000000 in
/-- The body's triple IN CASE D (`scf.if` 0 not taken, `scf.if` 1 not taken, `scf.if` 2 not taken, `scf.if` 3 taken, `scf.if` 4 not taken: points 3, 35, … 259: 9 of 288): on whole staging memrefs — the inputs' at their contents,
    the FORGOTTEN outputs' (3, 4, 5, 6, 7, 8, 9) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_D (c : Dev nD) (i : grid0.Coords) (arg2 : Memref sig .tc .vmem S1x256x2048 .bf16) (harg2 : arg2.IsWhole) (arg3 : Memref sig .tc .vmem S1x256x512 .bf16) (harg3 : arg3.IsWhole) (arg4 : Memref sig .tc .vmem S1x256x512 .bf16) (harg4 : arg4.IsWhole) (arg5 : Memref sig .tc .vmem S1x256x2048 .bf16) (harg5 : arg5.IsWhole) (arg6 : Memref sig .tc .vmem S1x256x2x8x128 .fp8e4m3) (harg6 : arg6.IsWhole) (arg7 : Memref sig .tc .vmem S1x8x256 .f32) (harg7 : arg7.IsWhole) (arg8 : Memref sig .tc .vmem S1x2x256x256 .fp8e4m3) (harg8 : arg8.IsWhole) (arg9 : Memref sig .tc .vmem S1x2x256 .f32) (harg9 : arg9.IsWhole) (arg10 : Memref sig .tc .vmem S1x2x256x256 .fp8e4m3) (harg10 : arg10.IsWhole) (arg11 : Memref sig .tc .vmem S1x2x256 .f32) (harg11 : arg11.IsWhole) (arg12 : Memref sig .tc .vmem S2x32x256x256 .fp8e4m3) (harg12 : arg12.IsWhole) (arg13 : Memref sig .tc .vmem S2x32x256x128 .f32) (harg13 : arg13.IsWhole) (arg14 : Memref sig .tc .vmem S2x32x256x256 .bf16) (harg14 : arg14.IsWhole) (arg15 : Memref sig .tc .vmem S8x256x256 .fp8e4m3) (harg15 : arg15.IsWhole) (arg16 : Memref sig .tc .vmem S8x256 .f32) (harg16 : arg16.IsWhole) (hc0 : ¬cond0_0 i) (hc1 : ¬cond0_1 i) (hc2 : ¬cond0_2 i) (hc3 : cond0_3 i) (hc4 : ¬cond0_4 i)
    (x0 : Vec F S1x256x2048 .bf16) (x1 : Vec F S1x256x512 .bf16) (x2 : Vec F S1x256x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_swa_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_swa_fp8_eq_skeleton]; unfold cc0_swa_fp8_skel
    simp only [k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Gen

end
-- ==== Proof.KernelRunE.lean ====
/- The body's triple in case E: at any contents of the rings, the outputs left at some contents. -/
module

public import proofs.«01_k».proof.Proof.KernelRunD
public import proofs.«01_k».proof.Proof.KernelSlots

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 8000000 in
/-- The body's triple IN CASE E (`scf.if` 0 not taken, `scf.if` 1 not taken, `scf.if` 2 not taken, `scf.if` 3 not taken, `scf.if` 4 taken: points 4, 5, … 287: 252 of 288): on whole staging memrefs — the inputs' at their contents,
    the FORGOTTEN outputs' (3, 4, 5, 6, 7, 8, 9) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_E (c : Dev nD) (i : grid0.Coords) (arg2 : Memref sig .tc .vmem S1x256x2048 .bf16) (harg2 : arg2.IsWhole) (arg3 : Memref sig .tc .vmem S1x256x512 .bf16) (harg3 : arg3.IsWhole) (arg4 : Memref sig .tc .vmem S1x256x512 .bf16) (harg4 : arg4.IsWhole) (arg5 : Memref sig .tc .vmem S1x256x2048 .bf16) (harg5 : arg5.IsWhole) (arg6 : Memref sig .tc .vmem S1x256x2x8x128 .fp8e4m3) (harg6 : arg6.IsWhole) (arg7 : Memref sig .tc .vmem S1x8x256 .f32) (harg7 : arg7.IsWhole) (arg8 : Memref sig .tc .vmem S1x2x256x256 .fp8e4m3) (harg8 : arg8.IsWhole) (arg9 : Memref sig .tc .vmem S1x2x256 .f32) (harg9 : arg9.IsWhole) (arg10 : Memref sig .tc .vmem S1x2x256x256 .fp8e4m3) (harg10 : arg10.IsWhole) (arg11 : Memref sig .tc .vmem S1x2x256 .f32) (harg11 : arg11.IsWhole) (arg12 : Memref sig .tc .vmem S2x32x256x256 .fp8e4m3) (harg12 : arg12.IsWhole) (arg13 : Memref sig .tc .vmem S2x32x256x128 .f32) (harg13 : arg13.IsWhole) (arg14 : Memref sig .tc .vmem S2x32x256x256 .bf16) (harg14 : arg14.IsWhole) (arg15 : Memref sig .tc .vmem S8x256x256 .fp8e4m3) (harg15 : arg15.IsWhole) (arg16 : Memref sig .tc .vmem S8x256 .f32) (harg16 : arg16.IsWhole) (hc0 : ¬cond0_0 i) (hc1 : ¬cond0_1 i) (hc2 : ¬cond0_2 i) (hc3 : ¬cond0_3 i) (hc4 : cond0_4 i)
    (x0 : Vec F S1x256x2048 .bf16) (x1 : Vec F S1x256x512 .bf16) (x2 : Vec F S1x256x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_swa_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_swa_fp8_eq_skeleton]; unfold cc0_swa_fp8_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2
    sl_exec_parts (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Gen

end
-- ==== Proof.KernelFrame.lean ====
/- The frame: the body obligation by the five cases, and the launch. -/
module

public import proofs.«01_k».proof.Proof.KernelRunE
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (3, 4, 5, 6, 7, 8, 9): nothing reads what the kernel leaves in them, so nothing
    of it is named (Lib/Pipeline/Dat.lean `Dat.toRForget`). -/
def forgets0 : Fin 10 → Bool := fun w => w.val == 3 || w.val == 4 || w.val == 5 || w.val == 6 || w.val == 7 || w.val == 8 || w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 6000000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 288 := lt_of_lt_of_eq t.isLt (show cfg0.N = 288 from N_0)
  by_cases h0 : t.val % 32 = 0
  · by_cases h1 : t.val % 32 = 1
    · exfalso; omega
    · by_cases h2 : t.val % 32 = 2
      · exfalso; omega
      · by_cases h3 : t.val % 32 = 3
        · exfalso; omega
        · by_cases h4 : 4 ≤ t.val % 32
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
            iapply ((kernelRun0_A c (grid0.coords t) _ _ _ _ _ _ _ _ _ _ _ _ _ _ _ _ _ _ _ _ _ _ _ _ _ _ _ _ _ _ ((hcond0_0 t).mpr h0) (fun h => h1 ((hcond0_1 t).mp h)) (fun h => h2 ((hcond0_2 t).mp h)) (fun h => h3 ((hcond0_3 t).mp h)) (fun h => h4 ((hcond0_4 t).mp h)) (iblk m c 0 t) (iblk m c 1 t) (iblk m c 2 t)) Set.univ _)
            isplitl [H0]; · iexact H0
            isplitl [H1]; · iexact H1
            isplitl [H2]; · iexact H2
            isplitl [H3]; · iexists _; iexact H3
            isplitl [H4]; · iexists _; iexact H4
            isplitl [H5]; · iexists _; iexact H5
            isplitl [H6]; · iexists _; iexact H6
            isplitl [H7]; · iexists _; iexact H7
            isplitl [H8]; · iexists _; iexact H8
            isplitl [H9]; · iexists _; iexact H9
            isplitl [HS0]; · iexact HS0
            isplitl [HS1]; · iexact HS1
            isplitl [HS2]; · iexact HS2
            isplitl [HS3]; · iexact HS3
            isplitl [HS4]; · iexact HS4
            iintro ⟨H0, H1, H2, H3, H4, H5, H6, H7, H8, H9, HS0, HS1, HS2, HS3, HS4⟩
            isplitl [HS0 HS1 HS2 HS3 HS4 Hg]
            · isplitl [HS0 HS1 HS2 HS3 HS4]
              · isplitl [HS0]
                · iexact HS0
                isplitl [HS1]
                · iexact HS1
                isplitl [HS2]
                · iexact HS2
                isplitl [HS3]
                · iexact HS3
                iexact HS4
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            iexact H9
  · by_cases h1 : t.val % 32 = 1
    · by_cases h2 : t.val % 32 = 2
      · exfalso; omega
      · by_cases h3 : t.val % 32 = 3
        · exfalso; omega
        · by_cases h4 : 4 ≤ t.val % 32
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
            iapply ((kernelRun0_B c (grid0.coords t) _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (fun h => h4 ((hcond0_4 t).mp h)) (iblk m c 0 t) (iblk m c 1 t) (iblk m c 2 t)) Set.univ _)
            isplitl [H0]; · iexact H0
            isplitl [H1]; · iexact H1
            isplitl [H2]; · iexact H2
            isplitl [H3]; · iexists _; iexact H3
            isplitl [H4]; · iexists _; iexact H4
            isplitl [H5]; · iexists _; iexact H5
            isplitl [H6]; · iexists _; iexact H6
            isplitl [H7]; · iexists _; iexact H7
            isplitl [H8]; · iexists _; iexact H8
            isplitl [H9]; · iexists _; iexact H9
            isplitl [HS0]; · iexact HS0
            isplitl [HS1]; · iexact HS1
            isplitl [HS2]; · iexact HS2
            isplitl [HS3]; · iexact HS3
            isplitl [HS4]; · iexact HS4
            iintro ⟨H0, H1, H2, H3, H4, H5, H6, H7, H8, H9, HS0, HS1, HS2, HS3, HS4⟩
            isplitl [HS0 HS1 HS2 HS3 HS4 Hg]
            · isplitl [HS0 HS1 HS2 HS3 HS4]
              · isplitl [HS0]
                · iexact HS0
                isplitl [HS1]
                · iexact HS1
                isplitl [HS2]
                · iexact HS2
                isplitl [HS3]
                · iexact HS3
                iexact HS4
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            iexact H9
    · by_cases h2 : t.val % 32 = 2
      · by_cases h3 : t.val % 32 = 3
        · exfalso; omega
        · by_cases h4 : 4 ≤ t.val % 32
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
            iapply ((kernelRun0_C c (grid0.coords t) _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t)) Set.univ _)
            isplitl [H0]; · iexact H0
            isplitl [H1]; · iexact H1
            isplitl [H2]; · iexact H2
            isplitl [H3]; · iexists _; iexact H3
            isplitl [H4]; · iexists _; iexact H4
            isplitl [H5]; · iexists _; iexact H5
            isplitl [H6]; · iexists _; iexact H6
            isplitl [H7]; · iexists _; iexact H7
            isplitl [H8]; · iexists _; iexact H8
            isplitl [H9]; · iexists _; iexact H9
            isplitl [HS0]; · iexact HS0
            isplitl [HS1]; · iexact HS1
            isplitl [HS2]; · iexact HS2
            isplitl [HS3]; · iexact HS3
            isplitl [HS4]; · iexact HS4
            iintro ⟨H0, H1, H2, H3, H4, H5, H6, H7, H8, H9, HS0, HS1, HS2, HS3, HS4⟩
            isplitl [HS0 HS1 HS2 HS3 HS4 Hg]
            · isplitl [HS0 HS1 HS2 HS3 HS4]
              · isplitl [HS0]
                · iexact HS0
                isplitl [HS1]
                · iexact HS1
                isplitl [HS2]
                · iexact HS2
                isplitl [HS3]
                · iexact HS3
                iexact HS4
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            iexact H9
      · by_cases h3 : t.val % 32 = 3
        · by_cases h4 : 4 ≤ t.val % 32
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
            iapply ((kernelRun0_D c (grid0.coords t) _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t)) Set.univ _)
            isplitl [H0]; · iexact H0
            isplitl [H1]; · iexact H1
            isplitl [H2]; · iexact H2
            isplitl [H3]; · iexists _; iexact H3
            isplitl [H4]; · iexists _; iexact H4
            isplitl [H5]; · iexists _; iexact H5
            isplitl [H6]; · iexists _; iexact H6
            isplitl [H7]; · iexists _; iexact H7
            isplitl [H8]; · iexists _; iexact H8
            isplitl [H9]; · iexists _; iexact H9
            isplitl [HS0]; · iexact HS0
            isplitl [HS1]; · iexact HS1
            isplitl [HS2]; · iexact HS2
            isplitl [HS3]; · iexact HS3
            isplitl [HS4]; · iexact HS4
            iintro ⟨H0, H1, H2, H3, H4, H5, H6, H7, H8, H9, HS0, HS1, HS2, HS3, HS4⟩
            isplitl [HS0 HS1 HS2 HS3 HS4 Hg]
            · isplitl [HS0 HS1 HS2 HS3 HS4]
              · isplitl [HS0]
                · iexact HS0
                isplitl [HS1]
                · iexact HS1
                isplitl [HS2]
                · iexact HS2
                isplitl [HS3]
                · iexact HS3
                iexact HS4
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            iexact H9
        · by_cases h4 : 4 ≤ t.val % 32
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
            iapply ((kernelRun0_E c (grid0.coords t) _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) ((hcond0_4 t).mpr h4) (iblk m c 0 t) (iblk m c 1 t) (iblk m c 2 t)) Set.univ _)
            isplitl [H0]; · iexact H0
            isplitl [H1]; · iexact H1
            isplitl [H2]; · iexact H2
            isplitl [H3]; · iexists _; iexact H3
            isplitl [H4]; · iexists _; iexact H4
            isplitl [H5]; · iexists _; iexact H5
            isplitl [H6]; · iexists _; iexact H6
            isplitl [H7]; · iexists _; iexact H7
            isplitl [H8]; · iexists _; iexact H8
            isplitl [H9]; · iexists _; iexact H9
            isplitl [HS0]; · iexact HS0
            isplitl [HS1]; · iexact HS1
            isplitl [HS2]; · iexact HS2
            isplitl [HS3]; · iexact HS3
            isplitl [HS4]; · iexact HS4
            iintro ⟨H0, H1, H2, H3, H4, H5, H6, H7, H8, H9, HS0, HS1, HS2, HS3, HS4⟩
            isplitl [HS0 HS1 HS2 HS3 HS4 Hg]
            · isplitl [HS0 HS1 HS2 HS3 HS4]
              · isplitl [HS0]
                · iexact HS0
                isplitl [HS1]
                · iexact HS1
                isplitl [HS2]
                · iexact HS2
                isplitl [HS3]
                · iexact HS3
                iexact HS4
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            iexact H9
          · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4, 5, 6, 7, 8, 9) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Gen

end
-- ==== Proof.KernelIdealSlots.lean ====
module

public import proofs.«01_k».proof.Proof.Gen.KernelIdeal.Points
public import Idealize.ShloMosaic.Lib.Exec

/-! The ring slots a tile reads behind its own, each written as a number of the point. The subtraction is that of
words, so the number is taken modulo two to the thirty-second, which is the plain difference where the tile exists. -/

@[expose] public section

noncomputable section

namespace Cert.KernelIdeal.Gen

open Idealize.ShloMosaic Idealize.ShloMosaic.TcCoe

theorem vec4 {g a b : Nat} (h : a = b) : (![g, a, 0, 0] : Fin 4 → Nat) = ![g, b, 0, 0] := by rw [h]

/-- One subtraction. -/
theorem back1 (t : Nat) (h : t < 32) (k : Nat) (hk : k < 32) :
    (Scalar.indexCast (Scalar.subi (BitVec.ofNat 32 t) (BitVec.ofNat 32 k))).toNat = (t + (4294967296 - k)) % 4294967296 := by
  show (BitVec.ofNat 32 t - BitVec.ofNat 32 k).toNat = _
  rw [BitVec.toNat_sub, BitVec.toNat_ofNat, BitVec.toNat_ofNat]; omega

/-- Two subtractions, the second of one. -/
theorem back2 (t : Nat) (h : t < 32) (k : Nat) (hk : k < 32) :
    (Scalar.indexCast (Scalar.subi (Scalar.subi (BitVec.ofNat 32 t) (BitVec.ofNat 32 k)) (BitVec.ofNat 32 1))).toNat
      = (t + (4294967296 - (k + 1))) % 4294967296 := by
  show (BitVec.ofNat 32 t - BitVec.ofNat 32 k - BitVec.ofNat 32 1).toNat = _
  rw [BitVec.toNat_sub, BitVec.toNat_sub, BitVec.toNat_ofNat, BitVec.toNat_ofNat, BitVec.toNat_ofNat]; omega

theorem k0_off11_form (i : grid0.Coords) : k0_off11 i = ![0, ((i 1).val + 4294967295) % 4294967296, 0, 0] := by
  have h : (i 1).val < 32 := (i 1).isLt
  unfold k0_off11
  refine vec4 ?_
  exact back1 _ h 1 (by omega)
instance k0_off11_closed (i : grid0.Coords) : ClosedOff (k0_off11 i) := ⟨_, k0_off11_form i⟩

theorem k0_off12_form (i : grid0.Coords) : k0_off12 i = ![0, ((i 1).val + 4294967295) % 4294967296, 0, 0] := by
  have h : (i 1).val < 32 := (i 1).isLt
  unfold k0_off12
  refine vec4 ?_
  exact back1 _ h 1 (by omega)
instance k0_off12_closed (i : grid0.Coords) : ClosedOff (k0_off12 i) := ⟨_, k0_off12_form i⟩

theorem k0_off13_form (i : grid0.Coords) : k0_off13 i = ![0, ((i 1).val + 4294967295) % 4294967296, 0, 0] := by
  have h : (i 1).val < 32 := (i 1).isLt
  unfold k0_off13
  refine vec4 ?_
  exact back2 _ h 0 (by omega)
instance k0_off13_closed (i : grid0.Coords) : ClosedOff (k0_off13 i) := ⟨_, k0_off13_form i⟩

theorem k0_off16_form (i : grid0.Coords) : k0_off16 i = ![1, ((i 1).val + 4294967295) % 4294967296, 0, 0] := by
  have h : (i 1).val < 32 := (i 1).isLt
  unfold k0_off16
  refine vec4 ?_
  exact back1 _ h 1 (by omega)
instance k0_off16_closed (i : grid0.Coords) : ClosedOff (k0_off16 i) := ⟨_, k0_off16_form i⟩

theorem k0_off17_form (i : grid0.Coords) : k0_off17 i = ![1, ((i 1).val + 4294967295) % 4294967296, 0, 0] := by
  have h : (i 1).val < 32 := (i 1).isLt
  unfold k0_off17
  refine vec4 ?_
  exact back1 _ h 1 (by omega)
instance k0_off17_closed (i : grid0.Coords) : ClosedOff (k0_off17 i) := ⟨_, k0_off17_form i⟩

theorem k0_off18_form (i : grid0.Coords) : k0_off18 i = ![1, ((i 1).val + 4294967295) % 4294967296, 0, 0] := by
  have h : (i 1).val < 32 := (i 1).isLt
  unfold k0_off18
  refine vec4 ?_
  exact back2 _ h 0 (by omega)
instance k0_off18_closed (i : grid0.Coords) : ClosedOff (k0_off18 i) := ⟨_, k0_off18_form i⟩

theorem k0_off21_1_form (i : grid0.Coords) : k0_off21 i 1#32 = ![0, ((i 1).val + 4294967295) % 4294967296, 0, 0] := by
  have h : (i 1).val < 32 := (i 1).isLt
  unfold k0_off21
  refine vec4 ?_
  exact back1 _ h 1 (by omega)
instance k0_off21_1_closed (i : grid0.Coords) : ClosedOff (k0_off21 i 1#32) := ⟨_, k0_off21_1_form i⟩

theorem k0_off21_2_form (i : grid0.Coords) : k0_off21 i 2#32 = ![0, ((i 1).val + 4294967294) % 4294967296, 0, 0] := by
  have h : (i 1).val < 32 := (i 1).isLt
  unfold k0_off21
  refine vec4 ?_
  exact back1 _ h 2 (by omega)
instance k0_off21_2_closed (i : grid0.Coords) : ClosedOff (k0_off21 i 2#32) := ⟨_, k0_off21_2_form i⟩

theorem k0_off22_1_form (i : grid0.Coords) : k0_off22 i 1#32 = ![0, ((i 1).val + 4294967295) % 4294967296, 0, 0] := by
  have h : (i 1).val < 32 := (i 1).isLt
  unfold k0_off22
  refine vec4 ?_
  exact back1 _ h 1 (by omega)
instance k0_off22_1_closed (i : grid0.Coords) : ClosedOff (k0_off22 i 1#32) := ⟨_, k0_off22_1_form i⟩

theorem k0_off22_2_form (i : grid0.Coords) : k0_off22 i 2#32 = ![0, ((i 1).val + 4294967294) % 4294967296, 0, 0] := by
  have h : (i 1).val < 32 := (i 1).isLt
  unfold k0_off22
  refine vec4 ?_
  exact back1 _ h 2 (by omega)
instance k0_off22_2_closed (i : grid0.Coords) : ClosedOff (k0_off22 i 2#32) := ⟨_, k0_off22_2_form i⟩

theorem k0_off23_0_form (i : grid0.Coords) : k0_off23 i 0#32 = ![0, ((i 1).val + 4294967295) % 4294967296, 0, 0] := by
  have h : (i 1).val < 32 := (i 1).isLt
  unfold k0_off23
  refine vec4 ?_
  exact back2 _ h 0 (by omega)
instance k0_off23_0_closed (i : grid0.Coords) : ClosedOff (k0_off23 i 0#32) := ⟨_, k0_off23_0_form i⟩

theorem k0_off23_1_form (i : grid0.Coords) : k0_off23 i 1#32 = ![0, ((i 1).val + 4294967294) % 4294967296, 0, 0] := by
  have h : (i 1).val < 32 := (i 1).isLt
  unfold k0_off23
  refine vec4 ?_
  exact back2 _ h 1 (by omega)
instance k0_off23_1_closed (i : grid0.Coords) : ClosedOff (k0_off23 i 1#32) := ⟨_, k0_off23_1_form i⟩

theorem k0_off26_1_form (i : grid0.Coords) : k0_off26 i 1#32 = ![1, ((i 1).val + 4294967295) % 4294967296, 0, 0] := by
  have h : (i 1).val < 32 := (i 1).isLt
  unfold k0_off26
  refine vec4 ?_
  exact back1 _ h 1 (by omega)
instance k0_off26_1_closed (i : grid0.Coords) : ClosedOff (k0_off26 i 1#32) := ⟨_, k0_off26_1_form i⟩

theorem k0_off26_2_form (i : grid0.Coords) : k0_off26 i 2#32 = ![1, ((i 1).val + 4294967294) % 4294967296, 0, 0] := by
  have h : (i 1).val < 32 := (i 1).isLt
  unfold k0_off26
  refine vec4 ?_
  exact back1 _ h 2 (by omega)
instance k0_off26_2_closed (i : grid0.Coords) : ClosedOff (k0_off26 i 2#32) := ⟨_, k0_off26_2_form i⟩

theorem k0_off27_1_form (i : grid0.Coords) : k0_off27 i 1#32 = ![1, ((i 1).val + 4294967295) % 4294967296, 0, 0] := by
  have h : (i 1).val < 32 := (i 1).isLt
  unfold k0_off27
  refine vec4 ?_
  exact back1 _ h 1 (by omega)
instance k0_off27_1_closed (i : grid0.Coords) : ClosedOff (k0_off27 i 1#32) := ⟨_, k0_off27_1_form i⟩

theorem k0_off27_2_form (i : grid0.Coords) : k0_off27 i 2#32 = ![1, ((i 1).val + 4294967294) % 4294967296, 0, 0] := by
  have h : (i 1).val < 32 := (i 1).isLt
  unfold k0_off27
  refine vec4 ?_
  exact back1 _ h 2 (by omega)
instance k0_off27_2_closed (i : grid0.Coords) : ClosedOff (k0_off27 i 2#32) := ⟨_, k0_off27_2_form i⟩

theorem k0_off28_0_form (i : grid0.Coords) : k0_off28 i 0#32 = ![1, ((i 1).val + 4294967295) % 4294967296, 0, 0] := by
  have h : (i 1).val < 32 := (i 1).isLt
  unfold k0_off28
  refine vec4 ?_
  exact back2 _ h 0 (by omega)
instance k0_off28_0_closed (i : grid0.Coords) : ClosedOff (k0_off28 i 0#32) := ⟨_, k0_off28_0_form i⟩

theorem k0_off28_1_form (i : grid0.Coords) : k0_off28 i 1#32 = ![1, ((i 1).val + 4294967294) % 4294967296, 0, 0] := by
  have h : (i 1).val < 32 := (i 1).isLt
  unfold k0_off28
  refine vec4 ?_
  exact back2 _ h 1 (by omega)
instance k0_off28_1_closed (i : grid0.Coords) : ClosedOff (k0_off28 i 1#32) := ⟨_, k0_off28_1_form i⟩

theorem k0_off31_1_form (i : grid0.Coords) : k0_off31 i 1#32 = ![0, ((i 1).val + 4294967295) % 4294967296, 0, 0] := by
  have h : (i 1).val < 32 := (i 1).isLt
  unfold k0_off31
  refine vec4 ?_
  exact back1 _ h 1 (by omega)
instance k0_off31_1_closed (i : grid0.Coords) : ClosedOff (k0_off31 i 1#32) := ⟨_, k0_off31_1_form i⟩

theorem k0_off31_2_form (i : grid0.Coords) : k0_off31 i 2#32 = ![0, ((i 1).val + 4294967294) % 4294967296, 0, 0] := by
  have h : (i 1).val < 32 := (i 1).isLt
  unfold k0_off31
  refine vec4 ?_
  exact back1 _ h 2 (by omega)
instance k0_off31_2_closed (i : grid0.Coords) : ClosedOff (k0_off31 i 2#32) := ⟨_, k0_off31_2_form i⟩

theorem k0_off31_3_form (i : grid0.Coords) : k0_off31 i 3#32 = ![0, ((i 1).val + 4294967293) % 4294967296, 0, 0] := by
  have h : (i 1).val < 32 := (i 1).isLt
  unfold k0_off31
  refine vec4 ?_
  exact back1 _ h 3 (by omega)
instance k0_off31_3_closed (i : grid0.Coords) : ClosedOff (k0_off31 i 3#32) := ⟨_, k0_off31_3_form i⟩

theorem k0_off32_1_form (i : grid0.Coords) : k0_off32 i 1#32 = ![0, ((i 1).val + 4294967295) % 4294967296, 0, 0] := by
  have h : (i 1).val < 32 := (i 1).isLt
  unfold k0_off32
  refine vec4 ?_
  exact back1 _ h 1 (by omega)
instance k0_off32_1_closed (i : grid0.Coords) : ClosedOff (k0_off32 i 1#32) := ⟨_, k0_off32_1_form i⟩

theorem k0_off32_2_form (i : grid0.Coords) : k0_off32 i 2#32 = ![0, ((i 1).val + 4294967294) % 4294967296, 0, 0] := by
  have h : (i 1).val < 32 := (i 1).isLt
  unfold k0_off32
  refine vec4 ?_
  exact back1 _ h 2 (by omega)
instance k0_off32_2_closed (i : grid0.Coords) : ClosedOff (k0_off32 i 2#32) := ⟨_, k0_off32_2_form i⟩

theorem k0_off32_3_form (i : grid0.Coords) : k0_off32 i 3#32 = ![0, ((i 1).val + 4294967293) % 4294967296, 0, 0] := by
  have h : (i 1).val < 32 := (i 1).isLt
  unfold k0_off32
  refine vec4 ?_
  exact back1 _ h 3 (by omega)
instance k0_off32_3_closed (i : grid0.Coords) : ClosedOff (k0_off32 i 3#32) := ⟨_, k0_off32_3_form i⟩

theorem k0_off33_0_form (i : grid0.Coords) : k0_off33 i 0#32 = ![0, ((i 1).val + 4294967295) % 4294967296, 0, 0] := by
  have h : (i 1).val < 32 := (i 1).isLt
  unfold k0_off33
  refine vec4 ?_
  exact back2 _ h 0 (by omega)
instance k0_off33_0_closed (i : grid0.Coords) : ClosedOff (k0_off33 i 0#32) := ⟨_, k0_off33_0_form i⟩

theorem k0_off33_1_form (i : grid0.Coords) : k0_off33 i 1#32 = ![0, ((i 1).val + 4294967294) % 4294967296, 0, 0] := by
  have h : (i 1).val < 32 := (i 1).isLt
  unfold k0_off33
  refine vec4 ?_
  exact back2 _ h 1 (by omega)
instance k0_off33_1_closed (i : grid0.Coords) : ClosedOff (k0_off33 i 1#32) := ⟨_, k0_off33_1_form i⟩

theorem k0_off33_2_form (i : grid0.Coords) : k0_off33 i 2#32 = ![0, ((i 1).val + 4294967293) % 4294967296, 0, 0] := by
  have h : (i 1).val < 32 := (i 1).isLt
  unfold k0_off33
  refine vec4 ?_
  exact back2 _ h 2 (by omega)
instance k0_off33_2_closed (i : grid0.Coords) : ClosedOff (k0_off33 i 2#32) := ⟨_, k0_off33_2_form i⟩

theorem k0_off36_1_form (i : grid0.Coords) : k0_off36 i 1#32 = ![1, ((i 1).val + 4294967295) % 4294967296, 0, 0] := by
  have h : (i 1).val < 32 := (i 1).isLt
  unfold k0_off36
  refine vec4 ?_
  exact back1 _ h 1 (by omega)
instance k0_off36_1_closed (i : grid0.Coords) : ClosedOff (k0_off36 i 1#32) := ⟨_, k0_off36_1_form i⟩

theorem k0_off36_2_form (i : grid0.Coords) : k0_off36 i 2#32 = ![1, ((i 1).val + 4294967294) % 4294967296, 0, 0] := by
  have h : (i 1).val < 32 := (i 1).isLt
  unfold k0_off36
  refine vec4 ?_
  exact back1 _ h 2 (by omega)
instance k0_off36_2_closed (i : grid0.Coords) : ClosedOff (k0_off36 i 2#32) := ⟨_, k0_off36_2_form i⟩

theorem k0_off36_3_form (i : grid0.Coords) : k0_off36 i 3#32 = ![1, ((i 1).val + 4294967293) % 4294967296, 0, 0] := by
  have h : (i 1).val < 32 := (i 1).isLt
  unfold k0_off36
  refine vec4 ?_
  exact back1 _ h 3 (by omega)
instance k0_off36_3_closed (i : grid0.Coords) : ClosedOff (k0_off36 i 3#32) := ⟨_, k0_off36_3_form i⟩

theorem k0_off37_1_form (i : grid0.Coords) : k0_off37 i 1#32 = ![1, ((i 1).val + 4294967295) % 4294967296, 0, 0] := by
  have h : (i 1).val < 32 := (i 1).isLt
  unfold k0_off37
  refine vec4 ?_
  exact back1 _ h 1 (by omega)
instance k0_off37_1_closed (i : grid0.Coords) : ClosedOff (k0_off37 i 1#32) := ⟨_, k0_off37_1_form i⟩

theorem k0_off37_2_form (i : grid0.Coords) : k0_off37 i 2#32 = ![1, ((i 1).val + 4294967294) % 4294967296, 0, 0] := by
  have h : (i 1).val < 32 := (i 1).isLt
  unfold k0_off37
  refine vec4 ?_
  exact back1 _ h 2 (by omega)
instance k0_off37_2_closed (i : grid0.Coords) : ClosedOff (k0_off37 i 2#32) := ⟨_, k0_off37_2_form i⟩

theorem k0_off37_3_form (i : grid0.Coords) : k0_off37 i 3#32 = ![1, ((i 1).val + 4294967293) % 4294967296, 0, 0] := by
  have h : (i 1).val < 32 := (i 1).isLt
  unfold k0_off37
  refine vec4 ?_
  exact back1 _ h 3 (by omega)
instance k0_off37_3_closed (i : grid0.Coords) : ClosedOff (k0_off37 i 3#32) := ⟨_, k0_off37_3_form i⟩

theorem k0_off38_0_form (i : grid0.Coords) : k0_off38 i 0#32 = ![1, ((i 1).val + 4294967295) % 4294967296, 0, 0] := by
  have h : (i 1).val < 32 := (i 1).isLt
  unfold k0_off38
  refine vec4 ?_
  exact back2 _ h 0 (by omega)
instance k0_off38_0_closed (i : grid0.Coords) : ClosedOff (k0_off38 i 0#32) := ⟨_, k0_off38_0_form i⟩

theorem k0_off38_1_form (i : grid0.Coords) : k0_off38 i 1#32 = ![1, ((i 1).val + 4294967294) % 4294967296, 0, 0] := by
  have h : (i 1).val < 32 := (i 1).isLt
  unfold k0_off38
  refine vec4 ?_
  exact back2 _ h 1 (by omega)
instance k0_off38_1_closed (i : grid0.Coords) : ClosedOff (k0_off38 i 1#32) := ⟨_, k0_off38_1_form i⟩

theorem k0_off38_2_form (i : grid0.Coords) : k0_off38 i 2#32 = ![1, ((i 1).val + 4294967293) % 4294967296, 0, 0] := by
  have h : (i 1).val < 32 := (i 1).isLt
  unfold k0_off38
  refine vec4 ?_
  exact back2 _ h 2 (by omega)
instance k0_off38_2_closed (i : grid0.Coords) : ClosedOff (k0_off38 i 2#32) := ⟨_, k0_off38_2_form i⟩

theorem k0_off41_1_form (i : grid0.Coords) : k0_off41 i 1#32 = ![0, ((i 1).val + 4294967295) % 4294967296, 0, 0] := by
  have h : (i 1).val < 32 := (i 1).isLt
  unfold k0_off41
  refine vec4 ?_
  exact back1 _ h 1 (by omega)
instance k0_off41_1_closed (i : grid0.Coords) : ClosedOff (k0_off41 i 1#32) := ⟨_, k0_off41_1_form i⟩

theorem k0_off41_2_form (i : grid0.Coords) : k0_off41 i 2#32 = ![0, ((i 1).val + 4294967294) % 4294967296, 0, 0] := by
  have h : (i 1).val < 32 := (i 1).isLt
  unfold k0_off41
  refine vec4 ?_
  exact back1 _ h 2 (by omega)
instance k0_off41_2_closed (i : grid0.Coords) : ClosedOff (k0_off41 i 2#32) := ⟨_, k0_off41_2_form i⟩

theorem k0_off41_3_form (i : grid0.Coords) : k0_off41 i 3#32 = ![0, ((i 1).val + 4294967293) % 4294967296, 0, 0] := by
  have h : (i 1).val < 32 := (i 1).isLt
  unfold k0_off41
  refine vec4 ?_
  exact back1 _ h 3 (by omega)
instance k0_off41_3_closed (i : grid0.Coords) : ClosedOff (k0_off41 i 3#32) := ⟨_, k0_off41_3_form i⟩

theorem k0_off41_4_form (i : grid0.Coords) : k0_off41 i 4#32 = ![0, ((i 1).val + 4294967292) % 4294967296, 0, 0] := by
  have h : (i 1).val < 32 := (i 1).isLt
  unfold k0_off41
  refine vec4 ?_
  exact back1 _ h 4 (by omega)
instance k0_off41_4_closed (i : grid0.Coords) : ClosedOff (k0_off41 i 4#32) := ⟨_, k0_off41_4_form i⟩

theorem k0_off42_1_form (i : grid0.Coords) : k0_off42 i 1#32 = ![0, ((i 1).val + 4294967295) % 4294967296, 0, 0] := by
  have h : (i 1).val < 32 := (i 1).isLt
  unfold k0_off42
  refine vec4 ?_
  exact back1 _ h 1 (by omega)
instance k0_off42_1_closed (i : grid0.Coords) : ClosedOff (k0_off42 i 1#32) := ⟨_, k0_off42_1_form i⟩

theorem k0_off42_2_form (i : grid0.Coords) : k0_off42 i 2#32 = ![0, ((i 1).val + 4294967294) % 4294967296, 0, 0] := by
  have h : (i 1).val < 32 := (i 1).isLt
  unfold k0_off42
  refine vec4 ?_
  exact back1 _ h 2 (by omega)
instance k0_off42_2_closed (i : grid0.Coords) : ClosedOff (k0_off42 i 2#32) := ⟨_, k0_off42_2_form i⟩

theorem k0_off42_3_form (i : grid0.Coords) : k0_off42 i 3#32 = ![0, ((i 1).val + 4294967293) % 4294967296, 0, 0] := by
  have h : (i 1).val < 32 := (i 1).isLt
  unfold k0_off42
  refine vec4 ?_
  exact back1 _ h 3 (by omega)
instance k0_off42_3_closed (i : grid0.Coords) : ClosedOff (k0_off42 i 3#32) := ⟨_, k0_off42_3_form i⟩

theorem k0_off42_4_form (i : grid0.Coords) : k0_off42 i 4#32 = ![0, ((i 1).val + 4294967292) % 4294967296, 0, 0] := by
  have h : (i 1).val < 32 := (i 1).isLt
  unfold k0_off42
  refine vec4 ?_
  exact back1 _ h 4 (by omega)
instance k0_off42_4_closed (i : grid0.Coords) : ClosedOff (k0_off42 i 4#32) := ⟨_, k0_off42_4_form i⟩

theorem k0_off43_0_form (i : grid0.Coords) : k0_off43 i 0#32 = ![0, ((i 1).val + 4294967295) % 4294967296, 0, 0] := by
  have h : (i 1).val < 32 := (i 1).isLt
  unfold k0_off43
  refine vec4 ?_
  exact back2 _ h 0 (by omega)
instance k0_off43_0_closed (i : grid0.Coords) : ClosedOff (k0_off43 i 0#32) := ⟨_, k0_off43_0_form i⟩

theorem k0_off43_1_form (i : grid0.Coords) : k0_off43 i 1#32 = ![0, ((i 1).val + 4294967294) % 4294967296, 0, 0] := by
  have h : (i 1).val < 32 := (i 1).isLt
  unfold k0_off43
  refine vec4 ?_
  exact back2 _ h 1 (by omega)
instance k0_off43_1_closed (i : grid0.Coords) : ClosedOff (k0_off43 i 1#32) := ⟨_, k0_off43_1_form i⟩

theorem k0_off43_2_form (i : grid0.Coords) : k0_off43 i 2#32 = ![0, ((i 1).val + 4294967293) % 4294967296, 0, 0] := by
  have h : (i 1).val < 32 := (i 1).isLt
  unfold k0_off43
  refine vec4 ?_
  exact back2 _ h 2 (by omega)
instance k0_off43_2_closed (i : grid0.Coords) : ClosedOff (k0_off43 i 2#32) := ⟨_, k0_off43_2_form i⟩

theorem k0_off46_1_form (i : grid0.Coords) : k0_off46 i 1#32 = ![1, ((i 1).val + 4294967295) % 4294967296, 0, 0] := by
  have h : (i 1).val < 32 := (i 1).isLt
  unfold k0_off46
  refine vec4 ?_
  exact back1 _ h 1 (by omega)
instance k0_off46_1_closed (i : grid0.Coords) : ClosedOff (k0_off46 i 1#32) := ⟨_, k0_off46_1_form i⟩

theorem k0_off46_2_form (i : grid0.Coords) : k0_off46 i 2#32 = ![1, ((i 1).val + 4294967294) % 4294967296, 0, 0] := by
  have h : (i 1).val < 32 := (i 1).isLt
  unfold k0_off46
  refine vec4 ?_
  exact back1 _ h 2 (by omega)
instance k0_off46_2_closed (i : grid0.Coords) : ClosedOff (k0_off46 i 2#32) := ⟨_, k0_off46_2_form i⟩

theorem k0_off46_3_form (i : grid0.Coords) : k0_off46 i 3#32 = ![1, ((i 1).val + 4294967293) % 4294967296, 0, 0] := by
  have h : (i 1).val < 32 := (i 1).isLt
  unfold k0_off46
  refine vec4 ?_
  exact back1 _ h 3 (by omega)
instance k0_off46_3_closed (i : grid0.Coords) : ClosedOff (k0_off46 i 3#32) := ⟨_, k0_off46_3_form i⟩

theorem k0_off46_4_form (i : grid0.Coords) : k0_off46 i 4#32 = ![1, ((i 1).val + 4294967292) % 4294967296, 0, 0] := by
  have h : (i 1).val < 32 := (i 1).isLt
  unfold k0_off46
  refine vec4 ?_
  exact back1 _ h 4 (by omega)
instance k0_off46_4_closed (i : grid0.Coords) : ClosedOff (k0_off46 i 4#32) := ⟨_, k0_off46_4_form i⟩

theorem k0_off47_1_form (i : grid0.Coords) : k0_off47 i 1#32 = ![1, ((i 1).val + 4294967295) % 4294967296, 0, 0] := by
  have h : (i 1).val < 32 := (i 1).isLt
  unfold k0_off47
  refine vec4 ?_
  exact back1 _ h 1 (by omega)
instance k0_off47_1_closed (i : grid0.Coords) : ClosedOff (k0_off47 i 1#32) := ⟨_, k0_off47_1_form i⟩

theorem k0_off47_2_form (i : grid0.Coords) : k0_off47 i 2#32 = ![1, ((i 1).val + 4294967294) % 4294967296, 0, 0] := by
  have h : (i 1).val < 32 := (i 1).isLt
  unfold k0_off47
  refine vec4 ?_
  exact back1 _ h 2 (by omega)
instance k0_off47_2_closed (i : grid0.Coords) : ClosedOff (k0_off47 i 2#32) := ⟨_, k0_off47_2_form i⟩

theorem k0_off47_3_form (i : grid0.Coords) : k0_off47 i 3#32 = ![1, ((i 1).val + 4294967293) % 4294967296, 0, 0] := by
  have h : (i 1).val < 32 := (i 1).isLt
  unfold k0_off47
  refine vec4 ?_
  exact back1 _ h 3 (by omega)
instance k0_off47_3_closed (i : grid0.Coords) : ClosedOff (k0_off47 i 3#32) := ⟨_, k0_off47_3_form i⟩

theorem k0_off47_4_form (i : grid0.Coords) : k0_off47 i 4#32 = ![1, ((i 1).val + 4294967292) % 4294967296, 0, 0] := by
  have h : (i 1).val < 32 := (i 1).isLt
  unfold k0_off47
  refine vec4 ?_
  exact back1 _ h 4 (by omega)
instance k0_off47_4_closed (i : grid0.Coords) : ClosedOff (k0_off47 i 4#32) := ⟨_, k0_off47_4_form i⟩

theorem k0_off48_0_form (i : grid0.Coords) : k0_off48 i 0#32 = ![1, ((i 1).val + 4294967295) % 4294967296, 0, 0] := by
  have h : (i 1).val < 32 := (i 1).isLt
  unfold k0_off48
  refine vec4 ?_
  exact back2 _ h 0 (by omega)
instance k0_off48_0_closed (i : grid0.Coords) : ClosedOff (k0_off48 i 0#32) := ⟨_, k0_off48_0_form i⟩

theorem k0_off48_1_form (i : grid0.Coords) : k0_off48 i 1#32 = ![1, ((i 1).val + 4294967294) % 4294967296, 0, 0] := by
  have h : (i 1).val < 32 := (i 1).isLt
  unfold k0_off48
  refine vec4 ?_
  exact back2 _ h 1 (by omega)
instance k0_off48_1_closed (i : grid0.Coords) : ClosedOff (k0_off48 i 1#32) := ⟨_, k0_off48_1_form i⟩

theorem k0_off48_2_form (i : grid0.Coords) : k0_off48 i 2#32 = ![1, ((i 1).val + 4294967293) % 4294967296, 0, 0] := by
  have h : (i 1).val < 32 := (i 1).isLt
  unfold k0_off48
  refine vec4 ?_
  exact back2 _ h 2 (by omega)
instance k0_off48_2_closed (i : grid0.Coords) : ClosedOff (k0_off48 i 2#32) := ⟨_, k0_off48_2_form i⟩

end Cert.KernelIdeal.Gen

end
-- ==== Proof.KernelIdealCases.lean ====
/- @main around its region, the branch conditions in closed form, the staging memrefs and the scratch buffers by name. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KernelIdealSlots
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (none here). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [] [hostOps1] (by simp only [List.Forall])
    (by simp only [List.Forall]) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v1, main_v2, main_v3, main_v4, main_v5, main_v6, main_v7}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePostR.arr_in h c 0 rfl).trans ((hA c 0).trans (V_main_arg0 m c)),
      (Pipeline.RDat.FramePostR.arr_in h c 1 rfl).trans ((hA c 1).trans (V_main_arg1 m c)),
      (Pipeline.RDat.FramePostR.arr_in h c 2 rfl).trans ((hA c 2).trans (V_main_arg2 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 32) — by arithmetic of the point. -/
theorem hcond0_0 : ∀ t : Fin cfg0.N, cond0_0 (grid0.coords t) ↔ t.val % 32 = 0 :=
  (fun t => by
    have ht : t.val < 288 := Nat.lt_of_lt_of_eq t.isLt N_0
    have e0 : (grid0.coords t 0).val = t.val / 32 % 9 := Pipeline.Grid.coords_val t 0 (by decide) rfl
    have e1 : (grid0.coords t 1).val = t.val / 1 % 32 := Pipeline.Grid.coords_val t 1 (by decide) rfl
    simp only [cond0_0, k0_cond1, e0, e1]
    word_cmp
   : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := k0_cond2 i = 1#1
/-- It holds at the points ≡ 1 (mod 32) — by arithmetic of the point. -/
theorem hcond0_1 : ∀ t : Fin cfg0.N, cond0_1 (grid0.coords t) ↔ t.val % 32 = 1 :=
  (fun t => by
    have ht : t.val < 288 := Nat.lt_of_lt_of_eq t.isLt N_0
    have e0 : (grid0.coords t 0).val = t.val / 32 % 9 := Pipeline.Grid.coords_val t 0 (by decide) rfl
    have e1 : (grid0.coords t 1).val = t.val / 1 % 32 := Pipeline.Grid.coords_val t 1 (by decide) rfl
    simp only [cond0_1, k0_cond2, e0, e1]
    word_cmp
   : ∀ t : Fin grid0.N, cond0_1 (grid0.coords t) ↔ t.val % 32 = 1)

/-- The condition of the body's `scf.if` 2 (`k0_h3`), from the grid coordinates (the skeleton's scalar
    chain substituted). -/
abbrev cond0_2 (i : grid0.Coords) : Prop := k0_cond3 i = 1#1
/-- It holds at the points ≡ 2 (mod 32) — by arithmetic of the point. -/
theorem hcond0_2 : ∀ t : Fin cfg0.N, cond0_2 (grid0.coords t) ↔ t.val % 32 = 2 :=
  (fun t => by
    have ht : t.val < 288 := Nat.lt_of_lt_of_eq t.isLt N_0
    have e0 : (grid0.coords t 0).val = t.val / 32 % 9 := Pipeline.Grid.coords_val t 0 (by decide) rfl
    have e1 : (grid0.coords t 1).val = t.val / 1 % 32 := Pipeline.Grid.coords_val t 1 (by decide) rfl
    simp only [cond0_2, k0_cond3, e0, e1]
    word_cmp
   : ∀ t : Fin grid0.N, cond0_2 (grid0.coords t) ↔ t.val % 32 = 2)

/-- The condition of the body's `scf.if` 3 (`k0_h4`), from the grid coordinates (the skeleton's scalar
    chain substituted). -/
abbrev cond0_3 (i : grid0.Coords) : Prop := k0_cond4 i = 1#1
/-- It holds at the points ≡ 3 (mod 32) — by arithmetic of the point. -/
theorem hcond0_3 : ∀ t : Fin cfg0.N, cond0_3 (grid0.coords t) ↔ t.val % 32 = 3 :=
  (fun t => by
    have ht : t.val < 288 := Nat.lt_of_lt_of_eq t.isLt N_0
    have e0 : (grid0.coords t 0).val = t.val / 32 % 9 := Pipeline.Grid.coords_val t 0 (by decide) rfl
    have e1 : (grid0.coords t 1).val = t.val / 1 % 32 := Pipeline.Grid.coords_val t 1 (by decide) rfl
    simp only [cond0_3, k0_cond4, e0, e1]
    word_cmp
   : ∀ t : Fin grid0.N, cond0_3 (grid0.coords t) ↔ t.val % 32 = 3)

/-- The condition of the body's `scf.if` 4 (`k0_h5`), from the grid coordinates (the skeleton's scalar
    chain substituted). -/
abbrev cond0_4 (i : grid0.Coords) : Prop := k0_cond5 i = 1#1
/-- It holds at the points whose coordinates have 4 ≤ i1 — decided over the grid. -/
theorem hcond0_4 : ∀ t : Fin cfg0.N, cond0_4 (grid0.coords t) ↔ 4 ≤ t.val % 32 :=
  (by decide +kernel : ∀ t : Fin grid0.N, cond0_4 (grid0.coords t) ↔ 4 ≤ t.val % 32)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x256x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x2x8x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2x256x256 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2x256x256 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2x256 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S2x32x256x256 .fp8e4m3 := Memref.whole cc0_scratch0
abbrev scM0_1 : Memref sig .tc .vmem S2x32x256x128 .f32 := Memref.whole cc0_scratch1
abbrev scM0_2 : Memref sig .tc .vmem S2x32x256x256 .bf16 := Memref.whole cc0_scratch2
abbrev scM0_3 : Memref sig .tc .vmem S8x256x256 .fp8e4m3 := Memref.whole cc0_scratch3
abbrev scM0_4 : Memref sig .tc .vmem S8x256 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Gen

end
-- ==== Proof.Spec.lean ====
module

public import proofs.«01_k».proof.Proof.Gen.KernelIdeal.Points

/-! The body's two computations as functions of what it loads: the quantiser of a block of 256 rows, and the attention of
one head over its own tile, the tiles behind it, and the tile four behind. -/

@[expose] public section

noncomputable section

namespace Cert.KernelIdeal.Spec

open Idealize.ShloMosaic Idealize.ShloMosaic.TcCoe Cert.KernelIdeal Cert.KernelIdeal.Gen

variable {F : FTy → Type} [FloatOps F] [Named F]

/-! ## The quantiser -/

/-- A block as a matrix. -/
def blk (v : Vec F S1x256x256 .bf16) : FVec F S256x256 .bf16 := shapeCast S256x256 v shapeCasts_S1x256x256_S256x256

/-- Each row's greatest magnitude over 448. -/
def yV (t : FVec F S256x256 .bf16) : FVec F S256x1 .f32 :=
  mulf (extf .f32 (shapeCast S256x1 (multiReduction .maximumf [1] S256 (absf t) 0xFF80#16 reduces_S256x256_S256 (.inr rfl) rfl)
    shapeCasts_S256_S256x1) bitsLt_bf16_f32) (broadcast S256x1 (Scalar.ofBits .f32 0x3B124925#32))

/-- One step of the search for the exponent field. -/
def stepV (y : FVec F S256x1 .f32) (b : BitVec 32) (f : IVec S256x1 32) : IVec S256x1 32 :=
  select (cmpf .oge y (bitcastToFloat .f32 (shli (addi f (broadcast S256x1 b)) (broadcast S256x1 23#32))))
    (addi f (broadcast S256x1 b)) f

/-- The exponent field of each row's number. -/
def fieldV (y : FVec F S256x1 .f32) : IVec S256x1 32 :=
  stepV y 1#32 (stepV y 2#32 (stepV y 4#32 (stepV y 8#32 (stepV y 16#32 (stepV y 32#32 (stepV y 64#32
    (stepV y 128#32 (broadcast S256x1 0#32))))))))

/-- The scale's exponent. -/
def expV (y : FVec F S256x1 .f32) : IVec S256x1 32 :=
  select (cmpi .eq (fieldV y) (broadcast S256x1 0#32)) (broadcast S256x1 0#32) (subi (fieldV y) (broadcast S256x1 126#32))

/-- The scale. -/
def sclV (y : FVec F S256x1 .f32) : FVec F S256x1 .f32 :=
  bitcastToFloat .f32 (shli (addi (expV y) (broadcast S256x1 127#32)) (broadcast S256x1 23#32))

/-- The scale's reciprocal. -/
def invV (y : FVec F S256x1 .f32) : FVec F S256x1 .f32 :=
  bitcastToFloat .f32 (shli (subi (broadcast S256x1 127#32) (expV y)) (broadcast S256x1 23#32))

/-- The codes. -/
def codesV (t : FVec F S256x256 .bf16) : FVec F S256x256 .fp8e4m3 :=
  truncf .fp8e4m3 (minimumf (broadcast S256x256 (Scalar.truncf .bf16 bitsLt_bf16_f32 (Scalar.ofBits .f32 0x43E00000#32)))
    (maximumf (broadcast S256x256 (Scalar.truncf .bf16 bitsLt_bf16_f32 (Scalar.ofBits .f32 0xC3E00000#32)))
      (mulf t (broadcastTo S256x256 (truncf .bf16 (invV (yV t)) bitsLt_bf16_f32) broadcasts_S256x1_S256x256))))
    bitsLt_fp8e4m3_bf16

/-- A column of scales over 128 lanes. -/
def lanesV (s : FVec F S256x1 .f32) : FVec F S256x128 .f32 :=
  broadcastTo S256x128 (shapeCast S256x1 s shapeCasts_S256x1_S256x1) broadcasts_S256x1_S256x128

/-- A column of scales as a row. -/
def rowV (s : FVec F S256x1 .f32) : FVec F S1x256 .f32 :=
  extractStridedSlice S1x256 ![0, 0] (transpose S128x256 [1, 0] (lanesV s) transposes_S256x128_p1_0_S128x256)
    slices_S128x256_o0_0_S1x256

/-- The values of a block's codes, transposed. -/
def valsV (t : FVec F S256x256 .bf16) : FVec F S256x256 .bf16 :=
  transpose S256x256 [1, 0] (mulf (extf .bf16 (codesV t) bitsLt_fp8e4m3_bf16)
    (broadcastTo S256x256 (truncf .bf16 (sclV (yV t)) bitsLt_bf16_f32) broadcasts_S256x1_S256x256))
    transposes_S256x256_p1_0_S256x256

/-- Four heads' codes side by side. -/
def joinV (a b c d : FVec F S256x256 .fp8e4m3) : FVec F S256x4x256 .fp8e4m3 :=
  concatenate S256x4x256 1 [⟨S256x1x256, shapeCast S256x1x256 a shapeCasts_S256x256_S256x1x256⟩,
    ⟨S256x1x256, shapeCast S256x1x256 b shapeCasts_S256x256_S256x1x256⟩,
    ⟨S256x1x256, shapeCast S256x1x256 c shapeCasts_S256x256_S256x1x256⟩,
    ⟨S256x1x256, shapeCast S256x1x256 d shapeCasts_S256x256_S256x1x256⟩]
    concatenates_S256x1x256_S256x1x256_S256x1x256_S256x1x256_S256x4x256_d1

/-! ## The attention of one head -/

/-- Where a key of the tile is not after the query. -/
def causal : IVec S256x256 1 :=
  cmpi .sle (iota .tc S256x256 32 [0] iota_S256x256_d0_w32) (iota .tc S256x256 32 [1] iota_S256x256_d1_w32)

/-- The products of a tile's keys with the queries, at the keys' scales. -/
def rawV (q : Vec F S1x256x256 .fp8e4m3) (k : Vec F S1x1x256x256 .fp8e4m3) (s : Vec F S1x1x256x128 .f32) :
    FVec F S256x256 .f32 :=
  mulf (matmul dot_S256x256_S256x256_S256x256_1_1_0_0_n_n none (shapeCast S256x256 k shapeCasts_S1x1x256x256_S256x256)
      (shapeCast S256x256 q shapeCasts_S1x256x256_S256x256) (constant S256x256 .f32 0x00000000#32))
    (concatenate S256x256 1 [⟨S256x128, shapeCast S256x128 s shapeCasts_S1x1x256x128_S256x128⟩,
      ⟨S256x128, shapeCast S256x128 s shapeCasts_S1x1x256x128_S256x128⟩] concatenates_S256x128_S256x128_S256x256_d1)

/-- The factor of a query's scores in the exponent. -/
def aV (r : Vec F S1x256 .f32) : FVec F S1x256 .f32 :=
  mulf r (broadcast S1x256 (Named.named κ "log2e_16" 0x3DB8AA3B#32))

def maxV (s : FVec F S256x256 .f32) : FVec F S1x256 .f32 :=
  shapeCast S1x256 (multiReduction .maximumf [0] S256 s 0xFF800000#32 reduces_S256x256_S256_2 (.inl rfl) rfl) shapeCasts_S256_S1x256

def sumV (s : FVec F S256x256 .f32) : FVec F S1x256 .f32 :=
  shapeCast S1x256 (multiReduction .add [0] S256 s 0x00000000#32 reduces_S256x256_S256_2 (.inl rfl) rfl) shapeCasts_S256_S1x256

def probsV (a b : FVec F S1x256 .f32) (s : FVec F S256x256 .f32) : FVec F S256x256 .f32 :=
  exp2 (subf (mulf s (broadcastTo S256x256 a broadcasts_S1x256_S256x256)) (broadcastTo S256x256 b broadcasts_S1x256_S256x256))

def codeV (p : FVec F S256x256 .f32) : FVec F S256x256 .fp8e4m3 :=
  truncf .fp8e4m3 (minimumf (broadcast S256x256 (Scalar.ofBits .f32 0x43E00000#32))
    (maximumf (broadcast S256x256 (Scalar.ofBits .f32 0x00000000#32)) p)) bitsLt_fp8e4m3_f32

def pvV (v : Vec F S1x1x256x256 .bf16) (p : FVec F S256x256 .f32) : FVec F S256x256 .f32 :=
  matmul dot_S256x256_S256x256_S256x256_1_0_0_1_n_n none (shapeCast S256x256 v shapeCasts_S1x1x256x256_S256x256) (codeV p)
    (constant S256x256 .f32 0x00000000#32)

def bV (m a : FVec F S1x256 .f32) : FVec F S1x256 .f32 :=
  subf (mulf m a) (broadcast S1x256 (Scalar.ofBits .f32 0x41000000#32))

def doneV (o : FVec F S256x256 .f32) (l : FVec F S1x256 .f32) : FVec F S256x256 .bf16 :=
  transpose S256x256 [1, 0] (truncf .bf16 (mulf o (broadcastTo S256x256
    (divf (broadcast S1x256 (Scalar.ofBits .f32 0x3F800000#32)) l) broadcasts_S1x256_S256x256)) bitsLt_bf16_f32)
    transposes_S256x256_p1_0_S256x256

def zeroV : FVec F S256x256 .f32 := broadcast S256x256 (Scalar.ofBits .f32 0x00000000#32)

def negV : FVec F S256x256 .f32 := broadcast S256x256 (Scalar.ofBits .f32 0xFF800000#32)

/-- A tile as loaded from the rings: its codes, its scales, its values transposed. -/
abbrev Tile (F : FTy → Type) := Vec F S1x1x256x256 .fp8e4m3 × Vec F S1x1x256x128 .f32 × Vec F S1x1x256x256 .bf16

/-- The attention where the window begins before the first tile: the own tile and those behind it. -/
def attend (q : Vec F S1x256x256 .fp8e4m3) (r : Vec F S1x256 .f32) (t0 : Tile F) (ts : List (Tile F)) : FVec F S256x256 .bf16 :=
  let a := aV r
  let w := select causal (rawV q t0.1 t0.2.1) negV
  let m := ts.foldl (fun m t => maximumf m (maxV (rawV q t.1 t.2.1))) (maxV w)
  let b := bV m a
  let pw := select causal (probsV a b w) zeroV
  let l := ts.foldl (fun l t => addf l (sumV (probsV a b (rawV q t.1 t.2.1)))) (sumV pw)
  let o := ts.foldl (fun o t => addf o (pvV t.2.2 (probsV a b (rawV q t.1 t.2.1)))) (pvV t0.2.2 (select causal pw zeroV))
  doneV o l

/-- The attention where it does not: the tile four behind fills the own tile's place after the query. -/
def attendFull (q : Vec F S1x256x256 .fp8e4m3) (r : Vec F S1x256 .f32) (t0 : Tile F) (ts : List (Tile F)) (t4 : Tile F) :
    FVec F S256x256 .bf16 :=
  let a := aV r
  let w := select causal (rawV q t0.1 t0.2.1) (rawV q t4.1 t4.2.1)
  let m := ts.foldl (fun m t => maximumf m (maxV (rawV q t.1 t.2.1))) (maxV w)
  let b := bV m a
  let pw := probsV a b w
  let l := ts.foldl (fun l t => addf l (sumV (probsV a b (rawV q t.1 t.2.1)))) (sumV pw)
  let o := ts.foldl (fun o t => addf o (pvV t.2.2 (probsV a b (rawV q t.1 t.2.1))))
    (addf (pvV t0.2.2 (select causal pw zeroV)) (pvV t4.2.2 (select causal zeroV pw)))
  doneV o l

end Cert.KernelIdeal.Spec

end
-- ==== Proof.Pieces.lean ====
module

public import proofs.«01_k».proof.Proof.Spec
public import Idealize.ShloMosaic.Lib.Pointwise

/-! What lists of stores leave in a buffer: a buffer filled piece by piece holds, at each index, the payload of the piece
the index lies in. -/

@[expose] public section

set_option maxRecDepth 16384

noncomputable section

namespace Cert.KernelIdeal.Spec

open Idealize.ShloMosaic Idealize.ShloMosaic.TcCoe Cert.KernelIdeal Cert.KernelIdeal.Gen

variable {F : FTy → Type} [FloatOps F] [Named F]

/-- A buffer after stores that are one function's values on their rectangles, and that function elsewhere. -/
theorem read_pieces {sg : RefSig} {κ : Kind} {sp : Space} {s : Shape} {e : EltTy} {Val : EltTy → Type}
    (v : View sg κ sp s e) (f : v.ty.Contents Val) (G : s.Idx → Val e) (L : List (View.Piece Val s e))
    (hL : ∀ p ∈ L, ∀ x, p.2 x = G (p.1.idx x)) (hf : ∀ y, (∀ p ∈ L, y ∉ p.1.set) → v.read Val f y = G y) :
    v.read Val (v.writes Val f L) = G := by
  funext y
  by_cases hy : ∃ p ∈ L, y ∈ p.1.set
  · clear hf
    induction L with
    | nil => exact absurd hy.choose_spec.1 List.not_mem_nil
    | cons p L ih =>
      by_cases hp : y ∈ p.1.set
      · obtain ⟨x, rfl⟩ : ∃ x, p.1.emb x = y := p.1.exists_idx_of_mem hp
        exact (View.read_writes_cons_emb v f p.1 p.2 L x).trans (hL p List.mem_cons_self x)
      · have hp' : y ∉ Finset.univ.map p.1.emb := by rwa [Rect.map_emb_univ]
        rw [View.writes_cons, View.read_slice_write_of_not_mem p.1 _ _ _ hp']
        refine ih (fun q hq => hL q (List.mem_cons_of_mem _ hq)) ?_
        obtain ⟨q, hq, h⟩ := hy
        rcases List.mem_cons.mp hq with rfl | hq
        · exact absurd h hp
        · exact ⟨q, hq, h⟩
  · have hn : ∀ p ∈ L, y ∉ p.1.set := fun p hp h => hy ⟨p, hp, h⟩
    rw [View.read_writes_apply_of_forall_not_mem v f y L hn]
    exact hf y hn

theorem cast_plane {α : Type} (q : S256x256.Idx → α) (h : S256x256.ShapeCasts S1x1x256x256) (x : S1x1x256x256.Idx) :
    shapeCast S1x1x256x256 q h x = q (ix2 (x 2) (x 3)) := by
  pointwise

theorem cast_lanes {α : Type} (q : S256x128.Idx → α) (h : S256x128.ShapeCasts S1x1x256x128) (x : S1x1x256x128.Idx) :
    shapeCast S1x1x256x128 q h x = q (ix2 (x 2) (x 3)) := by
  pointwise

theorem cast_head {α : Type} (q : S256x256.Idx → α) (h : S256x256.ShapeCasts S1x256x256) (x : S1x256x256.Idx) :
    shapeCast S1x256x256 q h x = q (ix2 (x 1) (x 2)) := by
  pointwise

theorem cast_line {α : Type} (q : S1x256.Idx → α) (h : S1x256.ShapeCasts S1x1x256) (x : S1x1x256.Idx) :
    shapeCast S1x1x256 q h x = q (ix2 0 (x 2)) := by
  pointwise

theorem cast_row {α : Type} (q : S1x256.Idx → α) (h : S1x256.ShapeCasts S1x256) (x : S1x256.Idx) :
    shapeCast S1x256 q h x = q (ix2 0 (x 1)) := by
  rw [shapeCast_self]
  exact congrArg q (eq_ix2 x ▸ congrArg₂ ix2 (Fin.ext (by have := (x 0).isLt; change (x 0).val < 1 at this; show (x 0).val = 0; omega)) rfl)

theorem cast_pack {α : Type} (q : S256x4x128.Idx → α) (h : S256x4x128.ShapeCasts S1x256x1x4x128) (x : S1x256x1x4x128.Idx) :
    shapeCast S1x256x1x4x128 q h x = q (ix3 (x 1) (x 3) (x 4)) := by
  pointwise

theorem pick {α : Type} {n a b : Nat} (p : Fin n → (⟨2, ![a, b]⟩ : Shape).Idx → α) {k k' : Fin n} {i i' : Fin a} {j j' : Fin b}
    (hk : k'.val = k.val) (hi : i'.val = i.val) (hj : j'.val = j.val) : p k (ix2 i j) = p k' (ix2 i' j') := by
  obtain rfl := Fin.ext hk; obtain rfl := Fin.ext hi; obtain rfl := Fin.ext hj; rfl

/-- Two planes of a buffer of two. -/
theorem planes {sg : RefSig} {κ : Kind} {sp : Space} {e : EltTy} (v : View sg κ sp S1x2x256x256 e)
    (f : v.ty.Contents (Elt F)) (p : Fin 2 → Vec F S256x256 e) (p1 p0 : Vec F S1x1x256x256 e) (i1 i0)
    (h1 : p1 = shapeCast S1x1x256x256 (p 1) shapeCasts_S256x256_S1x1x256x256)
    (h0 : p0 = shapeCast S1x1x256x256 (p 0) shapeCasts_S256x256_S1x1x256x256) :
    v.read (Elt F) (v.writes (Elt F) f [⟨Rect.unit ![0, 1, 0, 0] S1x1x256x256.size i1, p1⟩,
      ⟨Rect.unit ![0, 0, 0, 0] S1x1x256x256.size i0, p0⟩]) = fun y => p (y 1) (ix2 (y 2) (y 3)) := by
  subst h0 h1
  refine read_pieces v f _ _ ?_ ?_
  · simp only [List.forall_mem_cons, List.not_mem_nil, false_imp_iff, implies_true, and_true]
    refine ⟨fun x => ?_, fun x => ?_⟩ <;> refine (cast_plane _ _ x).trans ?_ <;>
      exact pick p (by have := (x 0).isLt; have := (x 1).isLt; simp at *; omega) (by simp) (by simp)
  · intro y hy
    exfalso
    simp only [List.forall_mem_cons, List.not_mem_nil, false_imp_iff, implies_true, and_true, Rect.mem_set_unit] at hy
    have b0 : (y 0).val < 1 := (y 0).isLt
    have b1 : (y 1).val < 2 := (y 1).isLt
    have b2 : (y 2).val < 256 := (y 2).isLt
    have b3 : (y 3).val < 256 := (y 3).isLt
    simp [Fin.forall_fin_succ] at hy
    omega

theorem pick3 {α : Type} {n a b c : Nat} (p : Fin n → (⟨3, ![a, b, c]⟩ : Shape).Idx → α) {k k' : Fin n} {i i' : Fin a}
    {j j' : Fin b} {l l' : Fin c} (hk : k'.val = k.val) (hi : i'.val = i.val) (hj : j'.val = j.val) (hl : l'.val = l.val) :
    p k (ix3 i j l) = p k' (ix3 i' j' l') := by
  obtain rfl := Fin.ext hk; obtain rfl := Fin.ext hi; obtain rfl := Fin.ext hj; obtain rfl := Fin.ext hl; rfl

/-- Two lines of a buffer of two. -/
theorem lines2 {sg : RefSig} {κ : Kind} {sp : Space} (v : View sg κ sp S1x2x256 .f32)
    (f : v.ty.Contents (Elt F)) (p : Fin 2 → Vec F S1x256 .f32) (p1 p0 : Vec F S1x1x256 .f32) (i1 i0)
    (h1 : p1 = shapeCast S1x1x256 (p 1) shapeCasts_S1x256_S1x1x256)
    (h0 : p0 = shapeCast S1x1x256 (p 0) shapeCasts_S1x256_S1x1x256) :
    v.read (Elt F) (v.writes (Elt F) f [⟨Rect.unit ![0, 1, 0] S1x1x256.size i1, p1⟩,
      ⟨Rect.unit ![0, 0, 0] S1x1x256.size i0, p0⟩]) = fun y => p (y 1) (ix2 0 (y 2)) := by
  subst h0 h1
  refine read_pieces v f _ _ ?_ ?_
  · simp only [List.forall_mem_cons, List.not_mem_nil, false_imp_iff, implies_true, and_true]
    refine ⟨fun x => ?_, fun x => ?_⟩ <;> refine (cast_line _ _ x).trans ?_ <;>
      exact pick p (by have b0 : (x 0).val < 1 := (x 0).isLt; have b1 : (x 1).val < 1 := (x 1).isLt; have b2 : (x 2).val < 256 := (x 2).isLt; simp; try omega) (by simp) (by simp)
  · intro y hy
    exfalso
    simp only [List.forall_mem_cons, List.not_mem_nil, false_imp_iff, implies_true, and_true, Rect.mem_set_unit] at hy
    have b0 : (y 0).val < 1 := (y 0).isLt
    have b1 : (y 1).val < 2 := (y 1).isLt
    have b2 : (y 2).val < 256 := (y 2).isLt
    simp [Fin.forall_fin_succ] at hy
    omega

/-- Eight lines of a buffer of eight. -/
theorem lines8 {sg : RefSig} {κ : Kind} {sp : Space} (v : View sg κ sp S1x8x256 .f32)
    (f : v.ty.Contents (Elt F)) (p : Fin 8 → Vec F S1x256 .f32) (p7 p6 p5 p4 p3 p2 p1 p0 : Vec F S1x1x256 .f32) (i7 i6 i5 i4 i3 i2 i1 i0)
    (h7 : p7 = shapeCast S1x1x256 (p 7) shapeCasts_S1x256_S1x1x256)
    (h6 : p6 = shapeCast S1x1x256 (p 6) shapeCasts_S1x256_S1x1x256)
    (h5 : p5 = shapeCast S1x1x256 (p 5) shapeCasts_S1x256_S1x1x256)
    (h4 : p4 = shapeCast S1x1x256 (p 4) shapeCasts_S1x256_S1x1x256)
    (h3 : p3 = shapeCast S1x1x256 (p 3) shapeCasts_S1x256_S1x1x256)
    (h2 : p2 = shapeCast S1x1x256 (p 2) shapeCasts_S1x256_S1x1x256)
    (h1 : p1 = shapeCast S1x1x256 (p 1) shapeCasts_S1x256_S1x1x256)
    (h0 : p0 = shapeCast S1x1x256 (p 0) shapeCasts_S1x256_S1x1x256) :
    v.read (Elt F) (v.writes (Elt F) f [⟨Rect.unit ![0, 7, 0] S1x1x256.size i7, p7⟩,
      ⟨Rect.unit ![0, 6, 0] S1x1x256.size i6, p6⟩,
      ⟨Rect.unit ![0, 5, 0] S1x1x256.size i5, p5⟩,
      ⟨Rect.unit ![0, 4, 0] S1x1x256.size i4, p4⟩,
      ⟨Rect.unit ![0, 3, 0] S1x1x256.size i3, p3⟩,
      ⟨Rect.unit ![0, 2, 0] S1x1x256.size i2, p2⟩,
      ⟨Rect.unit ![0, 1, 0] S1x1x256.size i1, p1⟩,
      ⟨Rect.unit ![0, 0, 0] S1x1x256.size i0, p0⟩]) = fun y => p (y 1) (ix2 0 (y 2)) := by
  subst h0 h1 h2 h3 h4 h5 h6 h7
  refine read_pieces v f _ _ ?_ ?_
  · simp only [List.forall_mem_cons, List.not_mem_nil, false_imp_iff, implies_true, and_true]
    refine ⟨fun x => ?_, fun x => ?_, fun x => ?_, fun x => ?_, fun x => ?_, fun x => ?_, fun x => ?_, fun x => ?_⟩ <;> refine (cast_line _ _ x).trans ?_ <;>
      exact pick p (by have b0 : (x 0).val < 1 := (x 0).isLt; have b1 : (x 1).val < 1 := (x 1).isLt; have b2 : (x 2).val < 256 := (x 2).isLt; simp; try omega) (by simp) (by simp)
  · intro y hy
    exfalso
    simp only [List.forall_mem_cons, List.not_mem_nil, false_imp_iff, implies_true, and_true, Rect.mem_set_unit] at hy
    have b0 : (y 0).val < 1 := (y 0).isLt
    have b1 : (y 1).val < 8 := (y 1).isLt
    have b2 : (y 2).val < 256 := (y 2).isLt
    simp [Fin.forall_fin_succ] at hy
    omega

/-- Eight rows of a buffer of eight. -/
theorem rows8 {sg : RefSig} {κ : Kind} {sp : Space} (v : View sg κ sp S8x256 .f32)
    (f : v.ty.Contents (Elt F)) (p : Fin 8 → Vec F S1x256 .f32) (p7 p6 p5 p4 p3 p2 p1 p0 : Vec F S1x256 .f32) (i7 i6 i5 i4 i3 i2 i1 i0)
    (h7 : p7 = shapeCast S1x256 (p 7) shapeCasts_S1x256_S1x256)
    (h6 : p6 = shapeCast S1x256 (p 6) shapeCasts_S1x256_S1x256)
    (h5 : p5 = shapeCast S1x256 (p 5) shapeCasts_S1x256_S1x256)
    (h4 : p4 = shapeCast S1x256 (p 4) shapeCasts_S1x256_S1x256)
    (h3 : p3 = shapeCast S1x256 (p 3) shapeCasts_S1x256_S1x256)
    (h2 : p2 = shapeCast S1x256 (p 2) shapeCasts_S1x256_S1x256)
    (h1 : p1 = shapeCast S1x256 (p 1) shapeCasts_S1x256_S1x256)
    (h0 : p0 = shapeCast S1x256 (p 0) shapeCasts_S1x256_S1x256) :
    v.read (Elt F) (v.writes (Elt F) f [⟨Rect.unit ![7, 0] S1x256.size i7, p7⟩,
      ⟨Rect.unit ![6, 0] S1x256.size i6, p6⟩,
      ⟨Rect.unit ![5, 0] S1x256.size i5, p5⟩,
      ⟨Rect.unit ![4, 0] S1x256.size i4, p4⟩,
      ⟨Rect.unit ![3, 0] S1x256.size i3, p3⟩,
      ⟨Rect.unit ![2, 0] S1x256.size i2, p2⟩,
      ⟨Rect.unit ![1, 0] S1x256.size i1, p1⟩,
      ⟨Rect.unit ![0, 0] S1x256.size i0, p0⟩]) = fun y => p (y 0) (ix2 0 (y 1)) := by
  subst h0 h1 h2 h3 h4 h5 h6 h7
  refine read_pieces v f _ _ ?_ ?_
  · simp only [List.forall_mem_cons, List.not_mem_nil, false_imp_iff, implies_true, and_true]
    refine ⟨fun x => ?_, fun x => ?_, fun x => ?_, fun x => ?_, fun x => ?_, fun x => ?_, fun x => ?_, fun x => ?_⟩ <;> refine (cast_row _ _ x).trans ?_ <;>
      exact pick p (by have b0 : (x 0).val < 1 := (x 0).isLt; have b1 : (x 1).val < 256 := (x 1).isLt; simp; try omega) (by simp) (by simp)
  · intro y hy
    exfalso
    simp only [List.forall_mem_cons, List.not_mem_nil, false_imp_iff, implies_true, and_true, Rect.mem_set_unit] at hy
    have b0 : (y 0).val < 8 := (y 0).isLt
    have b1 : (y 1).val < 256 := (y 1).isLt
    simp [Fin.forall_fin_succ] at hy
    omega

/-- Eight planes of a buffer of eight. -/
theorem heads8 {sg : RefSig} {κ : Kind} {sp : Space} (v : View sg κ sp S8x256x256 .fp8e4m3)
    (f : v.ty.Contents (Elt F)) (p : Fin 8 → Vec F S256x256 .fp8e4m3) (p7 p6 p5 p4 p3 p2 p1 p0 : Vec F S1x256x256 .fp8e4m3) (i7 i6 i5 i4 i3 i2 i1 i0)
    (h7 : p7 = shapeCast S1x256x256 (p 7) shapeCasts_S256x256_S1x256x256)
    (h6 : p6 = shapeCast S1x256x256 (p 6) shapeCasts_S256x256_S1x256x256)
    (h5 : p5 = shapeCast S1x256x256 (p 5) shapeCasts_S256x256_S1x256x256)
    (h4 : p4 = shapeCast S1x256x256 (p 4) shapeCasts_S256x256_S1x256x256)
    (h3 : p3 = shapeCast S1x256x256 (p 3) shapeCasts_S256x256_S1x256x256)
    (h2 : p2 = shapeCast S1x256x256 (p 2) shapeCasts_S256x256_S1x256x256)
    (h1 : p1 = shapeCast S1x256x256 (p 1) shapeCasts_S256x256_S1x256x256)
    (h0 : p0 = shapeCast S1x256x256 (p 0) shapeCasts_S256x256_S1x256x256) :
    v.read (Elt F) (v.writes (Elt F) f [⟨Rect.unit ![7, 0, 0] S1x256x256.size i7, p7⟩,
      ⟨Rect.unit ![6, 0, 0] S1x256x256.size i6, p6⟩,
      ⟨Rect.unit ![5, 0, 0] S1x256x256.size i5, p5⟩,
      ⟨Rect.unit ![4, 0, 0] S1x256x256.size i4, p4⟩,
      ⟨Rect.unit ![3, 0, 0] S1x256x256.size i3, p3⟩,
      ⟨Rect.unit ![2, 0, 0] S1x256x256.size i2, p2⟩,
      ⟨Rect.unit ![1, 0, 0] S1x256x256.size i1, p1⟩,
      ⟨Rect.unit ![0, 0, 0] S1x256x256.size i0, p0⟩]) = fun y => p (y 0) (ix2 (y 1) (y 2)) := by
  subst h0 h1 h2 h3 h4 h5 h6 h7
  refine read_pieces v f _ _ ?_ ?_
  · simp only [List.forall_mem_cons, List.not_mem_nil, false_imp_iff, implies_true, and_true]
    refine ⟨fun x => ?_, fun x => ?_, fun x => ?_, fun x => ?_, fun x => ?_, fun x => ?_, fun x => ?_, fun x => ?_⟩ <;> refine (cast_head _ _ x).trans ?_ <;>
      exact pick p (by have b0 : (x 0).val < 1 := (x 0).isLt; have b1 : (x 1).val < 256 := (x 1).isLt; have b2 : (x 2).val < 256 := (x 2).isLt; simp; try omega) (by simp) (by simp)
  · intro y hy
    exfalso
    simp only [List.forall_mem_cons, List.not_mem_nil, false_imp_iff, implies_true, and_true, Rect.mem_set_unit] at hy
    have b0 : (y 0).val < 8 := (y 0).isLt
    have b1 : (y 1).val < 256 := (y 1).isLt
    have b2 : (y 2).val < 256 := (y 2).isLt
    simp [Fin.forall_fin_succ] at hy
    omega

/-- Eight bands of columns side by side. -/
theorem cols8 {sg : RefSig} {κ : Kind} {sp : Space} (v : View sg κ sp S1x256x2048 .bf16)
    (f : v.ty.Contents (Elt F)) (p : Fin 8 → Vec F S256x256 .bf16) (p7 p6 p5 p4 p3 p2 p1 p0 : Vec F S1x256x256 .bf16) (i7 i6 i5 i4 i3 i2 i1 i0)
    (h7 : p7 = shapeCast S1x256x256 (p 7) shapeCasts_S256x256_S1x256x256)
    (h6 : p6 = shapeCast S1x256x256 (p 6) shapeCasts_S256x256_S1x256x256)
    (h5 : p5 = shapeCast S1x256x256 (p 5) shapeCasts_S256x256_S1x256x256)
    (h4 : p4 = shapeCast S1x256x256 (p 4) shapeCasts_S256x256_S1x256x256)
    (h3 : p3 = shapeCast S1x256x256 (p 3) shapeCasts_S256x256_S1x256x256)
    (h2 : p2 = shapeCast S1x256x256 (p 2) shapeCasts_S256x256_S1x256x256)
    (h1 : p1 = shapeCast S1x256x256 (p 1) shapeCasts_S256x256_S1x256x256)
    (h0 : p0 = shapeCast S1x256x256 (p 0) shapeCasts_S256x256_S1x256x256) :
    v.read (Elt F) (v.writes (Elt F) f [⟨Rect.unit ![0, 0, 1792] S1x256x256.size i7, p7⟩,
      ⟨Rect.unit ![0, 0, 1536] S1x256x256.size i6, p6⟩,
      ⟨Rect.unit ![0, 0, 1280] S1x256x256.size i5, p5⟩,
      ⟨Rect.unit ![0, 0, 1024] S1x256x256.size i4, p4⟩,
      ⟨Rect.unit ![0, 0, 768] S1x256x256.size i3, p3⟩,
      ⟨Rect.unit ![0, 0, 512] S1x256x256.size i2, p2⟩,
      ⟨Rect.unit ![0, 0, 256] S1x256x256.size i1, p1⟩,
      ⟨Rect.unit ![0, 0, 0] S1x256x256.size i0, p0⟩]) = fun y => p ⟨(y 2).val / 256, Nat.div_lt_of_lt_mul (y 2).isLt⟩
        (ix2 (y 1) ⟨(y 2).val % 256, Nat.mod_lt _ (by decide)⟩) := by
  subst h0 h1 h2 h3 h4 h5 h6 h7
  refine read_pieces v f _ _ ?_ ?_
  · simp only [List.forall_mem_cons, List.not_mem_nil, false_imp_iff, implies_true, and_true]
    refine ⟨fun x => ?_, fun x => ?_, fun x => ?_, fun x => ?_, fun x => ?_, fun x => ?_, fun x => ?_, fun x => ?_⟩ <;> refine (cast_head _ _ x).trans ?_ <;>
      exact pick p (by have b0 : (x 0).val < 1 := (x 0).isLt; have b1 : (x 1).val < 256 := (x 1).isLt; have b2 : (x 2).val < 256 := (x 2).isLt; simp; try omega) (by simp) (by have b0 : (x 0).val < 1 := (x 0).isLt; have b1 : (x 1).val < 256 := (x 1).isLt; have b2 : (x 2).val < 256 := (x 2).isLt; simp; try omega)
  · intro y hy
    exfalso
    simp only [List.forall_mem_cons, List.not_mem_nil, false_imp_iff, implies_true, and_true, Rect.mem_set_unit] at hy
    have b0 : (y 0).val < 1 := (y 0).isLt
    have b1 : (y 1).val < 256 := (y 1).isLt
    have b2 : (y 2).val < 2048 := (y 2).isLt
    simp [Fin.forall_fin_succ] at hy
    omega

/-- Four parts of the packed codes: the head group and the half of the columns. -/
theorem packs4 {sg : RefSig} {κ : Kind} {sp : Space} (v : View sg κ sp S1x256x2x8x128 .fp8e4m3)
    (f : v.ty.Contents (Elt F)) (p : Fin 4 → Vec F S256x4x128 .fp8e4m3) (p3 p2 p1 p0 : Vec F S1x256x1x4x128 .fp8e4m3) (i3 i2 i1 i0)
    (h3 : p3 = shapeCast S1x256x1x4x128 (p 3) shapeCasts_S256x4x128_S1x256x1x4x128)
    (h2 : p2 = shapeCast S1x256x1x4x128 (p 2) shapeCasts_S256x4x128_S1x256x1x4x128)
    (h1 : p1 = shapeCast S1x256x1x4x128 (p 1) shapeCasts_S256x4x128_S1x256x1x4x128)
    (h0 : p0 = shapeCast S1x256x1x4x128 (p 0) shapeCasts_S256x4x128_S1x256x1x4x128) :
    v.read (Elt F) (v.writes (Elt F) f [⟨Rect.unit ![0, 0, 1, 4, 0] S1x256x1x4x128.size i3, p3⟩,
      ⟨Rect.unit ![0, 0, 0, 4, 0] S1x256x1x4x128.size i2, p2⟩,
      ⟨Rect.unit ![0, 0, 1, 0, 0] S1x256x1x4x128.size i1, p1⟩,
      ⟨Rect.unit ![0, 0, 0, 0, 0] S1x256x1x4x128.size i0, p0⟩]) = fun y => p ⟨(y 3).val / 4 * 2 + (y 2).val,
          by have h3 : (y 3).val < 8 := (y 3).isLt; have h2 : (y 2).val < 2 := (y 2).isLt; omega⟩
        (ix3 (y 1) ⟨(y 3).val % 4, Nat.mod_lt _ (by decide)⟩ (y 4)) := by
  subst h0 h1 h2 h3
  refine read_pieces v f _ _ ?_ ?_
  · simp only [List.forall_mem_cons, List.not_mem_nil, false_imp_iff, implies_true, and_true]
    refine ⟨fun x => ?_, fun x => ?_, fun x => ?_, fun x => ?_⟩ <;> refine (cast_pack _ _ x).trans ?_ <;>
      exact pick3 p (by have b0 : (x 0).val < 1 := (x 0).isLt; have b1 : (x 1).val < 256 := (x 1).isLt; have b2 : (x 2).val < 1 := (x 2).isLt; have b3 : (x 3).val < 4 := (x 3).isLt; have b4 : (x 4).val < 128 := (x 4).isLt; simp; try omega) (by simp) (by have b0 : (x 0).val < 1 := (x 0).isLt; have b1 : (x 1).val < 256 := (x 1).isLt; have b2 : (x 2).val < 1 := (x 2).isLt; have b3 : (x 3).val < 4 := (x 3).isLt; have b4 : (x 4).val < 128 := (x 4).isLt; simp; try omega) (by simp)
  · intro y hy
    exfalso
    simp only [List.forall_mem_cons, List.not_mem_nil, false_imp_iff, implies_true, and_true, Rect.mem_set_unit] at hy
    have b0 : (y 0).val < 1 := (y 0).isLt
    have b1 : (y 1).val < 256 := (y 1).isLt
    have b2 : (y 2).val < 2 := (y 2).isLt
    have b3 : (y 3).val < 8 := (y 3).isLt
    have b4 : (y 4).val < 128 := (y 4).isLt
    simp [Fin.forall_fin_succ] at hy
    omega

/-- Tile `j` of a ring rewritten for both heads. -/
theorem ring {sg : RefSig} {κ : Kind} {sp : Space} {e : EltTy} (v : View sg κ sp S2x32x256x256 e)
    (f : v.ty.Contents (Elt F)) (j : Nat) (p : Fin 2 → Vec F S256x256 e) (o1 o0 : Fin 4 → Nat) (p1 p0 : Vec F S1x1x256x256 e) (i1 i0)
    (e1 : o1 = ![1, j, 0, 0]) (e0 : o0 = ![0, j, 0, 0])
    (h1 : p1 = shapeCast S1x1x256x256 (p 1) shapeCasts_S256x256_S1x1x256x256) (h0 : p0 = shapeCast S1x1x256x256 (p 0) shapeCasts_S256x256_S1x1x256x256) :
    v.read (Elt F) (v.writes (Elt F) f [⟨Rect.unit o1 S1x1x256x256.size i1, p1⟩, ⟨Rect.unit o0 S1x1x256x256.size i0, p0⟩]) =
      fun y => if (y 1).val = j then p (y 0) (ix2 (y 2) (y 3)) else v.read (Elt F) f y := by
  subst h1 h0 e1 e0
  refine read_pieces v f _ _ ?_ ?_
  · simp only [List.forall_mem_cons, List.not_mem_nil, false_imp_iff, implies_true, and_true]
    refine ⟨fun x => ?_, fun x => ?_⟩ <;> refine (cast_plane _ _ x).trans ?_ <;>
      refine Eq.trans ?_ (if_pos (by have b0 : (x 0).val < 1 := (x 0).isLt; have b1 : (x 1).val < 1 := (x 1).isLt; have b2 : (x 2).val < 256 := (x 2).isLt; have b3 : (x 3).val < 256 := (x 3).isLt; simp; try omega)).symm <;>
      exact pick p (by have b0 : (x 0).val < 1 := (x 0).isLt; have b1 : (x 1).val < 1 := (x 1).isLt; have b2 : (x 2).val < 256 := (x 2).isLt; have b3 : (x 3).val < 256 := (x 3).isLt; simp; try omega) (by simp) (by simp)
  · intro y hy
    simp only [List.forall_mem_cons, List.not_mem_nil, false_imp_iff, implies_true, and_true, Rect.mem_set_unit] at hy
    rw [if_neg]
    intro hj
    have b0 : (y 0).val < 2 := (y 0).isLt
    have b2 : (y 2).val < 256 := (y 2).isLt
    have b3 : (y 3).val < 256 := (y 3).isLt
    simp [Fin.forall_fin_succ] at hy
    omega

/-- Tile `j` of a ring rewritten for both heads. -/
theorem ringLanes {sg : RefSig} {κ : Kind} {sp : Space} {e : EltTy} (v : View sg κ sp S2x32x256x128 e)
    (f : v.ty.Contents (Elt F)) (j : Nat) (p : Fin 2 → Vec F S256x128 e) (o1 o0 : Fin 4 → Nat) (p1 p0 : Vec F S1x1x256x128 e) (i1 i0)
    (e1 : o1 = ![1, j, 0, 0]) (e0 : o0 = ![0, j, 0, 0])
    (h1 : p1 = shapeCast S1x1x256x128 (p 1) shapeCasts_S256x128_S1x1x256x128) (h0 : p0 = shapeCast S1x1x256x128 (p 0) shapeCasts_S256x128_S1x1x256x128) :
    v.read (Elt F) (v.writes (Elt F) f [⟨Rect.unit o1 S1x1x256x128.size i1, p1⟩, ⟨Rect.unit o0 S1x1x256x128.size i0, p0⟩]) =
      fun y => if (y 1).val = j then p (y 0) (ix2 (y 2) (y 3)) else v.read (Elt F) f y := by
  subst h1 h0 e1 e0
  refine read_pieces v f _ _ ?_ ?_
  · simp only [List.forall_mem_cons, List.not_mem_nil, false_imp_iff, implies_true, and_true]
    refine ⟨fun x => ?_, fun x => ?_⟩ <;> refine (cast_lanes _ _ x).trans ?_ <;>
      refine Eq.trans ?_ (if_pos (by have b0 : (x 0).val < 1 := (x 0).isLt; have b1 : (x 1).val < 1 := (x 1).isLt; have b2 : (x 2).val < 256 := (x 2).isLt; have b3 : (x 3).val < 128 := (x 3).isLt; simp; try omega)).symm <;>
      exact pick p (by have b0 : (x 0).val < 1 := (x 0).isLt; have b1 : (x 1).val < 1 := (x 1).isLt; have b2 : (x 2).val < 256 := (x 2).isLt; have b3 : (x 3).val < 128 := (x 3).isLt; simp; try omega) (by simp) (by simp)
  · intro y hy
    simp only [List.forall_mem_cons, List.not_mem_nil, false_imp_iff, implies_true, and_true, Rect.mem_set_unit] at hy
    rw [if_neg]
    intro hj
    have b0 : (y 0).val < 2 := (y 0).isLt
    have b2 : (y 2).val < 256 := (y 2).isLt
    have b3 : (y 3).val < 128 := (y 3).isLt
    simp [Fin.forall_fin_succ] at hy
    omega

/-! ## The blocks, the outputs and the rings -/

/-- Head `g`'s block of the keys or the values. -/
def kBlk (g : Fin 2) (x : Vec F S1x256x512 .bf16) : FVec F S256x256 .bf16 :=
  fun j => x (ix3 0 (j 0) ⟨256 * g.val + (j 1).val, by have h : (j 1).val < 256 := (j 1).isLt; have := g.isLt; omega⟩)

/-- Head `h`'s block of the queries. -/
def qBlk (h : Fin 8) (x : Vec F S1x256x2048 .bf16) : FVec F S256x256 .bf16 :=
  fun j => x (ix3 0 (j 0) ⟨256 * h.val + (j 1).val, by have h1 : (j 1).val < 256 := (j 1).isLt; have := h.isLt; omega⟩)

/-- A block's scales as a row. -/
def srow (t : FVec F S256x256 .bf16) : FVec F S1x256 .f32 := rowV (sclV (yV t))

/-- A block's scales over the lanes. -/
def slanes (t : FVec F S256x256 .bf16) : FVec F S256x128 .f32 := lanesV (sclV (yV t))

/-- The two heads' codes of a tile. -/
def oCodes (x : Vec F S1x256x512 .bf16) : Vec F S1x2x256x256 .fp8e4m3 := fun y => codesV (kBlk (y 1) x) (ix2 (y 2) (y 3))

/-- The two heads' scales of a tile. -/
def oScales (x : Vec F S1x256x512 .bf16) : Vec F S1x2x256 .f32 := fun y => srow (kBlk (y 1) x) (ix2 0 (y 2))

/-- The eight heads' scales of the queries. -/
def oQScales (x : Vec F S1x256x2048 .bf16) : Vec F S1x8x256 .f32 := fun y => srow (qBlk (y 1) x) (ix2 0 (y 2))

/-- Part `n` of the packed codes: head group `n / 2`, half `n % 2` of the columns. -/
def packV (x : Vec F S1x256x2048 .bf16) (n : Fin 4) : FVec F S256x4x128 .fp8e4m3 :=
  match n with
  | 0 => extractStridedSlice S256x4x128 ![0, 0, 0] (joinV (codesV (qBlk 0 x)) (codesV (qBlk 1 x)) (codesV (qBlk 2 x)) (codesV (qBlk 3 x))) slices_S256x4x256_o0_0_0_S256x4x128
  | 1 => extractStridedSlice S256x4x128 ![0, 0, 128] (joinV (codesV (qBlk 0 x)) (codesV (qBlk 1 x)) (codesV (qBlk 2 x)) (codesV (qBlk 3 x))) slices_S256x4x256_o0_0_128_S256x4x128
  | 2 => extractStridedSlice S256x4x128 ![0, 0, 0] (joinV (codesV (qBlk 4 x)) (codesV (qBlk 5 x)) (codesV (qBlk 6 x)) (codesV (qBlk 7 x))) slices_S256x4x256_o0_0_0_S256x4x128
  | 3 => extractStridedSlice S256x4x128 ![0, 0, 128] (joinV (codesV (qBlk 4 x)) (codesV (qBlk 5 x)) (codesV (qBlk 6 x)) (codesV (qBlk 7 x))) slices_S256x4x256_o0_0_128_S256x4x128

/-- The packed codes of the queries. -/
def oQCodes (x : Vec F S1x256x2048 .bf16) : Vec F S1x256x2x8x128 .fp8e4m3 :=
  fun y => packV x ⟨(y 3).val / 4 * 2 + (y 2).val,
      by have h3 : (y 3).val < 8 := (y 3).isLt; have h2 : (y 2).val < 2 := (y 2).isLt; omega⟩
    (ix3 (y 1) ⟨(y 3).val % 4, Nat.mod_lt _ (by decide)⟩ (y 4))

/-- The ring of codes after tile `j`. -/
def ringK (j : Nat) (x : Vec F S1x256x512 .bf16) (s : Vec F S2x32x256x256 .fp8e4m3) : Vec F S2x32x256x256 .fp8e4m3 :=
  fun y => if (y 1).val = j then codesV (kBlk (y 0) x) (ix2 (y 2) (y 3)) else s y

/-- The ring of scales after tile `j`. -/
def ringS (j : Nat) (x : Vec F S1x256x512 .bf16) (s : Vec F S2x32x256x128 .f32) : Vec F S2x32x256x128 .f32 :=
  fun y => if (y 1).val = j then slanes (kBlk (y 0) x) (ix2 (y 2) (y 3)) else s y

/-- The ring of values after tile `j`. -/
def ringV (j : Nat) (x : Vec F S1x256x512 .bf16) (s : Vec F S2x32x256x256 .bf16) : Vec F S2x32x256x256 .bf16 :=
  fun y => if (y 1).val = j then valsV (kBlk (y 0) x) (ix2 (y 2) (y 3)) else s y

/-- Head `g`'s tile `j` of a ring. -/
def slot {α : Type} {n : Nat} (g : Fin 2) (j : Nat) (s : (⟨4, ![2, 32, 256, n]⟩ : Shape).Idx → α) :
    (⟨4, ![1, 1, 256, n]⟩ : Shape).Idx → α :=
  fun y => s (ix4 g ⟨j % 32, Nat.mod_lt _ (by decide)⟩ (y 2) (y 3))

/-- Head `g`'s tile `j` of the three rings. -/
def tile (g : Fin 2) (j : Nat) (k : Vec F S2x32x256x256 .fp8e4m3) (s : Vec F S2x32x256x128 .f32) (v : Vec F S2x32x256x256 .bf16) : Tile F :=
  (slot g j k, slot g j s, slot g j v)

/-- Head `h`'s codes of the queries as the scratch keeps them. -/
def qCode (h : Fin 8) (x : Vec F S1x256x2048 .bf16) : Vec F S1x256x256 .fp8e4m3 :=
  fun y => codesV (qBlk h x) (ix2 (y 1) (y 2))

/-- Head `h`'s scales of the queries as the scratch keeps them. -/
def qRow (h : Fin 8) (x : Vec F S1x256x2048 .bf16) : Vec F S1x256 .f32 := fun y => srow (qBlk h x) (ix2 0 (y 1))

/-- The attention of head `h` at tile `t`, with `n` whole tiles behind it. -/
def headOut (n : Nat) (t : Nat) (h : Fin 8) (x : Vec F S1x256x2048 .bf16) (k : Vec F S2x32x256x256 .fp8e4m3)
    (s : Vec F S2x32x256x128 .f32) (v : Vec F S2x32x256x256 .bf16) : FVec F S256x256 .bf16 :=
  let T : Nat → Tile F := fun j => tile ⟨h.val / 4, by omega⟩ (t - j) k s v
  match n with
  | 0 => attend (qCode h x) (qRow h x) (T 0) []
  | 1 => attend (qCode h x) (qRow h x) (T 0) [T 1]
  | 2 => attend (qCode h x) (qRow h x) (T 0) [T 1, T 2]
  | 3 => attend (qCode h x) (qRow h x) (T 0) [T 1, T 2, T 3]
  | _ => attendFull (qCode h x) (qRow h x) (T 0) [T 1, T 2, T 3] (T 4)

/-- The attention of a tile. -/
def oOut (n : Nat) (t : Nat) (x : Vec F S1x256x2048 .bf16) (k : Vec F S2x32x256x256 .fp8e4m3)
    (s : Vec F S2x32x256x128 .f32) (v : Vec F S2x32x256x256 .bf16) : Vec F S1x256x2048 .bf16 :=
  fun y => headOut n t ⟨(y 2).val / 256, Nat.div_lt_of_lt_mul (y 2).isLt⟩ x k s v
    (ix2 (y 1) ⟨(y 2).val % 256, Nat.mod_lt _ (by decide)⟩)

/-! ## The loads -/

theorem load_k0 (a : Memref sig .tc .vmem S1x256x512 .bf16) (hv : a.IsWhole) (x : Vec F S1x256x512 .bf16) (i) :
    blk (View.readAt (Elt F) a.view (Rect.unit (s := S1x256x512) ![0, 0, 0] S1x256x256.size i).toLoadRect (hv.unread x)) = kBlk 0 x := by
  rw [View.readAt_eq_ld, hv.read_unread]
  funext j
  pointwise [blk, kBlk]

theorem load_k1 (a : Memref sig .tc .vmem S1x256x512 .bf16) (hv : a.IsWhole) (x : Vec F S1x256x512 .bf16) (i) :
    blk (View.readAt (Elt F) a.view (Rect.unit (s := S1x256x512) ![0, 0, 256] S1x256x256.size i).toLoadRect (hv.unread x)) = kBlk 1 x := by
  rw [View.readAt_eq_ld, hv.read_unread]
  funext j
  pointwise [blk, kBlk]

theorem load_q (a : Memref sig .tc .vmem S1x256x2048 .bf16) (hv : a.IsWhole) (x : Vec F S1x256x2048 .bf16)
    (h : Fin 8) (o : Fin 3 → Nat) (ho : o = ![0, 0, 256 * h.val]) (i) :
    blk (View.readAt (Elt F) a.view (Rect.unit (s := S1x256x2048) o S1x256x256.size i).toLoadRect (hv.unread x)) = qBlk h x := by
  subst ho
  rw [View.readAt_eq_ld, hv.read_unread]
  funext j
  pointwise [blk, qBlk]

theorem load_slot {sg : RefSig} {κ : Kind} {sp : Space} {e : EltTy} (v : View sg κ sp S2x32x256x256 e) (f : v.ty.Contents (Elt F))
    (s : Vec F S2x32x256x256 e) (hs : v.read (Elt F) f = s) (g : Fin 2) (j : Nat) (hj : j < 32) (o : Fin 4 → Nat)
    (ho : o = ![g.val, j, 0, 0]) (i) :
    View.readAt (Elt F) v (Rect.unit (s := S2x32x256x256) o S1x1x256x256.size i).toLoadRect f = slot g j s := by
  subst ho
  rw [View.readAt_eq_ld, hs]
  funext y
  have b0 : (y 0).val < 1 := (y 0).isLt
  have b1 : (y 1).val < 1 := (y 1).isLt
  unfold slot
  refine congrArg s (funext fun a => Fin.ext ?_)
  fin_cases a <;> simp [ix4] <;> omega

theorem load_slotLanes {sg : RefSig} {κ : Kind} {sp : Space} {e : EltTy} (v : View sg κ sp S2x32x256x128 e) (f : v.ty.Contents (Elt F))
    (s : Vec F S2x32x256x128 e) (hs : v.read (Elt F) f = s) (g : Fin 2) (j : Nat) (hj : j < 32) (o : Fin 4 → Nat)
    (ho : o = ![g.val, j, 0, 0]) (i) :
    View.readAt (Elt F) v (Rect.unit (s := S2x32x256x128) o S1x1x256x128.size i).toLoadRect f = slot g j s := by
  subst ho
  rw [View.readAt_eq_ld, hs]
  funext y
  have b0 : (y 0).val < 1 := (y 0).isLt
  have b1 : (y 1).val < 1 := (y 1).isLt
  unfold slot
  refine congrArg s (funext fun a => Fin.ext ?_)
  fin_cases a <;> simp [ix4] <;> omega

theorem load_head {sg : RefSig} {κ : Kind} {sp : Space} {e : EltTy} (v : View sg κ sp S8x256x256 e) (f : v.ty.Contents (Elt F))
    (p : Fin 8 → Vec F S256x256 e) (hs : v.read (Elt F) f = fun y => p (y 0) (ix2 (y 1) (y 2))) (h : Fin 8) (o : Fin 3 → Nat)
    (ho : o = ![h.val, 0, 0]) (i) :
    View.readAt (Elt F) v (Rect.unit (s := S8x256x256) o S1x256x256.size i).toLoadRect f = fun y => p h (ix2 (y 1) (y 2)) := by
  subst ho
  rw [View.readAt_eq_ld, hs]
  funext y
  have b0 : (y 0).val < 1 := (y 0).isLt
  exact pick p (by simp; omega) (by simp) (by simp)

theorem load_row {sg : RefSig} {κ : Kind} {sp : Space} {e : EltTy} (v : View sg κ sp S8x256 e) (f : v.ty.Contents (Elt F))
    (p : Fin 8 → Vec F S1x256 e) (hs : v.read (Elt F) f = fun y => p (y 0) (ix2 0 (y 1))) (h : Fin 8) (o : Fin 2 → Nat)
    (ho : o = ![h.val, 0]) (i) :
    View.readAt (Elt F) v (Rect.unit (s := S8x256) o S1x256.size i).toLoadRect f = fun y => p h (ix2 0 (y 1)) := by
  subst ho
  rw [View.readAt_eq_ld, hs]
  funext y
  have b0 : (y 0).val < 1 := (y 0).isLt
  exact pick p (by simp; try omega) (by simp) (by simp)

theorem own_codes {sg : RefSig} {κ : Kind} {sp : Space} (v : View sg κ sp S2x32x256x256 .fp8e4m3) (f : v.ty.Contents (Elt F)) (j : Nat)
    (x : Vec F S1x256x512 .bf16) (s : Vec F S2x32x256x256 .fp8e4m3) {f0 : v.ty.Contents (Elt F)} (hs : v.read (Elt F) f = ringK j x (v.read (Elt F) f0)) (hj : j < 32) (g : Fin 2) (o : Fin 4 → Nat)
    (ho : o = ![g.val, j, 0, 0]) (i) :
    View.readAt (Elt F) v (Rect.unit (s := S2x32x256x256) o S1x1x256x256.size i).toLoadRect f = slot g (j - 0) (ringK j x s) := by
  rw [load_slot v f _ hs g j hj o ho i]
  funext y
  have e : j % 32 = j := Nat.mod_eq_of_lt hj
  simp only [slot, ringK, Nat.sub_zero]
  exact (if_pos e).trans (if_pos e).symm

theorem own_scales {sg : RefSig} {κ : Kind} {sp : Space} (v : View sg κ sp S2x32x256x128 .f32) (f : v.ty.Contents (Elt F)) (j : Nat)
    (x : Vec F S1x256x512 .bf16) (s : Vec F S2x32x256x128 .f32) {f0 : v.ty.Contents (Elt F)} (hs : v.read (Elt F) f = ringS j x (v.read (Elt F) f0)) (hj : j < 32) (g : Fin 2) (o : Fin 4 → Nat)
    (ho : o = ![g.val, j, 0, 0]) (i) :
    View.readAt (Elt F) v (Rect.unit (s := S2x32x256x128) o S1x1x256x128.size i).toLoadRect f = slot g (j - 0) (ringS j x s) := by
  rw [load_slotLanes v f _ hs g j hj o ho i]
  funext y
  have e : j % 32 = j := Nat.mod_eq_of_lt hj
  simp only [slot, ringS, Nat.sub_zero]
  exact (if_pos e).trans (if_pos e).symm

theorem own_values {sg : RefSig} {κ : Kind} {sp : Space} (v : View sg κ sp S2x32x256x256 .bf16) (f : v.ty.Contents (Elt F)) (j : Nat)
    (x : Vec F S1x256x512 .bf16) (s : Vec F S2x32x256x256 .bf16) {f0 : v.ty.Contents (Elt F)} (hs : v.read (Elt F) f = ringV j x (v.read (Elt F) f0)) (hj : j < 32) (g : Fin 2) (o : Fin 4 → Nat)
    (ho : o = ![g.val, j, 0, 0]) (i) :
    View.readAt (Elt F) v (Rect.unit (s := S2x32x256x256) o S1x1x256x256.size i).toLoadRect f = slot g (j - 0) (ringV j x s) := by
  rw [load_slot v f _ hs g j hj o ho i]
  funext y
  have e : j % 32 = j := Nat.mod_eq_of_lt hj
  simp only [slot, ringV, Nat.sub_zero]
  exact (if_pos e).trans (if_pos e).symm

theorem attend_congr0 {q q' : Vec F S1x256x256 .fp8e4m3} {r r' : Vec F S1x256 .f32} {k0 k0' : Vec F S1x1x256x256 .fp8e4m3} {s0 s0' : Vec F S1x1x256x128 .f32} {v0 v0' : Vec F S1x1x256x256 .bf16}
    (hq : q = q') (hr : r = r') (hk0 : k0 = k0') (hs0 : s0 = s0') (hv0 : v0 = v0') :
    attend q r (k0, s0, v0) [] = attend q' r' (k0', s0', v0') [] := by
  subst hq hr hk0 hs0 hv0; rfl

theorem attend_congr1 {q q' : Vec F S1x256x256 .fp8e4m3} {r r' : Vec F S1x256 .f32} {k0 k0' : Vec F S1x1x256x256 .fp8e4m3} {s0 s0' : Vec F S1x1x256x128 .f32} {v0 v0' : Vec F S1x1x256x256 .bf16} {k1 k1' : Vec F S1x1x256x256 .fp8e4m3} {s1 s1' : Vec F S1x1x256x128 .f32} {v1 v1' : Vec F S1x1x256x256 .bf16}
    (hq : q = q') (hr : r = r') (hk0 : k0 = k0') (hs0 : s0 = s0') (hv0 : v0 = v0') (hk1 : k1 = k1') (hs1 : s1 = s1') (hv1 : v1 = v1') :
    attend q r (k0, s0, v0) [(k1, s1, v1)] = attend q' r' (k0', s0', v0') [(k1', s1', v1')] := by
  subst hq hr hk0 hs0 hv0 hk1 hs1 hv1; rfl

theorem attend_congr2 {q q' : Vec F S1x256x256 .fp8e4m3} {r r' : Vec F S1x256 .f32} {k0 k0' : Vec F S1x1x256x256 .fp8e4m3} {s0 s0' : Vec F S1x1x256x128 .f32} {v0 v0' : Vec F S1x1x256x256 .bf16} {k1 k1' : Vec F S1x1x256x256 .fp8e4m3} {s1 s1' : Vec F S1x1x256x128 .f32} {v1 v1' : Vec F S1x1x256x256 .bf16} {k2 k2' : Vec F S1x1x256x256 .fp8e4m3} {s2 s2' : Vec F S1x1x256x128 .f32} {v2 v2' : Vec F S1x1x256x256 .bf16}
    (hq : q = q') (hr : r = r') (hk0 : k0 = k0') (hs0 : s0 = s0') (hv0 : v0 = v0') (hk1 : k1 = k1') (hs1 : s1 = s1') (hv1 : v1 = v1') (hk2 : k2 = k2') (hs2 : s2 = s2') (hv2 : v2 = v2') :
    attend q r (k0, s0, v0) [(k1, s1, v1), (k2, s2, v2)] = attend q' r' (k0', s0', v0') [(k1', s1', v1'), (k2', s2', v2')] := by
  subst hq hr hk0 hs0 hv0 hk1 hs1 hv1 hk2 hs2 hv2; rfl

theorem attend_congr3 {q q' : Vec F S1x256x256 .fp8e4m3} {r r' : Vec F S1x256 .f32} {k0 k0' : Vec F S1x1x256x256 .fp8e4m3} {s0 s0' : Vec F S1x1x256x128 .f32} {v0 v0' : Vec F S1x1x256x256 .bf16} {k1 k1' : Vec F S1x1x256x256 .fp8e4m3} {s1 s1' : Vec F S1x1x256x128 .f32} {v1 v1' : Vec F S1x1x256x256 .bf16} {k2 k2' : Vec F S1x1x256x256 .fp8e4m3} {s2 s2' : Vec F S1x1x256x128 .f32} {v2 v2' : Vec F S1x1x256x256 .bf16} {k3 k3' : Vec F S1x1x256x256 .fp8e4m3} {s3 s3' : Vec F S1x1x256x128 .f32} {v3 v3' : Vec F S1x1x256x256 .bf16}
    (hq : q = q') (hr : r = r') (hk0 : k0 = k0') (hs0 : s0 = s0') (hv0 : v0 = v0') (hk1 : k1 = k1') (hs1 : s1 = s1') (hv1 : v1 = v1') (hk2 : k2 = k2') (hs2 : s2 = s2') (hv2 : v2 = v2') (hk3 : k3 = k3') (hs3 : s3 = s3') (hv3 : v3 = v3') :
    attend q r (k0, s0, v0) [(k1, s1, v1), (k2, s2, v2), (k3, s3, v3)] = attend q' r' (k0', s0', v0') [(k1', s1', v1'), (k2', s2', v2'), (k3', s3', v3')] := by
  subst hq hr hk0 hs0 hv0 hk1 hs1 hv1 hk2 hs2 hv2 hk3 hs3 hv3; rfl

theorem attend_congr4 {q q' : Vec F S1x256x256 .fp8e4m3} {r r' : Vec F S1x256 .f32} {k0 k0' : Vec F S1x1x256x256 .fp8e4m3} {s0 s0' : Vec F S1x1x256x128 .f32} {v0 v0' : Vec F S1x1x256x256 .bf16} {k1 k1' : Vec F S1x1x256x256 .fp8e4m3} {s1 s1' : Vec F S1x1x256x128 .f32} {v1 v1' : Vec F S1x1x256x256 .bf16} {k2 k2' : Vec F S1x1x256x256 .fp8e4m3} {s2 s2' : Vec F S1x1x256x128 .f32} {v2 v2' : Vec F S1x1x256x256 .bf16} {k3 k3' : Vec F S1x1x256x256 .fp8e4m3} {s3 s3' : Vec F S1x1x256x128 .f32} {v3 v3' : Vec F S1x1x256x256 .bf16} {k4 k4' : Vec F S1x1x256x256 .fp8e4m3} {s4 s4' : Vec F S1x1x256x128 .f32} {v4 v4' : Vec F S1x1x256x256 .bf16}
    (hq : q = q') (hr : r = r') (hk0 : k0 = k0') (hs0 : s0 = s0') (hv0 : v0 = v0') (hk1 : k1 = k1') (hs1 : s1 = s1') (hv1 : v1 = v1') (hk2 : k2 = k2') (hs2 : s2 = s2') (hv2 : v2 = v2') (hk3 : k3 = k3') (hs3 : s3 = s3') (hv3 : v3 = v3') (hk4 : k4 = k4') (hs4 : s4 = s4') (hv4 : v4 = v4') :
    attendFull q r (k0, s0, v0) [(k1, s1, v1), (k2, s2, v2), (k3, s3, v3)] (k4, s4, v4) = attendFull q' r' (k0', s0', v0') [(k1', s1', v1'), (k2', s2', v2'), (k3', s3', v3')] (k4', s4', v4') := by
  subst hq hr hk0 hs0 hv0 hk1 hs1 hv1 hk2 hs2 hv2 hk3 hs3 hv3 hk4 hs4 hv4; rfl

end Cert.KernelIdeal.Spec

end
-- ==== Proof.ValueA.lean ====
module

public import proofs.«01_k».proof.Proof.KernelIdealCases
public import proofs.«01_k».proof.Proof.Pieces

/-! What the body computes on the first tile. -/

@[expose] public section

-- membership in a rectangle of production extents (`View.cover_of_tiled`): the elaborator's structural look
-- recurses once per coordinate of the long axes
set_option maxRecDepth 100000

noncomputable section

namespace Cert.KernelIdeal.Spec

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1492000 in
/-- The body on the first tile: from the blocks of its inputs and the rings, its outputs and the rings after it. -/
theorem kernelVal0_A (c : Dev nD) (i : grid0.Coords) (arg2 : Memref sig .tc .vmem S1x256x2048 .bf16) (harg2 : arg2.IsWhole) (arg3 : Memref sig .tc .vmem S1x256x512 .bf16) (harg3 : arg3.IsWhole) (arg4 : Memref sig .tc .vmem S1x256x512 .bf16) (harg4 : arg4.IsWhole) (arg5 : Memref sig .tc .vmem S1x256x2048 .bf16) (harg5 : arg5.IsWhole) (arg6 : Memref sig .tc .vmem S1x256x2x8x128 .fp8e4m3) (harg6 : arg6.IsWhole) (arg7 : Memref sig .tc .vmem S1x8x256 .f32) (harg7 : arg7.IsWhole) (arg8 : Memref sig .tc .vmem S1x2x256x256 .fp8e4m3) (harg8 : arg8.IsWhole) (arg9 : Memref sig .tc .vmem S1x2x256 .f32) (harg9 : arg9.IsWhole) (arg10 : Memref sig .tc .vmem S1x2x256x256 .fp8e4m3) (harg10 : arg10.IsWhole) (arg11 : Memref sig .tc .vmem S1x2x256 .f32) (harg11 : arg11.IsWhole) (arg12 : Memref sig .tc .vmem S2x32x256x256 .fp8e4m3) (harg12 : arg12.IsWhole) (arg13 : Memref sig .tc .vmem S2x32x256x128 .f32) (harg13 : arg13.IsWhole) (arg14 : Memref sig .tc .vmem S2x32x256x256 .bf16) (harg14 : arg14.IsWhole) (arg15 : Memref sig .tc .vmem S8x256x256 .fp8e4m3) (harg15 : arg15.IsWhole) (arg16 : Memref sig .tc .vmem S8x256 .f32) (harg16 : arg16.IsWhole) (hc0 : cond0_0 i) (hc1 : ¬cond0_1 i) (hc2 : ¬cond0_2 i) (hc3 : ¬cond0_3 i) (hc4 : ¬cond0_4 i)
    (hi : (i 1).val = 0) (x0 : Vec F S1x256x2048 .bf16) (x1 : Vec F S1x256x512 .bf16) (x2 : Vec F S1x256x512 .bf16)
    (s0 : Vec F S2x32x256x256 .fp8e4m3) (s1 : Vec F S2x32x256x128 .f32) (s2 : Vec F S2x32x256x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare s0 ∗ owns (c : Thread nD τ) arg13 fullShare s1 ∗ owns (c : Thread nD τ) arg14 fullShare s2 ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare (oOut 0 (i 1).val x0 (ringK (i 1).val x1 s0) (ringS (i 1).val x1 s1) (ringV (i 1).val x2 s2)) ∗ owns (c : Thread nD τ) arg6 fullShare (oQCodes x0) ∗ owns (c : Thread nD τ) arg7 fullShare (oQScales x0) ∗ owns (c : Thread nD τ) arg8 fullShare (oCodes x1) ∗ owns (c : Thread nD τ) arg9 fullShare (oScales x1) ∗ owns (c : Thread nD τ) arg10 fullShare (oCodes x2) ∗ owns (c : Thread nD τ) arg11 fullShare (oScales x2) ∗ owns (c : Thread nD τ) arg12 fullShare (ringK (i 1).val x1 s0) ∗ owns (c : Thread nD τ) arg13 fullShare (ringS (i 1).val x1 s1) ∗ owns (c : Thread nD τ) arg14 fullShare (ringV (i 1).val x2 s2) ∗ (∃ d, owns (c : Thread nD τ) arg15 fullShare d) ∗ (∃ d, owns (c : Thread nD τ) arg16 fullShare d)) -∗ K ⟨⟩))
          ⊢ wp frame (wpE (defs₀ (F := F)) Variants.none c none) E (cc0_swa_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_swa_fp8_eq_skeleton]; unfold cc0_swa_fp8_skel
    simp only [k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%fs0, %hfs0, HS0⟩, ⟨%fs1, %hfs1, HS1⟩, ⟨%fs2, %hfs2, HS2⟩, ⟨%ds3, %fs3, -, HS3⟩, ⟨%ds4, %fs4, -, HS4⟩, Hk⟩
    obtain rfl := harg2.eq_unread hf0; obtain rfl := harg3.eq_unread hf1; obtain rfl := harg4.eq_unread hf2
    sl_exec (disch := first | sl_exact hc0 | sl_exact hc1 | sl_exact hc2 | sl_exact hc3 | sl_exact hc4)
    sl_step
    have h12 : ∀ f, arg12.view.read (Elt F) (arg12.view.writes (Elt F) f (kernelVal0_A.sl.HS0_2 c i arg3 harg3 x1)) = ringK (i 1).val x1 (arg12.view.read (Elt F) f) := fun f =>
      ring _ f _ (fun g => codesV (kBlk g x1)) _ _ _ _ _ _ ClosedOff.eq ClosedOff.eq
        (by rw [← load_k1 arg3 harg3 x1 (inb_S1x256x512_S1x256x256_0_0_256)]; rfl) (by rw [← load_k0 arg3 harg3 x1 (inb_S1x256x512_S1x256x256_0_0_0)]; rfl)
    have h13 : ∀ f, arg13.view.read (Elt F) (arg13.view.writes (Elt F) f (kernelVal0_A.sl.HS1_2 c i arg3 harg3 x1)) = ringS (i 1).val x1 (arg13.view.read (Elt F) f) := fun f =>
      ringLanes _ f _ (fun g => slanes (kBlk g x1)) _ _ _ _ _ _ ClosedOff.eq ClosedOff.eq
        (by rw [← load_k1 arg3 harg3 x1 (inb_S1x256x512_S1x256x256_0_0_256)]; rfl) (by rw [← load_k0 arg3 harg3 x1 (inb_S1x256x512_S1x256x256_0_0_0)]; rfl)
    have h14 : ∀ f, arg14.view.read (Elt F) (arg14.view.writes (Elt F) f (kernelVal0_A.sl.HS2_2 c i arg4 harg4 x2)) = ringV (i 1).val x2 (arg14.view.read (Elt F) f) := fun f =>
      ring _ f _ (fun g => valsV (kBlk g x2)) _ _ _ _ _ _ ClosedOff.eq ClosedOff.eq
        (by rw [← load_k1 arg4 harg4 x2 (inb_S1x256x512_S1x256x256_0_0_256)]; rfl) (by rw [← load_k0 arg4 harg4 x2 (inb_S1x256x512_S1x256x256_0_0_0)]; rfl)
    have hlt : (i 1).val < 32 := (i 1).isLt
    have h12s := (h12 fs0).trans (congrArg (ringK (i 1).val x1) hfs0)
    have h13s := (h13 fs1).trans (congrArg (ringS (i 1).val x1) hfs1)
    have h14s := (h14 fs2).trans (congrArg (ringV (i 1).val x2) hfs2)
    have h15 : ∀ f, arg15.view.read (Elt F) (arg15.view.writes (Elt F) f (kernelVal0_A.sl.HS3_8 c arg2 harg2 x0)) = fun y => codesV (qBlk (y 0) x0) (ix2 (y 1) (y 2)) := fun f =>
      heads8 _ f (fun h => codesV (qBlk h x0)) _ _ _ _ _ _ _ _ _ _ _ _ _ _ _ _
        (by rw [← load_q arg2 harg2 x0 7 ![0, 0, 1792] rfl (inb_S1x256x2048_S1x256x256_0_0_1792)]; rfl) (by rw [← load_q arg2 harg2 x0 6 ![0, 0, 1536] rfl (inb_S1x256x2048_S1x256x256_0_0_1536)]; rfl) (by rw [← load_q arg2 harg2 x0 5 ![0, 0, 1280] rfl (inb_S1x256x2048_S1x256x256_0_0_1280)]; rfl) (by rw [← load_q arg2 harg2 x0 4 ![0, 0, 1024] rfl (inb_S1x256x2048_S1x256x256_0_0_1024)]; rfl) (by rw [← load_q arg2 harg2 x0 3 ![0, 0, 768] rfl (inb_S1x256x2048_S1x256x256_0_0_768)]; rfl) (by rw [← load_q arg2 harg2 x0 2 ![0, 0, 512] rfl (inb_S1x256x2048_S1x256x256_0_0_512)]; rfl) (by rw [← load_q arg2 harg2 x0 1 ![0, 0, 256] rfl (inb_S1x256x2048_S1x256x256_0_0_256)]; rfl) (by rw [← load_q arg2 harg2 x0 0 ![0, 0, 0] rfl (inb_S1x256x2048_S1x256x256_0_0_0)]; rfl)
    have h16 : ∀ f, arg16.view.read (Elt F) (arg16.view.writes (Elt F) f (kernelVal0_A.sl.HS4_8 c arg2 harg2 x0)) = fun y => srow (qBlk (y 0) x0) (ix2 0 (y 1)) := fun f =>
      rows8 _ f (fun h => srow (qBlk h x0)) _ _ _ _ _ _ _ _ _ _ _ _ _ _ _ _
        (by rw [← load_q arg2 harg2 x0 7 ![0, 0, 1792] rfl (inb_S1x256x2048_S1x256x256_0_0_1792)]; rfl) (by rw [← load_q arg2 harg2 x0 6 ![0, 0, 1536] rfl (inb_S1x256x2048_S1x256x256_0_0_1536)]; rfl) (by rw [← load_q arg2 harg2 x0 5 ![0, 0, 1280] rfl (inb_S1x256x2048_S1x256x256_0_0_1280)]; rfl) (by rw [← load_q arg2 harg2 x0 4 ![0, 0, 1024] rfl (inb_S1x256x2048_S1x256x256_0_0_1024)]; rfl) (by rw [← load_q arg2 harg2 x0 3 ![0, 0, 768] rfl (inb_S1x256x2048_S1x256x256_0_0_768)]; rfl) (by rw [← load_q arg2 harg2 x0 2 ![0, 0, 512] rfl (inb_S1x256x2048_S1x256x256_0_0_512)]; rfl) (by rw [← load_q arg2 harg2 x0 1 ![0, 0, 256] rfl (inb_S1x256x2048_S1x256x256_0_0_256)]; rfl) (by rw [← load_q arg2 harg2 x0 0 ![0, 0, 0] rfl (inb_S1x256x2048_S1x256x256_0_0_0)]; rfl)
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      refine cols8 _ _ (fun h => headOut 0 (i 1).val h x0 (ringK (i 1).val x1 s0) (ringS (i 1).val x1 s1) (ringV (i 1).val x2 s2)) _ _ _ _ _ _ _ _ _ _ _ _ _ _ _ _ ?_ ?_ ?_ ?_ ?_ ?_ ?_ ?_
      · exact (Eq.trans (b := shapeCast S1x256x256 (attend (arg15.view.readCov (kernelVal0_A.sl.HS3_8 c arg2 harg2 x0) (Rect.unit (s := S8x256x256) ![7, 0, 0] S1x256x256.size inb_S8x256x256_S1x256x256_7_0_0).toLoadRect) (arg16.view.readCov (kernelVal0_A.sl.HS4_8 c arg2 harg2 x0) (Rect.unit (s := S8x256) ![7, 0] S1x256.size inb_S8x256_S1x256_7_0).toLoadRect) (arg12.view.readCov (kernelVal0_A.sl.HS0_2 c i arg3 harg3 x1) (Rect.unit (s := S2x32x256x256) (k0_off7 i) S1x1x256x256.size (k0_off7_inb i hc0)).toLoadRect, arg13.view.readCov (kernelVal0_A.sl.HS1_2 c i arg3 harg3 x1) (Rect.unit (s := S2x32x256x128) (k0_off8 i) S1x1x256x128.size (k0_off8_inb i hc0)).toLoadRect, arg14.view.readCov (kernelVal0_A.sl.HS2_2 c i arg4 harg4 x2) (Rect.unit (s := S2x32x256x256) (k0_off7 i) S1x1x256x256.size (k0_off7_inb i hc0)).toLoadRect) []) shapeCasts_S256x256_S1x256x256) (by rfl)
          (congrArg (fun z => shapeCast S1x256x256 z shapeCasts_S256x256_S1x256x256) (attend_congr0
            (load_head (F := F) (e := .fp8e4m3) arg15.view (arg15.view.writes (Elt F) arg15.view.junk (kernelVal0_A.sl.HS3_8 c arg2 harg2 x0)) (fun h => codesV (qBlk h x0)) (h15 _) 7 ![7, 0, 0] rfl _) (load_row (F := F) (e := .f32) arg16.view (arg16.view.writes (Elt F) arg16.view.junk (kernelVal0_A.sl.HS4_8 c arg2 harg2 x0)) (fun h => srow (qBlk h x0)) (h16 _) 7 ![7, 0] rfl _)
            (own_codes _ _ _ _ _ (h12 _) hlt 1 _ ClosedOff.eq _)
            (own_scales _ _ _ _ _ (h13 _) hlt 1 _ ClosedOff.eq _)
            (own_values _ _ _ _ _ (h14 _) hlt 1 _ ClosedOff.eq _))))
      · exact (Eq.trans (b := shapeCast S1x256x256 (attend (arg15.view.readCov (kernelVal0_A.sl.HS3_8 c arg2 harg2 x0) (Rect.unit (s := S8x256x256) ![6, 0, 0] S1x256x256.size inb_S8x256x256_S1x256x256_6_0_0).toLoadRect) (arg16.view.readCov (kernelVal0_A.sl.HS4_8 c arg2 harg2 x0) (Rect.unit (s := S8x256) ![6, 0] S1x256.size inb_S8x256_S1x256_6_0).toLoadRect) (arg12.view.readCov (kernelVal0_A.sl.HS0_2 c i arg3 harg3 x1) (Rect.unit (s := S2x32x256x256) (k0_off7 i) S1x1x256x256.size (k0_off7_inb i hc0)).toLoadRect, arg13.view.readCov (kernelVal0_A.sl.HS1_2 c i arg3 harg3 x1) (Rect.unit (s := S2x32x256x128) (k0_off8 i) S1x1x256x128.size (k0_off8_inb i hc0)).toLoadRect, arg14.view.readCov (kernelVal0_A.sl.HS2_2 c i arg4 harg4 x2) (Rect.unit (s := S2x32x256x256) (k0_off7 i) S1x1x256x256.size (k0_off7_inb i hc0)).toLoadRect) []) shapeCasts_S256x256_S1x256x256) (by rfl)
          (congrArg (fun z => shapeCast S1x256x256 z shapeCasts_S256x256_S1x256x256) (attend_congr0
            (load_head (F := F) (e := .fp8e4m3) arg15.view (arg15.view.writes (Elt F) arg15.view.junk (kernelVal0_A.sl.HS3_8 c arg2 harg2 x0)) (fun h => codesV (qBlk h x0)) (h15 _) 6 ![6, 0, 0] rfl _) (load_row (F := F) (e := .f32) arg16.view (arg16.view.writes (Elt F) arg16.view.junk (kernelVal0_A.sl.HS4_8 c arg2 harg2 x0)) (fun h => srow (qBlk h x0)) (h16 _) 6 ![6, 0] rfl _)
            (own_codes _ _ _ _ _ (h12 _) hlt 1 _ ClosedOff.eq _)
            (own_scales _ _ _ _ _ (h13 _) hlt 1 _ ClosedOff.eq _)
            (own_values _ _ _ _ _ (h14 _) hlt 1 _ ClosedOff.eq _))))
      · exact (Eq.trans (b := shapeCast S1x256x256 (attend (arg15.view.readCov (kernelVal0_A.sl.HS3_8 c arg2 harg2 x0) (Rect.unit (s := S8x256x256) ![5, 0, 0] S1x256x256.size inb_S8x256x256_S1x256x256_5_0_0).toLoadRect) (arg16.view.readCov (kernelVal0_A.sl.HS4_8 c arg2 harg2 x0) (Rect.unit (s := S8x256) ![5, 0] S1x256.size inb_S8x256_S1x256_5_0).toLoadRect) (arg12.view.readCov (kernelVal0_A.sl.HS0_2 c i arg3 harg3 x1) (Rect.unit (s := S2x32x256x256) (k0_off7 i) S1x1x256x256.size (k0_off7_inb i hc0)).toLoadRect, arg13.view.readCov (kernelVal0_A.sl.HS1_2 c i arg3 harg3 x1) (Rect.unit (s := S2x32x256x128) (k0_off8 i) S1x1x256x128.size (k0_off8_inb i hc0)).toLoadRect, arg14.view.readCov (kernelVal0_A.sl.HS2_2 c i arg4 harg4 x2) (Rect.unit (s := S2x32x256x256) (k0_off7 i) S1x1x256x256.size (k0_off7_inb i hc0)).toLoadRect) []) shapeCasts_S256x256_S1x256x256) (by rfl)
          (congrArg (fun z => shapeCast S1x256x256 z shapeCasts_S256x256_S1x256x256) (attend_congr0
            (load_head (F := F) (e := .fp8e4m3) arg15.view (arg15.view.writes (Elt F) arg15.view.junk (kernelVal0_A.sl.HS3_8 c arg2 harg2 x0)) (fun h => codesV (qBlk h x0)) (h15 _) 5 ![5, 0, 0] rfl _) (load_row (F := F) (e := .f32) arg16.view (arg16.view.writes (Elt F) arg16.view.junk (kernelVal0_A.sl.HS4_8 c arg2 harg2 x0)) (fun h => srow (qBlk h x0)) (h16 _) 5 ![5, 0] rfl _)
            (own_codes _ _ _ _ _ (h12 _) hlt 1 _ ClosedOff.eq _)
            (own_scales _ _ _ _ _ (h13 _) hlt 1 _ ClosedOff.eq _)
            (own_values _ _ _ _ _ (h14 _) hlt 1 _ ClosedOff.eq _))))
      · exact (Eq.trans (b := shapeCast S1x256x256 (attend (arg15.view.readCov (kernelVal0_A.sl.HS3_8 c arg2 harg2 x0) (Rect.unit (s := S8x256x256) ![4, 0, 0] S1x256x256.size inb_S8x256x256_S1x256x256_4_0_0).toLoadRect) (arg16.view.readCov (kernelVal0_A.sl.HS4_8 c arg2 harg2 x0) (Rect.unit (s := S8x256) ![4, 0] S1x256.size inb_S8x256_S1x256_4_0).toLoadRect) (arg12.view.readCov (kernelVal0_A.sl.HS0_2 c i arg3 harg3 x1) (Rect.unit (s := S2x32x256x256) (k0_off7 i) S1x1x256x256.size (k0_off7_inb i hc0)).toLoadRect, arg13.view.readCov (kernelVal0_A.sl.HS1_2 c i arg3 harg3 x1) (Rect.unit (s := S2x32x256x128) (k0_off8 i) S1x1x256x128.size (k0_off8_inb i hc0)).toLoadRect, arg14.view.readCov (kernelVal0_A.sl.HS2_2 c i arg4 harg4 x2) (Rect.unit (s := S2x32x256x256) (k0_off7 i) S1x1x256x256.size (k0_off7_inb i hc0)).toLoadRect) []) shapeCasts_S256x256_S1x256x256) (by rfl)
          (congrArg (fun z => shapeCast S1x256x256 z shapeCasts_S256x256_S1x256x256) (attend_congr0
            (load_head (F := F) (e := .fp8e4m3) arg15.view (arg15.view.writes (Elt F) arg15.view.junk (kernelVal0_A.sl.HS3_8 c arg2 harg2 x0)) (fun h => codesV (qBlk h x0)) (h15 _) 4 ![4, 0, 0] rfl _) (load_row (F := F) (e := .f32) arg16.view (arg16.view.writes (Elt F) arg16.view.junk (kernelVal0_A.sl.HS4_8 c arg2 harg2 x0)) (fun h => srow (qBlk h x0)) (h16 _) 4 ![4, 0] rfl _)
            (own_codes _ _ _ _ _ (h12 _) hlt 1 _ ClosedOff.eq _)
            (own_scales _ _ _ _ _ (h13 _) hlt 1 _ ClosedOff.eq _)
            (own_values _ _ _ _ _ (h14 _) hlt 1 _ ClosedOff.eq _))))
      · exact (Eq.trans (b := shapeCast S1x256x256 (attend (arg15.view.readCov (kernelVal0_A.sl.HS3_8 c arg2 harg2 x0) (Rect.unit (s := S8x256x256) ![3, 0, 0] S1x256x256.size inb_S8x256x256_S1x256x256_3_0_0).toLoadRect) (arg16.view.readCov (kernelVal0_A.sl.HS4_8 c arg2 harg2 x0) (Rect.unit (s := S8x256) ![3, 0] S1x256.size inb_S8x256_S1x256_3_0).toLoadRect) (arg12.view.readCov (kernelVal0_A.sl.HS0_2 c i arg3 harg3 x1) (Rect.unit (s := S2x32x256x256) (k0_off5 i) S1x1x256x256.size (k0_off5_inb i hc0)).toLoadRect, arg13.view.readCov (kernelVal0_A.sl.HS1_2 c i arg3 harg3 x1) (Rect.unit (s := S2x32x256x128) (k0_off6 i) S1x1x256x128.size (k0_off6_inb i hc0)).toLoadRect, arg14.view.readCov (kernelVal0_A.sl.HS2_2 c i arg4 harg4 x2) (Rect.unit (s := S2x32x256x256) (k0_off5 i) S1x1x256x256.size (k0_off5_inb i hc0)).toLoadRect) []) shapeCasts_S256x256_S1x256x256) (by rfl)
          (congrArg (fun z => shapeCast S1x256x256 z shapeCasts_S256x256_S1x256x256) (attend_congr0
            (load_head (F := F) (e := .fp8e4m3) arg15.view (arg15.view.writes (Elt F) arg15.view.junk (kernelVal0_A.sl.HS3_8 c arg2 harg2 x0)) (fun h => codesV (qBlk h x0)) (h15 _) 3 ![3, 0, 0] rfl _) (load_row (F := F) (e := .f32) arg16.view (arg16.view.writes (Elt F) arg16.view.junk (kernelVal0_A.sl.HS4_8 c arg2 harg2 x0)) (fun h => srow (qBlk h x0)) (h16 _) 3 ![3, 0] rfl _)
            (own_codes _ _ _ _ _ (h12 _) hlt 0 _ ClosedOff.eq _)
            (own_scales _ _ _ _ _ (h13 _) hlt 0 _ ClosedOff.eq _)
            (own_values _ _ _ _ _ (h14 _) hlt 0 _ ClosedOff.eq _))))
      · exact (Eq.trans (b := shapeCast S1x256x256 (attend (arg15.view.readCov (kernelVal0_A.sl.HS3_8 c arg2 harg2 x0) (Rect.unit (s := S8x256x256) ![2, 0, 0] S1x256x256.size inb_S8x256x256_S1x256x256_2_0_0).toLoadRect) (arg16.view.readCov (kernelVal0_A.sl.HS4_8 c arg2 harg2 x0) (Rect.unit (s := S8x256) ![2, 0] S1x256.size inb_S8x256_S1x256_2_0).toLoadRect) (arg12.view.readCov (kernelVal0_A.sl.HS0_2 c i arg3 harg3 x1) (Rect.unit (s := S2x32x256x256) (k0_off5 i) S1x1x256x256.size (k0_off5_inb i hc0)).toLoadRect, arg13.view.readCov (kernelVal0_A.sl.HS1_2 c i arg3 harg3 x1) (Rect.unit (s := S2x32x256x128) (k0_off6 i) S1x1x256x128.size (k0_off6_inb i hc0)).toLoadRect, arg14.view.readCov (kernelVal0_A.sl.HS2_2 c i arg4 harg4 x2) (Rect.unit (s := S2x32x256x256) (k0_off5 i) S1x1x256x256.size (k0_off5_inb i hc0)).toLoadRect) []) shapeCasts_S256x256_S1x256x256) (by rfl)
          (congrArg (fun z => shapeCast S1x256x256 z shapeCasts_S256x256_S1x256x256) (attend_congr0
            (load_head (F := F) (e := .fp8e4m3) arg15.view (arg15.view.writes (Elt F) arg15.view.junk (kernelVal0_A.sl.HS3_8 c arg2 harg2 x0)) (fun h => codesV (qBlk h x0)) (h15 _) 2 ![2, 0, 0] rfl _) (load_row (F := F) (e := .f32) arg16.view (arg16.view.writes (Elt F) arg16.view.junk (kernelVal0_A.sl.HS4_8 c arg2 harg2 x0)) (fun h => srow (qBlk h x0)) (h16 _) 2 ![2, 0] rfl _)
            (own_codes _ _ _ _ _ (h12 _) hlt 0 _ ClosedOff.eq _)
            (own_scales _ _ _ _ _ (h13 _) hlt 0 _ ClosedOff.eq _)
            (own_values _ _ _ _ _ (h14 _) hlt 0 _ ClosedOff.eq _))))
      · exact (Eq.trans (b := shapeCast S1x256x256 (attend (arg15.view.readCov (kernelVal0_A.sl.HS3_8 c arg2 harg2 x0) (Rect.unit (s := S8x256x256) ![1, 0, 0] S1x256x256.size inb_S8x256x256_S1x256x256_1_0_0).toLoadRect) (arg16.view.readCov (kernelVal0_A.sl.HS4_8 c arg2 harg2 x0) (Rect.unit (s := S8x256) ![1, 0] S1x256.size inb_S8x256_S1x256_1_0).toLoadRect) (arg12.view.readCov (kernelVal0_A.sl.HS0_2 c i arg3 harg3 x1) (Rect.unit (s := S2x32x256x256) (k0_off5 i) S1x1x256x256.size (k0_off5_inb i hc0)).toLoadRect, arg13.view.readCov (kernelVal0_A.sl.HS1_2 c i arg3 harg3 x1) (Rect.unit (s := S2x32x256x128) (k0_off6 i) S1x1x256x128.size (k0_off6_inb i hc0)).toLoadRect, arg14.view.readCov (kernelVal0_A.sl.HS2_2 c i arg4 harg4 x2) (Rect.unit (s := S2x32x256x256) (k0_off5 i) S1x1x256x256.size (k0_off5_inb i hc0)).toLoadRect) []) shapeCasts_S256x256_S1x256x256) (by rfl)
          (congrArg (fun z => shapeCast S1x256x256 z shapeCasts_S256x256_S1x256x256) (attend_congr0
            (load_head (F := F) (e := .fp8e4m3) arg15.view (arg15.view.writes (Elt F) arg15.view.junk (kernelVal0_A.sl.HS3_8 c arg2 harg2 x0)) (fun h => codesV (qBlk h x0)) (h15 _) 1 ![1, 0, 0] rfl _) (load_row (F := F) (e := .f32) arg16.view (arg16.view.writes (Elt F) arg16.view.junk (kernelVal0_A.sl.HS4_8 c arg2 harg2 x0)) (fun h => srow (qBlk h x0)) (h16 _) 1 ![1, 0] rfl _)
            (own_codes _ _ _ _ _ (h12 _) hlt 0 _ ClosedOff.eq _)
            (own_scales _ _ _ _ _ (h13 _) hlt 0 _ ClosedOff.eq _)
            (own_values _ _ _ _ _ (h14 _) hlt 0 _ ClosedOff.eq _))))
      · exact (Eq.trans (b := shapeCast S1x256x256 (attend (arg15.view.readCov (kernelVal0_A.sl.HS3_8 c arg2 harg2 x0) (Rect.unit (s := S8x256x256) ![0, 0, 0] S1x256x256.size inb_S8x256x256_S1x256x256_0_0_0).toLoadRect) (arg16.view.readCov (kernelVal0_A.sl.HS4_8 c arg2 harg2 x0) (Rect.unit (s := S8x256) ![0, 0] S1x256.size inb_S8x256_S1x256_0_0).toLoadRect) (arg12.view.readCov (kernelVal0_A.sl.HS0_2 c i arg3 harg3 x1) (Rect.unit (s := S2x32x256x256) (k0_off5 i) S1x1x256x256.size (k0_off5_inb i hc0)).toLoadRect, arg13.view.readCov (kernelVal0_A.sl.HS1_2 c i arg3 harg3 x1) (Rect.unit (s := S2x32x256x128) (k0_off6 i) S1x1x256x128.size (k0_off6_inb i hc0)).toLoadRect, arg14.view.readCov (kernelVal0_A.sl.HS2_2 c i arg4 harg4 x2) (Rect.unit (s := S2x32x256x256) (k0_off5 i) S1x1x256x256.size (k0_off5_inb i hc0)).toLoadRect) []) shapeCasts_S256x256_S1x256x256) (by rfl)
          (congrArg (fun z => shapeCast S1x256x256 z shapeCasts_S256x256_S1x256x256) (attend_congr0
            (load_head (F := F) (e := .fp8e4m3) arg15.view (arg15.view.writes (Elt F) arg15.view.junk (kernelVal0_A.sl.HS3_8 c arg2 harg2 x0)) (fun h => codesV (qBlk h x0)) (h15 _) 0 ![0, 0, 0] rfl _) (load_row (F := F) (e := .f32) arg16.view (arg16.view.writes (Elt F) arg16.view.junk (kernelVal0_A.sl.HS4_8 c arg2 harg2 x0)) (fun h => srow (qBlk h x0)) (h16 _) 0 ![0, 0] rfl _)
            (own_codes _ _ _ _ _ (h12 _) hlt 0 _ ClosedOff.eq _)
            (own_scales _ _ _ _ _ (h13 _) hlt 0 _ ClosedOff.eq _)
            (own_values _ _ _ _ _ (h14 _) hlt 0 _ ClosedOff.eq _))))
    isplitl [H4]
    · iexists _; isplitr; swap; · iexact H4
      ipureintro
      refine packs4 _ _ (packV x0) _ _ _ _ _ _ _ _ ?_ ?_ ?_ ?_
      · exact (by dsimp only [packV]; rw [← load_q arg2 harg2 x0 4 ![0, 0, 1024] rfl (inb_S1x256x2048_S1x256x256_0_0_1024), ← load_q arg2 harg2 x0 5 ![0, 0, 1280] rfl (inb_S1x256x2048_S1x256x256_0_0_1280), ← load_q arg2 harg2 x0 6 ![0, 0, 1536] rfl (inb_S1x256x2048_S1x256x256_0_0_1536), ← load_q arg2 harg2 x0 7 ![0, 0, 1792] rfl (inb_S1x256x2048_S1x256x256_0_0_1792)]; rfl)
      · exact (by dsimp only [packV]; rw [← load_q arg2 harg2 x0 4 ![0, 0, 1024] rfl (inb_S1x256x2048_S1x256x256_0_0_1024), ← load_q arg2 harg2 x0 5 ![0, 0, 1280] rfl (inb_S1x256x2048_S1x256x256_0_0_1280), ← load_q arg2 harg2 x0 6 ![0, 0, 1536] rfl (inb_S1x256x2048_S1x256x256_0_0_1536), ← load_q arg2 harg2 x0 7 ![0, 0, 1792] rfl (inb_S1x256x2048_S1x256x256_0_0_1792)]; rfl)
      · exact (by dsimp only [packV]; rw [← load_q arg2 harg2 x0 0 ![0, 0, 0] rfl (inb_S1x256x2048_S1x256x256_0_0_0), ← load_q arg2 harg2 x0 1 ![0, 0, 256] rfl (inb_S1x256x2048_S1x256x256_0_0_256), ← load_q arg2 harg2 x0 2 ![0, 0, 512] rfl (inb_S1x256x2048_S1x256x256_0_0_512), ← load_q arg2 harg2 x0 3 ![0, 0, 768] rfl (inb_S1x256x2048_S1x256x256_0_0_768)]; rfl)
      · exact (by dsimp only [packV]; rw [← load_q arg2 harg2 x0 0 ![0, 0, 0] rfl (inb_S1x256x2048_S1x256x256_0_0_0), ← load_q arg2 harg2 x0 1 ![0, 0, 256] rfl (inb_S1x256x2048_S1x256x256_0_0_256), ← load_q arg2 harg2 x0 2 ![0, 0, 512] rfl (inb_S1x256x2048_S1x256x256_0_0_512), ← load_q arg2 harg2 x0 3 ![0, 0, 768] rfl (inb_S1x256x2048_S1x256x256_0_0_768)]; rfl)
    isplitl [H5]
    · iexists _; isplitr; swap; · iexact H5
      ipureintro
      refine lines8 _ _ (fun h => srow (qBlk h x0)) _ _ _ _ _ _ _ _ _ _ _ _ _ _ _ _ ?_ ?_ ?_ ?_ ?_ ?_ ?_ ?_
      · exact (by rw [← load_q arg2 harg2 x0 7 ![0, 0, 1792] rfl (inb_S1x256x2048_S1x256x256_0_0_1792)]; rfl)
      · exact (by rw [← load_q arg2 harg2 x0 6 ![0, 0, 1536] rfl (inb_S1x256x2048_S1x256x256_0_0_1536)]; rfl)
      · exact (by rw [← load_q arg2 harg2 x0 5 ![0, 0, 1280] rfl (inb_S1x256x2048_S1x256x256_0_0_1280)]; rfl)
      · exact (by rw [← load_q arg2 harg2 x0 4 ![0, 0, 1024] rfl (inb_S1x256x2048_S1x256x256_0_0_1024)]; rfl)
      · exact (by rw [← load_q arg2 harg2 x0 3 ![0, 0, 768] rfl (inb_S1x256x2048_S1x256x256_0_0_768)]; rfl)
      · exact (by rw [← load_q arg2 harg2 x0 2 ![0, 0, 512] rfl (inb_S1x256x2048_S1x256x256_0_0_512)]; rfl)
      · exact (by rw [← load_q arg2 harg2 x0 1 ![0, 0, 256] rfl (inb_S1x256x2048_S1x256x256_0_0_256)]; rfl)
      · exact (by rw [← load_q arg2 harg2 x0 0 ![0, 0, 0] rfl (inb_S1x256x2048_S1x256x256_0_0_0)]; rfl)
    isplitl [H6]
    · iexists _; isplitr; swap; · iexact H6
      ipureintro
      refine planes (F := F) (e := .fp8e4m3) arg8.view _ (fun g => codesV (kBlk g x1)) _ _ _ _ ?_ ?_
      · exact (by rw [← load_k1 arg3 harg3 x1 (inb_S1x256x512_S1x256x256_0_0_256)]; rfl)
      · exact (by rw [← load_k0 arg3 harg3 x1 (inb_S1x256x512_S1x256x256_0_0_0)]; rfl)
    isplitl [H7]
    · iexists _; isplitr; swap; · iexact H7
      ipureintro
      refine lines2 _ _ (fun g => srow (kBlk g x1)) _ _ _ _ ?_ ?_
      · exact (by rw [← load_k1 arg3 harg3 x1 (inb_S1x256x512_S1x256x256_0_0_256)]; rfl)
      · exact (by rw [← load_k0 arg3 harg3 x1 (inb_S1x256x512_S1x256x256_0_0_0)]; rfl)
    isplitl [H8]
    · iexists _; isplitr; swap; · iexact H8
      ipureintro
      refine planes (F := F) (e := .fp8e4m3) arg10.view _ (fun g => codesV (kBlk g x2)) _ _ _ _ ?_ ?_
      · exact (by rw [← load_k1 arg4 harg4 x2 (inb_S1x256x512_S1x256x256_0_0_256)]; rfl)
      · exact (by rw [← load_k0 arg4 harg4 x2 (inb_S1x256x512_S1x256x256_0_0_0)]; rfl)
    isplitl [H9]
    · iexists _; isplitr; swap; · iexact H9
      ipureintro
      refine lines2 _ _ (fun g => srow (kBlk g x2)) _ _ _ _ ?_ ?_
      · exact (by rw [← load_k1 arg4 harg4 x2 (inb_S1x256x512_S1x256x256_0_0_256)]; rfl)
      · exact (by rw [← load_k0 arg4 harg4 x2 (inb_S1x256x512_S1x256x256_0_0_0)]; rfl)
    isplitl [HS0]
    · iexists _; isplitr; swap; · iexact HS0
      ipureintro; exact h12s
    isplitl [HS1]
    · iexists _; isplitr; swap; · iexact HS1
      ipureintro; exact h13s
    isplitl [HS2]
    · iexists _; isplitr; swap; · iexact HS2
      ipureintro; exact h14s
    isplitl [HS3]
    · iexists _, _; isplitr; swap; · iexact HS3
      ipureintro; rfl
    iexists _, _; isplitr; swap; · iexact HS4
    ipureintro; rfl

end Cert.KernelIdeal.Spec

end
-- ==== Proof.ValueB.lean ====
module

public import proofs.«01_k».proof.Proof.KernelIdealCases
public import proofs.«01_k».proof.Proof.Pieces

/-! What the body computes on the second tile. -/

@[expose] public section

-- membership in a rectangle of production extents (`View.cover_of_tiled`): the elaborator's structural look
-- recurses once per coordinate of the long axes
set_option maxRecDepth 16384

noncomputable section

namespace Cert.KernelIdeal.Spec

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 8000000 in
/-- The body on the second tile: from the blocks of its inputs and the rings, its outputs and the rings after it. -/
theorem kernelVal0_B (c : Dev nD) (i : grid0.Coords) (arg2 : Memref sig .tc .vmem S1x256x2048 .bf16) (harg2 : arg2.IsWhole) (arg3 : Memref sig .tc .vmem S1x256x512 .bf16) (harg3 : arg3.IsWhole) (arg4 : Memref sig .tc .vmem S1x256x512 .bf16) (harg4 : arg4.IsWhole) (arg5 : Memref sig .tc .vmem S1x256x2048 .bf16) (harg5 : arg5.IsWhole) (arg6 : Memref sig .tc .vmem S1x256x2x8x128 .fp8e4m3) (harg6 : arg6.IsWhole) (arg7 : Memref sig .tc .vmem S1x8x256 .f32) (harg7 : arg7.IsWhole) (arg8 : Memref sig .tc .vmem S1x2x256x256 .fp8e4m3) (harg8 : arg8.IsWhole) (arg9 : Memref sig .tc .vmem S1x2x256 .f32) (harg9 : arg9.IsWhole) (arg10 : Memref sig .tc .vmem S1x2x256x256 .fp8e4m3) (harg10 : arg10.IsWhole) (arg11 : Memref sig .tc .vmem S1x2x256 .f32) (harg11 : arg11.IsWhole) (arg12 : Memref sig .tc .vmem S2x32x256x256 .fp8e4m3) (harg12 : arg12.IsWhole) (arg13 : Memref sig .tc .vmem S2x32x256x128 .f32) (harg13 : arg13.IsWhole) (arg14 : Memref sig .tc .vmem S2x32x256x256 .bf16) (harg14 : arg14.IsWhole) (arg15 : Memref sig .tc .vmem S8x256x256 .fp8e4m3) (harg15 : arg15.IsWhole) (arg16 : Memref sig .tc .vmem S8x256 .f32) (harg16 : arg16.IsWhole) (hc0 : ¬cond0_0 i) (hc1 : cond0_1 i) (hc2 : ¬cond0_2 i) (hc3 : ¬cond0_3 i) (hc4 : ¬cond0_4 i)
    (hi : (i 1).val = 1) (x0 : Vec F S1x256x2048 .bf16) (x1 : Vec F S1x256x512 .bf16) (x2 : Vec F S1x256x512 .bf16)
    (s0 : Vec F S2x32x256x256 .fp8e4m3) (s1 : Vec F S2x32x256x128 .f32) (s2 : Vec F S2x32x256x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare s0 ∗ owns (c : Thread nD τ) arg13 fullShare s1 ∗ owns (c : Thread nD τ) arg14 fullShare s2 ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare (oOut 1 (i 1).val x0 (ringK (i 1).val x1 s0) (ringS (i 1).val x1 s1) (ringV (i 1).val x2 s2)) ∗ owns (c : Thread nD τ) arg6 fullShare (oQCodes x0) ∗ owns (c : Thread nD τ) arg7 fullShare (oQScales x0) ∗ owns (c : Thread nD τ) arg8 fullShare (oCodes x1) ∗ owns (c : Thread nD τ) arg9 fullShare (oScales x1) ∗ owns (c : Thread nD τ) arg10 fullShare (oCodes x2) ∗ owns (c : Thread nD τ) arg11 fullShare (oScales x2) ∗ owns (c : Thread nD τ) arg12 fullShare (ringK (i 1).val x1 s0) ∗ owns (c : Thread nD τ) arg13 fullShare (ringS (i 1).val x1 s1) ∗ owns (c : Thread nD τ) arg14 fullShare (ringV (i 1).val x2 s2) ∗ (∃ d, owns (c : Thread nD τ) arg15 fullShare d) ∗ (∃ d, owns (c : Thread nD τ) arg16 fullShare d)) -∗ K ⟨⟩))
          ⊢ wp frame (wpE (defs₀ (F := F)) Variants.none c none) E (cc0_swa_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_swa_fp8_eq_skeleton]; unfold cc0_swa_fp8_skel
    simp only [k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%fs0, %hfs0, HS0⟩, ⟨%fs1, %hfs1, HS1⟩, ⟨%fs2, %hfs2, HS2⟩, ⟨%ds3, %fs3, -, HS3⟩, ⟨%ds4, %fs4, -, HS4⟩, Hk⟩
    obtain rfl := harg2.eq_unread hf0; obtain rfl := harg3.eq_unread hf1; obtain rfl := harg4.eq_unread hf2
    sl_exec (disch := first | sl_exact hc0 | sl_exact hc1 | sl_exact hc2 | sl_exact hc3 | sl_exact hc4)
    sl_step
    have h12 : ∀ f, arg12.view.read (Elt F) (arg12.view.writes (Elt F) f (kernelVal0_B.sl.HS0_2 c i arg3 harg3 x1)) = ringK (i 1).val x1 (arg12.view.read (Elt F) f) := fun f =>
      ring _ f _ (fun g => codesV (kBlk g x1)) _ _ _ _ _ _ ClosedOff.eq ClosedOff.eq
        (by rw [← load_k1 arg3 harg3 x1 (inb_S1x256x512_S1x256x256_0_0_256)]; rfl) (by rw [← load_k0 arg3 harg3 x1 (inb_S1x256x512_S1x256x256_0_0_0)]; rfl)
    have h13 : ∀ f, arg13.view.read (Elt F) (arg13.view.writes (Elt F) f (kernelVal0_B.sl.HS1_2 c i arg3 harg3 x1)) = ringS (i 1).val x1 (arg13.view.read (Elt F) f) := fun f =>
      ringLanes _ f _ (fun g => slanes (kBlk g x1)) _ _ _ _ _ _ ClosedOff.eq ClosedOff.eq
        (by rw [← load_k1 arg3 harg3 x1 (inb_S1x256x512_S1x256x256_0_0_256)]; rfl) (by rw [← load_k0 arg3 harg3 x1 (inb_S1x256x512_S1x256x256_0_0_0)]; rfl)
    have h14 : ∀ f, arg14.view.read (Elt F) (arg14.view.writes (Elt F) f (kernelVal0_B.sl.HS2_2 c i arg4 harg4 x2)) = ringV (i 1).val x2 (arg14.view.read (Elt F) f) := fun f =>
      ring _ f _ (fun g => valsV (kBlk g x2)) _ _ _ _ _ _ ClosedOff.eq ClosedOff.eq
        (by rw [← load_k1 arg4 harg4 x2 (inb_S1x256x512_S1x256x256_0_0_256)]; rfl) (by rw [← load_k0 arg4 harg4 x2 (inb_S1x256x512_S1x256x256_0_0_0)]; rfl)
    have hlt : (i 1).val < 32 := (i 1).isLt
    have h12s := (h12 fs0).trans (congrArg (ringK (i 1).val x1) hfs0)
    have h13s := (h13 fs1).trans (congrArg (ringS (i 1).val x1) hfs1)
    have h14s := (h14 fs2).trans (congrArg (ringV (i 1).val x2) hfs2)
    have h15 : ∀ f, arg15.view.read (Elt F) (arg15.view.writes (Elt F) f (kernelVal0_B.sl.HS3_8 c arg2 harg2 x0)) = fun y => codesV (qBlk (y 0) x0) (ix2 (y 1) (y 2)) := fun f =>
      heads8 _ f (fun h => codesV (qBlk h x0)) _ _ _ _ _ _ _ _ _ _ _ _ _ _ _ _
        (by rw [← load_q arg2 harg2 x0 7 ![0, 0, 1792] rfl (inb_S1x256x2048_S1x256x256_0_0_1792)]; rfl) (by rw [← load_q arg2 harg2 x0 6 ![0, 0, 1536] rfl (inb_S1x256x2048_S1x256x256_0_0_1536)]; rfl) (by rw [← load_q arg2 harg2 x0 5 ![0, 0, 1280] rfl (inb_S1x256x2048_S1x256x256_0_0_1280)]; rfl) (by rw [← load_q arg2 harg2 x0 4 ![0, 0, 1024] rfl (inb_S1x256x2048_S1x256x256_0_0_1024)]; rfl) (by rw [← load_q arg2 harg2 x0 3 ![0, 0, 768] rfl (inb_S1x256x2048_S1x256x256_0_0_768)]; rfl) (by rw [← load_q arg2 harg2 x0 2 ![0, 0, 512] rfl (inb_S1x256x2048_S1x256x256_0_0_512)]; rfl) (by rw [← load_q arg2 harg2 x0 1 ![0, 0, 256] rfl (inb_S1x256x2048_S1x256x256_0_0_256)]; rfl) (by rw [← load_q arg2 harg2 x0 0 ![0, 0, 0] rfl (inb_S1x256x2048_S1x256x256_0_0_0)]; rfl)
    have h16 : ∀ f, arg16.view.read (Elt F) (arg16.view.writes (Elt F) f (kernelVal0_B.sl.HS4_8 c arg2 harg2 x0)) = fun y => srow (qBlk (y 0) x0) (ix2 0 (y 1)) := fun f =>
      rows8 _ f (fun h => srow (qBlk h x0)) _ _ _ _ _ _ _ _ _ _ _ _ _ _ _ _
        (by rw [← load_q arg2 harg2 x0 7 ![0, 0, 1792] rfl (inb_S1x256x2048_S1x256x256_0_0_1792)]; rfl) (by rw [← load_q arg2 harg2 x0 6 ![0, 0, 1536] rfl (inb_S1x256x2048_S1x256x256_0_0_1536)]; rfl) (by rw [← load_q arg2 harg2 x0 5 ![0, 0, 1280] rfl (inb_S1x256x2048_S1x256x256_0_0_1280)]; rfl) (by rw [← load_q arg2 harg2 x0 4 ![0, 0, 1024] rfl (inb_S1x256x2048_S1x256x256_0_0_1024)]; rfl) (by rw [← load_q arg2 harg2 x0 3 ![0, 0, 768] rfl (inb_S1x256x2048_S1x256x256_0_0_768)]; rfl) (by rw [← load_q arg2 harg2 x0 2 ![0, 0, 512] rfl (inb_S1x256x2048_S1x256x256_0_0_512)]; rfl) (by rw [← load_q arg2 harg2 x0 1 ![0, 0, 256] rfl (inb_S1x256x2048_S1x256x256_0_0_256)]; rfl) (by rw [← load_q arg2 harg2 x0 0 ![0, 0, 0] rfl (inb_S1x256x2048_S1x256x256_0_0_0)]; rfl)
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      refine cols8 _ _ (fun h => headOut 1 (i 1).val h x0 (ringK (i 1).val x1 s0) (ringS (i 1).val x1 s1) (ringV (i 1).val x2 s2)) _ _ _ _ _ _ _ _ _ _ _ _ _ _ _ _ ?_ ?_ ?_ ?_ ?_ ?_ ?_ ?_
      · exact (Eq.trans (b := shapeCast S1x256x256 (attend (arg15.view.readCov (kernelVal0_B.sl.HS3_8 c arg2 harg2 x0) (Rect.unit (s := S8x256x256) ![7, 0, 0] S1x256x256.size inb_S8x256x256_S1x256x256_7_0_0).toLoadRect) (arg16.view.readCov (kernelVal0_B.sl.HS4_8 c arg2 harg2 x0) (Rect.unit (s := S8x256) ![7, 0] S1x256.size inb_S8x256_S1x256_7_0).toLoadRect) (arg12.view.readCov (kernelVal0_B.sl.HS0_2 c i arg3 harg3 x1) (Rect.unit (s := S2x32x256x256) (k0_off14 i) S1x1x256x256.size (k0_off14_inb i hc1)).toLoadRect, arg13.view.readCov (kernelVal0_B.sl.HS1_2 c i arg3 harg3 x1) (Rect.unit (s := S2x32x256x128) (k0_off15 i) S1x1x256x128.size (k0_off15_inb i hc1)).toLoadRect, arg14.view.readCov (kernelVal0_B.sl.HS2_2 c i arg4 harg4 x2) (Rect.unit (s := S2x32x256x256) (k0_off14 i) S1x1x256x256.size (k0_off14_inb i hc1)).toLoadRect) [(View.readAt (Elt F) arg12.view (Rect.unit (s := S2x32x256x256) (k0_off16 i) S1x1x256x256.size (k0_off16_inb i hc1)).toLoadRect (arg12.view.writes (Elt F) fs0 (kernelVal0_B.sl.HS0_2 c i arg3 harg3 x1)), View.readAt (Elt F) arg13.view (Rect.unit (s := S2x32x256x128) (k0_off17 i) S1x1x256x128.size (k0_off17_inb i hc1)).toLoadRect (arg13.view.writes (Elt F) fs1 (kernelVal0_B.sl.HS1_2 c i arg3 harg3 x1)), View.readAt (Elt F) arg14.view (Rect.unit (s := S2x32x256x256) (k0_off18 i) S1x1x256x256.size (k0_off18_inb i hc1)).toLoadRect (arg14.view.writes (Elt F) fs2 (kernelVal0_B.sl.HS2_2 c i arg4 harg4 x2)))]) shapeCasts_S256x256_S1x256x256) (by rfl)
          (congrArg (fun z => shapeCast S1x256x256 z shapeCasts_S256x256_S1x256x256) (attend_congr1
            (load_head (F := F) (e := .fp8e4m3) arg15.view (arg15.view.writes (Elt F) arg15.view.junk (kernelVal0_B.sl.HS3_8 c arg2 harg2 x0)) (fun h => codesV (qBlk h x0)) (h15 _) 7 ![7, 0, 0] rfl _) (load_row (F := F) (e := .f32) arg16.view (arg16.view.writes (Elt F) arg16.view.junk (kernelVal0_B.sl.HS4_8 c arg2 harg2 x0)) (fun h => srow (qBlk h x0)) (h16 _) 7 ![7, 0] rfl _)
            (own_codes _ _ _ _ _ (h12 _) hlt 1 _ ClosedOff.eq _)
            (own_scales _ _ _ _ _ (h13 _) hlt 1 _ ClosedOff.eq _)
            (own_values _ _ _ _ _ (h14 _) hlt 1 _ ClosedOff.eq _)
            (load_slot _ _ _ (h12s) 1 ((i 1).val - 1) (by omega) _ (ClosedOff.eq.trans (vec4 (by omega))) _)
            (load_slotLanes _ _ _ (h13s) 1 ((i 1).val - 1) (by omega) _ (ClosedOff.eq.trans (vec4 (by omega))) _)
            (load_slot _ _ _ (h14s) 1 ((i 1).val - 1) (by omega) _ (ClosedOff.eq.trans (vec4 (by omega))) _))))
      · exact (Eq.trans (b := shapeCast S1x256x256 (attend (arg15.view.readCov (kernelVal0_B.sl.HS3_8 c arg2 harg2 x0) (Rect.unit (s := S8x256x256) ![6, 0, 0] S1x256x256.size inb_S8x256x256_S1x256x256_6_0_0).toLoadRect) (arg16.view.readCov (kernelVal0_B.sl.HS4_8 c arg2 harg2 x0) (Rect.unit (s := S8x256) ![6, 0] S1x256.size inb_S8x256_S1x256_6_0).toLoadRect) (arg12.view.readCov (kernelVal0_B.sl.HS0_2 c i arg3 harg3 x1) (Rect.unit (s := S2x32x256x256) (k0_off14 i) S1x1x256x256.size (k0_off14_inb i hc1)).toLoadRect, arg13.view.readCov (kernelVal0_B.sl.HS1_2 c i arg3 harg3 x1) (Rect.unit (s := S2x32x256x128) (k0_off15 i) S1x1x256x128.size (k0_off15_inb i hc1)).toLoadRect, arg14.view.readCov (kernelVal0_B.sl.HS2_2 c i arg4 harg4 x2) (Rect.unit (s := S2x32x256x256) (k0_off14 i) S1x1x256x256.size (k0_off14_inb i hc1)).toLoadRect) [(View.readAt (Elt F) arg12.view (Rect.unit (s := S2x32x256x256) (k0_off16 i) S1x1x256x256.size (k0_off16_inb i hc1)).toLoadRect (arg12.view.writes (Elt F) fs0 (kernelVal0_B.sl.HS0_2 c i arg3 harg3 x1)), View.readAt (Elt F) arg13.view (Rect.unit (s := S2x32x256x128) (k0_off17 i) S1x1x256x128.size (k0_off17_inb i hc1)).toLoadRect (arg13.view.writes (Elt F) fs1 (kernelVal0_B.sl.HS1_2 c i arg3 harg3 x1)), View.readAt (Elt F) arg14.view (Rect.unit (s := S2x32x256x256) (k0_off18 i) S1x1x256x256.size (k0_off18_inb i hc1)).toLoadRect (arg14.view.writes (Elt F) fs2 (kernelVal0_B.sl.HS2_2 c i arg4 harg4 x2)))]) shapeCasts_S256x256_S1x256x256) (by rfl)
          (congrArg (fun z => shapeCast S1x256x256 z shapeCasts_S256x256_S1x256x256) (attend_congr1
            (load_head (F := F) (e := .fp8e4m3) arg15.view (arg15.view.writes (Elt F) arg15.view.junk (kernelVal0_B.sl.HS3_8 c arg2 harg2 x0)) (fun h => codesV (qBlk h x0)) (h15 _) 6 ![6, 0, 0] rfl _) (load_row (F := F) (e := .f32) arg16.view (arg16.view.writes (Elt F) arg16.view.junk (kernelVal0_B.sl.HS4_8 c arg2 harg2 x0)) (fun h => srow (qBlk h x0)) (h16 _) 6 ![6, 0] rfl _)
            (own_codes _ _ _ _ _ (h12 _) hlt 1 _ ClosedOff.eq _)
            (own_scales _ _ _ _ _ (h13 _) hlt 1 _ ClosedOff.eq _)
            (own_values _ _ _ _ _ (h14 _) hlt 1 _ ClosedOff.eq _)
            (load_slot _ _ _ (h12s) 1 ((i 1).val - 1) (by omega) _ (ClosedOff.eq.trans (vec4 (by omega))) _)
            (load_slotLanes _ _ _ (h13s) 1 ((i 1).val - 1) (by omega) _ (ClosedOff.eq.trans (vec4 (by omega))) _)
            (load_slot _ _ _ (h14s) 1 ((i 1).val - 1) (by omega) _ (ClosedOff.eq.trans (vec4 (by omega))) _))))
      · exact (Eq.trans (b := shapeCast S1x256x256 (attend (arg15.view.readCov (kernelVal0_B.sl.HS3_8 c arg2 harg2 x0) (Rect.unit (s := S8x256x256) ![5, 0, 0] S1x256x256.size inb_S8x256x256_S1x256x256_5_0_0).toLoadRect) (arg16.view.readCov (kernelVal0_B.sl.HS4_8 c arg2 harg2 x0) (Rect.unit (s := S8x256) ![5, 0] S1x256.size inb_S8x256_S1x256_5_0).toLoadRect) (arg12.view.readCov (kernelVal0_B.sl.HS0_2 c i arg3 harg3 x1) (Rect.unit (s := S2x32x256x256) (k0_off14 i) S1x1x256x256.size (k0_off14_inb i hc1)).toLoadRect, arg13.view.readCov (kernelVal0_B.sl.HS1_2 c i arg3 harg3 x1) (Rect.unit (s := S2x32x256x128) (k0_off15 i) S1x1x256x128.size (k0_off15_inb i hc1)).toLoadRect, arg14.view.readCov (kernelVal0_B.sl.HS2_2 c i arg4 harg4 x2) (Rect.unit (s := S2x32x256x256) (k0_off14 i) S1x1x256x256.size (k0_off14_inb i hc1)).toLoadRect) [(View.readAt (Elt F) arg12.view (Rect.unit (s := S2x32x256x256) (k0_off16 i) S1x1x256x256.size (k0_off16_inb i hc1)).toLoadRect (arg12.view.writes (Elt F) fs0 (kernelVal0_B.sl.HS0_2 c i arg3 harg3 x1)), View.readAt (Elt F) arg13.view (Rect.unit (s := S2x32x256x128) (k0_off17 i) S1x1x256x128.size (k0_off17_inb i hc1)).toLoadRect (arg13.view.writes (Elt F) fs1 (kernelVal0_B.sl.HS1_2 c i arg3 harg3 x1)), View.readAt (Elt F) arg14.view (Rect.unit (s := S2x32x256x256) (k0_off18 i) S1x1x256x256.size (k0_off18_inb i hc1)).toLoadRect (arg14.view.writes (Elt F) fs2 (kernelVal0_B.sl.HS2_2 c i arg4 harg4 x2)))]) shapeCasts_S256x256_S1x256x256) (by rfl)
          (congrArg (fun z => shapeCast S1x256x256 z shapeCasts_S256x256_S1x256x256) (attend_congr1
            (load_head (F := F) (e := .fp8e4m3) arg15.view (arg15.view.writes (Elt F) arg15.view.junk (kernelVal0_B.sl.HS3_8 c arg2 harg2 x0)) (fun h => codesV (qBlk h x0)) (h15 _) 5 ![5, 0, 0] rfl _) (load_row (F := F) (e := .f32) arg16.view (arg16.view.writes (Elt F) arg16.view.junk (kernelVal0_B.sl.HS4_8 c arg2 harg2 x0)) (fun h => srow (qBlk h x0)) (h16 _) 5 ![5, 0] rfl _)
            (own_codes _ _ _ _ _ (h12 _) hlt 1 _ ClosedOff.eq _)
            (own_scales _ _ _ _ _ (h13 _) hlt 1 _ ClosedOff.eq _)
            (own_values _ _ _ _ _ (h14 _) hlt 1 _ ClosedOff.eq _)
            (load_slot _ _ _ (h12s) 1 ((i 1).val - 1) (by omega) _ (ClosedOff.eq.trans (vec4 (by omega))) _)
            (load_slotLanes _ _ _ (h13s) 1 ((i 1).val - 1) (by omega) _ (ClosedOff.eq.trans (vec4 (by omega))) _)
            (load_slot _ _ _ (h14s) 1 ((i 1).val - 1) (by omega) _ (ClosedOff.eq.trans (vec4 (by omega))) _))))
      · exact (Eq.trans (b := shapeCast S1x256x256 (attend (arg15.view.readCov (kernelVal0_B.sl.HS3_8 c arg2 harg2 x0) (Rect.unit (s := S8x256x256) ![4, 0, 0] S1x256x256.size inb_S8x256x256_S1x256x256_4_0_0).toLoadRect) (arg16.view.readCov (kernelVal0_B.sl.HS4_8 c arg2 harg2 x0) (Rect.unit (s := S8x256) ![4, 0] S1x256.size inb_S8x256_S1x256_4_0).toLoadRect) (arg12.view.readCov (kernelVal0_B.sl.HS0_2 c i arg3 harg3 x1) (Rect.unit (s := S2x32x256x256) (k0_off14 i) S1x1x256x256.size (k0_off14_inb i hc1)).toLoadRect, arg13.view.readCov (kernelVal0_B.sl.HS1_2 c i arg3 harg3 x1) (Rect.unit (s := S2x32x256x128) (k0_off15 i) S1x1x256x128.size (k0_off15_inb i hc1)).toLoadRect, arg14.view.readCov (kernelVal0_B.sl.HS2_2 c i arg4 harg4 x2) (Rect.unit (s := S2x32x256x256) (k0_off14 i) S1x1x256x256.size (k0_off14_inb i hc1)).toLoadRect) [(View.readAt (Elt F) arg12.view (Rect.unit (s := S2x32x256x256) (k0_off16 i) S1x1x256x256.size (k0_off16_inb i hc1)).toLoadRect (arg12.view.writes (Elt F) fs0 (kernelVal0_B.sl.HS0_2 c i arg3 harg3 x1)), View.readAt (Elt F) arg13.view (Rect.unit (s := S2x32x256x128) (k0_off17 i) S1x1x256x128.size (k0_off17_inb i hc1)).toLoadRect (arg13.view.writes (Elt F) fs1 (kernelVal0_B.sl.HS1_2 c i arg3 harg3 x1)), View.readAt (Elt F) arg14.view (Rect.unit (s := S2x32x256x256) (k0_off18 i) S1x1x256x256.size (k0_off18_inb i hc1)).toLoadRect (arg14.view.writes (Elt F) fs2 (kernelVal0_B.sl.HS2_2 c i arg4 harg4 x2)))]) shapeCasts_S256x256_S1x256x256) (by rfl)
          (congrArg (fun z => shapeCast S1x256x256 z shapeCasts_S256x256_S1x256x256) (attend_congr1
            (load_head (F := F) (e := .fp8e4m3) arg15.view (arg15.view.writes (Elt F) arg15.view.junk (kernelVal0_B.sl.HS3_8 c arg2 harg2 x0)) (fun h => codesV (qBlk h x0)) (h15 _) 4 ![4, 0, 0] rfl _) (load_row (F := F) (e := .f32) arg16.view (arg16.view.writes (Elt F) arg16.view.junk (kernelVal0_B.sl.HS4_8 c arg2 harg2 x0)) (fun h => srow (qBlk h x0)) (h16 _) 4 ![4, 0] rfl _)
            (own_codes _ _ _ _ _ (h12 _) hlt 1 _ ClosedOff.eq _)
            (own_scales _ _ _ _ _ (h13 _) hlt 1 _ ClosedOff.eq _)
            (own_values _ _ _ _ _ (h14 _) hlt 1 _ ClosedOff.eq _)
            (load_slot _ _ _ (h12s) 1 ((i 1).val - 1) (by omega) _ (ClosedOff.eq.trans (vec4 (by omega))) _)
            (load_slotLanes _ _ _ (h13s) 1 ((i 1).val - 1) (by omega) _ (ClosedOff.eq.trans (vec4 (by omega))) _)
            (load_slot _ _ _ (h14s) 1 ((i 1).val - 1) (by omega) _ (ClosedOff.eq.trans (vec4 (by omega))) _))))
      · exact (Eq.trans (b := shapeCast S1x256x256 (attend (arg15.view.readCov (kernelVal0_B.sl.HS3_8 c arg2 harg2 x0) (Rect.unit (s := S8x256x256) ![3, 0, 0] S1x256x256.size inb_S8x256x256_S1x256x256_3_0_0).toLoadRect) (arg16.view.readCov (kernelVal0_B.sl.HS4_8 c arg2 harg2 x0) (Rect.unit (s := S8x256) ![3, 0] S1x256.size inb_S8x256_S1x256_3_0).toLoadRect) (arg12.view.readCov (kernelVal0_B.sl.HS0_2 c i arg3 harg3 x1) (Rect.unit (s := S2x32x256x256) (k0_off9 i) S1x1x256x256.size (k0_off9_inb i hc1)).toLoadRect, arg13.view.readCov (kernelVal0_B.sl.HS1_2 c i arg3 harg3 x1) (Rect.unit (s := S2x32x256x128) (k0_off10 i) S1x1x256x128.size (k0_off10_inb i hc1)).toLoadRect, arg14.view.readCov (kernelVal0_B.sl.HS2_2 c i arg4 harg4 x2) (Rect.unit (s := S2x32x256x256) (k0_off9 i) S1x1x256x256.size (k0_off9_inb i hc1)).toLoadRect) [(View.readAt (Elt F) arg12.view (Rect.unit (s := S2x32x256x256) (k0_off11 i) S1x1x256x256.size (k0_off11_inb i hc1)).toLoadRect (arg12.view.writes (Elt F) fs0 (kernelVal0_B.sl.HS0_2 c i arg3 harg3 x1)), View.readAt (Elt F) arg13.view (Rect.unit (s := S2x32x256x128) (k0_off12 i) S1x1x256x128.size (k0_off12_inb i hc1)).toLoadRect (arg13.view.writes (Elt F) fs1 (kernelVal0_B.sl.HS1_2 c i arg3 harg3 x1)), View.readAt (Elt F) arg14.view (Rect.unit (s := S2x32x256x256) (k0_off13 i) S1x1x256x256.size (k0_off13_inb i hc1)).toLoadRect (arg14.view.writes (Elt F) fs2 (kernelVal0_B.sl.HS2_2 c i arg4 harg4 x2)))]) shapeCasts_S256x256_S1x256x256) (by rfl)
          (congrArg (fun z => shapeCast S1x256x256 z shapeCasts_S256x256_S1x256x256) (attend_congr1
            (load_head (F := F) (e := .fp8e4m3) arg15.view (arg15.view.writes (Elt F) arg15.view.junk (kernelVal0_B.sl.HS3_8 c arg2 harg2 x0)) (fun h => codesV (qBlk h x0)) (h15 _) 3 ![3, 0, 0] rfl _) (load_row (F := F) (e := .f32) arg16.view (arg16.view.writes (Elt F) arg16.view.junk (kernelVal0_B.sl.HS4_8 c arg2 harg2 x0)) (fun h => srow (qBlk h x0)) (h16 _) 3 ![3, 0] rfl _)
            (own_codes _ _ _ _ _ (h12 _) hlt 0 _ ClosedOff.eq _)
            (own_scales _ _ _ _ _ (h13 _) hlt 0 _ ClosedOff.eq _)
            (own_values _ _ _ _ _ (h14 _) hlt 0 _ ClosedOff.eq _)
            (load_slot _ _ _ (h12s) 0 ((i 1).val - 1) (by omega) _ (ClosedOff.eq.trans (vec4 (by omega))) _)
            (load_slotLanes _ _ _ (h13s) 0 ((i 1).val - 1) (by omega) _ (ClosedOff.eq.trans (vec4 (by omega))) _)
            (load_slot _ _ _ (h14s) 0 ((i 1).val - 1) (by omega) _ (ClosedOff.eq.trans (vec4 (by omega))) _))))
      · exact (Eq.trans (b := shapeCast S1x256x256 (attend (arg15.view.readCov (kernelVal0_B.sl.HS3_8 c arg2 harg2 x0) (Rect.unit (s := S8x256x256) ![2, 0, 0] S1x256x256.size inb_S8x256x256_S1x256x256_2_0_0).toLoadRect) (arg16.view.readCov (kernelVal0_B.sl.HS4_8 c arg2 harg2 x0) (Rect.unit (s := S8x256) ![2, 0] S1x256.size inb_S8x256_S1x256_2_0).toLoadRect) (arg12.view.readCov (kernelVal0_B.sl.HS0_2 c i arg3 harg3 x1) (Rect.unit (s := S2x32x256x256) (k0_off9 i) S1x1x256x256.size (k0_off9_inb i hc1)).toLoadRect, arg13.view.readCov (kernelVal0_B.sl.HS1_2 c i arg3 harg3 x1) (Rect.unit (s := S2x32x256x128) (k0_off10 i) S1x1x256x128.size (k0_off10_inb i hc1)).toLoadRect, arg14.view.readCov (kernelVal0_B.sl.HS2_2 c i arg4 harg4 x2) (Rect.unit (s := S2x32x256x256) (k0_off9 i) S1x1x256x256.size (k0_off9_inb i hc1)).toLoadRect) [(View.readAt (Elt F) arg12.view (Rect.unit (s := S2x32x256x256) (k0_off11 i) S1x1x256x256.size (k0_off11_inb i hc1)).toLoadRect (arg12.view.writes (Elt F) fs0 (kernelVal0_B.sl.HS0_2 c i arg3 harg3 x1)), View.readAt (Elt F) arg13.view (Rect.unit (s := S2x32x256x128) (k0_off12 i) S1x1x256x128.size (k0_off12_inb i hc1)).toLoadRect (arg13.view.writes (Elt F) fs1 (kernelVal0_B.sl.HS1_2 c i arg3 harg3 x1)), View.readAt (Elt F) arg14.view (Rect.unit (s := S2x32x256x256) (k0_off13 i) S1x1x256x256.size (k0_off13_inb i hc1)).toLoadRect (arg14.view.writes (Elt F) fs2 (kernelVal0_B.sl.HS2_2 c i arg4 harg4 x2)))]) shapeCasts_S256x256_S1x256x256) (by rfl)
          (congrArg (fun z => shapeCast S1x256x256 z shapeCasts_S256x256_S1x256x256) (attend_congr1
            (load_head (F := F) (e := .fp8e4m3) arg15.view (arg15.view.writes (Elt F) arg15.view.junk (kernelVal0_B.sl.HS3_8 c arg2 harg2 x0)) (fun h => codesV (qBlk h x0)) (h15 _) 2 ![2, 0, 0] rfl _) (load_row (F := F) (e := .f32) arg16.view (arg16.view.writes (Elt F) arg16.view.junk (kernelVal0_B.sl.HS4_8 c arg2 harg2 x0)) (fun h => srow (qBlk h x0)) (h16 _) 2 ![2, 0] rfl _)
            (own_codes _ _ _ _ _ (h12 _) hlt 0 _ ClosedOff.eq _)
            (own_scales _ _ _ _ _ (h13 _) hlt 0 _ ClosedOff.eq _)
            (own_values _ _ _ _ _ (h14 _) hlt 0 _ ClosedOff.eq _)
            (load_slot _ _ _ (h12s) 0 ((i 1).val - 1) (by omega) _ (ClosedOff.eq.trans (vec4 (by omega))) _)
            (load_slotLanes _ _ _ (h13s) 0 ((i 1).val - 1) (by omega) _ (ClosedOff.eq.trans (vec4 (by omega))) _)
            (load_slot _ _ _ (h14s) 0 ((i 1).val - 1) (by omega) _ (ClosedOff.eq.trans (vec4 (by omega))) _))))
      · exact (Eq.trans (b := shapeCast S1x256x256 (attend (arg15.view.readCov (kernelVal0_B.sl.HS3_8 c arg2 harg2 x0) (Rect.unit (s := S8x256x256) ![1, 0, 0] S1x256x256.size inb_S8x256x256_S1x256x256_1_0_0).toLoadRect) (arg16.view.readCov (kernelVal0_B.sl.HS4_8 c arg2 harg2 x0) (Rect.unit (s := S8x256) ![1, 0] S1x256.size inb_S8x256_S1x256_1_0).toLoadRect) (arg12.view.readCov (kernelVal0_B.sl.HS0_2 c i arg3 harg3 x1) (Rect.unit (s := S2x32x256x256) (k0_off9 i) S1x1x256x256.size (k0_off9_inb i hc1)).toLoadRect, arg13.view.readCov (kernelVal0_B.sl.HS1_2 c i arg3 harg3 x1) (Rect.unit (s := S2x32x256x128) (k0_off10 i) S1x1x256x128.size (k0_off10_inb i hc1)).toLoadRect, arg14.view.readCov (kernelVal0_B.sl.HS2_2 c i arg4 harg4 x2) (Rect.unit (s := S2x32x256x256) (k0_off9 i) S1x1x256x256.size (k0_off9_inb i hc1)).toLoadRect) [(View.readAt (Elt F) arg12.view (Rect.unit (s := S2x32x256x256) (k0_off11 i) S1x1x256x256.size (k0_off11_inb i hc1)).toLoadRect (arg12.view.writes (Elt F) fs0 (kernelVal0_B.sl.HS0_2 c i arg3 harg3 x1)), View.readAt (Elt F) arg13.view (Rect.unit (s := S2x32x256x128) (k0_off12 i) S1x1x256x128.size (k0_off12_inb i hc1)).toLoadRect (arg13.view.writes (Elt F) fs1 (kernelVal0_B.sl.HS1_2 c i arg3 harg3 x1)), View.readAt (Elt F) arg14.view (Rect.unit (s := S2x32x256x256) (k0_off13 i) S1x1x256x256.size (k0_off13_inb i hc1)).toLoadRect (arg14.view.writes (Elt F) fs2 (kernelVal0_B.sl.HS2_2 c i arg4 harg4 x2)))]) shapeCasts_S256x256_S1x256x256) (by rfl)
          (congrArg (fun z => shapeCast S1x256x256 z shapeCasts_S256x256_S1x256x256) (attend_congr1
            (load_head (F := F) (e := .fp8e4m3) arg15.view (arg15.view.writes (Elt F) arg15.view.junk (kernelVal0_B.sl.HS3_8 c arg2 harg2 x0)) (fun h => codesV (qBlk h x0)) (h15 _) 1 ![1, 0, 0] rfl _) (load_row (F := F) (e := .f32) arg16.view (arg16.view.writes (Elt F) arg16.view.junk (kernelVal0_B.sl.HS4_8 c arg2 harg2 x0)) (fun h => srow (qBlk h x0)) (h16 _) 1 ![1, 0] rfl _)
            (own_codes _ _ _ _ _ (h12 _) hlt 0 _ ClosedOff.eq _)
            (own_scales _ _ _ _ _ (h13 _) hlt 0 _ ClosedOff.eq _)
            (own_values _ _ _ _ _ (h14 _) hlt 0 _ ClosedOff.eq _)
            (load_slot _ _ _ (h12s) 0 ((i 1).val - 1) (by omega) _ (ClosedOff.eq.trans (vec4 (by omega))) _)
            (load_slotLanes _ _ _ (h13s) 0 ((i 1).val - 1) (by omega) _ (ClosedOff.eq.trans (vec4 (by omega))) _)
            (load_slot _ _ _ (h14s) 0 ((i 1).val - 1) (by omega) _ (ClosedOff.eq.trans (vec4 (by omega))) _))))
      · exact (Eq.trans (b := shapeCast S1x256x256 (attend (arg15.view.readCov (kernelVal0_B.sl.HS3_8 c arg2 harg2 x0) (Rect.unit (s := S8x256x256) ![0, 0, 0] S1x256x256.size inb_S8x256x256_S1x256x256_0_0_0).toLoadRect) (arg16.view.readCov (kernelVal0_B.sl.HS4_8 c arg2 harg2 x0) (Rect.unit (s := S8x256) ![0, 0] S1x256.size inb_S8x256_S1x256_0_0).toLoadRect) (arg12.view.readCov (kernelVal0_B.sl.HS0_2 c i arg3 harg3 x1) (Rect.unit (s := S2x32x256x256) (k0_off9 i) S1x1x256x256.size (k0_off9_inb i hc1)).toLoadRect, arg13.view.readCov (kernelVal0_B.sl.HS1_2 c i arg3 harg3 x1) (Rect.unit (s := S2x32x256x128) (k0_off10 i) S1x1x256x128.size (k0_off10_inb i hc1)).toLoadRect, arg14.view.readCov (kernelVal0_B.sl.HS2_2 c i arg4 harg4 x2) (Rect.unit (s := S2x32x256x256) (k0_off9 i) S1x1x256x256.size (k0_off9_inb i hc1)).toLoadRect) [(View.readAt (Elt F) arg12.view (Rect.unit (s := S2x32x256x256) (k0_off11 i) S1x1x256x256.size (k0_off11_inb i hc1)).toLoadRect (arg12.view.writes (Elt F) fs0 (kernelVal0_B.sl.HS0_2 c i arg3 harg3 x1)), View.readAt (Elt F) arg13.view (Rect.unit (s := S2x32x256x128) (k0_off12 i) S1x1x256x128.size (k0_off12_inb i hc1)).toLoadRect (arg13.view.writes (Elt F) fs1 (kernelVal0_B.sl.HS1_2 c i arg3 harg3 x1)), View.readAt (Elt F) arg14.view (Rect.unit (s := S2x32x256x256) (k0_off13 i) S1x1x256x256.size (k0_off13_inb i hc1)).toLoadRect (arg14.view.writes (Elt F) fs2 (kernelVal0_B.sl.HS2_2 c i arg4 harg4 x2)))]) shapeCasts_S256x256_S1x256x256) (by rfl)
          (congrArg (fun z => shapeCast S1x256x256 z shapeCasts_S256x256_S1x256x256) (attend_congr1
            (load_head (F := F) (e := .fp8e4m3) arg15.view (arg15.view.writes (Elt F) arg15.view.junk (kernelVal0_B.sl.HS3_8 c arg2 harg2 x0)) (fun h => codesV (qBlk h x0)) (h15 _) 0 ![0, 0, 0] rfl _) (load_row (F := F) (e := .f32) arg16.view (arg16.view.writes (Elt F) arg16.view.junk (kernelVal0_B.sl.HS4_8 c arg2 harg2 x0)) (fun h => srow (qBlk h x0)) (h16 _) 0 ![0, 0] rfl _)
            (own_codes _ _ _ _ _ (h12 _) hlt 0 _ ClosedOff.eq _)
            (own_scales _ _ _ _ _ (h13 _) hlt 0 _ ClosedOff.eq _)
            (own_values _ _ _ _ _ (h14 _) hlt 0 _ ClosedOff.eq _)
            (load_slot _ _ _ (h12s) 0 ((i 1).val - 1) (by omega) _ (ClosedOff.eq.trans (vec4 (by omega))) _)
            (load_slotLanes _ _ _ (h13s) 0 ((i 1).val - 1) (by omega) _ (ClosedOff.eq.trans (vec4 (by omega))) _)
            (load_slot _ _ _ (h14s) 0 ((i 1).val - 1) (by omega) _ (ClosedOff.eq.trans (vec4 (by omega))) _))))
    isplitl [H4]
    · iexists _; isplitr; swap; · iexact H4
      ipureintro
      refine packs4 _ _ (packV x0) _ _ _ _ _ _ _ _ ?_ ?_ ?_ ?_
      · exact (by dsimp only [packV]; rw [← load_q arg2 harg2 x0 4 ![0, 0, 1024] rfl (inb_S1x256x2048_S1x256x256_0_0_1024), ← load_q arg2 harg2 x0 5 ![0, 0, 1280] rfl (inb_S1x256x2048_S1x256x256_0_0_1280), ← load_q arg2 harg2 x0 6 ![0, 0, 1536] rfl (inb_S1x256x2048_S1x256x256_0_0_1536), ← load_q arg2 harg2 x0 7 ![0, 0, 1792] rfl (inb_S1x256x2048_S1x256x256_0_0_1792)]; rfl)
      · exact (by dsimp only [packV]; rw [← load_q arg2 harg2 x0 4 ![0, 0, 1024] rfl (inb_S1x256x2048_S1x256x256_0_0_1024), ← load_q arg2 harg2 x0 5 ![0, 0, 1280] rfl (inb_S1x256x2048_S1x256x256_0_0_1280), ← load_q arg2 harg2 x0 6 ![0, 0, 1536] rfl (inb_S1x256x2048_S1x256x256_0_0_1536), ← load_q arg2 harg2 x0 7 ![0, 0, 1792] rfl (inb_S1x256x2048_S1x256x256_0_0_1792)]; rfl)
      · exact (by dsimp only [packV]; rw [← load_q arg2 harg2 x0 0 ![0, 0, 0] rfl (inb_S1x256x2048_S1x256x256_0_0_0), ← load_q arg2 harg2 x0 1 ![0, 0, 256] rfl (inb_S1x256x2048_S1x256x256_0_0_256), ← load_q arg2 harg2 x0 2 ![0, 0, 512] rfl (inb_S1x256x2048_S1x256x256_0_0_512), ← load_q arg2 harg2 x0 3 ![0, 0, 768] rfl (inb_S1x256x2048_S1x256x256_0_0_768)]; rfl)
      · exact (by dsimp only [packV]; rw [← load_q arg2 harg2 x0 0 ![0, 0, 0] rfl (inb_S1x256x2048_S1x256x256_0_0_0), ← load_q arg2 harg2 x0 1 ![0, 0, 256] rfl (inb_S1x256x2048_S1x256x256_0_0_256), ← load_q arg2 harg2 x0 2 ![0, 0, 512] rfl (inb_S1x256x2048_S1x256x256_0_0_512), ← load_q arg2 harg2 x0 3 ![0, 0, 768] rfl (inb_S1x256x2048_S1x256x256_0_0_768)]; rfl)
    isplitl [H5]
    · iexists _; isplitr; swap; · iexact H5
      ipureintro
      refine lines8 _ _ (fun h => srow (qBlk h x0)) _ _ _ _ _ _ _ _ _ _ _ _ _ _ _ _ ?_ ?_ ?_ ?_ ?_ ?_ ?_ ?_
      · exact (by rw [← load_q arg2 harg2 x0 7 ![0, 0, 1792] rfl (inb_S1x256x2048_S1x256x256_0_0_1792)]; rfl)
      · exact (by rw [← load_q arg2 harg2 x0 6 ![0, 0, 1536] rfl (inb_S1x256x2048_S1x256x256_0_0_1536)]; rfl)
      · exact (by rw [← load_q arg2 harg2 x0 5 ![0, 0, 1280] rfl (inb_S1x256x2048_S1x256x256_0_0_1280)]; rfl)
      · exact (by rw [← load_q arg2 harg2 x0 4 ![0, 0, 1024] rfl (inb_S1x256x2048_S1x256x256_0_0_1024)]; rfl)
      · exact (by rw [← load_q arg2 harg2 x0 3 ![0, 0, 768] rfl (inb_S1x256x2048_S1x256x256_0_0_768)]; rfl)
      · exact (by rw [← load_q arg2 harg2 x0 2 ![0, 0, 512] rfl (inb_S1x256x2048_S1x256x256_0_0_512)]; rfl)
      · exact (by rw [← load_q arg2 harg2 x0 1 ![0, 0, 256] rfl (inb_S1x256x2048_S1x256x256_0_0_256)]; rfl)
      · exact (by rw [← load_q arg2 harg2 x0 0 ![0, 0, 0] rfl (inb_S1x256x2048_S1x256x256_0_0_0)]; rfl)
    isplitl [H6]
    · iexists _; isplitr; swap; · iexact H6
      ipureintro
      refine planes (F := F) (e := .fp8e4m3) arg8.view _ (fun g => codesV (kBlk g x1)) _ _ _ _ ?_ ?_
      · exact (by rw [← load_k1 arg3 harg3 x1 (inb_S1x256x512_S1x256x256_0_0_256)]; rfl)
      · exact (by rw [← load_k0 arg3 harg3 x1 (inb_S1x256x512_S1x256x256_0_0_0)]; rfl)
    isplitl [H7]
    · iexists _; isplitr; swap; · iexact H7
      ipureintro
      refine lines2 _ _ (fun g => srow (kBlk g x1)) _ _ _ _ ?_ ?_
      · exact (by rw [← load_k1 arg3 harg3 x1 (inb_S1x256x512_S1x256x256_0_0_256)]; rfl)
      · exact (by rw [← load_k0 arg3 harg3 x1 (inb_S1x256x512_S1x256x256_0_0_0)]; rfl)
    isplitl [H8]
    · iexists _; isplitr; swap; · iexact H8
      ipureintro
      refine planes (F := F) (e := .fp8e4m3) arg10.view _ (fun g => codesV (kBlk g x2)) _ _ _ _ ?_ ?_
      · exact (by rw [← load_k1 arg4 harg4 x2 (inb_S1x256x512_S1x256x256_0_0_256)]; rfl)
      · exact (by rw [← load_k0 arg4 harg4 x2 (inb_S1x256x512_S1x256x256_0_0_0)]; rfl)
    isplitl [H9]
    · iexists _; isplitr; swap; · iexact H9
      ipureintro
      refine lines2 _ _ (fun g => srow (kBlk g x2)) _ _ _ _ ?_ ?_
      · exact (by rw [← load_k1 arg4 harg4 x2 (inb_S1x256x512_S1x256x256_0_0_256)]; rfl)
      · exact (by rw [← load_k0 arg4 harg4 x2 (inb_S1x256x512_S1x256x256_0_0_0)]; rfl)
    isplitl [HS0]
    · iexists _; isplitr; swap; · iexact HS0
      ipureintro; exact h12s
    isplitl [HS1]
    · iexists _; isplitr; swap; · iexact HS1
      ipureintro; exact h13s
    isplitl [HS2]
    · iexists _; isplitr; swap; · iexact HS2
      ipureintro; exact h14s
    isplitl [HS3]
    · iexists _, _; isplitr; swap; · iexact HS3
      ipureintro; rfl
    iexists _, _; isplitr; swap; · iexact HS4
    ipureintro; rfl

end Cert.KernelIdeal.Spec

end
-- ==== Proof.ValueC.lean ====
module

public import proofs.«01_k».proof.Proof.KernelIdealCases
public import proofs.«01_k».proof.Proof.Pieces

/-! What the body computes on the third tile. -/

@[expose] public section

-- membership in a rectangle of production extents (`View.cover_of_tiled`): the elaborator's structural look
-- recurses once per coordinate of the long axes
set_option maxRecDepth 16384

noncomputable section

namespace Cert.KernelIdeal.Spec

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 8000000 in
/-- The body on the third tile: from the blocks of its inputs and the rings, its outputs and the rings after it. -/
theorem kernelVal0_C (c : Dev nD) (i : grid0.Coords) (arg2 : Memref sig .tc .vmem S1x256x2048 .bf16) (harg2 : arg2.IsWhole) (arg3 : Memref sig .tc .vmem S1x256x512 .bf16) (harg3 : arg3.IsWhole) (arg4 : Memref sig .tc .vmem S1x256x512 .bf16) (harg4 : arg4.IsWhole) (arg5 : Memref sig .tc .vmem S1x256x2048 .bf16) (harg5 : arg5.IsWhole) (arg6 : Memref sig .tc .vmem S1x256x2x8x128 .fp8e4m3) (harg6 : arg6.IsWhole) (arg7 : Memref sig .tc .vmem S1x8x256 .f32) (harg7 : arg7.IsWhole) (arg8 : Memref sig .tc .vmem S1x2x256x256 .fp8e4m3) (harg8 : arg8.IsWhole) (arg9 : Memref sig .tc .vmem S1x2x256 .f32) (harg9 : arg9.IsWhole) (arg10 : Memref sig .tc .vmem S1x2x256x256 .fp8e4m3) (harg10 : arg10.IsWhole) (arg11 : Memref sig .tc .vmem S1x2x256 .f32) (harg11 : arg11.IsWhole) (arg12 : Memref sig .tc .vmem S2x32x256x256 .fp8e4m3) (harg12 : arg12.IsWhole) (arg13 : Memref sig .tc .vmem S2x32x256x128 .f32) (harg13 : arg13.IsWhole) (arg14 : Memref sig .tc .vmem S2x32x256x256 .bf16) (harg14 : arg14.IsWhole) (arg15 : Memref sig .tc .vmem S8x256x256 .fp8e4m3) (harg15 : arg15.IsWhole) (arg16 : Memref sig .tc .vmem S8x256 .f32) (harg16 : arg16.IsWhole) (hc0 : ¬cond0_0 i) (hc1 : ¬cond0_1 i) (hc2 : cond0_2 i) (hc3 : ¬cond0_3 i) (hc4 : ¬cond0_4 i)
    (hi : (i 1).val = 2) (x0 : Vec F S1x256x2048 .bf16) (x1 : Vec F S1x256x512 .bf16) (x2 : Vec F S1x256x512 .bf16)
    (s0 : Vec F S2x32x256x256 .fp8e4m3) (s1 : Vec F S2x32x256x128 .f32) (s2 : Vec F S2x32x256x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare s0 ∗ owns (c : Thread nD τ) arg13 fullShare s1 ∗ owns (c : Thread nD τ) arg14 fullShare s2 ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare (oOut 2 (i 1).val x0 (ringK (i 1).val x1 s0) (ringS (i 1).val x1 s1) (ringV (i 1).val x2 s2)) ∗ owns (c : Thread nD τ) arg6 fullShare (oQCodes x0) ∗ owns (c : Thread nD τ) arg7 fullShare (oQScales x0) ∗ owns (c : Thread nD τ) arg8 fullShare (oCodes x1) ∗ owns (c : Thread nD τ) arg9 fullShare (oScales x1) ∗ owns (c : Thread nD τ) arg10 fullShare (oCodes x2) ∗ owns (c : Thread nD τ) arg11 fullShare (oScales x2) ∗ owns (c : Thread nD τ) arg12 fullShare (ringK (i 1).val x1 s0) ∗ owns (c : Thread nD τ) arg13 fullShare (ringS (i 1).val x1 s1) ∗ owns (c : Thread nD τ) arg14 fullShare (ringV (i 1).val x2 s2) ∗ (∃ d, owns (c : Thread nD τ) arg15 fullShare d) ∗ (∃ d, owns (c : Thread nD τ) arg16 fullShare d)) -∗ K ⟨⟩))
          ⊢ wp frame (wpE (defs₀ (F := F)) Variants.none c none) E (cc0_swa_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_swa_fp8_eq_skeleton]; unfold cc0_swa_fp8_skel
    simp only [k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%fs0, %hfs0, HS0⟩, ⟨%fs1, %hfs1, HS1⟩, ⟨%fs2, %hfs2, HS2⟩, ⟨%ds3, %fs3, -, HS3⟩, ⟨%ds4, %fs4, -, HS4⟩, Hk⟩
    obtain rfl := harg2.eq_unread hf0; obtain rfl := harg3.eq_unread hf1; obtain rfl := harg4.eq_unread hf2
    sl_exec (disch := first | sl_exact hc0 | sl_exact hc1 | sl_exact hc2 | sl_exact hc3 | sl_exact hc4)
    sl_step
    have h12 : ∀ f, arg12.view.read (Elt F) (arg12.view.writes (Elt F) f (kernelVal0_C.sl.HS0_2 c i arg3 harg3 x1)) = ringK (i 1).val x1 (arg12.view.read (Elt F) f) := fun f =>
      ring _ f _ (fun g => codesV (kBlk g x1)) _ _ _ _ _ _ ClosedOff.eq ClosedOff.eq
        (by rw [← load_k1 arg3 harg3 x1 (inb_S1x256x512_S1x256x256_0_0_256)]; rfl) (by rw [← load_k0 arg3 harg3 x1 (inb_S1x256x512_S1x256x256_0_0_0)]; rfl)
    have h13 : ∀ f, arg13.view.read (Elt F) (arg13.view.writes (Elt F) f (kernelVal0_C.sl.HS1_2 c i arg3 harg3 x1)) = ringS (i 1).val x1 (arg13.view.read (Elt F) f) := fun f =>
      ringLanes _ f _ (fun g => slanes (kBlk g x1)) _ _ _ _ _ _ ClosedOff.eq ClosedOff.eq
        (by rw [← load_k1 arg3 harg3 x1 (inb_S1x256x512_S1x256x256_0_0_256)]; rfl) (by rw [← load_k0 arg3 harg3 x1 (inb_S1x256x512_S1x256x256_0_0_0)]; rfl)
    have h14 : ∀ f, arg14.view.read (Elt F) (arg14.view.writes (Elt F) f (kernelVal0_C.sl.HS2_2 c i arg4 harg4 x2)) = ringV (i 1).val x2 (arg14.view.read (Elt F) f) := fun f =>
      ring _ f _ (fun g => valsV (kBlk g x2)) _ _ _ _ _ _ ClosedOff.eq ClosedOff.eq
        (by rw [← load_k1 arg4 harg4 x2 (inb_S1x256x512_S1x256x256_0_0_256)]; rfl) (by rw [← load_k0 arg4 harg4 x2 (inb_S1x256x512_S1x256x256_0_0_0)]; rfl)
    have hlt : (i 1).val < 32 := (i 1).isLt
    have h12s := (h12 fs0).trans (congrArg (ringK (i 1).val x1) hfs0)
    have h13s := (h13 fs1).trans (congrArg (ringS (i 1).val x1) hfs1)
    have h14s := (h14 fs2).trans (congrArg (ringV (i 1).val x2) hfs2)
    have h15 : ∀ f, arg15.view.read (Elt F) (arg15.view.writes (Elt F) f (kernelVal0_C.sl.HS3_8 c arg2 harg2 x0)) = fun y => codesV (qBlk (y 0) x0) (ix2 (y 1) (y 2)) := fun f =>
      heads8 _ f (fun h => codesV (qBlk h x0)) _ _ _ _ _ _ _ _ _ _ _ _ _ _ _ _
        (by rw [← load_q arg2 harg2 x0 7 ![0, 0, 1792] rfl (inb_S1x256x2048_S1x256x256_0_0_1792)]; rfl) (by rw [← load_q arg2 harg2 x0 6 ![0, 0, 1536] rfl (inb_S1x256x2048_S1x256x256_0_0_1536)]; rfl) (by rw [← load_q arg2 harg2 x0 5 ![0, 0, 1280] rfl (inb_S1x256x2048_S1x256x256_0_0_1280)]; rfl) (by rw [← load_q arg2 harg2 x0 4 ![0, 0, 1024] rfl (inb_S1x256x2048_S1x256x256_0_0_1024)]; rfl) (by rw [← load_q arg2 harg2 x0 3 ![0, 0, 768] rfl (inb_S1x256x2048_S1x256x256_0_0_768)]; rfl) (by rw [← load_q arg2 harg2 x0 2 ![0, 0, 512] rfl (inb_S1x256x2048_S1x256x256_0_0_512)]; rfl) (by rw [← load_q arg2 harg2 x0 1 ![0, 0, 256] rfl (inb_S1x256x2048_S1x256x256_0_0_256)]; rfl) (by rw [← load_q arg2 harg2 x0 0 ![0, 0, 0] rfl (inb_S1x256x2048_S1x256x256_0_0_0)]; rfl)
    have h16 : ∀ f, arg16.view.read (Elt F) (arg16.view.writes (Elt F) f (kernelVal0_C.sl.HS4_8 c arg2 harg2 x0)) = fun y => srow (qBlk (y 0) x0) (ix2 0 (y 1)) := fun f =>
      rows8 _ f (fun h => srow (qBlk h x0)) _ _ _ _ _ _ _ _ _ _ _ _ _ _ _ _
        (by rw [← load_q arg2 harg2 x0 7 ![0, 0, 1792] rfl (inb_S1x256x2048_S1x256x256_0_0_1792)]; rfl) (by rw [← load_q arg2 harg2 x0 6 ![0, 0, 1536] rfl (inb_S1x256x2048_S1x256x256_0_0_1536)]; rfl) (by rw [← load_q arg2 harg2 x0 5 ![0, 0, 1280] rfl (inb_S1x256x2048_S1x256x256_0_0_1280)]; rfl) (by rw [← load_q arg2 harg2 x0 4 ![0, 0, 1024] rfl (inb_S1x256x2048_S1x256x256_0_0_1024)]; rfl) (by rw [← load_q arg2 harg2 x0 3 ![0, 0, 768] rfl (inb_S1x256x2048_S1x256x256_0_0_768)]; rfl) (by rw [← load_q arg2 harg2 x0 2 ![0, 0, 512] rfl (inb_S1x256x2048_S1x256x256_0_0_512)]; rfl) (by rw [← load_q arg2 harg2 x0 1 ![0, 0, 256] rfl (inb_S1x256x2048_S1x256x256_0_0_256)]; rfl) (by rw [← load_q arg2 harg2 x0 0 ![0, 0, 0] rfl (inb_S1x256x2048_S1x256x256_0_0_0)]; rfl)
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      refine cols8 _ _ (fun h => headOut 2 (i 1).val h x0 (ringK (i 1).val x1 s0) (ringS (i 1).val x1 s1) (ringV (i 1).val x2 s2)) _ _ _ _ _ _ _ _ _ _ _ _ _ _ _ _ ?_ ?_ ?_ ?_ ?_ ?_ ?_ ?_
      · exact (Eq.trans (b := shapeCast S1x256x256 (attend (arg15.view.readCov (kernelVal0_C.sl.HS3_8 c arg2 harg2 x0) (Rect.unit (s := S8x256x256) ![7, 0, 0] S1x256x256.size inb_S8x256x256_S1x256x256_7_0_0).toLoadRect) (arg16.view.readCov (kernelVal0_C.sl.HS4_8 c arg2 harg2 x0) (Rect.unit (s := S8x256) ![7, 0] S1x256.size inb_S8x256_S1x256_7_0).toLoadRect) (arg12.view.readCov (kernelVal0_C.sl.HS0_2 c i arg3 harg3 x1) (Rect.unit (s := S2x32x256x256) (k0_off24 i) S1x1x256x256.size (k0_off24_inb i hc2)).toLoadRect, arg13.view.readCov (kernelVal0_C.sl.HS1_2 c i arg3 harg3 x1) (Rect.unit (s := S2x32x256x128) (k0_off25 i) S1x1x256x128.size (k0_off25_inb i hc2)).toLoadRect, arg14.view.readCov (kernelVal0_C.sl.HS2_2 c i arg4 harg4 x2) (Rect.unit (s := S2x32x256x256) (k0_off24 i) S1x1x256x256.size (k0_off24_inb i hc2)).toLoadRect) [(View.readAt (Elt F) arg12.view (Rect.unit (s := S2x32x256x256) (k0_off26 i 1#32) S1x1x256x256.size (k0_off26_inb i hc2 0)).toLoadRect (arg12.view.writes (Elt F) fs0 (kernelVal0_C.sl.HS0_2 c i arg3 harg3 x1)), View.readAt (Elt F) arg13.view (Rect.unit (s := S2x32x256x128) (k0_off27 i 1#32) S1x1x256x128.size (k0_off27_inb i hc2 0)).toLoadRect (arg13.view.writes (Elt F) fs1 (kernelVal0_C.sl.HS1_2 c i arg3 harg3 x1)), View.readAt (Elt F) arg14.view (Rect.unit (s := S2x32x256x256) (k0_off28 i 0#32) S1x1x256x256.size (k0_off28_inb i hc2 0)).toLoadRect (arg14.view.writes (Elt F) fs2 (kernelVal0_C.sl.HS2_2 c i arg4 harg4 x2))), (View.readAt (Elt F) arg12.view (Rect.unit (s := S2x32x256x256) (k0_off26 i 2#32) S1x1x256x256.size (k0_off26_inb i hc2 1)).toLoadRect (arg12.view.writes (Elt F) fs0 (kernelVal0_C.sl.HS0_2 c i arg3 harg3 x1)), View.readAt (Elt F) arg13.view (Rect.unit (s := S2x32x256x128) (k0_off27 i 2#32) S1x1x256x128.size (k0_off27_inb i hc2 1)).toLoadRect (arg13.view.writes (Elt F) fs1 (kernelVal0_C.sl.HS1_2 c i arg3 harg3 x1)), View.readAt (Elt F) arg14.view (Rect.unit (s := S2x32x256x256) (k0_off28 i 1#32) S1x1x256x256.size (k0_off28_inb i hc2 1)).toLoadRect (arg14.view.writes (Elt F) fs2 (kernelVal0_C.sl.HS2_2 c i arg4 harg4 x2)))]) shapeCasts_S256x256_S1x256x256) (by rfl)
          (congrArg (fun z => shapeCast S1x256x256 z shapeCasts_S256x256_S1x256x256) (attend_congr2
            (load_head (F := F) (e := .fp8e4m3) arg15.view (arg15.view.writes (Elt F) arg15.view.junk (kernelVal0_C.sl.HS3_8 c arg2 harg2 x0)) (fun h => codesV (qBlk h x0)) (h15 _) 7 ![7, 0, 0] rfl _) (load_row (F := F) (e := .f32) arg16.view (arg16.view.writes (Elt F) arg16.view.junk (kernelVal0_C.sl.HS4_8 c arg2 harg2 x0)) (fun h => srow (qBlk h x0)) (h16 _) 7 ![7, 0] rfl _)
            (own_codes _ _ _ _ _ (h12 _) hlt 1 _ ClosedOff.eq _)
            (own_scales _ _ _ _ _ (h13 _) hlt 1 _ ClosedOff.eq _)
            (own_values _ _ _ _ _ (h14 _) hlt 1 _ ClosedOff.eq _)
            (load_slot _ _ _ (h12s) 1 ((i 1).val - 1) (by omega) _ (ClosedOff.eq.trans (vec4 (by omega))) _)
            (load_slotLanes _ _ _ (h13s) 1 ((i 1).val - 1) (by omega) _ (ClosedOff.eq.trans (vec4 (by omega))) _)
            (load_slot _ _ _ (h14s) 1 ((i 1).val - 1) (by omega) _ (ClosedOff.eq.trans (vec4 (by omega))) _)
            (load_slot _ _ _ (h12s) 1 ((i 1).val - 2) (by omega) _ (ClosedOff.eq.trans (vec4 (by omega))) _)
            (load_slotLanes _ _ _ (h13s) 1 ((i 1).val - 2) (by omega) _ (ClosedOff.eq.trans (vec4 (by omega))) _)
            (load_slot _ _ _ (h14s) 1 ((i 1).val - 2) (by omega) _ (ClosedOff.eq.trans (vec4 (by omega))) _))))
      · exact (Eq.trans (b := shapeCast S1x256x256 (attend (arg15.view.readCov (kernelVal0_C.sl.HS3_8 c arg2 harg2 x0) (Rect.unit (s := S8x256x256) ![6, 0, 0] S1x256x256.size inb_S8x256x256_S1x256x256_6_0_0).toLoadRect) (arg16.view.readCov (kernelVal0_C.sl.HS4_8 c arg2 harg2 x0) (Rect.unit (s := S8x256) ![6, 0] S1x256.size inb_S8x256_S1x256_6_0).toLoadRect) (arg12.view.readCov (kernelVal0_C.sl.HS0_2 c i arg3 harg3 x1) (Rect.unit (s := S2x32x256x256) (k0_off24 i) S1x1x256x256.size (k0_off24_inb i hc2)).toLoadRect, arg13.view.readCov (kernelVal0_C.sl.HS1_2 c i arg3 harg3 x1) (Rect.unit (s := S2x32x256x128) (k0_off25 i) S1x1x256x128.size (k0_off25_inb i hc2)).toLoadRect, arg14.view.readCov (kernelVal0_C.sl.HS2_2 c i arg4 harg4 x2) (Rect.unit (s := S2x32x256x256) (k0_off24 i) S1x1x256x256.size (k0_off24_inb i hc2)).toLoadRect) [(View.readAt (Elt F) arg12.view (Rect.unit (s := S2x32x256x256) (k0_off26 i 1#32) S1x1x256x256.size (k0_off26_inb i hc2 0)).toLoadRect (arg12.view.writes (Elt F) fs0 (kernelVal0_C.sl.HS0_2 c i arg3 harg3 x1)), View.readAt (Elt F) arg13.view (Rect.unit (s := S2x32x256x128) (k0_off27 i 1#32) S1x1x256x128.size (k0_off27_inb i hc2 0)).toLoadRect (arg13.view.writes (Elt F) fs1 (kernelVal0_C.sl.HS1_2 c i arg3 harg3 x1)), View.readAt (Elt F) arg14.view (Rect.unit (s := S2x32x256x256) (k0_off28 i 0#32) S1x1x256x256.size (k0_off28_inb i hc2 0)).toLoadRect (arg14.view.writes (Elt F) fs2 (kernelVal0_C.sl.HS2_2 c i arg4 harg4 x2))), (View.readAt (Elt F) arg12.view (Rect.unit (s := S2x32x256x256) (k0_off26 i 2#32) S1x1x256x256.size (k0_off26_inb i hc2 1)).toLoadRect (arg12.view.writes (Elt F) fs0 (kernelVal0_C.sl.HS0_2 c i arg3 harg3 x1)), View.readAt (Elt F) arg13.view (Rect.unit (s := S2x32x256x128) (k0_off27 i 2#32) S1x1x256x128.size (k0_off27_inb i hc2 1)).toLoadRect (arg13.view.writes (Elt F) fs1 (kernelVal0_C.sl.HS1_2 c i arg3 harg3 x1)), View.readAt (Elt F) arg14.view (Rect.unit (s := S2x32x256x256) (k0_off28 i 1#32) S1x1x256x256.size (k0_off28_inb i hc2 1)).toLoadRect (arg14.view.writes (Elt F) fs2 (kernelVal0_C.sl.HS2_2 c i arg4 harg4 x2)))]) shapeCasts_S256x256_S1x256x256) (by rfl)
          (congrArg (fun z => shapeCast S1x256x256 z shapeCasts_S256x256_S1x256x256) (attend_congr2
            (load_head (F := F) (e := .fp8e4m3) arg15.view (arg15.view.writes (Elt F) arg15.view.junk (kernelVal0_C.sl.HS3_8 c arg2 harg2 x0)) (fun h => codesV (qBlk h x0)) (h15 _) 6 ![6, 0, 0] rfl _) (load_row (F := F) (e := .f32) arg16.view (arg16.view.writes (Elt F) arg16.view.junk (kernelVal0_C.sl.HS4_8 c arg2 harg2 x0)) (fun h => srow (qBlk h x0)) (h16 _) 6 ![6, 0] rfl _)
            (own_codes _ _ _ _ _ (h12 _) hlt 1 _ ClosedOff.eq _)
            (own_scales _ _ _ _ _ (h13 _) hlt 1 _ ClosedOff.eq _)
            (own_values _ _ _ _ _ (h14 _) hlt 1 _ ClosedOff.eq _)
            (load_slot _ _ _ (h12s) 1 ((i 1).val - 1) (by omega) _ (ClosedOff.eq.trans (vec4 (by omega))) _)
            (load_slotLanes _ _ _ (h13s) 1 ((i 1).val - 1) (by omega) _ (ClosedOff.eq.trans (vec4 (by omega))) _)
            (load_slot _ _ _ (h14s) 1 ((i 1).val - 1) (by omega) _ (ClosedOff.eq.trans (vec4 (by omega))) _)
            (load_slot _ _ _ (h12s) 1 ((i 1).val - 2) (by omega) _ (ClosedOff.eq.trans (vec4 (by omega))) _)
            (load_slotLanes _ _ _ (h13s) 1 ((i 1).val - 2) (by omega) _ (ClosedOff.eq.trans (vec4 (by omega))) _)
            (load_slot _ _ _ (h14s) 1 ((i 1).val - 2) (by omega) _ (ClosedOff.eq.trans (vec4 (by omega))) _))))
      · exact (Eq.trans (b := shapeCast S1x256x256 (attend (arg15.view.readCov (kernelVal0_C.sl.HS3_8 c arg2 harg2 x0) (Rect.unit (s := S8x256x256) ![5, 0, 0] S1x256x256.size inb_S8x256x256_S1x256x256_5_0_0).toLoadRect) (arg16.view.readCov (kernelVal0_C.sl.HS4_8 c arg2 harg2 x0) (Rect.unit (s := S8x256) ![5, 0] S1x256.size inb_S8x256_S1x256_5_0).toLoadRect) (arg12.view.readCov (kernelVal0_C.sl.HS0_2 c i arg3 harg3 x1) (Rect.unit (s := S2x32x256x256) (k0_off24 i) S1x1x256x256.size (k0_off24_inb i hc2)).toLoadRect, arg13.view.readCov (kernelVal0_C.sl.HS1_2 c i arg3 harg3 x1) (Rect.unit (s := S2x32x256x128) (k0_off25 i) S1x1x256x128.size (k0_off25_inb i hc2)).toLoadRect, arg14.view.readCov (kernelVal0_C.sl.HS2_2 c i arg4 harg4 x2) (Rect.unit (s := S2x32x256x256) (k0_off24 i) S1x1x256x256.size (k0_off24_inb i hc2)).toLoadRect) [(View.readAt (Elt F) arg12.view (Rect.unit (s := S2x32x256x256) (k0_off26 i 1#32) S1x1x256x256.size (k0_off26_inb i hc2 0)).toLoadRect (arg12.view.writes (Elt F) fs0 (kernelVal0_C.sl.HS0_2 c i arg3 harg3 x1)), View.readAt (Elt F) arg13.view (Rect.unit (s := S2x32x256x128) (k0_off27 i 1#32) S1x1x256x128.size (k0_off27_inb i hc2 0)).toLoadRect (arg13.view.writes (Elt F) fs1 (kernelVal0_C.sl.HS1_2 c i arg3 harg3 x1)), View.readAt (Elt F) arg14.view (Rect.unit (s := S2x32x256x256) (k0_off28 i 0#32) S1x1x256x256.size (k0_off28_inb i hc2 0)).toLoadRect (arg14.view.writes (Elt F) fs2 (kernelVal0_C.sl.HS2_2 c i arg4 harg4 x2))), (View.readAt (Elt F) arg12.view (Rect.unit (s := S2x32x256x256) (k0_off26 i 2#32) S1x1x256x256.size (k0_off26_inb i hc2 1)).toLoadRect (arg12.view.writes (Elt F) fs0 (kernelVal0_C.sl.HS0_2 c i arg3 harg3 x1)), View.readAt (Elt F) arg13.view (Rect.unit (s := S2x32x256x128) (k0_off27 i 2#32) S1x1x256x128.size (k0_off27_inb i hc2 1)).toLoadRect (arg13.view.writes (Elt F) fs1 (kernelVal0_C.sl.HS1_2 c i arg3 harg3 x1)), View.readAt (Elt F) arg14.view (Rect.unit (s := S2x32x256x256) (k0_off28 i 1#32) S1x1x256x256.size (k0_off28_inb i hc2 1)).toLoadRect (arg14.view.writes (Elt F) fs2 (kernelVal0_C.sl.HS2_2 c i arg4 harg4 x2)))]) shapeCasts_S256x256_S1x256x256) (by rfl)
          (congrArg (fun z => shapeCast S1x256x256 z shapeCasts_S256x256_S1x256x256) (attend_congr2
            (load_head (F := F) (e := .fp8e4m3) arg15.view (arg15.view.writes (Elt F) arg15.view.junk (kernelVal0_C.sl.HS3_8 c arg2 harg2 x0)) (fun h => codesV (qBlk h x0)) (h15 _) 5 ![5, 0, 0] rfl _) (load_row (F := F) (e := .f32) arg16.view (arg16.view.writes (Elt F) arg16.view.junk (kernelVal0_C.sl.HS4_8 c arg2 harg2 x0)) (fun h => srow (qBlk h x0)) (h16 _) 5 ![5, 0] rfl _)
            (own_codes _ _ _ _ _ (h12 _) hlt 1 _ ClosedOff.eq _)
            (own_scales _ _ _ _ _ (h13 _) hlt 1 _ ClosedOff.eq _)
            (own_values _ _ _ _ _ (h14 _) hlt 1 _ ClosedOff.eq _)
            (load_slot _ _ _ (h12s) 1 ((i 1).val - 1) (by omega) _ (ClosedOff.eq.trans (vec4 (by omega))) _)
            (load_slotLanes _ _ _ (h13s) 1 ((i 1).val - 1) (by omega) _ (ClosedOff.eq.trans (vec4 (by omega))) _)
            (load_slot _ _ _ (h14s) 1 ((i 1).val - 1) (by omega) _ (ClosedOff.eq.trans (vec4 (by omega))) _)
            (load_slot _ _ _ (h12s) 1 ((i 1).val - 2) (by omega) _ (ClosedOff.eq.trans (vec4 (by omega))) _)
            (load_slotLanes _ _ _ (h13s) 1 ((i 1).val - 2) (by omega) _ (ClosedOff.eq.trans (vec4 (by omega))) _)
            (load_slot _ _ _ (h14s) 1 ((i 1).val - 2) (by omega) _ (ClosedOff.eq.trans (vec4 (by omega))) _))))
      · exact (Eq.trans (b := shapeCast S1x256x256 (attend (arg15.view.readCov (kernelVal0_C.sl.HS3_8 c arg2 harg2 x0) (Rect.unit (s := S8x256x256) ![4, 0, 0] S1x256x256.size inb_S8x256x256_S1x256x256_4_0_0).toLoadRect) (arg16.view.readCov (kernelVal0_C.sl.HS4_8 c arg2 harg2 x0) (Rect.unit (s := S8x256) ![4, 0] S1x256.size inb_S8x256_S1x256_4_0).toLoadRect) (arg12.view.readCov (kernelVal0_C.sl.HS0_2 c i arg3 harg3 x1) (Rect.unit (s := S2x32x256x256) (k0_off24 i) S1x1x256x256.size (k0_off24_inb i hc2)).toLoadRect, arg13.view.readCov (kernelVal0_C.sl.HS1_2 c i arg3 harg3 x1) (Rect.unit (s := S2x32x256x128) (k0_off25 i) S1x1x256x128.size (k0_off25_inb i hc2)).toLoadRect, arg14.view.readCov (kernelVal0_C.sl.HS2_2 c i arg4 harg4 x2) (Rect.unit (s := S2x32x256x256) (k0_off24 i) S1x1x256x256.size (k0_off24_inb i hc2)).toLoadRect) [(View.readAt (Elt F) arg12.view (Rect.unit (s := S2x32x256x256) (k0_off26 i 1#32) S1x1x256x256.size (k0_off26_inb i hc2 0)).toLoadRect (arg12.view.writes (Elt F) fs0 (kernelVal0_C.sl.HS0_2 c i arg3 harg3 x1)), View.readAt (Elt F) arg13.view (Rect.unit (s := S2x32x256x128) (k0_off27 i 1#32) S1x1x256x128.size (k0_off27_inb i hc2 0)).toLoadRect (arg13.view.writes (Elt F) fs1 (kernelVal0_C.sl.HS1_2 c i arg3 harg3 x1)), View.readAt (Elt F) arg14.view (Rect.unit (s := S2x32x256x256) (k0_off28 i 0#32) S1x1x256x256.size (k0_off28_inb i hc2 0)).toLoadRect (arg14.view.writes (Elt F) fs2 (kernelVal0_C.sl.HS2_2 c i arg4 harg4 x2))), (View.readAt (Elt F) arg12.view (Rect.unit (s := S2x32x256x256) (k0_off26 i 2#32) S1x1x256x256.size (k0_off26_inb i hc2 1)).toLoadRect (arg12.view.writes (Elt F) fs0 (kernelVal0_C.sl.HS0_2 c i arg3 harg3 x1)), View.readAt (Elt F) arg13.view (Rect.unit (s := S2x32x256x128) (k0_off27 i 2#32) S1x1x256x128.size (k0_off27_inb i hc2 1)).toLoadRect (arg13.view.writes (Elt F) fs1 (kernelVal0_C.sl.HS1_2 c i arg3 harg3 x1)), View.readAt (Elt F) arg14.view (Rect.unit (s := S2x32x256x256) (k0_off28 i 1#32) S1x1x256x256.size (k0_off28_inb i hc2 1)).toLoadRect (arg14.view.writes (Elt F) fs2 (kernelVal0_C.sl.HS2_2 c i arg4 harg4 x2)))]) shapeCasts_S256x256_S1x256x256) (by rfl)
          (congrArg (fun z => shapeCast S1x256x256 z shapeCasts_S256x256_S1x256x256) (attend_congr2
            (load_head (F := F) (e := .fp8e4m3) arg15.view (arg15.view.writes (Elt F) arg15.view.junk (kernelVal0_C.sl.HS3_8 c arg2 harg2 x0)) (fun h => codesV (qBlk h x0)) (h15 _) 4 ![4, 0, 0] rfl _) (load_row (F := F) (e := .f32) arg16.view (arg16.view.writes (Elt F) arg16.view.junk (kernelVal0_C.sl.HS4_8 c arg2 harg2 x0)) (fun h => srow (qBlk h x0)) (h16 _) 4 ![4, 0] rfl _)
            (own_codes _ _ _ _ _ (h12 _) hlt 1 _ ClosedOff.eq _)
            (own_scales _ _ _ _ _ (h13 _) hlt 1 _ ClosedOff.eq _)
            (own_values _ _ _ _ _ (h14 _) hlt 1 _ ClosedOff.eq _)
            (load_slot _ _ _ (h12s) 1 ((i 1).val - 1) (by omega) _ (ClosedOff.eq.trans (vec4 (by omega))) _)
            (load_slotLanes _ _ _ (h13s) 1 ((i 1).val - 1) (by omega) _ (ClosedOff.eq.trans (vec4 (by omega))) _)
            (load_slot _ _ _ (h14s) 1 ((i 1).val - 1) (by omega) _ (ClosedOff.eq.trans (vec4 (by omega))) _)
            (load_slot _ _ _ (h12s) 1 ((i 1).val - 2) (by omega) _ (ClosedOff.eq.trans (vec4 (by omega))) _)
            (load_slotLanes _ _ _ (h13s) 1 ((i 1).val - 2) (by omega) _ (ClosedOff.eq.trans (vec4 (by omega))) _)
            (load_slot _ _ _ (h14s) 1 ((i 1).val - 2) (by omega) _ (ClosedOff.eq.trans (vec4 (by omega))) _))))
      · exact (Eq.trans (b := shapeCast S1x256x256 (attend (arg15.view.readCov (kernelVal0_C.sl.HS3_8 c arg2 harg2 x0) (Rect.unit (s := S8x256x256) ![3, 0, 0] S1x256x256.size inb_S8x256x256_S1x256x256_3_0_0).toLoadRect) (arg16.view.readCov (kernelVal0_C.sl.HS4_8 c arg2 harg2 x0) (Rect.unit (s := S8x256) ![3, 0] S1x256.size inb_S8x256_S1x256_3_0).toLoadRect) (arg12.view.readCov (kernelVal0_C.sl.HS0_2 c i arg3 harg3 x1) (Rect.unit (s := S2x32x256x256) (k0_off19 i) S1x1x256x256.size (k0_off19_inb i hc2)).toLoadRect, arg13.view.readCov (kernelVal0_C.sl.HS1_2 c i arg3 harg3 x1) (Rect.unit (s := S2x32x256x128) (k0_off20 i) S1x1x256x128.size (k0_off20_inb i hc2)).toLoadRect, arg14.view.readCov (kernelVal0_C.sl.HS2_2 c i arg4 harg4 x2) (Rect.unit (s := S2x32x256x256) (k0_off19 i) S1x1x256x256.size (k0_off19_inb i hc2)).toLoadRect) [(View.readAt (Elt F) arg12.view (Rect.unit (s := S2x32x256x256) (k0_off21 i 1#32) S1x1x256x256.size (k0_off21_inb i hc2 0)).toLoadRect (arg12.view.writes (Elt F) fs0 (kernelVal0_C.sl.HS0_2 c i arg3 harg3 x1)), View.readAt (Elt F) arg13.view (Rect.unit (s := S2x32x256x128) (k0_off22 i 1#32) S1x1x256x128.size (k0_off22_inb i hc2 0)).toLoadRect (arg13.view.writes (Elt F) fs1 (kernelVal0_C.sl.HS1_2 c i arg3 harg3 x1)), View.readAt (Elt F) arg14.view (Rect.unit (s := S2x32x256x256) (k0_off23 i 0#32) S1x1x256x256.size (k0_off23_inb i hc2 0)).toLoadRect (arg14.view.writes (Elt F) fs2 (kernelVal0_C.sl.HS2_2 c i arg4 harg4 x2))), (View.readAt (Elt F) arg12.view (Rect.unit (s := S2x32x256x256) (k0_off21 i 2#32) S1x1x256x256.size (k0_off21_inb i hc2 1)).toLoadRect (arg12.view.writes (Elt F) fs0 (kernelVal0_C.sl.HS0_2 c i arg3 harg3 x1)), View.readAt (Elt F) arg13.view (Rect.unit (s := S2x32x256x128) (k0_off22 i 2#32) S1x1x256x128.size (k0_off22_inb i hc2 1)).toLoadRect (arg13.view.writes (Elt F) fs1 (kernelVal0_C.sl.HS1_2 c i arg3 harg3 x1)), View.readAt (Elt F) arg14.view (Rect.unit (s := S2x32x256x256) (k0_off23 i 1#32) S1x1x256x256.size (k0_off23_inb i hc2 1)).toLoadRect (arg14.view.writes (Elt F) fs2 (kernelVal0_C.sl.HS2_2 c i arg4 harg4 x2)))]) shapeCasts_S256x256_S1x256x256) (by rfl)
          (congrArg (fun z => shapeCast S1x256x256 z shapeCasts_S256x256_S1x256x256) (attend_congr2
            (load_head (F := F) (e := .fp8e4m3) arg15.view (arg15.view.writes (Elt F) arg15.view.junk (kernelVal0_C.sl.HS3_8 c arg2 harg2 x0)) (fun h => codesV (qBlk h x0)) (h15 _) 3 ![3, 0, 0] rfl _) (load_row (F := F) (e := .f32) arg16.view (arg16.view.writes (Elt F) arg16.view.junk (kernelVal0_C.sl.HS4_8 c arg2 harg2 x0)) (fun h => srow (qBlk h x0)) (h16 _) 3 ![3, 0] rfl _)
            (own_codes _ _ _ _ _ (h12 _) hlt 0 _ ClosedOff.eq _)
            (own_scales _ _ _ _ _ (h13 _) hlt 0 _ ClosedOff.eq _)
            (own_values _ _ _ _ _ (h14 _) hlt 0 _ ClosedOff.eq _)
            (load_slot _ _ _ (h12s) 0 ((i 1).val - 1) (by omega) _ (ClosedOff.eq.trans (vec4 (by omega))) _)
            (load_slotLanes _ _ _ (h13s) 0 ((i 1).val - 1) (by omega) _ (ClosedOff.eq.trans (vec4 (by omega))) _)
            (load_slot _ _ _ (h14s) 0 ((i 1).val - 1) (by omega) _ (ClosedOff.eq.trans (vec4 (by omega))) _)
            (load_slot _ _ _ (h12s) 0 ((i 1).val - 2) (by omega) _ (ClosedOff.eq.trans (vec4 (by omega))) _)
            (load_slotLanes _ _ _ (h13s) 0 ((i 1).val - 2) (by omega) _ (ClosedOff.eq.trans (vec4 (by omega))) _)
            (load_slot _ _ _ (h14s) 0 ((i 1).val - 2) (by omega) _ (ClosedOff.eq.trans (vec4 (by omega))) _))))
      · exact (Eq.trans (b := shapeCast S1x256x256 (attend (arg15.view.readCov (kernelVal0_C.sl.HS3_8 c arg2 harg2 x0) (Rect.unit (s := S8x256x256) ![2, 0, 0] S1x256x256.size inb_S8x256x256_S1x256x256_2_0_0).toLoadRect) (arg16.view.readCov (kernelVal0_C.sl.HS4_8 c arg2 harg2 x0) (Rect.unit (s := S8x256) ![2, 0] S1x256.size inb_S8x256_S1x256_2_0).toLoadRect) (arg12.view.readCov (kernelVal0_C.sl.HS0_2 c i arg3 harg3 x1) (Rect.unit (s := S2x32x256x256) (k0_off19 i) S1x1x256x256.size (k0_off19_inb i hc2)).toLoadRect, arg13.view.readCov (kernelVal0_C.sl.HS1_2 c i arg3 harg3 x1) (Rect.unit (s := S2x32x256x128) (k0_off20 i) S1x1x256x128.size (k0_off20_inb i hc2)).toLoadRect, arg14.view.readCov (kernelVal0_C.sl.HS2_2 c i arg4 harg4 x2) (Rect.unit (s := S2x32x256x256) (k0_off19 i) S1x1x256x256.size (k0_off19_inb i hc2)).toLoadRect) [(View.readAt (Elt F) arg12.view (Rect.unit (s := S2x32x256x256) (k0_off21 i 1#32) S1x1x256x256.size (k0_off21_inb i hc2 0)).toLoadRect (arg12.view.writes (Elt F) fs0 (kernelVal0_C.sl.HS0_2 c i arg3 harg3 x1)), View.readAt (Elt F) arg13.view (Rect.unit (s := S2x32x256x128) (k0_off22 i 1#32) S1x1x256x128.size (k0_off22_inb i hc2 0)).toLoadRect (arg13.view.writes (Elt F) fs1 (kernelVal0_C.sl.HS1_2 c i arg3 harg3 x1)), View.readAt (Elt F) arg14.view (Rect.unit (s := S2x32x256x256) (k0_off23 i 0#32) S1x1x256x256.size (k0_off23_inb i hc2 0)).toLoadRect (arg14.view.writes (Elt F) fs2 (kernelVal0_C.sl.HS2_2 c i arg4 harg4 x2))), (View.readAt (Elt F) arg12.view (Rect.unit (s := S2x32x256x256) (k0_off21 i 2#32) S1x1x256x256.size (k0_off21_inb i hc2 1)).toLoadRect (arg12.view.writes (Elt F) fs0 (kernelVal0_C.sl.HS0_2 c i arg3 harg3 x1)), View.readAt (Elt F) arg13.view (Rect.unit (s := S2x32x256x128) (k0_off22 i 2#32) S1x1x256x128.size (k0_off22_inb i hc2 1)).toLoadRect (arg13.view.writes (Elt F) fs1 (kernelVal0_C.sl.HS1_2 c i arg3 harg3 x1)), View.readAt (Elt F) arg14.view (Rect.unit (s := S2x32x256x256) (k0_off23 i 1#32) S1x1x256x256.size (k0_off23_inb i hc2 1)).toLoadRect (arg14.view.writes (Elt F) fs2 (kernelVal0_C.sl.HS2_2 c i arg4 harg4 x2)))]) shapeCasts_S256x256_S1x256x256) (by rfl)
          (congrArg (fun z => shapeCast S1x256x256 z shapeCasts_S256x256_S1x256x256) (attend_congr2
            (load_head (F := F) (e := .fp8e4m3) arg15.view (arg15.view.writes (Elt F) arg15.view.junk (kernelVal0_C.sl.HS3_8 c arg2 harg2 x0)) (fun h => codesV (qBlk h x0)) (h15 _) 2 ![2, 0, 0] rfl _) (load_row (F := F) (e := .f32) arg16.view (arg16.view.writes (Elt F) arg16.view.junk (kernelVal0_C.sl.HS4_8 c arg2 harg2 x0)) (fun h => srow (qBlk h x0)) (h16 _) 2 ![2, 0] rfl _)
            (own_codes _ _ _ _ _ (h12 _) hlt 0 _ ClosedOff.eq _)
            (own_scales _ _ _ _ _ (h13 _) hlt 0 _ ClosedOff.eq _)
            (own_values _ _ _ _ _ (h14 _) hlt 0 _ ClosedOff.eq _)
            (load_slot _ _ _ (h12s) 0 ((i 1).val - 1) (by omega) _ (ClosedOff.eq.trans (vec4 (by omega))) _)
            (load_slotLanes _ _ _ (h13s) 0 ((i 1).val - 1) (by omega) _ (ClosedOff.eq.trans (vec4 (by omega))) _)
            (load_slot _ _ _ (h14s) 0 ((i 1).val - 1) (by omega) _ (ClosedOff.eq.trans (vec4 (by omega))) _)
            (load_slot _ _ _ (h12s) 0 ((i 1).val - 2) (by omega) _ (ClosedOff.eq.trans (vec4 (by omega))) _)
            (load_slotLanes _ _ _ (h13s) 0 ((i 1).val - 2) (by omega) _ (ClosedOff.eq.trans (vec4 (by omega))) _)
            (load_slot _ _ _ (h14s) 0 ((i 1).val - 2) (by omega) _ (ClosedOff.eq.trans (vec4 (by omega))) _))))
      · exact (Eq.trans (b := shapeCast S1x256x256 (attend (arg15.view.readCov (kernelVal0_C.sl.HS3_8 c arg2 harg2 x0) (Rect.unit (s := S8x256x256) ![1, 0, 0] S1x256x256.size inb_S8x256x256_S1x256x256_1_0_0).toLoadRect) (arg16.view.readCov (kernelVal0_C.sl.HS4_8 c arg2 harg2 x0) (Rect.unit (s := S8x256) ![1, 0] S1x256.size inb_S8x256_S1x256_1_0).toLoadRect) (arg12.view.readCov (kernelVal0_C.sl.HS0_2 c i arg3 harg3 x1) (Rect.unit (s := S2x32x256x256) (k0_off19 i) S1x1x256x256.size (k0_off19_inb i hc2)).toLoadRect, arg13.view.readCov (kernelVal0_C.sl.HS1_2 c i arg3 harg3 x1) (Rect.unit (s := S2x32x256x128) (k0_off20 i) S1x1x256x128.size (k0_off20_inb i hc2)).toLoadRect, arg14.view.readCov (kernelVal0_C.sl.HS2_2 c i arg4 harg4 x2) (Rect.unit (s := S2x32x256x256) (k0_off19 i) S1x1x256x256.size (k0_off19_inb i hc2)).toLoadRect) [(View.readAt (Elt F) arg12.view (Rect.unit (s := S2x32x256x256) (k0_off21 i 1#32) S1x1x256x256.size (k0_off21_inb i hc2 0)).toLoadRect (arg12.view.writes (Elt F) fs0 (kernelVal0_C.sl.HS0_2 c i arg3 harg3 x1)), View.readAt (Elt F) arg13.view (Rect.unit (s := S2x32x256x128) (k0_off22 i 1#32) S1x1x256x128.size (k0_off22_inb i hc2 0)).toLoadRect (arg13.view.writes (Elt F) fs1 (kernelVal0_C.sl.HS1_2 c i arg3 harg3 x1)), View.readAt (Elt F) arg14.view (Rect.unit (s := S2x32x256x256) (k0_off23 i 0#32) S1x1x256x256.size (k0_off23_inb i hc2 0)).toLoadRect (arg14.view.writes (Elt F) fs2 (kernelVal0_C.sl.HS2_2 c i arg4 harg4 x2))), (View.readAt (Elt F) arg12.view (Rect.unit (s := S2x32x256x256) (k0_off21 i 2#32) S1x1x256x256.size (k0_off21_inb i hc2 1)).toLoadRect (arg12.view.writes (Elt F) fs0 (kernelVal0_C.sl.HS0_2 c i arg3 harg3 x1)), View.readAt (Elt F) arg13.view (Rect.unit (s := S2x32x256x128) (k0_off22 i 2#32) S1x1x256x128.size (k0_off22_inb i hc2 1)).toLoadRect (arg13.view.writes (Elt F) fs1 (kernelVal0_C.sl.HS1_2 c i arg3 harg3 x1)), View.readAt (Elt F) arg14.view (Rect.unit (s := S2x32x256x256) (k0_off23 i 1#32) S1x1x256x256.size (k0_off23_inb i hc2 1)).toLoadRect (arg14.view.writes (Elt F) fs2 (kernelVal0_C.sl.HS2_2 c i arg4 harg4 x2)))]) shapeCasts_S256x256_S1x256x256) (by rfl)
          (congrArg (fun z => shapeCast S1x256x256 z shapeCasts_S256x256_S1x256x256) (attend_congr2
            (load_head (F := F) (e := .fp8e4m3) arg15.view (arg15.view.writes (Elt F) arg15.view.junk (kernelVal0_C.sl.HS3_8 c arg2 harg2 x0)) (fun h => codesV (qBlk h x0)) (h15 _) 1 ![1, 0, 0] rfl _) (load_row (F := F) (e := .f32) arg16.view (arg16.view.writes (Elt F) arg16.view.junk (kernelVal0_C.sl.HS4_8 c arg2 harg2 x0)) (fun h => srow (qBlk h x0)) (h16 _) 1 ![1, 0] rfl _)
            (own_codes _ _ _ _ _ (h12 _) hlt 0 _ ClosedOff.eq _)
            (own_scales _ _ _ _ _ (h13 _) hlt 0 _ ClosedOff.eq _)
            (own_values _ _ _ _ _ (h14 _) hlt 0 _ ClosedOff.eq _)
            (load_slot _ _ _ (h12s) 0 ((i 1).val - 1) (by omega) _ (ClosedOff.eq.trans (vec4 (by omega))) _)
            (load_slotLanes _ _ _ (h13s) 0 ((i 1).val - 1) (by omega) _ (ClosedOff.eq.trans (vec4 (by omega))) _)
            (load_slot _ _ _ (h14s) 0 ((i 1).val - 1) (by omega) _ (ClosedOff.eq.trans (vec4 (by omega))) _)
            (load_slot _ _ _ (h12s) 0 ((i 1).val - 2) (by omega) _ (ClosedOff.eq.trans (vec4 (by omega))) _)
            (load_slotLanes _ _ _ (h13s) 0 ((i 1).val - 2) (by omega) _ (ClosedOff.eq.trans (vec4 (by omega))) _)
            (load_slot _ _ _ (h14s) 0 ((i 1).val - 2) (by omega) _ (ClosedOff.eq.trans (vec4 (by omega))) _))))
      · exact (Eq.trans (b := shapeCast S1x256x256 (attend (arg15.view.readCov (kernelVal0_C.sl.HS3_8 c arg2 harg2 x0) (Rect.unit (s := S8x256x256) ![0, 0, 0] S1x256x256.size inb_S8x256x256_S1x256x256_0_0_0).toLoadRect) (arg16.view.readCov (kernelVal0_C.sl.HS4_8 c arg2 harg2 x0) (Rect.unit (s := S8x256) ![0, 0] S1x256.size inb_S8x256_S1x256_0_0).toLoadRect) (arg12.view.readCov (kernelVal0_C.sl.HS0_2 c i arg3 harg3 x1) (Rect.unit (s := S2x32x256x256) (k0_off19 i) S1x1x256x256.size (k0_off19_inb i hc2)).toLoadRect, arg13.view.readCov (kernelVal0_C.sl.HS1_2 c i arg3 harg3 x1) (Rect.unit (s := S2x32x256x128) (k0_off20 i) S1x1x256x128.size (k0_off20_inb i hc2)).toLoadRect, arg14.view.readCov (kernelVal0_C.sl.HS2_2 c i arg4 harg4 x2) (Rect.unit (s := S2x32x256x256) (k0_off19 i) S1x1x256x256.size (k0_off19_inb i hc2)).toLoadRect) [(View.readAt (Elt F) arg12.view (Rect.unit (s := S2x32x256x256) (k0_off21 i 1#32) S1x1x256x256.size (k0_off21_inb i hc2 0)).toLoadRect (arg12.view.writes (Elt F) fs0 (kernelVal0_C.sl.HS0_2 c i arg3 harg3 x1)), View.readAt (Elt F) arg13.view (Rect.unit (s := S2x32x256x128) (k0_off22 i 1#32) S1x1x256x128.size (k0_off22_inb i hc2 0)).toLoadRect (arg13.view.writes (Elt F) fs1 (kernelVal0_C.sl.HS1_2 c i arg3 harg3 x1)), View.readAt (Elt F) arg14.view (Rect.unit (s := S2x32x256x256) (k0_off23 i 0#32) S1x1x256x256.size (k0_off23_inb i hc2 0)).toLoadRect (arg14.view.writes (Elt F) fs2 (kernelVal0_C.sl.HS2_2 c i arg4 harg4 x2))), (View.readAt (Elt F) arg12.view (Rect.unit (s := S2x32x256x256) (k0_off21 i 2#32) S1x1x256x256.size (k0_off21_inb i hc2 1)).toLoadRect (arg12.view.writes (Elt F) fs0 (kernelVal0_C.sl.HS0_2 c i arg3 harg3 x1)), View.readAt (Elt F) arg13.view (Rect.unit (s := S2x32x256x128) (k0_off22 i 2#32) S1x1x256x128.size (k0_off22_inb i hc2 1)).toLoadRect (arg13.view.writes (Elt F) fs1 (kernelVal0_C.sl.HS1_2 c i arg3 harg3 x1)), View.readAt (Elt F) arg14.view (Rect.unit (s := S2x32x256x256) (k0_off23 i 1#32) S1x1x256x256.size (k0_off23_inb i hc2 1)).toLoadRect (arg14.view.writes (Elt F) fs2 (kernelVal0_C.sl.HS2_2 c i arg4 harg4 x2)))]) shapeCasts_S256x256_S1x256x256) (by rfl)
          (congrArg (fun z => shapeCast S1x256x256 z shapeCasts_S256x256_S1x256x256) (attend_congr2
            (load_head (F := F) (e := .fp8e4m3) arg15.view (arg15.view.writes (Elt F) arg15.view.junk (kernelVal0_C.sl.HS3_8 c arg2 harg2 x0)) (fun h => codesV (qBlk h x0)) (h15 _) 0 ![0, 0, 0] rfl _) (load_row (F := F) (e := .f32) arg16.view (arg16.view.writes (Elt F) arg16.view.junk (kernelVal0_C.sl.HS4_8 c arg2 harg2 x0)) (fun h => srow (qBlk h x0)) (h16 _) 0 ![0, 0] rfl _)
            (own_codes _ _ _ _ _ (h12 _) hlt 0 _ ClosedOff.eq _)
            (own_scales _ _ _ _ _ (h13 _) hlt 0 _ ClosedOff.eq _)
            (own_values _ _ _ _ _ (h14 _) hlt 0 _ ClosedOff.eq _)
            (load_slot _ _ _ (h12s) 0 ((i 1).val - 1) (by omega) _ (ClosedOff.eq.trans (vec4 (by omega))) _)
            (load_slotLanes _ _ _ (h13s) 0 ((i 1).val - 1) (by omega) _ (ClosedOff.eq.trans (vec4 (by omega))) _)
            (load_slot _ _ _ (h14s) 0 ((i 1).val - 1) (by omega) _ (ClosedOff.eq.trans (vec4 (by omega))) _)
            (load_slot _ _ _ (h12s) 0 ((i 1).val - 2) (by omega) _ (ClosedOff.eq.trans (vec4 (by omega))) _)
            (load_slotLanes _ _ _ (h13s) 0 ((i 1).val - 2) (by omega) _ (ClosedOff.eq.trans (vec4 (by omega))) _)
            (load_slot _ _ _ (h14s) 0 ((i 1).val - 2) (by omega) _ (ClosedOff.eq.trans (vec4 (by omega))) _))))
    isplitl [H4]
    · iexists _; isplitr; swap; · iexact H4
      ipureintro
      refine packs4 _ _ (packV x0) _ _ _ _ _ _ _ _ ?_ ?_ ?_ ?_
      · exact (by dsimp only [packV]; rw [← load_q arg2 harg2 x0 4 ![0, 0, 1024] rfl (inb_S1x256x2048_S1x256x256_0_0_1024), ← load_q arg2 harg2 x0 5 ![0, 0, 1280] rfl (inb_S1x256x2048_S1x256x256_0_0_1280), ← load_q arg2 harg2 x0 6 ![0, 0, 1536] rfl (inb_S1x256x2048_S1x256x256_0_0_1536), ← load_q arg2 harg2 x0 7 ![0, 0, 1792] rfl (inb_S1x256x2048_S1x256x256_0_0_1792)]; rfl)
      · exact (by dsimp only [packV]; rw [← load_q arg2 harg2 x0 4 ![0, 0, 1024] rfl (inb_S1x256x2048_S1x256x256_0_0_1024), ← load_q arg2 harg2 x0 5 ![0, 0, 1280] rfl (inb_S1x256x2048_S1x256x256_0_0_1280), ← load_q arg2 harg2 x0 6 ![0, 0, 1536] rfl (inb_S1x256x2048_S1x256x256_0_0_1536), ← load_q arg2 harg2 x0 7 ![0, 0, 1792] rfl (inb_S1x256x2048_S1x256x256_0_0_1792)]; rfl)
      · exact (by dsimp only [packV]; rw [← load_q arg2 harg2 x0 0 ![0, 0, 0] rfl (inb_S1x256x2048_S1x256x256_0_0_0), ← load_q arg2 harg2 x0 1 ![0, 0, 256] rfl (inb_S1x256x2048_S1x256x256_0_0_256), ← load_q arg2 harg2 x0 2 ![0, 0, 512] rfl (inb_S1x256x2048_S1x256x256_0_0_512), ← load_q arg2 harg2 x0 3 ![0, 0, 768] rfl (inb_S1x256x2048_S1x256x256_0_0_768)]; rfl)
      · exact (by dsimp only [packV]; rw [← load_q arg2 harg2 x0 0 ![0, 0, 0] rfl (inb_S1x256x2048_S1x256x256_0_0_0), ← load_q arg2 harg2 x0 1 ![0, 0, 256] rfl (inb_S1x256x2048_S1x256x256_0_0_256), ← load_q arg2 harg2 x0 2 ![0, 0, 512] rfl (inb_S1x256x2048_S1x256x256_0_0_512), ← load_q arg2 harg2 x0 3 ![0, 0, 768] rfl (inb_S1x256x2048_S1x256x256_0_0_768)]; rfl)
    isplitl [H5]
    · iexists _; isplitr; swap; · iexact H5
      ipureintro
      refine lines8 _ _ (fun h => srow (qBlk h x0)) _ _ _ _ _ _ _ _ _ _ _ _ _ _ _ _ ?_ ?_ ?_ ?_ ?_ ?_ ?_ ?_
      · exact (by rw [← load_q arg2 harg2 x0 7 ![0, 0, 1792] rfl (inb_S1x256x2048_S1x256x256_0_0_1792)]; rfl)
      · exact (by rw [← load_q arg2 harg2 x0 6 ![0, 0, 1536] rfl (inb_S1x256x2048_S1x256x256_0_0_1536)]; rfl)
      · exact (by rw [← load_q arg2 harg2 x0 5 ![0, 0, 1280] rfl (inb_S1x256x2048_S1x256x256_0_0_1280)]; rfl)
      · exact (by rw [← load_q arg2 harg2 x0 4 ![0, 0, 1024] rfl (inb_S1x256x2048_S1x256x256_0_0_1024)]; rfl)
      · exact (by rw [← load_q arg2 harg2 x0 3 ![0, 0, 768] rfl (inb_S1x256x2048_S1x256x256_0_0_768)]; rfl)
      · exact (by rw [← load_q arg2 harg2 x0 2 ![0, 0, 512] rfl (inb_S1x256x2048_S1x256x256_0_0_512)]; rfl)
      · exact (by rw [← load_q arg2 harg2 x0 1 ![0, 0, 256] rfl (inb_S1x256x2048_S1x256x256_0_0_256)]; rfl)
      · exact (by rw [← load_q arg2 harg2 x0 0 ![0, 0, 0] rfl (inb_S1x256x2048_S1x256x256_0_0_0)]; rfl)
    isplitl [H6]
    · iexists _; isplitr; swap; · iexact H6
      ipureintro
      refine planes (F := F) (e := .fp8e4m3) arg8.view _ (fun g => codesV (kBlk g x1)) _ _ _ _ ?_ ?_
      · exact (by rw [← load_k1 arg3 harg3 x1 (inb_S1x256x512_S1x256x256_0_0_256)]; rfl)
      · exact (by rw [← load_k0 arg3 harg3 x1 (inb_S1x256x512_S1x256x256_0_0_0)]; rfl)
    isplitl [H7]
    · iexists _; isplitr; swap; · iexact H7
      ipureintro
      refine lines2 _ _ (fun g => srow (kBlk g x1)) _ _ _ _ ?_ ?_
      · exact (by rw [← load_k1 arg3 harg3 x1 (inb_S1x256x512_S1x256x256_0_0_256)]; rfl)
      · exact (by rw [← load_k0 arg3 harg3 x1 (inb_S1x256x512_S1x256x256_0_0_0)]; rfl)
    isplitl [H8]
    · iexists _; isplitr; swap; · iexact H8
      ipureintro
      refine planes (F := F) (e := .fp8e4m3) arg10.view _ (fun g => codesV (kBlk g x2)) _ _ _ _ ?_ ?_
      · exact (by rw [← load_k1 arg4 harg4 x2 (inb_S1x256x512_S1x256x256_0_0_256)]; rfl)
      · exact (by rw [← load_k0 arg4 harg4 x2 (inb_S1x256x512_S1x256x256_0_0_0)]; rfl)
    isplitl [H9]
    · iexists _; isplitr; swap; · iexact H9
      ipureintro
      refine lines2 _ _ (fun g => srow (kBlk g x2)) _ _ _ _ ?_ ?_
      · exact (by rw [← load_k1 arg4 harg4 x2 (inb_S1x256x512_S1x256x256_0_0_256)]; rfl)
      · exact (by rw [← load_k0 arg4 harg4 x2 (inb_S1x256x512_S1x256x256_0_0_0)]; rfl)
    isplitl [HS0]
    · iexists _; isplitr; swap; · iexact HS0
      ipureintro; exact h12s
    isplitl [HS1]
    · iexists _; isplitr; swap; · iexact HS1
      ipureintro; exact h13s
    isplitl [HS2]
    · iexists _; isplitr; swap; · iexact HS2
      ipureintro; exact h14s
    isplitl [HS3]
    · iexists _, _; isplitr; swap; · iexact HS3
      ipureintro; rfl
    iexists _, _; isplitr; swap; · iexact HS4
    ipureintro; rfl

end Cert.KernelIdeal.Spec

end
-- ==== Proof.ValueD.lean ====
module

public import proofs.«01_k».proof.Proof.KernelIdealCases
public import proofs.«01_k».proof.Proof.Pieces

/-! What the body computes on the fourth tile. -/

@[expose] public section

-- membership in a rectangle of production extents (`View.cover_of_tiled`): the elaborator's structural look
-- recurses once per coordinate of the long axes
set_option maxRecDepth 16384

noncomputable section

namespace Cert.KernelIdeal.Spec

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 8000000 in
/-- The body on the fourth tile: from the blocks of its inputs and the rings, its outputs and the rings after it. -/
theorem kernelVal0_D (c : Dev nD) (i : grid0.Coords) (arg2 : Memref sig .tc .vmem S1x256x2048 .bf16) (harg2 : arg2.IsWhole) (arg3 : Memref sig .tc .vmem S1x256x512 .bf16) (harg3 : arg3.IsWhole) (arg4 : Memref sig .tc .vmem S1x256x512 .bf16) (harg4 : arg4.IsWhole) (arg5 : Memref sig .tc .vmem S1x256x2048 .bf16) (harg5 : arg5.IsWhole) (arg6 : Memref sig .tc .vmem S1x256x2x8x128 .fp8e4m3) (harg6 : arg6.IsWhole) (arg7 : Memref sig .tc .vmem S1x8x256 .f32) (harg7 : arg7.IsWhole) (arg8 : Memref sig .tc .vmem S1x2x256x256 .fp8e4m3) (harg8 : arg8.IsWhole) (arg9 : Memref sig .tc .vmem S1x2x256 .f32) (harg9 : arg9.IsWhole) (arg10 : Memref sig .tc .vmem S1x2x256x256 .fp8e4m3) (harg10 : arg10.IsWhole) (arg11 : Memref sig .tc .vmem S1x2x256 .f32) (harg11 : arg11.IsWhole) (arg12 : Memref sig .tc .vmem S2x32x256x256 .fp8e4m3) (harg12 : arg12.IsWhole) (arg13 : Memref sig .tc .vmem S2x32x256x128 .f32) (harg13 : arg13.IsWhole) (arg14 : Memref sig .tc .vmem S2x32x256x256 .bf16) (harg14 : arg14.IsWhole) (arg15 : Memref sig .tc .vmem S8x256x256 .fp8e4m3) (harg15 : arg15.IsWhole) (arg16 : Memref sig .tc .vmem S8x256 .f32) (harg16 : arg16.IsWhole) (hc0 : ¬cond0_0 i) (hc1 : ¬cond0_1 i) (hc2 : ¬cond0_2 i) (hc3 : cond0_3 i) (hc4 : ¬cond0_4 i)
    (hi : (i 1).val = 3) (x0 : Vec F S1x256x2048 .bf16) (x1 : Vec F S1x256x512 .bf16) (x2 : Vec F S1x256x512 .bf16)
    (s0 : Vec F S2x32x256x256 .fp8e4m3) (s1 : Vec F S2x32x256x128 .f32) (s2 : Vec F S2x32x256x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare s0 ∗ owns (c : Thread nD τ) arg13 fullShare s1 ∗ owns (c : Thread nD τ) arg14 fullShare s2 ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare (oOut 3 (i 1).val x0 (ringK (i 1).val x1 s0) (ringS (i 1).val x1 s1) (ringV (i 1).val x2 s2)) ∗ owns (c : Thread nD τ) arg6 fullShare (oQCodes x0) ∗ owns (c : Thread nD τ) arg7 fullShare (oQScales x0) ∗ owns (c : Thread nD τ) arg8 fullShare (oCodes x1) ∗ owns (c : Thread nD τ) arg9 fullShare (oScales x1) ∗ owns (c : Thread nD τ) arg10 fullShare (oCodes x2) ∗ owns (c : Thread nD τ) arg11 fullShare (oScales x2) ∗ owns (c : Thread nD τ) arg12 fullShare (ringK (i 1).val x1 s0) ∗ owns (c : Thread nD τ) arg13 fullShare (ringS (i 1).val x1 s1) ∗ owns (c : Thread nD τ) arg14 fullShare (ringV (i 1).val x2 s2) ∗ (∃ d, owns (c : Thread nD τ) arg15 fullShare d) ∗ (∃ d, owns (c : Thread nD τ) arg16 fullShare d)) -∗ K ⟨⟩))
          ⊢ wp frame (wpE (defs₀ (F := F)) Variants.none c none) E (cc0_swa_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_swa_fp8_eq_skeleton]; unfold cc0_swa_fp8_skel
    simp only [k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%fs0, %hfs0, HS0⟩, ⟨%fs1, %hfs1, HS1⟩, ⟨%fs2, %hfs2, HS2⟩, ⟨%ds3, %fs3, -, HS3⟩, ⟨%ds4, %fs4, -, HS4⟩, Hk⟩
    obtain rfl := harg2.eq_unread hf0; obtain rfl := harg3.eq_unread hf1; obtain rfl := harg4.eq_unread hf2
    sl_exec (disch := first | sl_exact hc0 | sl_exact hc1 | sl_exact hc2 | sl_exact hc3 | sl_exact hc4)
    sl_step
    have h12 : ∀ f, arg12.view.read (Elt F) (arg12.view.writes (Elt F) f (kernelVal0_D.sl.HS0_2 c i arg3 harg3 x1)) = ringK (i 1).val x1 (arg12.view.read (Elt F) f) := fun f =>
      ring _ f _ (fun g => codesV (kBlk g x1)) _ _ _ _ _ _ ClosedOff.eq ClosedOff.eq
        (by rw [← load_k1 arg3 harg3 x1 (inb_S1x256x512_S1x256x256_0_0_256)]; rfl) (by rw [← load_k0 arg3 harg3 x1 (inb_S1x256x512_S1x256x256_0_0_0)]; rfl)
    have h13 : ∀ f, arg13.view.read (Elt F) (arg13.view.writes (Elt F) f (kernelVal0_D.sl.HS1_2 c i arg3 harg3 x1)) = ringS (i 1).val x1 (arg13.view.read (Elt F) f) := fun f =>
      ringLanes _ f _ (fun g => slanes (kBlk g x1)) _ _ _ _ _ _ ClosedOff.eq ClosedOff.eq
        (by rw [← load_k1 arg3 harg3 x1 (inb_S1x256x512_S1x256x256_0_0_256)]; rfl) (by rw [← load_k0 arg3 harg3 x1 (inb_S1x256x512_S1x256x256_0_0_0)]; rfl)
    have h14 : ∀ f, arg14.view.read (Elt F) (arg14.view.writes (Elt F) f (kernelVal0_D.sl.HS2_2 c i arg4 harg4 x2)) = ringV (i 1).val x2 (arg14.view.read (Elt F) f) := fun f =>
      ring _ f _ (fun g => valsV (kBlk g x2)) _ _ _ _ _ _ ClosedOff.eq ClosedOff.eq
        (by rw [← load_k1 arg4 harg4 x2 (inb_S1x256x512_S1x256x256_0_0_256)]; rfl) (by rw [← load_k0 arg4 harg4 x2 (inb_S1x256x512_S1x256x256_0_0_0)]; rfl)
    have hlt : (i 1).val < 32 := (i 1).isLt
    have h12s := (h12 fs0).trans (congrArg (ringK (i 1).val x1) hfs0)
    have h13s := (h13 fs1).trans (congrArg (ringS (i 1).val x1) hfs1)
    have h14s := (h14 fs2).trans (congrArg (ringV (i 1).val x2) hfs2)
    have h15 : ∀ f, arg15.view.read (Elt F) (arg15.view.writes (Elt F) f (kernelVal0_D.sl.HS3_8 c arg2 harg2 x0)) = fun y => codesV (qBlk (y 0) x0) (ix2 (y 1) (y 2)) := fun f =>
      heads8 _ f (fun h => codesV (qBlk h x0)) _ _ _ _ _ _ _ _ _ _ _ _ _ _ _ _
        (by rw [← load_q arg2 harg2 x0 7 ![0, 0, 1792] rfl (inb_S1x256x2048_S1x256x256_0_0_1792)]; rfl) (by rw [← load_q arg2 harg2 x0 6 ![0, 0, 1536] rfl (inb_S1x256x2048_S1x256x256_0_0_1536)]; rfl) (by rw [← load_q arg2 harg2 x0 5 ![0, 0, 1280] rfl (inb_S1x256x2048_S1x256x256_0_0_1280)]; rfl) (by rw [← load_q arg2 harg2 x0 4 ![0, 0, 1024] rfl (inb_S1x256x2048_S1x256x256_0_0_1024)]; rfl) (by rw [← load_q arg2 harg2 x0 3 ![0, 0, 768] rfl (inb_S1x256x2048_S1x256x256_0_0_768)]; rfl) (by rw [← load_q arg2 harg2 x0 2 ![0, 0, 512] rfl (inb_S1x256x2048_S1x256x256_0_0_512)]; rfl) (by rw [← load_q arg2 harg2 x0 1 ![0, 0, 256] rfl (inb_S1x256x2048_S1x256x256_0_0_256)]; rfl) (by rw [← load_q arg2 harg2 x0 0 ![0, 0, 0] rfl (inb_S1x256x2048_S1x256x256_0_0_0)]; rfl)
    have h16 : ∀ f, arg16.view.read (Elt F) (arg16.view.writes (Elt F) f (kernelVal0_D.sl.HS4_8 c arg2 harg2 x0)) = fun y => srow (qBlk (y 0) x0) (ix2 0 (y 1)) := fun f =>
      rows8 _ f (fun h => srow (qBlk h x0)) _ _ _ _ _ _ _ _ _ _ _ _ _ _ _ _
        (by rw [← load_q arg2 harg2 x0 7 ![0, 0, 1792] rfl (inb_S1x256x2048_S1x256x256_0_0_1792)]; rfl) (by rw [← load_q arg2 harg2 x0 6 ![0, 0, 1536] rfl (inb_S1x256x2048_S1x256x256_0_0_1536)]; rfl) (by rw [← load_q arg2 harg2 x0 5 ![0, 0, 1280] rfl (inb_S1x256x2048_S1x256x256_0_0_1280)]; rfl) (by rw [← load_q arg2 harg2 x0 4 ![0, 0, 1024] rfl (inb_S1x256x2048_S1x256x256_0_0_1024)]; rfl) (by rw [← load_q arg2 harg2 x0 3 ![0, 0, 768] rfl (inb_S1x256x2048_S1x256x256_0_0_768)]; rfl) (by rw [← load_q arg2 harg2 x0 2 ![0, 0, 512] rfl (inb_S1x256x2048_S1x256x256_0_0_512)]; rfl) (by rw [← load_q arg2 harg2 x0 1 ![0, 0, 256] rfl (inb_S1x256x2048_S1x256x256_0_0_256)]; rfl) (by rw [← load_q arg2 harg2 x0 0 ![0, 0, 0] rfl (inb_S1x256x2048_S1x256x256_0_0_0)]; rfl)
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      refine cols8 _ _ (fun h => headOut 3 (i 1).val h x0 (ringK (i 1).val x1 s0) (ringS (i 1).val x1 s1) (ringV (i 1).val x2 s2)) _ _ _ _ _ _ _ _ _ _ _ _ _ _ _ _ ?_ ?_ ?_ ?_ ?_ ?_ ?_ ?_
      · exact (Eq.trans (b := shapeCast S1x256x256 (attend (arg15.view.readCov (kernelVal0_D.sl.HS3_8 c arg2 harg2 x0) (Rect.unit (s := S8x256x256) ![7, 0, 0] S1x256x256.size inb_S8x256x256_S1x256x256_7_0_0).toLoadRect) (arg16.view.readCov (kernelVal0_D.sl.HS4_8 c arg2 harg2 x0) (Rect.unit (s := S8x256) ![7, 0] S1x256.size inb_S8x256_S1x256_7_0).toLoadRect) (arg12.view.readCov (kernelVal0_D.sl.HS0_2 c i arg3 harg3 x1) (Rect.unit (s := S2x32x256x256) (k0_off34 i) S1x1x256x256.size (k0_off34_inb i hc3)).toLoadRect, arg13.view.readCov (kernelVal0_D.sl.HS1_2 c i arg3 harg3 x1) (Rect.unit (s := S2x32x256x128) (k0_off35 i) S1x1x256x128.size (k0_off35_inb i hc3)).toLoadRect, arg14.view.readCov (kernelVal0_D.sl.HS2_2 c i arg4 harg4 x2) (Rect.unit (s := S2x32x256x256) (k0_off34 i) S1x1x256x256.size (k0_off34_inb i hc3)).toLoadRect) [(View.readAt (Elt F) arg12.view (Rect.unit (s := S2x32x256x256) (k0_off36 i 1#32) S1x1x256x256.size (k0_off36_inb i hc3 0)).toLoadRect (arg12.view.writes (Elt F) fs0 (kernelVal0_D.sl.HS0_2 c i arg3 harg3 x1)), View.readAt (Elt F) arg13.view (Rect.unit (s := S2x32x256x128) (k0_off37 i 1#32) S1x1x256x128.size (k0_off37_inb i hc3 0)).toLoadRect (arg13.view.writes (Elt F) fs1 (kernelVal0_D.sl.HS1_2 c i arg3 harg3 x1)), View.readAt (Elt F) arg14.view (Rect.unit (s := S2x32x256x256) (k0_off38 i 0#32) S1x1x256x256.size (k0_off38_inb i hc3 0)).toLoadRect (arg14.view.writes (Elt F) fs2 (kernelVal0_D.sl.HS2_2 c i arg4 harg4 x2))), (View.readAt (Elt F) arg12.view (Rect.unit (s := S2x32x256x256) (k0_off36 i 2#32) S1x1x256x256.size (k0_off36_inb i hc3 1)).toLoadRect (arg12.view.writes (Elt F) fs0 (kernelVal0_D.sl.HS0_2 c i arg3 harg3 x1)), View.readAt (Elt F) arg13.view (Rect.unit (s := S2x32x256x128) (k0_off37 i 2#32) S1x1x256x128.size (k0_off37_inb i hc3 1)).toLoadRect (arg13.view.writes (Elt F) fs1 (kernelVal0_D.sl.HS1_2 c i arg3 harg3 x1)), View.readAt (Elt F) arg14.view (Rect.unit (s := S2x32x256x256) (k0_off38 i 1#32) S1x1x256x256.size (k0_off38_inb i hc3 1)).toLoadRect (arg14.view.writes (Elt F) fs2 (kernelVal0_D.sl.HS2_2 c i arg4 harg4 x2))), (View.readAt (Elt F) arg12.view (Rect.unit (s := S2x32x256x256) (k0_off36 i 3#32) S1x1x256x256.size (k0_off36_inb i hc3 2)).toLoadRect (arg12.view.writes (Elt F) fs0 (kernelVal0_D.sl.HS0_2 c i arg3 harg3 x1)), View.readAt (Elt F) arg13.view (Rect.unit (s := S2x32x256x128) (k0_off37 i 3#32) S1x1x256x128.size (k0_off37_inb i hc3 2)).toLoadRect (arg13.view.writes (Elt F) fs1 (kernelVal0_D.sl.HS1_2 c i arg3 harg3 x1)), View.readAt (Elt F) arg14.view (Rect.unit (s := S2x32x256x256) (k0_off38 i 2#32) S1x1x256x256.size (k0_off38_inb i hc3 2)).toLoadRect (arg14.view.writes (Elt F) fs2 (kernelVal0_D.sl.HS2_2 c i arg4 harg4 x2)))]) shapeCasts_S256x256_S1x256x256) (by rfl)
          (congrArg (fun z => shapeCast S1x256x256 z shapeCasts_S256x256_S1x256x256) (attend_congr3
            (load_head (F := F) (e := .fp8e4m3) arg15.view (arg15.view.writes (Elt F) arg15.view.junk (kernelVal0_D.sl.HS3_8 c arg2 harg2 x0)) (fun h => codesV (qBlk h x0)) (h15 _) 7 ![7, 0, 0] rfl _) (load_row (F := F) (e := .f32) arg16.view (arg16.view.writes (Elt F) arg16.view.junk (kernelVal0_D.sl.HS4_8 c arg2 harg2 x0)) (fun h => srow (qBlk h x0)) (h16 _) 7 ![7, 0] rfl _)
            (own_codes _ _ _ _ _ (h12 _) hlt 1 _ ClosedOff.eq _)
            (own_scales _ _ _ _ _ (h13 _) hlt 1 _ ClosedOff.eq _)
            (own_values _ _ _ _ _ (h14 _) hlt 1 _ ClosedOff.eq _)
            (load_slot _ _ _ (h12s) 1 ((i 1).val - 1) (by omega) _ (ClosedOff.eq.trans (vec4 (by omega))) _)
            (load_slotLanes _ _ _ (h13s) 1 ((i 1).val - 1) (by omega) _ (ClosedOff.eq.trans (vec4 (by omega))) _)
            (load_slot _ _ _ (h14s) 1 ((i 1).val - 1) (by omega) _ (ClosedOff.eq.trans (vec4 (by omega))) _)
            (load_slot _ _ _ (h12s) 1 ((i 1).val - 2) (by omega) _ (ClosedOff.eq.trans (vec4 (by omega))) _)
            (load_slotLanes _ _ _ (h13s) 1 ((i 1).val - 2) (by omega) _ (ClosedOff.eq.trans (vec4 (by omega))) _)
            (load_slot _ _ _ (h14s) 1 ((i 1).val - 2) (by omega) _ (ClosedOff.eq.trans (vec4 (by omega))) _)
            (load_slot _ _ _ (h12s) 1 ((i 1).val - 3) (by omega) _ (ClosedOff.eq.trans (vec4 (by omega))) _)
            (load_slotLanes _ _ _ (h13s) 1 ((i 1).val - 3) (by omega) _ (ClosedOff.eq.trans (vec4 (by omega))) _)
            (load_slot _ _ _ (h14s) 1 ((i 1).val - 3) (by omega) _ (ClosedOff.eq.trans (vec4 (by omega))) _))))
      · exact (Eq.trans (b := shapeCast S1x256x256 (attend (arg15.view.readCov (kernelVal0_D.sl.HS3_8 c arg2 harg2 x0) (Rect.unit (s := S8x256x256) ![6, 0, 0] S1x256x256.size inb_S8x256x256_S1x256x256_6_0_0).toLoadRect) (arg16.view.readCov (kernelVal0_D.sl.HS4_8 c arg2 harg2 x0) (Rect.unit (s := S8x256) ![6, 0] S1x256.size inb_S8x256_S1x256_6_0).toLoadRect) (arg12.view.readCov (kernelVal0_D.sl.HS0_2 c i arg3 harg3 x1) (Rect.unit (s := S2x32x256x256) (k0_off34 i) S1x1x256x256.size (k0_off34_inb i hc3)).toLoadRect, arg13.view.readCov (kernelVal0_D.sl.HS1_2 c i arg3 harg3 x1) (Rect.unit (s := S2x32x256x128) (k0_off35 i) S1x1x256x128.size (k0_off35_inb i hc3)).toLoadRect, arg14.view.readCov (kernelVal0_D.sl.HS2_2 c i arg4 harg4 x2) (Rect.unit (s := S2x32x256x256) (k0_off34 i) S1x1x256x256.size (k0_off34_inb i hc3)).toLoadRect) [(View.readAt (Elt F) arg12.view (Rect.unit (s := S2x32x256x256) (k0_off36 i 1#32) S1x1x256x256.size (k0_off36_inb i hc3 0)).toLoadRect (arg12.view.writes (Elt F) fs0 (kernelVal0_D.sl.HS0_2 c i arg3 harg3 x1)), View.readAt (Elt F) arg13.view (Rect.unit (s := S2x32x256x128) (k0_off37 i 1#32) S1x1x256x128.size (k0_off37_inb i hc3 0)).toLoadRect (arg13.view.writes (Elt F) fs1 (kernelVal0_D.sl.HS1_2 c i arg3 harg3 x1)), View.readAt (Elt F) arg14.view (Rect.unit (s := S2x32x256x256) (k0_off38 i 0#32) S1x1x256x256.size (k0_off38_inb i hc3 0)).toLoadRect (arg14.view.writes (Elt F) fs2 (kernelVal0_D.sl.HS2_2 c i arg4 harg4 x2))), (View.readAt (Elt F) arg12.view (Rect.unit (s := S2x32x256x256) (k0_off36 i 2#32) S1x1x256x256.size (k0_off36_inb i hc3 1)).toLoadRect (arg12.view.writes (Elt F) fs0 (kernelVal0_D.sl.HS0_2 c i arg3 harg3 x1)), View.readAt (Elt F) arg13.view (Rect.unit (s := S2x32x256x128) (k0_off37 i 2#32) S1x1x256x128.size (k0_off37_inb i hc3 1)).toLoadRect (arg13.view.writes (Elt F) fs1 (kernelVal0_D.sl.HS1_2 c i arg3 harg3 x1)), View.readAt (Elt F) arg14.view (Rect.unit (s := S2x32x256x256) (k0_off38 i 1#32) S1x1x256x256.size (k0_off38_inb i hc3 1)).toLoadRect (arg14.view.writes (Elt F) fs2 (kernelVal0_D.sl.HS2_2 c i arg4 harg4 x2))), (View.readAt (Elt F) arg12.view (Rect.unit (s := S2x32x256x256) (k0_off36 i 3#32) S1x1x256x256.size (k0_off36_inb i hc3 2)).toLoadRect (arg12.view.writes (Elt F) fs0 (kernelVal0_D.sl.HS0_2 c i arg3 harg3 x1)), View.readAt (Elt F) arg13.view (Rect.unit (s := S2x32x256x128) (k0_off37 i 3#32) S1x1x256x128.size (k0_off37_inb i hc3 2)).toLoadRect (arg13.view.writes (Elt F) fs1 (kernelVal0_D.sl.HS1_2 c i arg3 harg3 x1)), View.readAt (Elt F) arg14.view (Rect.unit (s := S2x32x256x256) (k0_off38 i 2#32) S1x1x256x256.size (k0_off38_inb i hc3 2)).toLoadRect (arg14.view.writes (Elt F) fs2 (kernelVal0_D.sl.HS2_2 c i arg4 harg4 x2)))]) shapeCasts_S256x256_S1x256x256) (by rfl)
          (congrArg (fun z => shapeCast S1x256x256 z shapeCasts_S256x256_S1x256x256) (attend_congr3
            (load_head (F := F) (e := .fp8e4m3) arg15.view (arg15.view.writes (Elt F) arg15.view.junk (kernelVal0_D.sl.HS3_8 c arg2 harg2 x0)) (fun h => codesV (qBlk h x0)) (h15 _) 6 ![6, 0, 0] rfl _) (load_row (F := F) (e := .f32) arg16.view (arg16.view.writes (Elt F) arg16.view.junk (kernelVal0_D.sl.HS4_8 c arg2 harg2 x0)) (fun h => srow (qBlk h x0)) (h16 _) 6 ![6, 0] rfl _)
            (own_codes _ _ _ _ _ (h12 _) hlt 1 _ ClosedOff.eq _)
            (own_scales _ _ _ _ _ (h13 _) hlt 1 _ ClosedOff.eq _)
            (own_values _ _ _ _ _ (h14 _) hlt 1 _ ClosedOff.eq _)
            (load_slot _ _ _ (h12s) 1 ((i 1).val - 1) (by omega) _ (ClosedOff.eq.trans (vec4 (by omega))) _)
            (load_slotLanes _ _ _ (h13s) 1 ((i 1).val - 1) (by omega) _ (ClosedOff.eq.trans (vec4 (by omega))) _)
            (load_slot _ _ _ (h14s) 1 ((i 1).val - 1) (by omega) _ (ClosedOff.eq.trans (vec4 (by omega))) _)
            (load_slot _ _ _ (h12s) 1 ((i 1).val - 2) (by omega) _ (ClosedOff.eq.trans (vec4 (by omega))) _)
            (load_slotLanes _ _ _ (h13s) 1 ((i 1).val - 2) (by omega) _ (ClosedOff.eq.trans (vec4 (by omega))) _)
            (load_slot _ _ _ (h14s) 1 ((i 1).val - 2) (by omega) _ (ClosedOff.eq.trans (vec4 (by omega))) _)
            (load_slot _ _ _ (h12s) 1 ((i 1).val - 3) (by omega) _ (ClosedOff.eq.trans (vec4 (by omega))) _)
            (load_slotLanes _ _ _ (h13s) 1 ((i 1).val - 3) (by omega) _ (ClosedOff.eq.trans (vec4 (by omega))) _)
            (load_slot _ _ _ (h14s) 1 ((i 1).val - 3) (by omega) _ (ClosedOff.eq.trans (vec4 (by omega))) _))))
      · exact (Eq.trans (b := shapeCast S1x256x256 (attend (arg15.view.readCov (kernelVal0_D.sl.HS3_8 c arg2 harg2 x0) (Rect.unit (s := S8x256x256) ![5, 0, 0] S1x256x256.size inb_S8x256x256_S1x256x256_5_0_0).toLoadRect) (arg16.view.readCov (kernelVal0_D.sl.HS4_8 c arg2 harg2 x0) (Rect.unit (s := S8x256) ![5, 0] S1x256.size inb_S8x256_S1x256_5_0).toLoadRect) (arg12.view.readCov (kernelVal0_D.sl.HS0_2 c i arg3 harg3 x1) (Rect.unit (s := S2x32x256x256) (k0_off34 i) S1x1x256x256.size (k0_off34_inb i hc3)).toLoadRect, arg13.view.readCov (kernelVal0_D.sl.HS1_2 c i arg3 harg3 x1) (Rect.unit (s := S2x32x256x128) (k0_off35 i) S1x1x256x128.size (k0_off35_inb i hc3)).toLoadRect, arg14.view.readCov (kernelVal0_D.sl.HS2_2 c i arg4 harg4 x2) (Rect.unit (s := S2x32x256x256) (k0_off34 i) S1x1x256x256.size (k0_off34_inb i hc3)).toLoadRect) [(View.readAt (Elt F) arg12.view (Rect.unit (s := S2x32x256x256) (k0_off36 i 1#32) S1x1x256x256.size (k0_off36_inb i hc3 0)).toLoadRect (arg12.view.writes (Elt F) fs0 (kernelVal0_D.sl.HS0_2 c i arg3 harg3 x1)), View.readAt (Elt F) arg13.view (Rect.unit (s := S2x32x256x128) (k0_off37 i 1#32) S1x1x256x128.size (k0_off37_inb i hc3 0)).toLoadRect (arg13.view.writes (Elt F) fs1 (kernelVal0_D.sl.HS1_2 c i arg3 harg3 x1)), View.readAt (Elt F) arg14.view (Rect.unit (s := S2x32x256x256) (k0_off38 i 0#32) S1x1x256x256.size (k0_off38_inb i hc3 0)).toLoadRect (arg14.view.writes (Elt F) fs2 (kernelVal0_D.sl.HS2_2 c i arg4 harg4 x2))), (View.readAt (Elt F) arg12.view (Rect.unit (s := S2x32x256x256) (k0_off36 i 2#32) S1x1x256x256.size (k0_off36_inb i hc3 1)).toLoadRect (arg12.view.writes (Elt F) fs0 (kernelVal0_D.sl.HS0_2 c i arg3 harg3 x1)), View.readAt (Elt F) arg13.view (Rect.unit (s := S2x32x256x128) (k0_off37 i 2#32) S1x1x256x128.size (k0_off37_inb i hc3 1)).toLoadRect (arg13.view.writes (Elt F) fs1 (kernelVal0_D.sl.HS1_2 c i arg3 harg3 x1)), View.readAt (Elt F) arg14.view (Rect.unit (s := S2x32x256x256) (k0_off38 i 1#32) S1x1x256x256.size (k0_off38_inb i hc3 1)).toLoadRect (arg14.view.writes (Elt F) fs2 (kernelVal0_D.sl.HS2_2 c i arg4 harg4 x2))), (View.readAt (Elt F) arg12.view (Rect.unit (s := S2x32x256x256) (k0_off36 i 3#32) S1x1x256x256.size (k0_off36_inb i hc3 2)).toLoadRect (arg12.view.writes (Elt F) fs0 (kernelVal0_D.sl.HS0_2 c i arg3 harg3 x1)), View.readAt (Elt F) arg13.view (Rect.unit (s := S2x32x256x128) (k0_off37 i 3#32) S1x1x256x128.size (k0_off37_inb i hc3 2)).toLoadRect (arg13.view.writes (Elt F) fs1 (kernelVal0_D.sl.HS1_2 c i arg3 harg3 x1)), View.readAt (Elt F) arg14.view (Rect.unit (s := S2x32x256x256) (k0_off38 i 2#32) S1x1x256x256.size (k0_off38_inb i hc3 2)).toLoadRect (arg14.view.writes (Elt F) fs2 (kernelVal0_D.sl.HS2_2 c i arg4 harg4 x2)))]) shapeCasts_S256x256_S1x256x256) (by rfl)
          (congrArg (fun z => shapeCast S1x256x256 z shapeCasts_S256x256_S1x256x256) (attend_congr3
            (load_head (F := F) (e := .fp8e4m3) arg15.view (arg15.view.writes (Elt F) arg15.view.junk (kernelVal0_D.sl.HS3_8 c arg2 harg2 x0)) (fun h => codesV (qBlk h x0)) (h15 _) 5 ![5, 0, 0] rfl _) (load_row (F := F) (e := .f32) arg16.view (arg16.view.writes (Elt F) arg16.view.junk (kernelVal0_D.sl.HS4_8 c arg2 harg2 x0)) (fun h => srow (qBlk h x0)) (h16 _) 5 ![5, 0] rfl _)
            (own_codes _ _ _ _ _ (h12 _) hlt 1 _ ClosedOff.eq _)
            (own_scales _ _ _ _ _ (h13 _) hlt 1 _ ClosedOff.eq _)
            (own_values _ _ _ _ _ (h14 _) hlt 1 _ ClosedOff.eq _)
            (load_slot _ _ _ (h12s) 1 ((i 1).val - 1) (by omega) _ (ClosedOff.eq.trans (vec4 (by omega))) _)
            (load_slotLanes _ _ _ (h13s) 1 ((i 1).val - 1) (by omega) _ (ClosedOff.eq.trans (vec4 (by omega))) _)
            (load_slot _ _ _ (h14s) 1 ((i 1).val - 1) (by omega) _ (ClosedOff.eq.trans (vec4 (by omega))) _)
            (load_slot _ _ _ (h12s) 1 ((i 1).val - 2) (by omega) _ (ClosedOff.eq.trans (vec4 (by omega))) _)
            (load_slotLanes _ _ _ (h13s) 1 ((i 1).val - 2) (by omega) _ (ClosedOff.eq.trans (vec4 (by omega))) _)
            (load_slot _ _ _ (h14s) 1 ((i 1).val - 2) (by omega) _ (ClosedOff.eq.trans (vec4 (by omega))) _)
            (load_slot _ _ _ (h12s) 1 ((i 1).val - 3) (by omega) _ (ClosedOff.eq.trans (vec4 (by omega))) _)
            (load_slotLanes _ _ _ (h13s) 1 ((i 1).val - 3) (by omega) _ (ClosedOff.eq.trans (vec4 (by omega))) _)
            (load_slot _ _ _ (h14s) 1 ((i 1).val - 3) (by omega) _ (ClosedOff.eq.trans (vec4 (by omega))) _))))
      · exact (Eq.trans (b := shapeCast S1x256x256 (attend (arg15.view.readCov (kernelVal0_D.sl.HS3_8 c arg2 harg2 x0) (Rect.unit (s := S8x256x256) ![4, 0, 0] S1x256x256.size inb_S8x256x256_S1x256x256_4_0_0).toLoadRect) (arg16.view.readCov (kernelVal0_D.sl.HS4_8 c arg2 harg2 x0) (Rect.unit (s := S8x256) ![4, 0] S1x256.size inb_S8x256_S1x256_4_0).toLoadRect) (arg12.view.readCov (kernelVal0_D.sl.HS0_2 c i arg3 harg3 x1) (Rect.unit (s := S2x32x256x256) (k0_off34 i) S1x1x256x256.size (k0_off34_inb i hc3)).toLoadRect, arg13.view.readCov (kernelVal0_D.sl.HS1_2 c i arg3 harg3 x1) (Rect.unit (s := S2x32x256x128) (k0_off35 i) S1x1x256x128.size (k0_off35_inb i hc3)).toLoadRect, arg14.view.readCov (kernelVal0_D.sl.HS2_2 c i arg4 harg4 x2) (Rect.unit (s := S2x32x256x256) (k0_off34 i) S1x1x256x256.size (k0_off34_inb i hc3)).toLoadRect) [(View.readAt (Elt F) arg12.view (Rect.unit (s := S2x32x256x256) (k0_off36 i 1#32) S1x1x256x256.size (k0_off36_inb i hc3 0)).toLoadRect (arg12.view.writes (Elt F) fs0 (kernelVal0_D.sl.HS0_2 c i arg3 harg3 x1)), View.readAt (Elt F) arg13.view (Rect.unit (s := S2x32x256x128) (k0_off37 i 1#32) S1x1x256x128.size (k0_off37_inb i hc3 0)).toLoadRect (arg13.view.writes (Elt F) fs1 (kernelVal0_D.sl.HS1_2 c i arg3 harg3 x1)), View.readAt (Elt F) arg14.view (Rect.unit (s := S2x32x256x256) (k0_off38 i 0#32) S1x1x256x256.size (k0_off38_inb i hc3 0)).toLoadRect (arg14.view.writes (Elt F) fs2 (kernelVal0_D.sl.HS2_2 c i arg4 harg4 x2))), (View.readAt (Elt F) arg12.view (Rect.unit (s := S2x32x256x256) (k0_off36 i 2#32) S1x1x256x256.size (k0_off36_inb i hc3 1)).toLoadRect (arg12.view.writes (Elt F) fs0 (kernelVal0_D.sl.HS0_2 c i arg3 harg3 x1)), View.readAt (Elt F) arg13.view (Rect.unit (s := S2x32x256x128) (k0_off37 i 2#32) S1x1x256x128.size (k0_off37_inb i hc3 1)).toLoadRect (arg13.view.writes (Elt F) fs1 (kernelVal0_D.sl.HS1_2 c i arg3 harg3 x1)), View.readAt (Elt F) arg14.view (Rect.unit (s := S2x32x256x256) (k0_off38 i 1#32) S1x1x256x256.size (k0_off38_inb i hc3 1)).toLoadRect (arg14.view.writes (Elt F) fs2 (kernelVal0_D.sl.HS2_2 c i arg4 harg4 x2))), (View.readAt (Elt F) arg12.view (Rect.unit (s := S2x32x256x256) (k0_off36 i 3#32) S1x1x256x256.size (k0_off36_inb i hc3 2)).toLoadRect (arg12.view.writes (Elt F) fs0 (kernelVal0_D.sl.HS0_2 c i arg3 harg3 x1)), View.readAt (Elt F) arg13.view (Rect.unit (s := S2x32x256x128) (k0_off37 i 3#32) S1x1x256x128.size (k0_off37_inb i hc3 2)).toLoadRect (arg13.view.writes (Elt F) fs1 (kernelVal0_D.sl.HS1_2 c i arg3 harg3 x1)), View.readAt (Elt F) arg14.view (Rect.unit (s := S2x32x256x256) (k0_off38 i 2#32) S1x1x256x256.size (k0_off38_inb i hc3 2)).toLoadRect (arg14.view.writes (Elt F) fs2 (kernelVal0_D.sl.HS2_2 c i arg4 harg4 x2)))]) shapeCasts_S256x256_S1x256x256) (by rfl)
          (congrArg (fun z => shapeCast S1x256x256 z shapeCasts_S256x256_S1x256x256) (attend_congr3
            (load_head (F := F) (e := .fp8e4m3) arg15.view (arg15.view.writes (Elt F) arg15.view.junk (kernelVal0_D.sl.HS3_8 c arg2 harg2 x0)) (fun h => codesV (qBlk h x0)) (h15 _) 4 ![4, 0, 0] rfl _) (load_row (F := F) (e := .f32) arg16.view (arg16.view.writes (Elt F) arg16.view.junk (kernelVal0_D.sl.HS4_8 c arg2 harg2 x0)) (fun h => srow (qBlk h x0)) (h16 _) 4 ![4, 0] rfl _)
            (own_codes _ _ _ _ _ (h12 _) hlt 1 _ ClosedOff.eq _)
            (own_scales _ _ _ _ _ (h13 _) hlt 1 _ ClosedOff.eq _)
            (own_values _ _ _ _ _ (h14 _) hlt 1 _ ClosedOff.eq _)
            (load_slot _ _ _ (h12s) 1 ((i 1).val - 1) (by omega) _ (ClosedOff.eq.trans (vec4 (by omega))) _)
            (load_slotLanes _ _ _ (h13s) 1 ((i 1).val - 1) (by omega) _ (ClosedOff.eq.trans (vec4 (by omega))) _)
            (load_slot _ _ _ (h14s) 1 ((i 1).val - 1) (by omega) _ (ClosedOff.eq.trans (vec4 (by omega))) _)
            (load_slot _ _ _ (h12s) 1 ((i 1).val - 2) (by omega) _ (ClosedOff.eq.trans (vec4 (by omega))) _)
            (load_slotLanes _ _ _ (h13s) 1 ((i 1).val - 2) (by omega) _ (ClosedOff.eq.trans (vec4 (by omega))) _)
            (load_slot _ _ _ (h14s) 1 ((i 1).val - 2) (by omega) _ (ClosedOff.eq.trans (vec4 (by omega))) _)
            (load_slot _ _ _ (h12s) 1 ((i 1).val - 3) (by omega) _ (ClosedOff.eq.trans (vec4 (by omega))) _)
            (load_slotLanes _ _ _ (h13s) 1 ((i 1).val - 3) (by omega) _ (ClosedOff.eq.trans (vec4 (by omega))) _)
            (load_slot _ _ _ (h14s) 1 ((i 1).val - 3) (by omega) _ (ClosedOff.eq.trans (vec4 (by omega))) _))))
      · exact (Eq.trans (b := shapeCast S1x256x256 (attend (arg15.view.readCov (kernelVal0_D.sl.HS3_8 c arg2 harg2 x0) (Rect.unit (s := S8x256x256) ![3, 0, 0] S1x256x256.size inb_S8x256x256_S1x256x256_3_0_0).toLoadRect) (arg16.view.readCov (kernelVal0_D.sl.HS4_8 c arg2 harg2 x0) (Rect.unit (s := S8x256) ![3, 0] S1x256.size inb_S8x256_S1x256_3_0).toLoadRect) (arg12.view.readCov (kernelVal0_D.sl.HS0_2 c i arg3 harg3 x1) (Rect.unit (s := S2x32x256x256) (k0_off29 i) S1x1x256x256.size (k0_off29_inb i hc3)).toLoadRect, arg13.view.readCov (kernelVal0_D.sl.HS1_2 c i arg3 harg3 x1) (Rect.unit (s := S2x32x256x128) (k0_off30 i) S1x1x256x128.size (k0_off30_inb i hc3)).toLoadRect, arg14.view.readCov (kernelVal0_D.sl.HS2_2 c i arg4 harg4 x2) (Rect.unit (s := S2x32x256x256) (k0_off29 i) S1x1x256x256.size (k0_off29_inb i hc3)).toLoadRect) [(View.readAt (Elt F) arg12.view (Rect.unit (s := S2x32x256x256) (k0_off31 i 1#32) S1x1x256x256.size (k0_off31_inb i hc3 0)).toLoadRect (arg12.view.writes (Elt F) fs0 (kernelVal0_D.sl.HS0_2 c i arg3 harg3 x1)), View.readAt (Elt F) arg13.view (Rect.unit (s := S2x32x256x128) (k0_off32 i 1#32) S1x1x256x128.size (k0_off32_inb i hc3 0)).toLoadRect (arg13.view.writes (Elt F) fs1 (kernelVal0_D.sl.HS1_2 c i arg3 harg3 x1)), View.readAt (Elt F) arg14.view (Rect.unit (s := S2x32x256x256) (k0_off33 i 0#32) S1x1x256x256.size (k0_off33_inb i hc3 0)).toLoadRect (arg14.view.writes (Elt F) fs2 (kernelVal0_D.sl.HS2_2 c i arg4 harg4 x2))), (View.readAt (Elt F) arg12.view (Rect.unit (s := S2x32x256x256) (k0_off31 i 2#32) S1x1x256x256.size (k0_off31_inb i hc3 1)).toLoadRect (arg12.view.writes (Elt F) fs0 (kernelVal0_D.sl.HS0_2 c i arg3 harg3 x1)), View.readAt (Elt F) arg13.view (Rect.unit (s := S2x32x256x128) (k0_off32 i 2#32) S1x1x256x128.size (k0_off32_inb i hc3 1)).toLoadRect (arg13.view.writes (Elt F) fs1 (kernelVal0_D.sl.HS1_2 c i arg3 harg3 x1)), View.readAt (Elt F) arg14.view (Rect.unit (s := S2x32x256x256) (k0_off33 i 1#32) S1x1x256x256.size (k0_off33_inb i hc3 1)).toLoadRect (arg14.view.writes (Elt F) fs2 (kernelVal0_D.sl.HS2_2 c i arg4 harg4 x2))), (View.readAt (Elt F) arg12.view (Rect.unit (s := S2x32x256x256) (k0_off31 i 3#32) S1x1x256x256.size (k0_off31_inb i hc3 2)).toLoadRect (arg12.view.writes (Elt F) fs0 (kernelVal0_D.sl.HS0_2 c i arg3 harg3 x1)), View.readAt (Elt F) arg13.view (Rect.unit (s := S2x32x256x128) (k0_off32 i 3#32) S1x1x256x128.size (k0_off32_inb i hc3 2)).toLoadRect (arg13.view.writes (Elt F) fs1 (kernelVal0_D.sl.HS1_2 c i arg3 harg3 x1)), View.readAt (Elt F) arg14.view (Rect.unit (s := S2x32x256x256) (k0_off33 i 2#32) S1x1x256x256.size (k0_off33_inb i hc3 2)).toLoadRect (arg14.view.writes (Elt F) fs2 (kernelVal0_D.sl.HS2_2 c i arg4 harg4 x2)))]) shapeCasts_S256x256_S1x256x256) (by rfl)
          (congrArg (fun z => shapeCast S1x256x256 z shapeCasts_S256x256_S1x256x256) (attend_congr3
            (load_head (F := F) (e := .fp8e4m3) arg15.view (arg15.view.writes (Elt F) arg15.view.junk (kernelVal0_D.sl.HS3_8 c arg2 harg2 x0)) (fun h => codesV (qBlk h x0)) (h15 _) 3 ![3, 0, 0] rfl _) (load_row (F := F) (e := .f32) arg16.view (arg16.view.writes (Elt F) arg16.view.junk (kernelVal0_D.sl.HS4_8 c arg2 harg2 x0)) (fun h => srow (qBlk h x0)) (h16 _) 3 ![3, 0] rfl _)
            (own_codes _ _ _ _ _ (h12 _) hlt 0 _ ClosedOff.eq _)
            (own_scales _ _ _ _ _ (h13 _) hlt 0 _ ClosedOff.eq _)
            (own_values _ _ _ _ _ (h14 _) hlt 0 _ ClosedOff.eq _)
            (load_slot _ _ _ (h12s) 0 ((i 1).val - 1) (by omega) _ (ClosedOff.eq.trans (vec4 (by omega))) _)
            (load_slotLanes _ _ _ (h13s) 0 ((i 1).val - 1) (by omega) _ (ClosedOff.eq.trans (vec4 (by omega))) _)
            (load_slot _ _ _ (h14s) 0 ((i 1).val - 1) (by omega) _ (ClosedOff.eq.trans (vec4 (by omega))) _)
            (load_slot _ _ _ (h12s) 0 ((i 1).val - 2) (by omega) _ (ClosedOff.eq.trans (vec4 (by omega))) _)
            (load_slotLanes _ _ _ (h13s) 0 ((i 1).val - 2) (by omega) _ (ClosedOff.eq.trans (vec4 (by omega))) _)
            (load_slot _ _ _ (h14s) 0 ((i 1).val - 2) (by omega) _ (ClosedOff.eq.trans (vec4 (by omega))) _)
            (load_slot _ _ _ (h12s) 0 ((i 1).val - 3) (by omega) _ (ClosedOff.eq.trans (vec4 (by omega))) _)
            (load_slotLanes _ _ _ (h13s) 0 ((i 1).val - 3) (by omega) _ (ClosedOff.eq.trans (vec4 (by omega))) _)
            (load_slot _ _ _ (h14s) 0 ((i 1).val - 3) (by omega) _ (ClosedOff.eq.trans (vec4 (by omega))) _))))
      · exact (Eq.trans (b := shapeCast S1x256x256 (attend (arg15.view.readCov (kernelVal0_D.sl.HS3_8 c arg2 harg2 x0) (Rect.unit (s := S8x256x256) ![2, 0, 0] S1x256x256.size inb_S8x256x256_S1x256x256_2_0_0).toLoadRect) (arg16.view.readCov (kernelVal0_D.sl.HS4_8 c arg2 harg2 x0) (Rect.unit (s := S8x256) ![2, 0] S1x256.size inb_S8x256_S1x256_2_0).toLoadRect) (arg12.view.readCov (kernelVal0_D.sl.HS0_2 c i arg3 harg3 x1) (Rect.unit (s := S2x32x256x256) (k0_off29 i) S1x1x256x256.size (k0_off29_inb i hc3)).toLoadRect, arg13.view.readCov (kernelVal0_D.sl.HS1_2 c i arg3 harg3 x1) (Rect.unit (s := S2x32x256x128) (k0_off30 i) S1x1x256x128.size (k0_off30_inb i hc3)).toLoadRect, arg14.view.readCov (kernelVal0_D.sl.HS2_2 c i arg4 harg4 x2) (Rect.unit (s := S2x32x256x256) (k0_off29 i) S1x1x256x256.size (k0_off29_inb i hc3)).toLoadRect) [(View.readAt (Elt F) arg12.view (Rect.unit (s := S2x32x256x256) (k0_off31 i 1#32) S1x1x256x256.size (k0_off31_inb i hc3 0)).toLoadRect (arg12.view.writes (Elt F) fs0 (kernelVal0_D.sl.HS0_2 c i arg3 harg3 x1)), View.readAt (Elt F) arg13.view (Rect.unit (s := S2x32x256x128) (k0_off32 i 1#32) S1x1x256x128.size (k0_off32_inb i hc3 0)).toLoadRect (arg13.view.writes (Elt F) fs1 (kernelVal0_D.sl.HS1_2 c i arg3 harg3 x1)), View.readAt (Elt F) arg14.view (Rect.unit (s := S2x32x256x256) (k0_off33 i 0#32) S1x1x256x256.size (k0_off33_inb i hc3 0)).toLoadRect (arg14.view.writes (Elt F) fs2 (kernelVal0_D.sl.HS2_2 c i arg4 harg4 x2))), (View.readAt (Elt F) arg12.view (Rect.unit (s := S2x32x256x256) (k0_off31 i 2#32) S1x1x256x256.size (k0_off31_inb i hc3 1)).toLoadRect (arg12.view.writes (Elt F) fs0 (kernelVal0_D.sl.HS0_2 c i arg3 harg3 x1)), View.readAt (Elt F) arg13.view (Rect.unit (s := S2x32x256x128) (k0_off32 i 2#32) S1x1x256x128.size (k0_off32_inb i hc3 1)).toLoadRect (arg13.view.writes (Elt F) fs1 (kernelVal0_D.sl.HS1_2 c i arg3 harg3 x1)), View.readAt (Elt F) arg14.view (Rect.unit (s := S2x32x256x256) (k0_off33 i 1#32) S1x1x256x256.size (k0_off33_inb i hc3 1)).toLoadRect (arg14.view.writes (Elt F) fs2 (kernelVal0_D.sl.HS2_2 c i arg4 harg4 x2))), (View.readAt (Elt F) arg12.view (Rect.unit (s := S2x32x256x256) (k0_off31 i 3#32) S1x1x256x256.size (k0_off31_inb i hc3 2)).toLoadRect (arg12.view.writes (Elt F) fs0 (kernelVal0_D.sl.HS0_2 c i arg3 harg3 x1)), View.readAt (Elt F) arg13.view (Rect.unit (s := S2x32x256x128) (k0_off32 i 3#32) S1x1x256x128.size (k0_off32_inb i hc3 2)).toLoadRect (arg13.view.writes (Elt F) fs1 (kernelVal0_D.sl.HS1_2 c i arg3 harg3 x1)), View.readAt (Elt F) arg14.view (Rect.unit (s := S2x32x256x256) (k0_off33 i 2#32) S1x1x256x256.size (k0_off33_inb i hc3 2)).toLoadRect (arg14.view.writes (Elt F) fs2 (kernelVal0_D.sl.HS2_2 c i arg4 harg4 x2)))]) shapeCasts_S256x256_S1x256x256) (by rfl)
          (congrArg (fun z => shapeCast S1x256x256 z shapeCasts_S256x256_S1x256x256) (attend_congr3
            (load_head (F := F) (e := .fp8e4m3) arg15.view (arg15.view.writes (Elt F) arg15.view.junk (kernelVal0_D.sl.HS3_8 c arg2 harg2 x0)) (fun h => codesV (qBlk h x0)) (h15 _) 2 ![2, 0, 0] rfl _) (load_row (F := F) (e := .f32) arg16.view (arg16.view.writes (Elt F) arg16.view.junk (kernelVal0_D.sl.HS4_8 c arg2 harg2 x0)) (fun h => srow (qBlk h x0)) (h16 _) 2 ![2, 0] rfl _)
            (own_codes _ _ _ _ _ (h12 _) hlt 0 _ ClosedOff.eq _)
            (own_scales _ _ _ _ _ (h13 _) hlt 0 _ ClosedOff.eq _)
            (own_values _ _ _ _ _ (h14 _) hlt 0 _ ClosedOff.eq _)
            (load_slot _ _ _ (h12s) 0 ((i 1).val - 1) (by omega) _ (ClosedOff.eq.trans (vec4 (by omega))) _)
            (load_slotLanes _ _ _ (h13s) 0 ((i 1).val - 1) (by omega) _ (ClosedOff.eq.trans (vec4 (by omega))) _)
            (load_slot _ _ _ (h14s) 0 ((i 1).val - 1) (by omega) _ (ClosedOff.eq.trans (vec4 (by omega))) _)
            (load_slot _ _ _ (h12s) 0 ((i 1).val - 2) (by omega) _ (ClosedOff.eq.trans (vec4 (by omega))) _)
            (load_slotLanes _ _ _ (h13s) 0 ((i 1).val - 2) (by omega) _ (ClosedOff.eq.trans (vec4 (by omega))) _)
            (load_slot _ _ _ (h14s) 0 ((i 1).val - 2) (by omega) _ (ClosedOff.eq.trans (vec4 (by omega))) _)
            (load_slot _ _ _ (h12s) 0 ((i 1).val - 3) (by omega) _ (ClosedOff.eq.trans (vec4 (by omega))) _)
            (load_slotLanes _ _ _ (h13s) 0 ((i 1).val - 3) (by omega) _ (ClosedOff.eq.trans (vec4 (by omega))) _)
            (load_slot _ _ _ (h14s) 0 ((i 1).val - 3) (by omega) _ (ClosedOff.eq.trans (vec4 (by omega))) _))))
      · exact (Eq.trans (b := shapeCast S1x256x256 (attend (arg15.view.readCov (kernelVal0_D.sl.HS3_8 c arg2 harg2 x0) (Rect.unit (s := S8x256x256) ![1, 0, 0] S1x256x256.size inb_S8x256x256_S1x256x256_1_0_0).toLoadRect) (arg16.view.readCov (kernelVal0_D.sl.HS4_8 c arg2 harg2 x0) (Rect.unit (s := S8x256) ![1, 0] S1x256.size inb_S8x256_S1x256_1_0).toLoadRect) (arg12.view.readCov (kernelVal0_D.sl.HS0_2 c i arg3 harg3 x1) (Rect.unit (s := S2x32x256x256) (k0_off29 i) S1x1x256x256.size (k0_off29_inb i hc3)).toLoadRect, arg13.view.readCov (kernelVal0_D.sl.HS1_2 c i arg3 harg3 x1) (Rect.unit (s := S2x32x256x128) (k0_off30 i) S1x1x256x128.size (k0_off30_inb i hc3)).toLoadRect, arg14.view.readCov (kernelVal0_D.sl.HS2_2 c i arg4 harg4 x2) (Rect.unit (s := S2x32x256x256) (k0_off29 i) S1x1x256x256.size (k0_off29_inb i hc3)).toLoadRect) [(View.readAt (Elt F) arg12.view (Rect.unit (s := S2x32x256x256) (k0_off31 i 1#32) S1x1x256x256.size (k0_off31_inb i hc3 0)).toLoadRect (arg12.view.writes (Elt F) fs0 (kernelVal0_D.sl.HS0_2 c i arg3 harg3 x1)), View.readAt (Elt F) arg13.view (Rect.unit (s := S2x32x256x128) (k0_off32 i 1#32) S1x1x256x128.size (k0_off32_inb i hc3 0)).toLoadRect (arg13.view.writes (Elt F) fs1 (kernelVal0_D.sl.HS1_2 c i arg3 harg3 x1)), View.readAt (Elt F) arg14.view (Rect.unit (s := S2x32x256x256) (k0_off33 i 0#32) S1x1x256x256.size (k0_off33_inb i hc3 0)).toLoadRect (arg14.view.writes (Elt F) fs2 (kernelVal0_D.sl.HS2_2 c i arg4 harg4 x2))), (View.readAt (Elt F) arg12.view (Rect.unit (s := S2x32x256x256) (k0_off31 i 2#32) S1x1x256x256.size (k0_off31_inb i hc3 1)).toLoadRect (arg12.view.writes (Elt F) fs0 (kernelVal0_D.sl.HS0_2 c i arg3 harg3 x1)), View.readAt (Elt F) arg13.view (Rect.unit (s := S2x32x256x128) (k0_off32 i 2#32) S1x1x256x128.size (k0_off32_inb i hc3 1)).toLoadRect (arg13.view.writes (Elt F) fs1 (kernelVal0_D.sl.HS1_2 c i arg3 harg3 x1)), View.readAt (Elt F) arg14.view (Rect.unit (s := S2x32x256x256) (k0_off33 i 1#32) S1x1x256x256.size (k0_off33_inb i hc3 1)).toLoadRect (arg14.view.writes (Elt F) fs2 (kernelVal0_D.sl.HS2_2 c i arg4 harg4 x2))), (View.readAt (Elt F) arg12.view (Rect.unit (s := S2x32x256x256) (k0_off31 i 3#32) S1x1x256x256.size (k0_off31_inb i hc3 2)).toLoadRect (arg12.view.writes (Elt F) fs0 (kernelVal0_D.sl.HS0_2 c i arg3 harg3 x1)), View.readAt (Elt F) arg13.view (Rect.unit (s := S2x32x256x128) (k0_off32 i 3#32) S1x1x256x128.size (k0_off32_inb i hc3 2)).toLoadRect (arg13.view.writes (Elt F) fs1 (kernelVal0_D.sl.HS1_2 c i arg3 harg3 x1)), View.readAt (Elt F) arg14.view (Rect.unit (s := S2x32x256x256) (k0_off33 i 2#32) S1x1x256x256.size (k0_off33_inb i hc3 2)).toLoadRect (arg14.view.writes (Elt F) fs2 (kernelVal0_D.sl.HS2_2 c i arg4 harg4 x2)))]) shapeCasts_S256x256_S1x256x256) (by rfl)
          (congrArg (fun z => shapeCast S1x256x256 z shapeCasts_S256x256_S1x256x256) (attend_congr3
            (load_head (F := F) (e := .fp8e4m3) arg15.view (arg15.view.writes (Elt F) arg15.view.junk (kernelVal0_D.sl.HS3_8 c arg2 harg2 x0)) (fun h => codesV (qBlk h x0)) (h15 _) 1 ![1, 0, 0] rfl _) (load_row (F := F) (e := .f32) arg16.view (arg16.view.writes (Elt F) arg16.view.junk (kernelVal0_D.sl.HS4_8 c arg2 harg2 x0)) (fun h => srow (qBlk h x0)) (h16 _) 1 ![1, 0] rfl _)
            (own_codes _ _ _ _ _ (h12 _) hlt 0 _ ClosedOff.eq _)
            (own_scales _ _ _ _ _ (h13 _) hlt 0 _ ClosedOff.eq _)
            (own_values _ _ _ _ _ (h14 _) hlt 0 _ ClosedOff.eq _)
            (load_slot _ _ _ (h12s) 0 ((i 1).val - 1) (by omega) _ (ClosedOff.eq.trans (vec4 (by omega))) _)
            (load_slotLanes _ _ _ (h13s) 0 ((i 1).val - 1) (by omega) _ (ClosedOff.eq.trans (vec4 (by omega))) _)
            (load_slot _ _ _ (h14s) 0 ((i 1).val - 1) (by omega) _ (ClosedOff.eq.trans (vec4 (by omega))) _)
            (load_slot _ _ _ (h12s) 0 ((i 1).val - 2) (by omega) _ (ClosedOff.eq.trans (vec4 (by omega))) _)
            (load_slotLanes _ _ _ (h13s) 0 ((i 1).val - 2) (by omega) _ (ClosedOff.eq.trans (vec4 (by omega))) _)
            (load_slot _ _ _ (h14s) 0 ((i 1).val - 2) (by omega) _ (ClosedOff.eq.trans (vec4 (by omega))) _)
            (load_slot _ _ _ (h12s) 0 ((i 1).val - 3) (by omega) _ (ClosedOff.eq.trans (vec4 (by omega))) _)
            (load_slotLanes _ _ _ (h13s) 0 ((i 1).val - 3) (by omega) _ (ClosedOff.eq.trans (vec4 (by omega))) _)
            (load_slot _ _ _ (h14s) 0 ((i 1).val - 3) (by omega) _ (ClosedOff.eq.trans (vec4 (by omega))) _))))
      · exact (Eq.trans (b := shapeCast S1x256x256 (attend (arg15.view.readCov (kernelVal0_D.sl.HS3_8 c arg2 harg2 x0) (Rect.unit (s := S8x256x256) ![0, 0, 0] S1x256x256.size inb_S8x256x256_S1x256x256_0_0_0).toLoadRect) (arg16.view.readCov (kernelVal0_D.sl.HS4_8 c arg2 harg2 x0) (Rect.unit (s := S8x256) ![0, 0] S1x256.size inb_S8x256_S1x256_0_0).toLoadRect) (arg12.view.readCov (kernelVal0_D.sl.HS0_2 c i arg3 harg3 x1) (Rect.unit (s := S2x32x256x256) (k0_off29 i) S1x1x256x256.size (k0_off29_inb i hc3)).toLoadRect, arg13.view.readCov (kernelVal0_D.sl.HS1_2 c i arg3 harg3 x1) (Rect.unit (s := S2x32x256x128) (k0_off30 i) S1x1x256x128.size (k0_off30_inb i hc3)).toLoadRect, arg14.view.readCov (kernelVal0_D.sl.HS2_2 c i arg4 harg4 x2) (Rect.unit (s := S2x32x256x256) (k0_off29 i) S1x1x256x256.size (k0_off29_inb i hc3)).toLoadRect) [(View.readAt (Elt F) arg12.view (Rect.unit (s := S2x32x256x256) (k0_off31 i 1#32) S1x1x256x256.size (k0_off31_inb i hc3 0)).toLoadRect (arg12.view.writes (Elt F) fs0 (kernelVal0_D.sl.HS0_2 c i arg3 harg3 x1)), View.readAt (Elt F) arg13.view (Rect.unit (s := S2x32x256x128) (k0_off32 i 1#32) S1x1x256x128.size (k0_off32_inb i hc3 0)).toLoadRect (arg13.view.writes (Elt F) fs1 (kernelVal0_D.sl.HS1_2 c i arg3 harg3 x1)), View.readAt (Elt F) arg14.view (Rect.unit (s := S2x32x256x256) (k0_off33 i 0#32) S1x1x256x256.size (k0_off33_inb i hc3 0)).toLoadRect (arg14.view.writes (Elt F) fs2 (kernelVal0_D.sl.HS2_2 c i arg4 harg4 x2))), (View.readAt (Elt F) arg12.view (Rect.unit (s := S2x32x256x256) (k0_off31 i 2#32) S1x1x256x256.size (k0_off31_inb i hc3 1)).toLoadRect (arg12.view.writes (Elt F) fs0 (kernelVal0_D.sl.HS0_2 c i arg3 harg3 x1)), View.readAt (Elt F) arg13.view (Rect.unit (s := S2x32x256x128) (k0_off32 i 2#32) S1x1x256x128.size (k0_off32_inb i hc3 1)).toLoadRect (arg13.view.writes (Elt F) fs1 (kernelVal0_D.sl.HS1_2 c i arg3 harg3 x1)), View.readAt (Elt F) arg14.view (Rect.unit (s := S2x32x256x256) (k0_off33 i 1#32) S1x1x256x256.size (k0_off33_inb i hc3 1)).toLoadRect (arg14.view.writes (Elt F) fs2 (kernelVal0_D.sl.HS2_2 c i arg4 harg4 x2))), (View.readAt (Elt F) arg12.view (Rect.unit (s := S2x32x256x256) (k0_off31 i 3#32) S1x1x256x256.size (k0_off31_inb i hc3 2)).toLoadRect (arg12.view.writes (Elt F) fs0 (kernelVal0_D.sl.HS0_2 c i arg3 harg3 x1)), View.readAt (Elt F) arg13.view (Rect.unit (s := S2x32x256x128) (k0_off32 i 3#32) S1x1x256x128.size (k0_off32_inb i hc3 2)).toLoadRect (arg13.view.writes (Elt F) fs1 (kernelVal0_D.sl.HS1_2 c i arg3 harg3 x1)), View.readAt (Elt F) arg14.view (Rect.unit (s := S2x32x256x256) (k0_off33 i 2#32) S1x1x256x256.size (k0_off33_inb i hc3 2)).toLoadRect (arg14.view.writes (Elt F) fs2 (kernelVal0_D.sl.HS2_2 c i arg4 harg4 x2)))]) shapeCasts_S256x256_S1x256x256) (by rfl)
          (congrArg (fun z => shapeCast S1x256x256 z shapeCasts_S256x256_S1x256x256) (attend_congr3
            (load_head (F := F) (e := .fp8e4m3) arg15.view (arg15.view.writes (Elt F) arg15.view.junk (kernelVal0_D.sl.HS3_8 c arg2 harg2 x0)) (fun h => codesV (qBlk h x0)) (h15 _) 0 ![0, 0, 0] rfl _) (load_row (F := F) (e := .f32) arg16.view (arg16.view.writes (Elt F) arg16.view.junk (kernelVal0_D.sl.HS4_8 c arg2 harg2 x0)) (fun h => srow (qBlk h x0)) (h16 _) 0 ![0, 0] rfl _)
            (own_codes _ _ _ _ _ (h12 _) hlt 0 _ ClosedOff.eq _)
            (own_scales _ _ _ _ _ (h13 _) hlt 0 _ ClosedOff.eq _)
            (own_values _ _ _ _ _ (h14 _) hlt 0 _ ClosedOff.eq _)
            (load_slot _ _ _ (h12s) 0 ((i 1).val - 1) (by omega) _ (ClosedOff.eq.trans (vec4 (by omega))) _)
            (load_slotLanes _ _ _ (h13s) 0 ((i 1).val - 1) (by omega) _ (ClosedOff.eq.trans (vec4 (by omega))) _)
            (load_slot _ _ _ (h14s) 0 ((i 1).val - 1) (by omega) _ (ClosedOff.eq.trans (vec4 (by omega))) _)
            (load_slot _ _ _ (h12s) 0 ((i 1).val - 2) (by omega) _ (ClosedOff.eq.trans (vec4 (by omega))) _)
            (load_slotLanes _ _ _ (h13s) 0 ((i 1).val - 2) (by omega) _ (ClosedOff.eq.trans (vec4 (by omega))) _)
            (load_slot _ _ _ (h14s) 0 ((i 1).val - 2) (by omega) _ (ClosedOff.eq.trans (vec4 (by omega))) _)
            (load_slot _ _ _ (h12s) 0 ((i 1).val - 3) (by omega) _ (ClosedOff.eq.trans (vec4 (by omega))) _)
            (load_slotLanes _ _ _ (h13s) 0 ((i 1).val - 3) (by omega) _ (ClosedOff.eq.trans (vec4 (by omega))) _)
            (load_slot _ _ _ (h14s) 0 ((i 1).val - 3) (by omega) _ (ClosedOff.eq.trans (vec4 (by omega))) _))))
    isplitl [H4]
    · iexists _; isplitr; swap; · iexact H4
      ipureintro
      refine packs4 _ _ (packV x0) _ _ _ _ _ _ _ _ ?_ ?_ ?_ ?_
      · exact (by dsimp only [packV]; rw [← load_q arg2 harg2 x0 4 ![0, 0, 1024] rfl (inb_S1x256x2048_S1x256x256_0_0_1024), ← load_q arg2 harg2 x0 5 ![0, 0, 1280] rfl (inb_S1x256x2048_S1x256x256_0_0_1280), ← load_q arg2 harg2 x0 6 ![0, 0, 1536] rfl (inb_S1x256x2048_S1x256x256_0_0_1536), ← load_q arg2 harg2 x0 7 ![0, 0, 1792] rfl (inb_S1x256x2048_S1x256x256_0_0_1792)]; rfl)
      · exact (by dsimp only [packV]; rw [← load_q arg2 harg2 x0 4 ![0, 0, 1024] rfl (inb_S1x256x2048_S1x256x256_0_0_1024), ← load_q arg2 harg2 x0 5 ![0, 0, 1280] rfl (inb_S1x256x2048_S1x256x256_0_0_1280), ← load_q arg2 harg2 x0 6 ![0, 0, 1536] rfl (inb_S1x256x2048_S1x256x256_0_0_1536), ← load_q arg2 harg2 x0 7 ![0, 0, 1792] rfl (inb_S1x256x2048_S1x256x256_0_0_1792)]; rfl)
      · exact (by dsimp only [packV]; rw [← load_q arg2 harg2 x0 0 ![0, 0, 0] rfl (inb_S1x256x2048_S1x256x256_0_0_0), ← load_q arg2 harg2 x0 1 ![0, 0, 256] rfl (inb_S1x256x2048_S1x256x256_0_0_256), ← load_q arg2 harg2 x0 2 ![0, 0, 512] rfl (inb_S1x256x2048_S1x256x256_0_0_512), ← load_q arg2 harg2 x0 3 ![0, 0, 768] rfl (inb_S1x256x2048_S1x256x256_0_0_768)]; rfl)
      · exact (by dsimp only [packV]; rw [← load_q arg2 harg2 x0 0 ![0, 0, 0] rfl (inb_S1x256x2048_S1x256x256_0_0_0), ← load_q arg2 harg2 x0 1 ![0, 0, 256] rfl (inb_S1x256x2048_S1x256x256_0_0_256), ← load_q arg2 harg2 x0 2 ![0, 0, 512] rfl (inb_S1x256x2048_S1x256x256_0_0_512), ← load_q arg2 harg2 x0 3 ![0, 0, 768] rfl (inb_S1x256x2048_S1x256x256_0_0_768)]; rfl)
    isplitl [H5]
    · iexists _; isplitr; swap; · iexact H5
      ipureintro
      refine lines8 _ _ (fun h => srow (qBlk h x0)) _ _ _ _ _ _ _ _ _ _ _ _ _ _ _ _ ?_ ?_ ?_ ?_ ?_ ?_ ?_ ?_
      · exact (by rw [← load_q arg2 harg2 x0 7 ![0, 0, 1792] rfl (inb_S1x256x2048_S1x256x256_0_0_1792)]; rfl)
      · exact (by rw [← load_q arg2 harg2 x0 6 ![0, 0, 1536] rfl (inb_S1x256x2048_S1x256x256_0_0_1536)]; rfl)
      · exact (by rw [← load_q arg2 harg2 x0 5 ![0, 0, 1280] rfl (inb_S1x256x2048_S1x256x256_0_0_1280)]; rfl)
      · exact (by rw [← load_q arg2 harg2 x0 4 ![0, 0, 1024] rfl (inb_S1x256x2048_S1x256x256_0_0_1024)]; rfl)
      · exact (by rw [← load_q arg2 harg2 x0 3 ![0, 0, 768] rfl (inb_S1x256x2048_S1x256x256_0_0_768)]; rfl)
      · exact (by rw [← load_q arg2 harg2 x0 2 ![0, 0, 512] rfl (inb_S1x256x2048_S1x256x256_0_0_512)]; rfl)
      · exact (by rw [← load_q arg2 harg2 x0 1 ![0, 0, 256] rfl (inb_S1x256x2048_S1x256x256_0_0_256)]; rfl)
      · exact (by rw [← load_q arg2 harg2 x0 0 ![0, 0, 0] rfl (inb_S1x256x2048_S1x256x256_0_0_0)]; rfl)
    isplitl [H6]
    · iexists _; isplitr; swap; · iexact H6
      ipureintro
      refine planes (F := F) (e := .fp8e4m3) arg8.view _ (fun g => codesV (kBlk g x1)) _ _ _ _ ?_ ?_
      · exact (by rw [← load_k1 arg3 harg3 x1 (inb_S1x256x512_S1x256x256_0_0_256)]; rfl)
      · exact (by rw [← load_k0 arg3 harg3 x1 (inb_S1x256x512_S1x256x256_0_0_0)]; rfl)
    isplitl [H7]
    · iexists _; isplitr; swap; · iexact H7
      ipureintro
      refine lines2 _ _ (fun g => srow (kBlk g x1)) _ _ _ _ ?_ ?_
      · exact (by rw [← load_k1 arg3 harg3 x1 (inb_S1x256x512_S1x256x256_0_0_256)]; rfl)
      · exact (by rw [← load_k0 arg3 harg3 x1 (inb_S1x256x512_S1x256x256_0_0_0)]; rfl)
    isplitl [H8]
    · iexists _; isplitr; swap; · iexact H8
      ipureintro
      refine planes (F := F) (e := .fp8e4m3) arg10.view _ (fun g => codesV (kBlk g x2)) _ _ _ _ ?_ ?_
      · exact (by rw [← load_k1 arg4 harg4 x2 (inb_S1x256x512_S1x256x256_0_0_256)]; rfl)
      · exact (by rw [← load_k0 arg4 harg4 x2 (inb_S1x256x512_S1x256x256_0_0_0)]; rfl)
    isplitl [H9]
    · iexists _; isplitr; swap; · iexact H9
      ipureintro
      refine lines2 _ _ (fun g => srow (kBlk g x2)) _ _ _ _ ?_ ?_
      · exact (by rw [← load_k1 arg4 harg4 x2 (inb_S1x256x512_S1x256x256_0_0_256)]; rfl)
      · exact (by rw [← load_k0 arg4 harg4 x2 (inb_S1x256x512_S1x256x256_0_0_0)]; rfl)
    isplitl [HS0]
    · iexists _; isplitr; swap; · iexact HS0
      ipureintro; exact h12s
    isplitl [HS1]
    · iexists _; isplitr; swap; · iexact HS1
      ipureintro; exact h13s
    isplitl [HS2]
    · iexists _; isplitr; swap; · iexact HS2
      ipureintro; exact h14s
    isplitl [HS3]
    · iexists _, _; isplitr; swap; · iexact HS3
      ipureintro; rfl
    iexists _, _; isplitr; swap; · iexact HS4
    ipureintro; rfl

end Cert.KernelIdeal.Spec

end
-- ==== Proof.ValueE.lean ====
module

public import proofs.«01_k».proof.Proof.KernelIdealCases
public import proofs.«01_k».proof.Proof.Pieces

/-! What the body computes on every later tile. -/

@[expose] public section

-- membership in a rectangle of production extents (`View.cover_of_tiled`): the elaborator's structural look
-- recurses once per coordinate of the long axes
set_option maxRecDepth 16384

noncomputable section

namespace Cert.KernelIdeal.Spec

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 8000000 in
/-- The body on every later tile: from the blocks of its inputs and the rings, its outputs and the rings after it. -/
theorem kernelVal0_E (c : Dev nD) (i : grid0.Coords) (arg2 : Memref sig .tc .vmem S1x256x2048 .bf16) (harg2 : arg2.IsWhole) (arg3 : Memref sig .tc .vmem S1x256x512 .bf16) (harg3 : arg3.IsWhole) (arg4 : Memref sig .tc .vmem S1x256x512 .bf16) (harg4 : arg4.IsWhole) (arg5 : Memref sig .tc .vmem S1x256x2048 .bf16) (harg5 : arg5.IsWhole) (arg6 : Memref sig .tc .vmem S1x256x2x8x128 .fp8e4m3) (harg6 : arg6.IsWhole) (arg7 : Memref sig .tc .vmem S1x8x256 .f32) (harg7 : arg7.IsWhole) (arg8 : Memref sig .tc .vmem S1x2x256x256 .fp8e4m3) (harg8 : arg8.IsWhole) (arg9 : Memref sig .tc .vmem S1x2x256 .f32) (harg9 : arg9.IsWhole) (arg10 : Memref sig .tc .vmem S1x2x256x256 .fp8e4m3) (harg10 : arg10.IsWhole) (arg11 : Memref sig .tc .vmem S1x2x256 .f32) (harg11 : arg11.IsWhole) (arg12 : Memref sig .tc .vmem S2x32x256x256 .fp8e4m3) (harg12 : arg12.IsWhole) (arg13 : Memref sig .tc .vmem S2x32x256x128 .f32) (harg13 : arg13.IsWhole) (arg14 : Memref sig .tc .vmem S2x32x256x256 .bf16) (harg14 : arg14.IsWhole) (arg15 : Memref sig .tc .vmem S8x256x256 .fp8e4m3) (harg15 : arg15.IsWhole) (arg16 : Memref sig .tc .vmem S8x256 .f32) (harg16 : arg16.IsWhole) (hc0 : ¬cond0_0 i) (hc1 : ¬cond0_1 i) (hc2 : ¬cond0_2 i) (hc3 : ¬cond0_3 i) (hc4 : cond0_4 i)
    (hi : 4 ≤ (i 1).val) (x0 : Vec F S1x256x2048 .bf16) (x1 : Vec F S1x256x512 .bf16) (x2 : Vec F S1x256x512 .bf16)
    (s0 : Vec F S2x32x256x256 .fp8e4m3) (s1 : Vec F S2x32x256x128 .f32) (s2 : Vec F S2x32x256x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare s0 ∗ owns (c : Thread nD τ) arg13 fullShare s1 ∗ owns (c : Thread nD τ) arg14 fullShare s2 ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare (oOut 4 (i 1).val x0 (ringK (i 1).val x1 s0) (ringS (i 1).val x1 s1) (ringV (i 1).val x2 s2)) ∗ owns (c : Thread nD τ) arg6 fullShare (oQCodes x0) ∗ owns (c : Thread nD τ) arg7 fullShare (oQScales x0) ∗ owns (c : Thread nD τ) arg8 fullShare (oCodes x1) ∗ owns (c : Thread nD τ) arg9 fullShare (oScales x1) ∗ owns (c : Thread nD τ) arg10 fullShare (oCodes x2) ∗ owns (c : Thread nD τ) arg11 fullShare (oScales x2) ∗ owns (c : Thread nD τ) arg12 fullShare (ringK (i 1).val x1 s0) ∗ owns (c : Thread nD τ) arg13 fullShare (ringS (i 1).val x1 s1) ∗ owns (c : Thread nD τ) arg14 fullShare (ringV (i 1).val x2 s2) ∗ (∃ d, owns (c : Thread nD τ) arg15 fullShare d) ∗ (∃ d, owns (c : Thread nD τ) arg16 fullShare d)) -∗ K ⟨⟩))
          ⊢ wp frame (wpE (defs₀ (F := F)) Variants.none c none) E (cc0_swa_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_swa_fp8_eq_skeleton]; unfold cc0_swa_fp8_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%fs0, %hfs0, HS0⟩, ⟨%fs1, %hfs1, HS1⟩, ⟨%fs2, %hfs2, HS2⟩, ⟨%ds3, %fs3, -, HS3⟩, ⟨%ds4, %fs4, -, HS4⟩, Hk⟩
    obtain rfl := harg2.eq_unread hf0; obtain rfl := harg3.eq_unread hf1; obtain rfl := harg4.eq_unread hf2
    sl_exec_parts (disch := first | sl_exact hc0 | sl_exact hc1 | sl_exact hc2 | sl_exact hc3 | sl_exact hc4)
    sl_step
    have h12 : ∀ f, arg12.view.read (Elt F) (arg12.view.writes (Elt F) f (kernelVal0_E.sl.HS0_2 c i arg3 harg3 x1)) = ringK (i 1).val x1 (arg12.view.read (Elt F) f) := fun f =>
      ring _ f _ (fun g => codesV (kBlk g x1)) _ _ _ _ _ _ ClosedOff.eq ClosedOff.eq
        (by rw [← load_k1 arg3 harg3 x1 (inb_S1x256x512_S1x256x256_0_0_256)]; rfl) (by rw [← load_k0 arg3 harg3 x1 (inb_S1x256x512_S1x256x256_0_0_0)]; rfl)
    have h13 : ∀ f, arg13.view.read (Elt F) (arg13.view.writes (Elt F) f (kernelVal0_E.sl.HS1_2 c i arg3 harg3 x1)) = ringS (i 1).val x1 (arg13.view.read (Elt F) f) := fun f =>
      ringLanes _ f _ (fun g => slanes (kBlk g x1)) _ _ _ _ _ _ ClosedOff.eq ClosedOff.eq
        (by rw [← load_k1 arg3 harg3 x1 (inb_S1x256x512_S1x256x256_0_0_256)]; rfl) (by rw [← load_k0 arg3 harg3 x1 (inb_S1x256x512_S1x256x256_0_0_0)]; rfl)
    have h14 : ∀ f, arg14.view.read (Elt F) (arg14.view.writes (Elt F) f (kernelVal0_E.sl.HS2_2 c i arg4 harg4 x2)) = ringV (i 1).val x2 (arg14.view.read (Elt F) f) := fun f =>
      ring _ f _ (fun g => valsV (kBlk g x2)) _ _ _ _ _ _ ClosedOff.eq ClosedOff.eq
        (by rw [← load_k1 arg4 harg4 x2 (inb_S1x256x512_S1x256x256_0_0_256)]; rfl) (by rw [← load_k0 arg4 harg4 x2 (inb_S1x256x512_S1x256x256_0_0_0)]; rfl)
    have hlt : (i 1).val < 32 := (i 1).isLt
    have h12s := (h12 fs0).trans (congrArg (ringK (i 1).val x1) hfs0)
    have h13s := (h13 fs1).trans (congrArg (ringS (i 1).val x1) hfs1)
    have h14s := (h14 fs2).trans (congrArg (ringV (i 1).val x2) hfs2)
    have h15 : ∀ f, arg15.view.read (Elt F) (arg15.view.writes (Elt F) f (kernelVal0_E.sl.HS3_8 c arg2 harg2 x0)) = fun y => codesV (qBlk (y 0) x0) (ix2 (y 1) (y 2)) := fun f =>
      heads8 _ f (fun h => codesV (qBlk h x0)) _ _ _ _ _ _ _ _ _ _ _ _ _ _ _ _
        (by rw [← load_q arg2 harg2 x0 7 ![0, 0, 1792] rfl (inb_S1x256x2048_S1x256x256_0_0_1792)]; rfl) (by rw [← load_q arg2 harg2 x0 6 ![0, 0, 1536] rfl (inb_S1x256x2048_S1x256x256_0_0_1536)]; rfl) (by rw [← load_q arg2 harg2 x0 5 ![0, 0, 1280] rfl (inb_S1x256x2048_S1x256x256_0_0_1280)]; rfl) (by rw [← load_q arg2 harg2 x0 4 ![0, 0, 1024] rfl (inb_S1x256x2048_S1x256x256_0_0_1024)]; rfl) (by rw [← load_q arg2 harg2 x0 3 ![0, 0, 768] rfl (inb_S1x256x2048_S1x256x256_0_0_768)]; rfl) (by rw [← load_q arg2 harg2 x0 2 ![0, 0, 512] rfl (inb_S1x256x2048_S1x256x256_0_0_512)]; rfl) (by rw [← load_q arg2 harg2 x0 1 ![0, 0, 256] rfl (inb_S1x256x2048_S1x256x256_0_0_256)]; rfl) (by rw [← load_q arg2 harg2 x0 0 ![0, 0, 0] rfl (inb_S1x256x2048_S1x256x256_0_0_0)]; rfl)
    have h16 : ∀ f, arg16.view.read (Elt F) (arg16.view.writes (Elt F) f (kernelVal0_E.sl.HS4_8 c arg2 harg2 x0)) = fun y => srow (qBlk (y 0) x0) (ix2 0 (y 1)) := fun f =>
      rows8 _ f (fun h => srow (qBlk h x0)) _ _ _ _ _ _ _ _ _ _ _ _ _ _ _ _
        (by rw [← load_q arg2 harg2 x0 7 ![0, 0, 1792] rfl (inb_S1x256x2048_S1x256x256_0_0_1792)]; rfl) (by rw [← load_q arg2 harg2 x0 6 ![0, 0, 1536] rfl (inb_S1x256x2048_S1x256x256_0_0_1536)]; rfl) (by rw [← load_q arg2 harg2 x0 5 ![0, 0, 1280] rfl (inb_S1x256x2048_S1x256x256_0_0_1280)]; rfl) (by rw [← load_q arg2 harg2 x0 4 ![0, 0, 1024] rfl (inb_S1x256x2048_S1x256x256_0_0_1024)]; rfl) (by rw [← load_q arg2 harg2 x0 3 ![0, 0, 768] rfl (inb_S1x256x2048_S1x256x256_0_0_768)]; rfl) (by rw [← load_q arg2 harg2 x0 2 ![0, 0, 512] rfl (inb_S1x256x2048_S1x256x256_0_0_512)]; rfl) (by rw [← load_q arg2 harg2 x0 1 ![0, 0, 256] rfl (inb_S1x256x2048_S1x256x256_0_0_256)]; rfl) (by rw [← load_q arg2 harg2 x0 0 ![0, 0, 0] rfl (inb_S1x256x2048_S1x256x256_0_0_0)]; rfl)
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      refine cols8 _ _ (fun h => headOut 4 (i 1).val h x0 (ringK (i 1).val x1 s0) (ringS (i 1).val x1 s1) (ringV (i 1).val x2 s2)) _ _ _ _ _ _ _ _ _ _ _ _ _ _ _ _ ?_ ?_ ?_ ?_ ?_ ?_ ?_ ?_
      · exact (Eq.trans (b := shapeCast S1x256x256 (attendFull (arg15.view.readCov (kernelVal0_E.sl.HS3_8 c arg2 harg2 x0) (Rect.unit (s := S8x256x256) ![7, 0, 0] S1x256x256.size inb_S8x256x256_S1x256x256_7_0_0).toLoadRect) (arg16.view.readCov (kernelVal0_E.sl.HS4_8 c arg2 harg2 x0) (Rect.unit (s := S8x256) ![7, 0] S1x256.size inb_S8x256_S1x256_7_0).toLoadRect) (arg12.view.readCov (kernelVal0_E.sl.HS0_2 c i arg3 harg3 x1) (Rect.unit (s := S2x32x256x256) (k0_off44 i) S1x1x256x256.size (k0_off44_inb i hc4)).toLoadRect, arg13.view.readCov (kernelVal0_E.sl.HS1_2 c i arg3 harg3 x1) (Rect.unit (s := S2x32x256x128) (k0_off45 i) S1x1x256x128.size (k0_off45_inb i hc4)).toLoadRect, arg14.view.readCov (kernelVal0_E.sl.HS2_2 c i arg4 harg4 x2) (Rect.unit (s := S2x32x256x256) (k0_off44 i) S1x1x256x256.size (k0_off44_inb i hc4)).toLoadRect) [(View.readAt (Elt F) arg12.view (Rect.unit (s := S2x32x256x256) (k0_off46 i 1#32) S1x1x256x256.size (k0_off46_inb i hc4 0)).toLoadRect (arg12.view.writes (Elt F) fs0 (kernelVal0_E.sl.HS0_2 c i arg3 harg3 x1)), View.readAt (Elt F) arg13.view (Rect.unit (s := S2x32x256x128) (k0_off47 i 1#32) S1x1x256x128.size (k0_off47_inb i hc4 0)).toLoadRect (arg13.view.writes (Elt F) fs1 (kernelVal0_E.sl.HS1_2 c i arg3 harg3 x1)), View.readAt (Elt F) arg14.view (Rect.unit (s := S2x32x256x256) (k0_off48 i 0#32) S1x1x256x256.size (k0_off48_inb i hc4 0)).toLoadRect (arg14.view.writes (Elt F) fs2 (kernelVal0_E.sl.HS2_2 c i arg4 harg4 x2))), (View.readAt (Elt F) arg12.view (Rect.unit (s := S2x32x256x256) (k0_off46 i 2#32) S1x1x256x256.size (k0_off46_inb i hc4 1)).toLoadRect (arg12.view.writes (Elt F) fs0 (kernelVal0_E.sl.HS0_2 c i arg3 harg3 x1)), View.readAt (Elt F) arg13.view (Rect.unit (s := S2x32x256x128) (k0_off47 i 2#32) S1x1x256x128.size (k0_off47_inb i hc4 1)).toLoadRect (arg13.view.writes (Elt F) fs1 (kernelVal0_E.sl.HS1_2 c i arg3 harg3 x1)), View.readAt (Elt F) arg14.view (Rect.unit (s := S2x32x256x256) (k0_off48 i 1#32) S1x1x256x256.size (k0_off48_inb i hc4 1)).toLoadRect (arg14.view.writes (Elt F) fs2 (kernelVal0_E.sl.HS2_2 c i arg4 harg4 x2))), (View.readAt (Elt F) arg12.view (Rect.unit (s := S2x32x256x256) (k0_off46 i 3#32) S1x1x256x256.size (k0_off46_inb i hc4 2)).toLoadRect (arg12.view.writes (Elt F) fs0 (kernelVal0_E.sl.HS0_2 c i arg3 harg3 x1)), View.readAt (Elt F) arg13.view (Rect.unit (s := S2x32x256x128) (k0_off47 i 3#32) S1x1x256x128.size (k0_off47_inb i hc4 2)).toLoadRect (arg13.view.writes (Elt F) fs1 (kernelVal0_E.sl.HS1_2 c i arg3 harg3 x1)), View.readAt (Elt F) arg14.view (Rect.unit (s := S2x32x256x256) (k0_off48 i 2#32) S1x1x256x256.size (k0_off48_inb i hc4 2)).toLoadRect (arg14.view.writes (Elt F) fs2 (kernelVal0_E.sl.HS2_2 c i arg4 harg4 x2)))] (View.readAt (Elt F) arg12.view (Rect.unit (s := S2x32x256x256) (k0_off46 i 4#32) S1x1x256x256.size (k0_off46_inb i hc4 3)).toLoadRect (arg12.view.writes (Elt F) fs0 (kernelVal0_E.sl.HS0_2 c i arg3 harg3 x1)), View.readAt (Elt F) arg13.view (Rect.unit (s := S2x32x256x128) (k0_off47 i 4#32) S1x1x256x128.size (k0_off47_inb i hc4 3)).toLoadRect (arg13.view.writes (Elt F) fs1 (kernelVal0_E.sl.HS1_2 c i arg3 harg3 x1)), View.readAt (Elt F) arg14.view (Rect.unit (s := S2x32x256x256) (k0_off46 i 4#32) S1x1x256x256.size (k0_off46_inb i hc4 3)).toLoadRect (arg14.view.writes (Elt F) fs2 (kernelVal0_E.sl.HS2_2 c i arg4 harg4 x2)))) shapeCasts_S256x256_S1x256x256) (by rfl)
          (congrArg (fun z => shapeCast S1x256x256 z shapeCasts_S256x256_S1x256x256) (attend_congr4
            (load_head (F := F) (e := .fp8e4m3) arg15.view (arg15.view.writes (Elt F) arg15.view.junk (kernelVal0_E.sl.HS3_8 c arg2 harg2 x0)) (fun h => codesV (qBlk h x0)) (h15 _) 7 ![7, 0, 0] rfl _) (load_row (F := F) (e := .f32) arg16.view (arg16.view.writes (Elt F) arg16.view.junk (kernelVal0_E.sl.HS4_8 c arg2 harg2 x0)) (fun h => srow (qBlk h x0)) (h16 _) 7 ![7, 0] rfl _)
            (own_codes _ _ _ _ _ (h12 _) hlt 1 _ ClosedOff.eq _)
            (own_scales _ _ _ _ _ (h13 _) hlt 1 _ ClosedOff.eq _)
            (own_values _ _ _ _ _ (h14 _) hlt 1 _ ClosedOff.eq _)
            (load_slot _ _ _ (h12s) 1 ((i 1).val - 1) (by omega) _ (ClosedOff.eq.trans (vec4 (by omega))) _)
            (load_slotLanes _ _ _ (h13s) 1 ((i 1).val - 1) (by omega) _ (ClosedOff.eq.trans (vec4 (by omega))) _)
            (load_slot _ _ _ (h14s) 1 ((i 1).val - 1) (by omega) _ (ClosedOff.eq.trans (vec4 (by omega))) _)
            (load_slot _ _ _ (h12s) 1 ((i 1).val - 2) (by omega) _ (ClosedOff.eq.trans (vec4 (by omega))) _)
            (load_slotLanes _ _ _ (h13s) 1 ((i 1).val - 2) (by omega) _ (ClosedOff.eq.trans (vec4 (by omega))) _)
            (load_slot _ _ _ (h14s) 1 ((i 1).val - 2) (by omega) _ (ClosedOff.eq.trans (vec4 (by omega))) _)
            (load_slot _ _ _ (h12s) 1 ((i 1).val - 3) (by omega) _ (ClosedOff.eq.trans (vec4 (by omega))) _)
            (load_slotLanes _ _ _ (h13s) 1 ((i 1).val - 3) (by omega) _ (ClosedOff.eq.trans (vec4 (by omega))) _)
            (load_slot _ _ _ (h14s) 1 ((i 1).val - 3) (by omega) _ (ClosedOff.eq.trans (vec4 (by omega))) _)
            (load_slot _ _ _ (h12s) 1 ((i 1).val - 4) (by omega) _ (ClosedOff.eq.trans (vec4 (by omega))) _)
            (load_slotLanes _ _ _ (h13s) 1 ((i 1).val - 4) (by omega) _ (ClosedOff.eq.trans (vec4 (by omega))) _)
            (load_slot _ _ _ (h14s) 1 ((i 1).val - 4) (by omega) _ (ClosedOff.eq.trans (vec4 (by omega))) _))))
      · exact (Eq.trans (b := shapeCast S1x256x256 (attendFull (arg15.view.readCov (kernelVal0_E.sl.HS3_8 c arg2 harg2 x0) (Rect.unit (s := S8x256x256) ![6, 0, 0] S1x256x256.size inb_S8x256x256_S1x256x256_6_0_0).toLoadRect) (arg16.view.readCov (kernelVal0_E.sl.HS4_8 c arg2 harg2 x0) (Rect.unit (s := S8x256) ![6, 0] S1x256.size inb_S8x256_S1x256_6_0).toLoadRect) (arg12.view.readCov (kernelVal0_E.sl.HS0_2 c i arg3 harg3 x1) (Rect.unit (s := S2x32x256x256) (k0_off44 i) S1x1x256x256.size (k0_off44_inb i hc4)).toLoadRect, arg13.view.readCov (kernelVal0_E.sl.HS1_2 c i arg3 harg3 x1) (Rect.unit (s := S2x32x256x128) (k0_off45 i) S1x1x256x128.size (k0_off45_inb i hc4)).toLoadRect, arg14.view.readCov (kernelVal0_E.sl.HS2_2 c i arg4 harg4 x2) (Rect.unit (s := S2x32x256x256) (k0_off44 i) S1x1x256x256.size (k0_off44_inb i hc4)).toLoadRect) [(View.readAt (Elt F) arg12.view (Rect.unit (s := S2x32x256x256) (k0_off46 i 1#32) S1x1x256x256.size (k0_off46_inb i hc4 0)).toLoadRect (arg12.view.writes (Elt F) fs0 (kernelVal0_E.sl.HS0_2 c i arg3 harg3 x1)), View.readAt (Elt F) arg13.view (Rect.unit (s := S2x32x256x128) (k0_off47 i 1#32) S1x1x256x128.size (k0_off47_inb i hc4 0)).toLoadRect (arg13.view.writes (Elt F) fs1 (kernelVal0_E.sl.HS1_2 c i arg3 harg3 x1)), View.readAt (Elt F) arg14.view (Rect.unit (s := S2x32x256x256) (k0_off48 i 0#32) S1x1x256x256.size (k0_off48_inb i hc4 0)).toLoadRect (arg14.view.writes (Elt F) fs2 (kernelVal0_E.sl.HS2_2 c i arg4 harg4 x2))), (View.readAt (Elt F) arg12.view (Rect.unit (s := S2x32x256x256) (k0_off46 i 2#32) S1x1x256x256.size (k0_off46_inb i hc4 1)).toLoadRect (arg12.view.writes (Elt F) fs0 (kernelVal0_E.sl.HS0_2 c i arg3 harg3 x1)), View.readAt (Elt F) arg13.view (Rect.unit (s := S2x32x256x128) (k0_off47 i 2#32) S1x1x256x128.size (k0_off47_inb i hc4 1)).toLoadRect (arg13.view.writes (Elt F) fs1 (kernelVal0_E.sl.HS1_2 c i arg3 harg3 x1)), View.readAt (Elt F) arg14.view (Rect.unit (s := S2x32x256x256) (k0_off48 i 1#32) S1x1x256x256.size (k0_off48_inb i hc4 1)).toLoadRect (arg14.view.writes (Elt F) fs2 (kernelVal0_E.sl.HS2_2 c i arg4 harg4 x2))), (View.readAt (Elt F) arg12.view (Rect.unit (s := S2x32x256x256) (k0_off46 i 3#32) S1x1x256x256.size (k0_off46_inb i hc4 2)).toLoadRect (arg12.view.writes (Elt F) fs0 (kernelVal0_E.sl.HS0_2 c i arg3 harg3 x1)), View.readAt (Elt F) arg13.view (Rect.unit (s := S2x32x256x128) (k0_off47 i 3#32) S1x1x256x128.size (k0_off47_inb i hc4 2)).toLoadRect (arg13.view.writes (Elt F) fs1 (kernelVal0_E.sl.HS1_2 c i arg3 harg3 x1)), View.readAt (Elt F) arg14.view (Rect.unit (s := S2x32x256x256) (k0_off48 i 2#32) S1x1x256x256.size (k0_off48_inb i hc4 2)).toLoadRect (arg14.view.writes (Elt F) fs2 (kernelVal0_E.sl.HS2_2 c i arg4 harg4 x2)))] (View.readAt (Elt F) arg12.view (Rect.unit (s := S2x32x256x256) (k0_off46 i 4#32) S1x1x256x256.size (k0_off46_inb i hc4 3)).toLoadRect (arg12.view.writes (Elt F) fs0 (kernelVal0_E.sl.HS0_2 c i arg3 harg3 x1)), View.readAt (Elt F) arg13.view (Rect.unit (s := S2x32x256x128) (k0_off47 i 4#32) S1x1x256x128.size (k0_off47_inb i hc4 3)).toLoadRect (arg13.view.writes (Elt F) fs1 (kernelVal0_E.sl.HS1_2 c i arg3 harg3 x1)), View.readAt (Elt F) arg14.view (Rect.unit (s := S2x32x256x256) (k0_off46 i 4#32) S1x1x256x256.size (k0_off46_inb i hc4 3)).toLoadRect (arg14.view.writes (Elt F) fs2 (kernelVal0_E.sl.HS2_2 c i arg4 harg4 x2)))) shapeCasts_S256x256_S1x256x256) (by rfl)
          (congrArg (fun z => shapeCast S1x256x256 z shapeCasts_S256x256_S1x256x256) (attend_congr4
            (load_head (F := F) (e := .fp8e4m3) arg15.view (arg15.view.writes (Elt F) arg15.view.junk (kernelVal0_E.sl.HS3_8 c arg2 harg2 x0)) (fun h => codesV (qBlk h x0)) (h15 _) 6 ![6, 0, 0] rfl _) (load_row (F := F) (e := .f32) arg16.view (arg16.view.writes (Elt F) arg16.view.junk (kernelVal0_E.sl.HS4_8 c arg2 harg2 x0)) (fun h => srow (qBlk h x0)) (h16 _) 6 ![6, 0] rfl _)
            (own_codes _ _ _ _ _ (h12 _) hlt 1 _ ClosedOff.eq _)
            (own_scales _ _ _ _ _ (h13 _) hlt 1 _ ClosedOff.eq _)
            (own_values _ _ _ _ _ (h14 _) hlt 1 _ ClosedOff.eq _)
            (load_slot _ _ _ (h12s) 1 ((i 1).val - 1) (by omega) _ (ClosedOff.eq.trans (vec4 (by omega))) _)
            (load_slotLanes _ _ _ (h13s) 1 ((i 1).val - 1) (by omega) _ (ClosedOff.eq.trans (vec4 (by omega))) _)
            (load_slot _ _ _ (h14s) 1 ((i 1).val - 1) (by omega) _ (ClosedOff.eq.trans (vec4 (by omega))) _)
            (load_slot _ _ _ (h12s) 1 ((i 1).val - 2) (by omega) _ (ClosedOff.eq.trans (vec4 (by omega))) _)
            (load_slotLanes _ _ _ (h13s) 1 ((i 1).val - 2) (by omega) _ (ClosedOff.eq.trans (vec4 (by omega))) _)
            (load_slot _ _ _ (h14s) 1 ((i 1).val - 2) (by omega) _ (ClosedOff.eq.trans (vec4 (by omega))) _)
            (load_slot _ _ _ (h12s) 1 ((i 1).val - 3) (by omega) _ (ClosedOff.eq.trans (vec4 (by omega))) _)
            (load_slotLanes _ _ _ (h13s) 1 ((i 1).val - 3) (by omega) _ (ClosedOff.eq.trans (vec4 (by omega))) _)
            (load_slot _ _ _ (h14s) 1 ((i 1).val - 3) (by omega) _ (ClosedOff.eq.trans (vec4 (by omega))) _)
            (load_slot _ _ _ (h12s) 1 ((i 1).val - 4) (by omega) _ (ClosedOff.eq.trans (vec4 (by omega))) _)
            (load_slotLanes _ _ _ (h13s) 1 ((i 1).val - 4) (by omega) _ (ClosedOff.eq.trans (vec4 (by omega))) _)
            (load_slot _ _ _ (h14s) 1 ((i 1).val - 4) (by omega) _ (ClosedOff.eq.trans (vec4 (by omega))) _))))
      · exact (Eq.trans (b := shapeCast S1x256x256 (attendFull (arg15.view.readCov (kernelVal0_E.sl.HS3_8 c arg2 harg2 x0) (Rect.unit (s := S8x256x256) ![5, 0, 0] S1x256x256.size inb_S8x256x256_S1x256x256_5_0_0).toLoadRect) (arg16.view.readCov (kernelVal0_E.sl.HS4_8 c arg2 harg2 x0) (Rect.unit (s := S8x256) ![5, 0] S1x256.size inb_S8x256_S1x256_5_0).toLoadRect) (arg12.view.readCov (kernelVal0_E.sl.HS0_2 c i arg3 harg3 x1) (Rect.unit (s := S2x32x256x256) (k0_off44 i) S1x1x256x256.size (k0_off44_inb i hc4)).toLoadRect, arg13.view.readCov (kernelVal0_E.sl.HS1_2 c i arg3 harg3 x1) (Rect.unit (s := S2x32x256x128) (k0_off45 i) S1x1x256x128.size (k0_off45_inb i hc4)).toLoadRect, arg14.view.readCov (kernelVal0_E.sl.HS2_2 c i arg4 harg4 x2) (Rect.unit (s := S2x32x256x256) (k0_off44 i) S1x1x256x256.size (k0_off44_inb i hc4)).toLoadRect) [(View.readAt (Elt F) arg12.view (Rect.unit (s := S2x32x256x256) (k0_off46 i 1#32) S1x1x256x256.size (k0_off46_inb i hc4 0)).toLoadRect (arg12.view.writes (Elt F) fs0 (kernelVal0_E.sl.HS0_2 c i arg3 harg3 x1)), View.readAt (Elt F) arg13.view (Rect.unit (s := S2x32x256x128) (k0_off47 i 1#32) S1x1x256x128.size (k0_off47_inb i hc4 0)).toLoadRect (arg13.view.writes (Elt F) fs1 (kernelVal0_E.sl.HS1_2 c i arg3 harg3 x1)), View.readAt (Elt F) arg14.view (Rect.unit (s := S2x32x256x256) (k0_off48 i 0#32) S1x1x256x256.size (k0_off48_inb i hc4 0)).toLoadRect (arg14.view.writes (Elt F) fs2 (kernelVal0_E.sl.HS2_2 c i arg4 harg4 x2))), (View.readAt (Elt F) arg12.view (Rect.unit (s := S2x32x256x256) (k0_off46 i 2#32) S1x1x256x256.size (k0_off46_inb i hc4 1)).toLoadRect (arg12.view.writes (Elt F) fs0 (kernelVal0_E.sl.HS0_2 c i arg3 harg3 x1)), View.readAt (Elt F) arg13.view (Rect.unit (s := S2x32x256x128) (k0_off47 i 2#32) S1x1x256x128.size (k0_off47_inb i hc4 1)).toLoadRect (arg13.view.writes (Elt F) fs1 (kernelVal0_E.sl.HS1_2 c i arg3 harg3 x1)), View.readAt (Elt F) arg14.view (Rect.unit (s := S2x32x256x256) (k0_off48 i 1#32) S1x1x256x256.size (k0_off48_inb i hc4 1)).toLoadRect (arg14.view.writes (Elt F) fs2 (kernelVal0_E.sl.HS2_2 c i arg4 harg4 x2))), (View.readAt (Elt F) arg12.view (Rect.unit (s := S2x32x256x256) (k0_off46 i 3#32) S1x1x256x256.size (k0_off46_inb i hc4 2)).toLoadRect (arg12.view.writes (Elt F) fs0 (kernelVal0_E.sl.HS0_2 c i arg3 harg3 x1)), View.readAt (Elt F) arg13.view (Rect.unit (s := S2x32x256x128) (k0_off47 i 3#32) S1x1x256x128.size (k0_off47_inb i hc4 2)).toLoadRect (arg13.view.writes (Elt F) fs1 (kernelVal0_E.sl.HS1_2 c i arg3 harg3 x1)), View.readAt (Elt F) arg14.view (Rect.unit (s := S2x32x256x256) (k0_off48 i 2#32) S1x1x256x256.size (k0_off48_inb i hc4 2)).toLoadRect (arg14.view.writes (Elt F) fs2 (kernelVal0_E.sl.HS2_2 c i arg4 harg4 x2)))] (View.readAt (Elt F) arg12.view (Rect.unit (s := S2x32x256x256) (k0_off46 i 4#32) S1x1x256x256.size (k0_off46_inb i hc4 3)).toLoadRect (arg12.view.writes (Elt F) fs0 (kernelVal0_E.sl.HS0_2 c i arg3 harg3 x1)), View.readAt (Elt F) arg13.view (Rect.unit (s := S2x32x256x128) (k0_off47 i 4#32) S1x1x256x128.size (k0_off47_inb i hc4 3)).toLoadRect (arg13.view.writes (Elt F) fs1 (kernelVal0_E.sl.HS1_2 c i arg3 harg3 x1)), View.readAt (Elt F) arg14.view (Rect.unit (s := S2x32x256x256) (k0_off46 i 4#32) S1x1x256x256.size (k0_off46_inb i hc4 3)).toLoadRect (arg14.view.writes (Elt F) fs2 (kernelVal0_E.sl.HS2_2 c i arg4 harg4 x2)))) shapeCasts_S256x256_S1x256x256) (by rfl)
          (congrArg (fun z => shapeCast S1x256x256 z shapeCasts_S256x256_S1x256x256) (attend_congr4
            (load_head (F := F) (e := .fp8e4m3) arg15.view (arg15.view.writes (Elt F) arg15.view.junk (kernelVal0_E.sl.HS3_8 c arg2 harg2 x0)) (fun h => codesV (qBlk h x0)) (h15 _) 5 ![5, 0, 0] rfl _) (load_row (F := F) (e := .f32) arg16.view (arg16.view.writes (Elt F) arg16.view.junk (kernelVal0_E.sl.HS4_8 c arg2 harg2 x0)) (fun h => srow (qBlk h x0)) (h16 _) 5 ![5, 0] rfl _)
            (own_codes _ _ _ _ _ (h12 _) hlt 1 _ ClosedOff.eq _)
            (own_scales _ _ _ _ _ (h13 _) hlt 1 _ ClosedOff.eq _)
            (own_values _ _ _ _ _ (h14 _) hlt 1 _ ClosedOff.eq _)
            (load_slot _ _ _ (h12s) 1 ((i 1).val - 1) (by omega) _ (ClosedOff.eq.trans (vec4 (by omega))) _)
            (load_slotLanes _ _ _ (h13s) 1 ((i 1).val - 1) (by omega) _ (ClosedOff.eq.trans (vec4 (by omega))) _)
            (load_slot _ _ _ (h14s) 1 ((i 1).val - 1) (by omega) _ (ClosedOff.eq.trans (vec4 (by omega))) _)
            (load_slot _ _ _ (h12s) 1 ((i 1).val - 2) (by omega) _ (ClosedOff.eq.trans (vec4 (by omega))) _)
            (load_slotLanes _ _ _ (h13s) 1 ((i 1).val - 2) (by omega) _ (ClosedOff.eq.trans (vec4 (by omega))) _)
            (load_slot _ _ _ (h14s) 1 ((i 1).val - 2) (by omega) _ (ClosedOff.eq.trans (vec4 (by omega))) _)
            (load_slot _ _ _ (h12s) 1 ((i 1).val - 3) (by omega) _ (ClosedOff.eq.trans (vec4 (by omega))) _)
            (load_slotLanes _ _ _ (h13s) 1 ((i 1).val - 3) (by omega) _ (ClosedOff.eq.trans (vec4 (by omega))) _)
            (load_slot _ _ _ (h14s) 1 ((i 1).val - 3) (by omega) _ (ClosedOff.eq.trans (vec4 (by omega))) _)
            (load_slot _ _ _ (h12s) 1 ((i 1).val - 4) (by omega) _ (ClosedOff.eq.trans (vec4 (by omega))) _)
            (load_slotLanes _ _ _ (h13s) 1 ((i 1).val - 4) (by omega) _ (ClosedOff.eq.trans (vec4 (by omega))) _)
            (load_slot _ _ _ (h14s) 1 ((i 1).val - 4) (by omega) _ (ClosedOff.eq.trans (vec4 (by omega))) _))))
      · exact (Eq.trans (b := shapeCast S1x256x256 (attendFull (arg15.view.readCov (kernelVal0_E.sl.HS3_8 c arg2 harg2 x0) (Rect.unit (s := S8x256x256) ![4, 0, 0] S1x256x256.size inb_S8x256x256_S1x256x256_4_0_0).toLoadRect) (arg16.view.readCov (kernelVal0_E.sl.HS4_8 c arg2 harg2 x0) (Rect.unit (s := S8x256) ![4, 0] S1x256.size inb_S8x256_S1x256_4_0).toLoadRect) (arg12.view.readCov (kernelVal0_E.sl.HS0_2 c i arg3 harg3 x1) (Rect.unit (s := S2x32x256x256) (k0_off44 i) S1x1x256x256.size (k0_off44_inb i hc4)).toLoadRect, arg13.view.readCov (kernelVal0_E.sl.HS1_2 c i arg3 harg3 x1) (Rect.unit (s := S2x32x256x128) (k0_off45 i) S1x1x256x128.size (k0_off45_inb i hc4)).toLoadRect, arg14.view.readCov (kernelVal0_E.sl.HS2_2 c i arg4 harg4 x2) (Rect.unit (s := S2x32x256x256) (k0_off44 i) S1x1x256x256.size (k0_off44_inb i hc4)).toLoadRect) [(View.readAt (Elt F) arg12.view (Rect.unit (s := S2x32x256x256) (k0_off46 i 1#32) S1x1x256x256.size (k0_off46_inb i hc4 0)).toLoadRect (arg12.view.writes (Elt F) fs0 (kernelVal0_E.sl.HS0_2 c i arg3 harg3 x1)), View.readAt (Elt F) arg13.view (Rect.unit (s := S2x32x256x128) (k0_off47 i 1#32) S1x1x256x128.size (k0_off47_inb i hc4 0)).toLoadRect (arg13.view.writes (Elt F) fs1 (kernelVal0_E.sl.HS1_2 c i arg3 harg3 x1)), View.readAt (Elt F) arg14.view (Rect.unit (s := S2x32x256x256) (k0_off48 i 0#32) S1x1x256x256.size (k0_off48_inb i hc4 0)).toLoadRect (arg14.view.writes (Elt F) fs2 (kernelVal0_E.sl.HS2_2 c i arg4 harg4 x2))), (View.readAt (Elt F) arg12.view (Rect.unit (s := S2x32x256x256) (k0_off46 i 2#32) S1x1x256x256.size (k0_off46_inb i hc4 1)).toLoadRect (arg12.view.writes (Elt F) fs0 (kernelVal0_E.sl.HS0_2 c i arg3 harg3 x1)), View.readAt (Elt F) arg13.view (Rect.unit (s := S2x32x256x128) (k0_off47 i 2#32) S1x1x256x128.size (k0_off47_inb i hc4 1)).toLoadRect (arg13.view.writes (Elt F) fs1 (kernelVal0_E.sl.HS1_2 c i arg3 harg3 x1)), View.readAt (Elt F) arg14.view (Rect.unit (s := S2x32x256x256) (k0_off48 i 1#32) S1x1x256x256.size (k0_off48_inb i hc4 1)).toLoadRect (arg14.view.writes (Elt F) fs2 (kernelVal0_E.sl.HS2_2 c i arg4 harg4 x2))), (View.readAt (Elt F) arg12.view (Rect.unit (s := S2x32x256x256) (k0_off46 i 3#32) S1x1x256x256.size (k0_off46_inb i hc4 2)).toLoadRect (arg12.view.writes (Elt F) fs0 (kernelVal0_E.sl.HS0_2 c i arg3 harg3 x1)), View.readAt (Elt F) arg13.view (Rect.unit (s := S2x32x256x128) (k0_off47 i 3#32) S1x1x256x128.size (k0_off47_inb i hc4 2)).toLoadRect (arg13.view.writes (Elt F) fs1 (kernelVal0_E.sl.HS1_2 c i arg3 harg3 x1)), View.readAt (Elt F) arg14.view (Rect.unit (s := S2x32x256x256) (k0_off48 i 2#32) S1x1x256x256.size (k0_off48_inb i hc4 2)).toLoadRect (arg14.view.writes (Elt F) fs2 (kernelVal0_E.sl.HS2_2 c i arg4 harg4 x2)))] (View.readAt (Elt F) arg12.view (Rect.unit (s := S2x32x256x256) (k0_off46 i 4#32) S1x1x256x256.size (k0_off46_inb i hc4 3)).toLoadRect (arg12.view.writes (Elt F) fs0 (kernelVal0_E.sl.HS0_2 c i arg3 harg3 x1)), View.readAt (Elt F) arg13.view (Rect.unit (s := S2x32x256x128) (k0_off47 i 4#32) S1x1x256x128.size (k0_off47_inb i hc4 3)).toLoadRect (arg13.view.writes (Elt F) fs1 (kernelVal0_E.sl.HS1_2 c i arg3 harg3 x1)), View.readAt (Elt F) arg14.view (Rect.unit (s := S2x32x256x256) (k0_off46 i 4#32) S1x1x256x256.size (k0_off46_inb i hc4 3)).toLoadRect (arg14.view.writes (Elt F) fs2 (kernelVal0_E.sl.HS2_2 c i arg4 harg4 x2)))) shapeCasts_S256x256_S1x256x256) (by rfl)
          (congrArg (fun z => shapeCast S1x256x256 z shapeCasts_S256x256_S1x256x256) (attend_congr4
            (load_head (F := F) (e := .fp8e4m3) arg15.view (arg15.view.writes (Elt F) arg15.view.junk (kernelVal0_E.sl.HS3_8 c arg2 harg2 x0)) (fun h => codesV (qBlk h x0)) (h15 _) 4 ![4, 0, 0] rfl _) (load_row (F := F) (e := .f32) arg16.view (arg16.view.writes (Elt F) arg16.view.junk (kernelVal0_E.sl.HS4_8 c arg2 harg2 x0)) (fun h => srow (qBlk h x0)) (h16 _) 4 ![4, 0] rfl _)
            (own_codes _ _ _ _ _ (h12 _) hlt 1 _ ClosedOff.eq _)
            (own_scales _ _ _ _ _ (h13 _) hlt 1 _ ClosedOff.eq _)
            (own_values _ _ _ _ _ (h14 _) hlt 1 _ ClosedOff.eq _)
            (load_slot _ _ _ (h12s) 1 ((i 1).val - 1) (by omega) _ (ClosedOff.eq.trans (vec4 (by omega))) _)
            (load_slotLanes _ _ _ (h13s) 1 ((i 1).val - 1) (by omega) _ (ClosedOff.eq.trans (vec4 (by omega))) _)
            (load_slot _ _ _ (h14s) 1 ((i 1).val - 1) (by omega) _ (ClosedOff.eq.trans (vec4 (by omega))) _)
            (load_slot _ _ _ (h12s) 1 ((i 1).val - 2) (by omega) _ (ClosedOff.eq.trans (vec4 (by omega))) _)
            (load_slotLanes _ _ _ (h13s) 1 ((i 1).val - 2) (by omega) _ (ClosedOff.eq.trans (vec4 (by omega))) _)
            (load_slot _ _ _ (h14s) 1 ((i 1).val - 2) (by omega) _ (ClosedOff.eq.trans (vec4 (by omega))) _)
            (load_slot _ _ _ (h12s) 1 ((i 1).val - 3) (by omega) _ (ClosedOff.eq.trans (vec4 (by omega))) _)
            (load_slotLanes _ _ _ (h13s) 1 ((i 1).val - 3) (by omega) _ (ClosedOff.eq.trans (vec4 (by omega))) _)
            (load_slot _ _ _ (h14s) 1 ((i 1).val - 3) (by omega) _ (ClosedOff.eq.trans (vec4 (by omega))) _)
            (load_slot _ _ _ (h12s) 1 ((i 1).val - 4) (by omega) _ (ClosedOff.eq.trans (vec4 (by omega))) _)
            (load_slotLanes _ _ _ (h13s) 1 ((i 1).val - 4) (by omega) _ (ClosedOff.eq.trans (vec4 (by omega))) _)
            (load_slot _ _ _ (h14s) 1 ((i 1).val - 4) (by omega) _ (ClosedOff.eq.trans (vec4 (by omega))) _))))
      · exact (Eq.trans (b := shapeCast S1x256x256 (attendFull (arg15.view.readCov (kernelVal0_E.sl.HS3_8 c arg2 harg2 x0) (Rect.unit (s := S8x256x256) ![3, 0, 0] S1x256x256.size inb_S8x256x256_S1x256x256_3_0_0).toLoadRect) (arg16.view.readCov (kernelVal0_E.sl.HS4_8 c arg2 harg2 x0) (Rect.unit (s := S8x256) ![3, 0] S1x256.size inb_S8x256_S1x256_3_0).toLoadRect) (arg12.view.readCov (kernelVal0_E.sl.HS0_2 c i arg3 harg3 x1) (Rect.unit (s := S2x32x256x256) (k0_off39 i) S1x1x256x256.size (k0_off39_inb i hc4)).toLoadRect, arg13.view.readCov (kernelVal0_E.sl.HS1_2 c i arg3 harg3 x1) (Rect.unit (s := S2x32x256x128) (k0_off40 i) S1x1x256x128.size (k0_off40_inb i hc4)).toLoadRect, arg14.view.readCov (kernelVal0_E.sl.HS2_2 c i arg4 harg4 x2) (Rect.unit (s := S2x32x256x256) (k0_off39 i) S1x1x256x256.size (k0_off39_inb i hc4)).toLoadRect) [(View.readAt (Elt F) arg12.view (Rect.unit (s := S2x32x256x256) (k0_off41 i 1#32) S1x1x256x256.size (k0_off41_inb i hc4 0)).toLoadRect (arg12.view.writes (Elt F) fs0 (kernelVal0_E.sl.HS0_2 c i arg3 harg3 x1)), View.readAt (Elt F) arg13.view (Rect.unit (s := S2x32x256x128) (k0_off42 i 1#32) S1x1x256x128.size (k0_off42_inb i hc4 0)).toLoadRect (arg13.view.writes (Elt F) fs1 (kernelVal0_E.sl.HS1_2 c i arg3 harg3 x1)), View.readAt (Elt F) arg14.view (Rect.unit (s := S2x32x256x256) (k0_off43 i 0#32) S1x1x256x256.size (k0_off43_inb i hc4 0)).toLoadRect (arg14.view.writes (Elt F) fs2 (kernelVal0_E.sl.HS2_2 c i arg4 harg4 x2))), (View.readAt (Elt F) arg12.view (Rect.unit (s := S2x32x256x256) (k0_off41 i 2#32) S1x1x256x256.size (k0_off41_inb i hc4 1)).toLoadRect (arg12.view.writes (Elt F) fs0 (kernelVal0_E.sl.HS0_2 c i arg3 harg3 x1)), View.readAt (Elt F) arg13.view (Rect.unit (s := S2x32x256x128) (k0_off42 i 2#32) S1x1x256x128.size (k0_off42_inb i hc4 1)).toLoadRect (arg13.view.writes (Elt F) fs1 (kernelVal0_E.sl.HS1_2 c i arg3 harg3 x1)), View.readAt (Elt F) arg14.view (Rect.unit (s := S2x32x256x256) (k0_off43 i 1#32) S1x1x256x256.size (k0_off43_inb i hc4 1)).toLoadRect (arg14.view.writes (Elt F) fs2 (kernelVal0_E.sl.HS2_2 c i arg4 harg4 x2))), (View.readAt (Elt F) arg12.view (Rect.unit (s := S2x32x256x256) (k0_off41 i 3#32) S1x1x256x256.size (k0_off41_inb i hc4 2)).toLoadRect (arg12.view.writes (Elt F) fs0 (kernelVal0_E.sl.HS0_2 c i arg3 harg3 x1)), View.readAt (Elt F) arg13.view (Rect.unit (s := S2x32x256x128) (k0_off42 i 3#32) S1x1x256x128.size (k0_off42_inb i hc4 2)).toLoadRect (arg13.view.writes (Elt F) fs1 (kernelVal0_E.sl.HS1_2 c i arg3 harg3 x1)), View.readAt (Elt F) arg14.view (Rect.unit (s := S2x32x256x256) (k0_off43 i 2#32) S1x1x256x256.size (k0_off43_inb i hc4 2)).toLoadRect (arg14.view.writes (Elt F) fs2 (kernelVal0_E.sl.HS2_2 c i arg4 harg4 x2)))] (View.readAt (Elt F) arg12.view (Rect.unit (s := S2x32x256x256) (k0_off41 i 4#32) S1x1x256x256.size (k0_off41_inb i hc4 3)).toLoadRect (arg12.view.writes (Elt F) fs0 (kernelVal0_E.sl.HS0_2 c i arg3 harg3 x1)), View.readAt (Elt F) arg13.view (Rect.unit (s := S2x32x256x128) (k0_off42 i 4#32) S1x1x256x128.size (k0_off42_inb i hc4 3)).toLoadRect (arg13.view.writes (Elt F) fs1 (kernelVal0_E.sl.HS1_2 c i arg3 harg3 x1)), View.readAt (Elt F) arg14.view (Rect.unit (s := S2x32x256x256) (k0_off41 i 4#32) S1x1x256x256.size (k0_off41_inb i hc4 3)).toLoadRect (arg14.view.writes (Elt F) fs2 (kernelVal0_E.sl.HS2_2 c i arg4 harg4 x2)))) shapeCasts_S256x256_S1x256x256) (by rfl)
          (congrArg (fun z => shapeCast S1x256x256 z shapeCasts_S256x256_S1x256x256) (attend_congr4
            (load_head (F := F) (e := .fp8e4m3) arg15.view (arg15.view.writes (Elt F) arg15.view.junk (kernelVal0_E.sl.HS3_8 c arg2 harg2 x0)) (fun h => codesV (qBlk h x0)) (h15 _) 3 ![3, 0, 0] rfl _) (load_row (F := F) (e := .f32) arg16.view (arg16.view.writes (Elt F) arg16.view.junk (kernelVal0_E.sl.HS4_8 c arg2 harg2 x0)) (fun h => srow (qBlk h x0)) (h16 _) 3 ![3, 0] rfl _)
            (own_codes _ _ _ _ _ (h12 _) hlt 0 _ ClosedOff.eq _)
            (own_scales _ _ _ _ _ (h13 _) hlt 0 _ ClosedOff.eq _)
            (own_values _ _ _ _ _ (h14 _) hlt 0 _ ClosedOff.eq _)
            (load_slot _ _ _ (h12s) 0 ((i 1).val - 1) (by omega) _ (ClosedOff.eq.trans (vec4 (by omega))) _)
            (load_slotLanes _ _ _ (h13s) 0 ((i 1).val - 1) (by omega) _ (ClosedOff.eq.trans (vec4 (by omega))) _)
            (load_slot _ _ _ (h14s) 0 ((i 1).val - 1) (by omega) _ (ClosedOff.eq.trans (vec4 (by omega))) _)
            (load_slot _ _ _ (h12s) 0 ((i 1).val - 2) (by omega) _ (ClosedOff.eq.trans (vec4 (by omega))) _)
            (load_slotLanes _ _ _ (h13s) 0 ((i 1).val - 2) (by omega) _ (ClosedOff.eq.trans (vec4 (by omega))) _)
            (load_slot _ _ _ (h14s) 0 ((i 1).val - 2) (by omega) _ (ClosedOff.eq.trans (vec4 (by omega))) _)
            (load_slot _ _ _ (h12s) 0 ((i 1).val - 3) (by omega) _ (ClosedOff.eq.trans (vec4 (by omega))) _)
            (load_slotLanes _ _ _ (h13s) 0 ((i 1).val - 3) (by omega) _ (ClosedOff.eq.trans (vec4 (by omega))) _)
            (load_slot _ _ _ (h14s) 0 ((i 1).val - 3) (by omega) _ (ClosedOff.eq.trans (vec4 (by omega))) _)
            (load_slot _ _ _ (h12s) 0 ((i 1).val - 4) (by omega) _ (ClosedOff.eq.trans (vec4 (by omega))) _)
            (load_slotLanes _ _ _ (h13s) 0 ((i 1).val - 4) (by omega) _ (ClosedOff.eq.trans (vec4 (by omega))) _)
            (load_slot _ _ _ (h14s) 0 ((i 1).val - 4) (by omega) _ (ClosedOff.eq.trans (vec4 (by omega))) _))))
      · exact (Eq.trans (b := shapeCast S1x256x256 (attendFull (arg15.view.readCov (kernelVal0_E.sl.HS3_8 c arg2 harg2 x0) (Rect.unit (s := S8x256x256) ![2, 0, 0] S1x256x256.size inb_S8x256x256_S1x256x256_2_0_0).toLoadRect) (arg16.view.readCov (kernelVal0_E.sl.HS4_8 c arg2 harg2 x0) (Rect.unit (s := S8x256) ![2, 0] S1x256.size inb_S8x256_S1x256_2_0).toLoadRect) (arg12.view.readCov (kernelVal0_E.sl.HS0_2 c i arg3 harg3 x1) (Rect.unit (s := S2x32x256x256) (k0_off39 i) S1x1x256x256.size (k0_off39_inb i hc4)).toLoadRect, arg13.view.readCov (kernelVal0_E.sl.HS1_2 c i arg3 harg3 x1) (Rect.unit (s := S2x32x256x128) (k0_off40 i) S1x1x256x128.size (k0_off40_inb i hc4)).toLoadRect, arg14.view.readCov (kernelVal0_E.sl.HS2_2 c i arg4 harg4 x2) (Rect.unit (s := S2x32x256x256) (k0_off39 i) S1x1x256x256.size (k0_off39_inb i hc4)).toLoadRect) [(View.readAt (Elt F) arg12.view (Rect.unit (s := S2x32x256x256) (k0_off41 i 1#32) S1x1x256x256.size (k0_off41_inb i hc4 0)).toLoadRect (arg12.view.writes (Elt F) fs0 (kernelVal0_E.sl.HS0_2 c i arg3 harg3 x1)), View.readAt (Elt F) arg13.view (Rect.unit (s := S2x32x256x128) (k0_off42 i 1#32) S1x1x256x128.size (k0_off42_inb i hc4 0)).toLoadRect (arg13.view.writes (Elt F) fs1 (kernelVal0_E.sl.HS1_2 c i arg3 harg3 x1)), View.readAt (Elt F) arg14.view (Rect.unit (s := S2x32x256x256) (k0_off43 i 0#32) S1x1x256x256.size (k0_off43_inb i hc4 0)).toLoadRect (arg14.view.writes (Elt F) fs2 (kernelVal0_E.sl.HS2_2 c i arg4 harg4 x2))), (View.readAt (Elt F) arg12.view (Rect.unit (s := S2x32x256x256) (k0_off41 i 2#32) S1x1x256x256.size (k0_off41_inb i hc4 1)).toLoadRect (arg12.view.writes (Elt F) fs0 (kernelVal0_E.sl.HS0_2 c i arg3 harg3 x1)), View.readAt (Elt F) arg13.view (Rect.unit (s := S2x32x256x128) (k0_off42 i 2#32) S1x1x256x128.size (k0_off42_inb i hc4 1)).toLoadRect (arg13.view.writes (Elt F) fs1 (kernelVal0_E.sl.HS1_2 c i arg3 harg3 x1)), View.readAt (Elt F) arg14.view (Rect.unit (s := S2x32x256x256) (k0_off43 i 1#32) S1x1x256x256.size (k0_off43_inb i hc4 1)).toLoadRect (arg14.view.writes (Elt F) fs2 (kernelVal0_E.sl.HS2_2 c i arg4 harg4 x2))), (View.readAt (Elt F) arg12.view (Rect.unit (s := S2x32x256x256) (k0_off41 i 3#32) S1x1x256x256.size (k0_off41_inb i hc4 2)).toLoadRect (arg12.view.writes (Elt F) fs0 (kernelVal0_E.sl.HS0_2 c i arg3 harg3 x1)), View.readAt (Elt F) arg13.view (Rect.unit (s := S2x32x256x128) (k0_off42 i 3#32) S1x1x256x128.size (k0_off42_inb i hc4 2)).toLoadRect (arg13.view.writes (Elt F) fs1 (kernelVal0_E.sl.HS1_2 c i arg3 harg3 x1)), View.readAt (Elt F) arg14.view (Rect.unit (s := S2x32x256x256) (k0_off43 i 2#32) S1x1x256x256.size (k0_off43_inb i hc4 2)).toLoadRect (arg14.view.writes (Elt F) fs2 (kernelVal0_E.sl.HS2_2 c i arg4 harg4 x2)))] (View.readAt (Elt F) arg12.view (Rect.unit (s := S2x32x256x256) (k0_off41 i 4#32) S1x1x256x256.size (k0_off41_inb i hc4 3)).toLoadRect (arg12.view.writes (Elt F) fs0 (kernelVal0_E.sl.HS0_2 c i arg3 harg3 x1)), View.readAt (Elt F) arg13.view (Rect.unit (s := S2x32x256x128) (k0_off42 i 4#32) S1x1x256x128.size (k0_off42_inb i hc4 3)).toLoadRect (arg13.view.writes (Elt F) fs1 (kernelVal0_E.sl.HS1_2 c i arg3 harg3 x1)), View.readAt (Elt F) arg14.view (Rect.unit (s := S2x32x256x256) (k0_off41 i 4#32) S1x1x256x256.size (k0_off41_inb i hc4 3)).toLoadRect (arg14.view.writes (Elt F) fs2 (kernelVal0_E.sl.HS2_2 c i arg4 harg4 x2)))) shapeCasts_S256x256_S1x256x256) (by rfl)
          (congrArg (fun z => shapeCast S1x256x256 z shapeCasts_S256x256_S1x256x256) (attend_congr4
            (load_head (F := F) (e := .fp8e4m3) arg15.view (arg15.view.writes (Elt F) arg15.view.junk (kernelVal0_E.sl.HS3_8 c arg2 harg2 x0)) (fun h => codesV (qBlk h x0)) (h15 _) 2 ![2, 0, 0] rfl _) (load_row (F := F) (e := .f32) arg16.view (arg16.view.writes (Elt F) arg16.view.junk (kernelVal0_E.sl.HS4_8 c arg2 harg2 x0)) (fun h => srow (qBlk h x0)) (h16 _) 2 ![2, 0] rfl _)
            (own_codes _ _ _ _ _ (h12 _) hlt 0 _ ClosedOff.eq _)
            (own_scales _ _ _ _ _ (h13 _) hlt 0 _ ClosedOff.eq _)
            (own_values _ _ _ _ _ (h14 _) hlt 0 _ ClosedOff.eq _)
            (load_slot _ _ _ (h12s) 0 ((i 1).val - 1) (by omega) _ (ClosedOff.eq.trans (vec4 (by omega))) _)
            (load_slotLanes _ _ _ (h13s) 0 ((i 1).val - 1) (by omega) _ (ClosedOff.eq.trans (vec4 (by omega))) _)
            (load_slot _ _ _ (h14s) 0 ((i 1).val - 1) (by omega) _ (ClosedOff.eq.trans (vec4 (by omega))) _)
            (load_slot _ _ _ (h12s) 0 ((i 1).val - 2) (by omega) _ (ClosedOff.eq.trans (vec4 (by omega))) _)
            (load_slotLanes _ _ _ (h13s) 0 ((i 1).val - 2) (by omega) _ (ClosedOff.eq.trans (vec4 (by omega))) _)
            (load_slot _ _ _ (h14s) 0 ((i 1).val - 2) (by omega) _ (ClosedOff.eq.trans (vec4 (by omega))) _)
            (load_slot _ _ _ (h12s) 0 ((i 1).val - 3) (by omega) _ (ClosedOff.eq.trans (vec4 (by omega))) _)
            (load_slotLanes _ _ _ (h13s) 0 ((i 1).val - 3) (by omega) _ (ClosedOff.eq.trans (vec4 (by omega))) _)
            (load_slot _ _ _ (h14s) 0 ((i 1).val - 3) (by omega) _ (ClosedOff.eq.trans (vec4 (by omega))) _)
            (load_slot _ _ _ (h12s) 0 ((i 1).val - 4) (by omega) _ (ClosedOff.eq.trans (vec4 (by omega))) _)
            (load_slotLanes _ _ _ (h13s) 0 ((i 1).val - 4) (by omega) _ (ClosedOff.eq.trans (vec4 (by omega))) _)
            (load_slot _ _ _ (h14s) 0 ((i 1).val - 4) (by omega) _ (ClosedOff.eq.trans (vec4 (by omega))) _))))
      · exact (Eq.trans (b := shapeCast S1x256x256 (attendFull (arg15.view.readCov (kernelVal0_E.sl.HS3_8 c arg2 harg2 x0) (Rect.unit (s := S8x256x256) ![1, 0, 0] S1x256x256.size inb_S8x256x256_S1x256x256_1_0_0).toLoadRect) (arg16.view.readCov (kernelVal0_E.sl.HS4_8 c arg2 harg2 x0) (Rect.unit (s := S8x256) ![1, 0] S1x256.size inb_S8x256_S1x256_1_0).toLoadRect) (arg12.view.readCov (kernelVal0_E.sl.HS0_2 c i arg3 harg3 x1) (Rect.unit (s := S2x32x256x256) (k0_off39 i) S1x1x256x256.size (k0_off39_inb i hc4)).toLoadRect, arg13.view.readCov (kernelVal0_E.sl.HS1_2 c i arg3 harg3 x1) (Rect.unit (s := S2x32x256x128) (k0_off40 i) S1x1x256x128.size (k0_off40_inb i hc4)).toLoadRect, arg14.view.readCov (kernelVal0_E.sl.HS2_2 c i arg4 harg4 x2) (Rect.unit (s := S2x32x256x256) (k0_off39 i) S1x1x256x256.size (k0_off39_inb i hc4)).toLoadRect) [(View.readAt (Elt F) arg12.view (Rect.unit (s := S2x32x256x256) (k0_off41 i 1#32) S1x1x256x256.size (k0_off41_inb i hc4 0)).toLoadRect (arg12.view.writes (Elt F) fs0 (kernelVal0_E.sl.HS0_2 c i arg3 harg3 x1)), View.readAt (Elt F) arg13.view (Rect.unit (s := S2x32x256x128) (k0_off42 i 1#32) S1x1x256x128.size (k0_off42_inb i hc4 0)).toLoadRect (arg13.view.writes (Elt F) fs1 (kernelVal0_E.sl.HS1_2 c i arg3 harg3 x1)), View.readAt (Elt F) arg14.view (Rect.unit (s := S2x32x256x256) (k0_off43 i 0#32) S1x1x256x256.size (k0_off43_inb i hc4 0)).toLoadRect (arg14.view.writes (Elt F) fs2 (kernelVal0_E.sl.HS2_2 c i arg4 harg4 x2))), (View.readAt (Elt F) arg12.view (Rect.unit (s := S2x32x256x256) (k0_off41 i 2#32) S1x1x256x256.size (k0_off41_inb i hc4 1)).toLoadRect (arg12.view.writes (Elt F) fs0 (kernelVal0_E.sl.HS0_2 c i arg3 harg3 x1)), View.readAt (Elt F) arg13.view (Rect.unit (s := S2x32x256x128) (k0_off42 i 2#32) S1x1x256x128.size (k0_off42_inb i hc4 1)).toLoadRect (arg13.view.writes (Elt F) fs1 (kernelVal0_E.sl.HS1_2 c i arg3 harg3 x1)), View.readAt (Elt F) arg14.view (Rect.unit (s := S2x32x256x256) (k0_off43 i 1#32) S1x1x256x256.size (k0_off43_inb i hc4 1)).toLoadRect (arg14.view.writes (Elt F) fs2 (kernelVal0_E.sl.HS2_2 c i arg4 harg4 x2))), (View.readAt (Elt F) arg12.view (Rect.unit (s := S2x32x256x256) (k0_off41 i 3#32) S1x1x256x256.size (k0_off41_inb i hc4 2)).toLoadRect (arg12.view.writes (Elt F) fs0 (kernelVal0_E.sl.HS0_2 c i arg3 harg3 x1)), View.readAt (Elt F) arg13.view (Rect.unit (s := S2x32x256x128) (k0_off42 i 3#32) S1x1x256x128.size (k0_off42_inb i hc4 2)).toLoadRect (arg13.view.writes (Elt F) fs1 (kernelVal0_E.sl.HS1_2 c i arg3 harg3 x1)), View.readAt (Elt F) arg14.view (Rect.unit (s := S2x32x256x256) (k0_off43 i 2#32) S1x1x256x256.size (k0_off43_inb i hc4 2)).toLoadRect (arg14.view.writes (Elt F) fs2 (kernelVal0_E.sl.HS2_2 c i arg4 harg4 x2)))] (View.readAt (Elt F) arg12.view (Rect.unit (s := S2x32x256x256) (k0_off41 i 4#32) S1x1x256x256.size (k0_off41_inb i hc4 3)).toLoadRect (arg12.view.writes (Elt F) fs0 (kernelVal0_E.sl.HS0_2 c i arg3 harg3 x1)), View.readAt (Elt F) arg13.view (Rect.unit (s := S2x32x256x128) (k0_off42 i 4#32) S1x1x256x128.size (k0_off42_inb i hc4 3)).toLoadRect (arg13.view.writes (Elt F) fs1 (kernelVal0_E.sl.HS1_2 c i arg3 harg3 x1)), View.readAt (Elt F) arg14.view (Rect.unit (s := S2x32x256x256) (k0_off41 i 4#32) S1x1x256x256.size (k0_off41_inb i hc4 3)).toLoadRect (arg14.view.writes (Elt F) fs2 (kernelVal0_E.sl.HS2_2 c i arg4 harg4 x2)))) shapeCasts_S256x256_S1x256x256) (by rfl)
          (congrArg (fun z => shapeCast S1x256x256 z shapeCasts_S256x256_S1x256x256) (attend_congr4
            (load_head (F := F) (e := .fp8e4m3) arg15.view (arg15.view.writes (Elt F) arg15.view.junk (kernelVal0_E.sl.HS3_8 c arg2 harg2 x0)) (fun h => codesV (qBlk h x0)) (h15 _) 1 ![1, 0, 0] rfl _) (load_row (F := F) (e := .f32) arg16.view (arg16.view.writes (Elt F) arg16.view.junk (kernelVal0_E.sl.HS4_8 c arg2 harg2 x0)) (fun h => srow (qBlk h x0)) (h16 _) 1 ![1, 0] rfl _)
            (own_codes _ _ _ _ _ (h12 _) hlt 0 _ ClosedOff.eq _)
            (own_scales _ _ _ _ _ (h13 _) hlt 0 _ ClosedOff.eq _)
            (own_values _ _ _ _ _ (h14 _) hlt 0 _ ClosedOff.eq _)
            (load_slot _ _ _ (h12s) 0 ((i 1).val - 1) (by omega) _ (ClosedOff.eq.trans (vec4 (by omega))) _)
            (load_slotLanes _ _ _ (h13s) 0 ((i 1).val - 1) (by omega) _ (ClosedOff.eq.trans (vec4 (by omega))) _)
            (load_slot _ _ _ (h14s) 0 ((i 1).val - 1) (by omega) _ (ClosedOff.eq.trans (vec4 (by omega))) _)
            (load_slot _ _ _ (h12s) 0 ((i 1).val - 2) (by omega) _ (ClosedOff.eq.trans (vec4 (by omega))) _)
            (load_slotLanes _ _ _ (h13s) 0 ((i 1).val - 2) (by omega) _ (ClosedOff.eq.trans (vec4 (by omega))) _)
            (load_slot _ _ _ (h14s) 0 ((i 1).val - 2) (by omega) _ (ClosedOff.eq.trans (vec4 (by omega))) _)
            (load_slot _ _ _ (h12s) 0 ((i 1).val - 3) (by omega) _ (ClosedOff.eq.trans (vec4 (by omega))) _)
            (load_slotLanes _ _ _ (h13s) 0 ((i 1).val - 3) (by omega) _ (ClosedOff.eq.trans (vec4 (by omega))) _)
            (load_slot _ _ _ (h14s) 0 ((i 1).val - 3) (by omega) _ (ClosedOff.eq.trans (vec4 (by omega))) _)
            (load_slot _ _ _ (h12s) 0 ((i 1).val - 4) (by omega) _ (ClosedOff.eq.trans (vec4 (by omega))) _)
            (load_slotLanes _ _ _ (h13s) 0 ((i 1).val - 4) (by omega) _ (ClosedOff.eq.trans (vec4 (by omega))) _)
            (load_slot _ _ _ (h14s) 0 ((i 1).val - 4) (by omega) _ (ClosedOff.eq.trans (vec4 (by omega))) _))))
      · exact (Eq.trans (b := shapeCast S1x256x256 (attendFull (arg15.view.readCov (kernelVal0_E.sl.HS3_8 c arg2 harg2 x0) (Rect.unit (s := S8x256x256) ![0, 0, 0] S1x256x256.size inb_S8x256x256_S1x256x256_0_0_0).toLoadRect) (arg16.view.readCov (kernelVal0_E.sl.HS4_8 c arg2 harg2 x0) (Rect.unit (s := S8x256) ![0, 0] S1x256.size inb_S8x256_S1x256_0_0).toLoadRect) (arg12.view.readCov (kernelVal0_E.sl.HS0_2 c i arg3 harg3 x1) (Rect.unit (s := S2x32x256x256) (k0_off39 i) S1x1x256x256.size (k0_off39_inb i hc4)).toLoadRect, arg13.view.readCov (kernelVal0_E.sl.HS1_2 c i arg3 harg3 x1) (Rect.unit (s := S2x32x256x128) (k0_off40 i) S1x1x256x128.size (k0_off40_inb i hc4)).toLoadRect, arg14.view.readCov (kernelVal0_E.sl.HS2_2 c i arg4 harg4 x2) (Rect.unit (s := S2x32x256x256) (k0_off39 i) S1x1x256x256.size (k0_off39_inb i hc4)).toLoadRect) [(View.readAt (Elt F) arg12.view (Rect.unit (s := S2x32x256x256) (k0_off41 i 1#32) S1x1x256x256.size (k0_off41_inb i hc4 0)).toLoadRect (arg12.view.writes (Elt F) fs0 (kernelVal0_E.sl.HS0_2 c i arg3 harg3 x1)), View.readAt (Elt F) arg13.view (Rect.unit (s := S2x32x256x128) (k0_off42 i 1#32) S1x1x256x128.size (k0_off42_inb i hc4 0)).toLoadRect (arg13.view.writes (Elt F) fs1 (kernelVal0_E.sl.HS1_2 c i arg3 harg3 x1)), View.readAt (Elt F) arg14.view (Rect.unit (s := S2x32x256x256) (k0_off43 i 0#32) S1x1x256x256.size (k0_off43_inb i hc4 0)).toLoadRect (arg14.view.writes (Elt F) fs2 (kernelVal0_E.sl.HS2_2 c i arg4 harg4 x2))), (View.readAt (Elt F) arg12.view (Rect.unit (s := S2x32x256x256) (k0_off41 i 2#32) S1x1x256x256.size (k0_off41_inb i hc4 1)).toLoadRect (arg12.view.writes (Elt F) fs0 (kernelVal0_E.sl.HS0_2 c i arg3 harg3 x1)), View.readAt (Elt F) arg13.view (Rect.unit (s := S2x32x256x128) (k0_off42 i 2#32) S1x1x256x128.size (k0_off42_inb i hc4 1)).toLoadRect (arg13.view.writes (Elt F) fs1 (kernelVal0_E.sl.HS1_2 c i arg3 harg3 x1)), View.readAt (Elt F) arg14.view (Rect.unit (s := S2x32x256x256) (k0_off43 i 1#32) S1x1x256x256.size (k0_off43_inb i hc4 1)).toLoadRect (arg14.view.writes (Elt F) fs2 (kernelVal0_E.sl.HS2_2 c i arg4 harg4 x2))), (View.readAt (Elt F) arg12.view (Rect.unit (s := S2x32x256x256) (k0_off41 i 3#32) S1x1x256x256.size (k0_off41_inb i hc4 2)).toLoadRect (arg12.view.writes (Elt F) fs0 (kernelVal0_E.sl.HS0_2 c i arg3 harg3 x1)), View.readAt (Elt F) arg13.view (Rect.unit (s := S2x32x256x128) (k0_off42 i 3#32) S1x1x256x128.size (k0_off42_inb i hc4 2)).toLoadRect (arg13.view.writes (Elt F) fs1 (kernelVal0_E.sl.HS1_2 c i arg3 harg3 x1)), View.readAt (Elt F) arg14.view (Rect.unit (s := S2x32x256x256) (k0_off43 i 2#32) S1x1x256x256.size (k0_off43_inb i hc4 2)).toLoadRect (arg14.view.writes (Elt F) fs2 (kernelVal0_E.sl.HS2_2 c i arg4 harg4 x2)))] (View.readAt (Elt F) arg12.view (Rect.unit (s := S2x32x256x256) (k0_off41 i 4#32) S1x1x256x256.size (k0_off41_inb i hc4 3)).toLoadRect (arg12.view.writes (Elt F) fs0 (kernelVal0_E.sl.HS0_2 c i arg3 harg3 x1)), View.readAt (Elt F) arg13.view (Rect.unit (s := S2x32x256x128) (k0_off42 i 4#32) S1x1x256x128.size (k0_off42_inb i hc4 3)).toLoadRect (arg13.view.writes (Elt F) fs1 (kernelVal0_E.sl.HS1_2 c i arg3 harg3 x1)), View.readAt (Elt F) arg14.view (Rect.unit (s := S2x32x256x256) (k0_off41 i 4#32) S1x1x256x256.size (k0_off41_inb i hc4 3)).toLoadRect (arg14.view.writes (Elt F) fs2 (kernelVal0_E.sl.HS2_2 c i arg4 harg4 x2)))) shapeCasts_S256x256_S1x256x256) (by rfl)
          (congrArg (fun z => shapeCast S1x256x256 z shapeCasts_S256x256_S1x256x256) (attend_congr4
            (load_head (F := F) (e := .fp8e4m3) arg15.view (arg15.view.writes (Elt F) arg15.view.junk (kernelVal0_E.sl.HS3_8 c arg2 harg2 x0)) (fun h => codesV (qBlk h x0)) (h15 _) 0 ![0, 0, 0] rfl _) (load_row (F := F) (e := .f32) arg16.view (arg16.view.writes (Elt F) arg16.view.junk (kernelVal0_E.sl.HS4_8 c arg2 harg2 x0)) (fun h => srow (qBlk h x0)) (h16 _) 0 ![0, 0] rfl _)
            (own_codes _ _ _ _ _ (h12 _) hlt 0 _ ClosedOff.eq _)
            (own_scales _ _ _ _ _ (h13 _) hlt 0 _ ClosedOff.eq _)
            (own_values _ _ _ _ _ (h14 _) hlt 0 _ ClosedOff.eq _)
            (load_slot _ _ _ (h12s) 0 ((i 1).val - 1) (by omega) _ (ClosedOff.eq.trans (vec4 (by omega))) _)
            (load_slotLanes _ _ _ (h13s) 0 ((i 1).val - 1) (by omega) _ (ClosedOff.eq.trans (vec4 (by omega))) _)
            (load_slot _ _ _ (h14s) 0 ((i 1).val - 1) (by omega) _ (ClosedOff.eq.trans (vec4 (by omega))) _)
            (load_slot _ _ _ (h12s) 0 ((i 1).val - 2) (by omega) _ (ClosedOff.eq.trans (vec4 (by omega))) _)
            (load_slotLanes _ _ _ (h13s) 0 ((i 1).val - 2) (by omega) _ (ClosedOff.eq.trans (vec4 (by omega))) _)
            (load_slot _ _ _ (h14s) 0 ((i 1).val - 2) (by omega) _ (ClosedOff.eq.trans (vec4 (by omega))) _)
            (load_slot _ _ _ (h12s) 0 ((i 1).val - 3) (by omega) _ (ClosedOff.eq.trans (vec4 (by omega))) _)
            (load_slotLanes _ _ _ (h13s) 0 ((i 1).val - 3) (by omega) _ (ClosedOff.eq.trans (vec4 (by omega))) _)
            (load_slot _ _ _ (h14s) 0 ((i 1).val - 3) (by omega) _ (ClosedOff.eq.trans (vec4 (by omega))) _)
            (load_slot _ _ _ (h12s) 0 ((i 1).val - 4) (by omega) _ (ClosedOff.eq.trans (vec4 (by omega))) _)
            (load_slotLanes _ _ _ (h13s) 0 ((i 1).val - 4) (by omega) _ (ClosedOff.eq.trans (vec4 (by omega))) _)
            (load_slot _ _ _ (h14s) 0 ((i 1).val - 4) (by omega) _ (ClosedOff.eq.trans (vec4 (by omega))) _))))
    isplitl [H4]
    · iexists _; isplitr; swap; · iexact H4
      ipureintro
      refine packs4 _ _ (packV x0) _ _ _ _ _ _ _ _ ?_ ?_ ?_ ?_
      · exact (by dsimp only [packV]; rw [← load_q arg2 harg2 x0 4 ![0, 0, 1024] rfl (inb_S1x256x2048_S1x256x256_0_0_1024), ← load_q arg2 harg2 x0 5 ![0, 0, 1280] rfl (inb_S1x256x2048_S1x256x256_0_0_1280), ← load_q arg2 harg2 x0 6 ![0, 0, 1536] rfl (inb_S1x256x2048_S1x256x256_0_0_1536), ← load_q arg2 harg2 x0 7 ![0, 0, 1792] rfl (inb_S1x256x2048_S1x256x256_0_0_1792)]; rfl)
      · exact (by dsimp only [packV]; rw [← load_q arg2 harg2 x0 4 ![0, 0, 1024] rfl (inb_S1x256x2048_S1x256x256_0_0_1024), ← load_q arg2 harg2 x0 5 ![0, 0, 1280] rfl (inb_S1x256x2048_S1x256x256_0_0_1280), ← load_q arg2 harg2 x0 6 ![0, 0, 1536] rfl (inb_S1x256x2048_S1x256x256_0_0_1536), ← load_q arg2 harg2 x0 7 ![0, 0, 1792] rfl (inb_S1x256x2048_S1x256x256_0_0_1792)]; rfl)
      · exact (by dsimp only [packV]; rw [← load_q arg2 harg2 x0 0 ![0, 0, 0] rfl (inb_S1x256x2048_S1x256x256_0_0_0), ← load_q arg2 harg2 x0 1 ![0, 0, 256] rfl (inb_S1x256x2048_S1x256x256_0_0_256), ← load_q arg2 harg2 x0 2 ![0, 0, 512] rfl (inb_S1x256x2048_S1x256x256_0_0_512), ← load_q arg2 harg2 x0 3 ![0, 0, 768] rfl (inb_S1x256x2048_S1x256x256_0_0_768)]; rfl)
      · exact (by dsimp only [packV]; rw [← load_q arg2 harg2 x0 0 ![0, 0, 0] rfl (inb_S1x256x2048_S1x256x256_0_0_0), ← load_q arg2 harg2 x0 1 ![0, 0, 256] rfl (inb_S1x256x2048_S1x256x256_0_0_256), ← load_q arg2 harg2 x0 2 ![0, 0, 512] rfl (inb_S1x256x2048_S1x256x256_0_0_512), ← load_q arg2 harg2 x0 3 ![0, 0, 768] rfl (inb_S1x256x2048_S1x256x256_0_0_768)]; rfl)
    isplitl [H5]
    · iexists _; isplitr; swap; · iexact H5
      ipureintro
      refine lines8 _ _ (fun h => srow (qBlk h x0)) _ _ _ _ _ _ _ _ _ _ _ _ _ _ _ _ ?_ ?_ ?_ ?_ ?_ ?_ ?_ ?_
      · exact (by rw [← load_q arg2 harg2 x0 7 ![0, 0, 1792] rfl (inb_S1x256x2048_S1x256x256_0_0_1792)]; rfl)
      · exact (by rw [← load_q arg2 harg2 x0 6 ![0, 0, 1536] rfl (inb_S1x256x2048_S1x256x256_0_0_1536)]; rfl)
      · exact (by rw [← load_q arg2 harg2 x0 5 ![0, 0, 1280] rfl (inb_S1x256x2048_S1x256x256_0_0_1280)]; rfl)
      · exact (by rw [← load_q arg2 harg2 x0 4 ![0, 0, 1024] rfl (inb_S1x256x2048_S1x256x256_0_0_1024)]; rfl)
      · exact (by rw [← load_q arg2 harg2 x0 3 ![0, 0, 768] rfl (inb_S1x256x2048_S1x256x256_0_0_768)]; rfl)
      · exact (by rw [← load_q arg2 harg2 x0 2 ![0, 0, 512] rfl (inb_S1x256x2048_S1x256x256_0_0_512)]; rfl)
      · exact (by rw [← load_q arg2 harg2 x0 1 ![0, 0, 256] rfl (inb_S1x256x2048_S1x256x256_0_0_256)]; rfl)
      · exact (by rw [← load_q arg2 harg2 x0 0 ![0, 0, 0] rfl (inb_S1x256x2048_S1x256x256_0_0_0)]; rfl)
    isplitl [H6]
    · iexists _; isplitr; swap; · iexact H6
      ipureintro
      refine planes (F := F) (e := .fp8e4m3) arg8.view _ (fun g => codesV (kBlk g x1)) _ _ _ _ ?_ ?_
      · exact (by rw [← load_k1 arg3 harg3 x1 (inb_S1x256x512_S1x256x256_0_0_256)]; rfl)
      · exact (by rw [← load_k0 arg3 harg3 x1 (inb_S1x256x512_S1x256x256_0_0_0)]; rfl)
    isplitl [H7]
    · iexists _; isplitr; swap; · iexact H7
      ipureintro
      refine lines2 _ _ (fun g => srow (kBlk g x1)) _ _ _ _ ?_ ?_
      · exact (by rw [← load_k1 arg3 harg3 x1 (inb_S1x256x512_S1x256x256_0_0_256)]; rfl)
      · exact (by rw [← load_k0 arg3 harg3 x1 (inb_S1x256x512_S1x256x256_0_0_0)]; rfl)
    isplitl [H8]
    · iexists _; isplitr; swap; · iexact H8
      ipureintro
      refine planes (F := F) (e := .fp8e4m3) arg10.view _ (fun g => codesV (kBlk g x2)) _ _ _ _ ?_ ?_
      · exact (by rw [← load_k1 arg4 harg4 x2 (inb_S1x256x512_S1x256x256_0_0_256)]; rfl)
      · exact (by rw [← load_k0 arg4 harg4 x2 (inb_S1x256x512_S1x256x256_0_0_0)]; rfl)
    isplitl [H9]
    · iexists _; isplitr; swap; · iexact H9
      ipureintro
      refine lines2 _ _ (fun g => srow (kBlk g x2)) _ _ _ _ ?_ ?_
      · exact (by rw [← load_k1 arg4 harg4 x2 (inb_S1x256x512_S1x256x256_0_0_256)]; rfl)
      · exact (by rw [← load_k0 arg4 harg4 x2 (inb_S1x256x512_S1x256x256_0_0_0)]; rfl)
    isplitl [HS0]
    · iexists _; isplitr; swap; · iexact HS0
      ipureintro; exact h12s
    isplitl [HS1]
    · iexists _; isplitr; swap; · iexact HS1
      ipureintro; exact h13s
    isplitl [HS2]
    · iexists _; isplitr; swap; · iexact HS2
      ipureintro; exact h14s
    isplitl [HS3]
    · iexists _, _; isplitr; swap; · iexact HS3
      ipureintro; rfl
    iexists _, _; isplitr; swap; · iexact HS4
    ipureintro; rfl

end Cert.KernelIdeal.Spec

end
-- ==== Proof.Data.lean ====
/- The pipeline's proof data: the rings hold the quantised tiles of the batch so far, and each output block is a function of
the input blocks. -/
module

public import proofs.«01_k».proof.Proof.ValueA
public import proofs.«01_k».proof.Proof.ValueB
public import proofs.«01_k».proof.Proof.ValueC
public import proofs.«01_k».proof.Proof.ValueD
public import proofs.«01_k».proof.Proof.ValueE
public import Idealize.ShloMosaic.Lib.Claim

@[expose] public section

set_option maxRecDepth 16384

noncomputable section

namespace Cert.KernelIdeal.Spec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The input blocks at a point. -/
abbrev X0 (c : Dev nD) (t : Fin cfg0.N) : Vec F S1x256x2048 .bf16 := iblk m c 0 t
abbrev X1 (c : Dev nD) (t : Fin cfg0.N) : Vec F S1x256x512 .bf16 := iblk m c 1 t
abbrev X2 (c : Dev nD) (t : Fin cfg0.N) : Vec F S1x256x512 .bf16 := iblk m c 2 t

/-- The point of a batch and a tile. -/
def pt (n : Nat) : Fin cfg0.N := ⟨n % 288, by rw [show cfg0.N = 288 from N_0]; exact Nat.mod_lt _ (by decide)⟩

theorem pt_val (t : Fin cfg0.N) : pt t.val = t :=
  Fin.ext (Nat.mod_eq_of_lt (lt_of_lt_of_eq t.isLt (show cfg0.N = 288 from N_0)))

/-- The rings of a whole batch. -/
def KR (c : Dev nD) (b : Nat) : Vec F S2x32x256x256 .fp8e4m3 :=
  fun y => codesV (kBlk (y 0) (X1 m c (pt (32 * b + (y 1).val)))) (ix2 (y 2) (y 3))
def SR (c : Dev nD) (b : Nat) : Vec F S2x32x256x128 .f32 :=
  fun y => slanes (kBlk (y 0) (X1 m c (pt (32 * b + (y 1).val)))) (ix2 (y 2) (y 3))
def VR (c : Dev nD) (b : Nat) : Vec F S2x32x256x256 .bf16 :=
  fun y => valsV (kBlk (y 0) (X2 m c (pt (32 * b + (y 1).val)))) (ix2 (y 2) (y 3))

/-- The rings hold the batch's tiles before the point's. -/
def Good (c : Dev nD) (t : Nat) (s0 : Vec F S2x32x256x256 .fp8e4m3) (s1 : Vec F S2x32x256x128 .f32) (s2 : Vec F S2x32x256x256 .bf16) : Prop :=
  (∀ y, (y 1).val < t % 32 → s0 y = KR m c (t / 32) y) ∧ (∀ y, (y 1).val < t % 32 → s1 y = SR m c (t / 32) y)
    ∧ (∀ y, (y 1).val < t % 32 → s2 y = VR m c (t / 32) y)

theorem upto {α : Type} {n : Nat} (t : Fin cfg0.N) (s r w : (⟨4, ![2, 32, 256, n]⟩ : Shape).Idx → α)
    (h : ∀ y, (y 1).val < t.val % 32 → s y = r y) (hw : ∀ y, (y 1).val = t.val % 32 → w y = r y) (y)
    (hy : (y 1).val ≤ t.val % 32) : (if (y 1).val = t.val % 32 then w y else s y) = r y := by
  split
  · exact hw y ‹_›
  · exact h y (by omega)

theorem own_pt (t : Fin cfg0.N) (j : Nat) (hj : j = t.val % 32) : pt (32 * (t.val / 32) + j) = t := by
  rw [show 32 * (t.val / 32) + j = t.val by omega, pt_val]

theorem ringK_upto (c : Dev nD) (t : Fin cfg0.N) (s) (h : ∀ y, (y 1).val < t.val % 32 → s y = KR m c (t.val / 32) y) (y)
    (hy : (y 1).val ≤ t.val % 32) : ringK (t.val % 32) (X1 m c t) s y = KR m c (t.val / 32) y :=
  upto t s _ (fun y => codesV (kBlk (y 0) (X1 m c t)) (ix2 (y 2) (y 3))) h (fun y e => by
    show _ = codesV (kBlk (y 0) (X1 m c (pt (32 * (t.val / 32) + (y 1).val)))) (ix2 (y 2) (y 3)); rw [own_pt t _ e]) y hy
theorem ringS_upto (c : Dev nD) (t : Fin cfg0.N) (s) (h : ∀ y, (y 1).val < t.val % 32 → s y = SR m c (t.val / 32) y) (y)
    (hy : (y 1).val ≤ t.val % 32) : ringS (t.val % 32) (X1 m c t) s y = SR m c (t.val / 32) y :=
  upto t s _ (fun y => slanes (kBlk (y 0) (X1 m c t)) (ix2 (y 2) (y 3))) h (fun y e => by
    show _ = slanes (kBlk (y 0) (X1 m c (pt (32 * (t.val / 32) + (y 1).val)))) (ix2 (y 2) (y 3)); rw [own_pt t _ e]) y hy
theorem ringV_upto (c : Dev nD) (t : Fin cfg0.N) (s) (h : ∀ y, (y 1).val < t.val % 32 → s y = VR m c (t.val / 32) y) (y)
    (hy : (y 1).val ≤ t.val % 32) : ringV (t.val % 32) (X2 m c t) s y = VR m c (t.val / 32) y :=
  upto t s _ (fun y => valsV (kBlk (y 0) (X2 m c t)) (ix2 (y 2) (y 3))) h (fun y e => by
    show _ = valsV (kBlk (y 0) (X2 m c (pt (32 * (t.val / 32) + (y 1).val)))) (ix2 (y 2) (y 3)); rw [own_pt t _ e]) y hy

theorem good_step (c : Dev nD) (t : Fin cfg0.N) (s0 s1 s2) (h : Good m c t.val s0 s1 s2) :
    Good m c (t.val + 1) (ringK (t.val % 32) (X1 m c t) s0) (ringS (t.val % 32) (X1 m c t) s1) (ringV (t.val % 32) (X2 m c t) s2) := by
  obtain ⟨h0, h1, h2⟩ := h
  by_cases e : (t.val + 1) % 32 = 0
  · exact ⟨fun y hy => by omega, fun y hy => by omega, fun y hy => by omega⟩
  · have ed : (t.val + 1) / 32 = t.val / 32 := by omega
    unfold Good; rw [ed]
    exact ⟨fun y hy => ringK_upto m c t s0 h0 y (by omega), fun y hy => ringS_upto m c t s1 h1 y (by omega),
      fun y hy => ringV_upto m c t s2 h2 y (by omega)⟩

theorem slot_upto {α : Type} {n : Nat} (g : Fin 2) (t j : Nat) (ht : t < 32) (s r : (⟨4, ![2, 32, 256, n]⟩ : Shape).Idx → α)
    (h : ∀ y, (y 1).val ≤ t → s y = r y) : slot g (t - j) s = slot g (t - j) r := by
  funext y
  exact h _ (show (t - j) % 32 ≤ t by omega)

theorem oOut_upto (n t : Nat) (ht : t < 32) (x : Vec F S1x256x2048 .bf16) (k k' : Vec F S2x32x256x256 .fp8e4m3) (s s' : Vec F S2x32x256x128 .f32)
    (v v' : Vec F S2x32x256x256 .bf16) (hk : ∀ y, (y 1).val ≤ t → k y = k' y) (hs : ∀ y, (y 1).val ≤ t → s y = s' y)
    (hv : ∀ y, (y 1).val ≤ t → v y = v' y) : oOut n t x k s v = oOut n t x k' s' v' := by
  have hT : ∀ g j, tile g (t - j) k s v = tile g (t - j) k' s' v' := fun g j => by
    unfold tile; rw [slot_upto g t j ht k k' hk, slot_upto g t j ht s s' hs, slot_upto g t j ht v v' hv]
  funext y; unfold oOut headOut; simp only [hT]

/-- The attention's output block at a point. -/
def outBlk (c : Dev nD) (t : Fin cfg0.N) : Vec F S1x256x2048 .bf16 :=
  oOut (min 4 (t.val % 32)) (t.val % 32) (X0 m c t) (KR m c (t.val / 32)) (SR m c (t.val / 32)) (VR m c (t.val / 32))

/-- The invariant before a point. -/
def inv (c : Dev nD) (t : Nat) : sProp 𝕄 :=
  iprop(∃ s0 s1 s2, ⌜Good m c t s0 s1 s2⌝ ∗ owns (c : Thread nD τ) scM0_0 fullShare s0 ∗ owns (c : Thread nD τ) scM0_1 fullShare s1
    ∗ owns (c : Thread nD τ) scM0_2 fullShare s2 ∗ (∃ d, owns (c : Thread nD τ) scM0_3 fullShare d) ∗ (∃ d, owns (c : Thread nD τ) scM0_4 fullShare d)
    ∗ (∃ r, prngReg c r))

/-- The proof data: the inputs stay, each output block as named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk m c t
    | ⟨4, _⟩ => oQCodes (X0 m c t)
    | ⟨5, _⟩ => oQScales (X0 m c t)
    | ⟨6, _⟩ => oCodes (X1 m c t)
    | ⟨7, _⟩ => oScales (X1 m c t)
    | ⟨8, _⟩ => oCodes (X2 m c t)
    | ⟨9, _⟩ => oScales (X2 m c t)
  Φ t := inv m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outBlk m c t := by dsimp only [dats]
theorem after0_4 (c : Dev nD) (t : Fin cfg0.N) : (dats m 0 c).after 4 t = oQCodes (X0 m c t) := by dsimp only [dats]
theorem after0_5 (c : Dev nD) (t : Fin cfg0.N) : (dats m 0 c).after 5 t = oQScales (X0 m c t) := by dsimp only [dats]
theorem after0_6 (c : Dev nD) (t : Fin cfg0.N) : (dats m 0 c).after 6 t = oCodes (X1 m c t) := by dsimp only [dats]
theorem after0_7 (c : Dev nD) (t : Fin cfg0.N) : (dats m 0 c).after 7 t = oScales (X1 m c t) := by dsimp only [dats]
theorem after0_8 (c : Dev nD) (t : Fin cfg0.N) : (dats m 0 c).after 8 t = oCodes (X2 m c t) := by dsimp only [dats]
theorem after0_9 (c : Dev nD) (t : Fin cfg0.N) : (dats m 0 c).after 9 t = oScales (X2 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body does at a point, whatever the rings hold. -/
def Runs (c : Dev nD) (t : Fin cfg0.N) : Prop :=
  ∀ (s0 : Vec F S2x32x256x256 .fp8e4m3) (s1 : Vec F S2x32x256x128 .f32) (s2 : Vec F S2x32x256x256 .bf16) (E : Set ℕ) (K : PUnit → sProp 𝕄),
    iprop(owns (c : Thread nD τ) (ms0_0 t) fullShare (X0 m c t) ∗ owns (c : Thread nD τ) (ms0_1 t) fullShare (X1 m c t) ∗ owns (c : Thread nD τ) (ms0_2 t) fullShare (X2 m c t) ∗ (∃ d, owns (c : Thread nD τ) (ms0_3 t) fullShare d) ∗ (∃ d, owns (c : Thread nD τ) (ms0_4 t) fullShare d) ∗ (∃ d, owns (c : Thread nD τ) (ms0_5 t) fullShare d) ∗ (∃ d, owns (c : Thread nD τ) (ms0_6 t) fullShare d) ∗ (∃ d, owns (c : Thread nD τ) (ms0_7 t) fullShare d) ∗ (∃ d, owns (c : Thread nD τ) (ms0_8 t) fullShare d) ∗ (∃ d, owns (c : Thread nD τ) (ms0_9 t) fullShare d) ∗ owns (c : Thread nD τ) scM0_0 fullShare s0 ∗ owns (c : Thread nD τ) scM0_1 fullShare s1 ∗ owns (c : Thread nD τ) scM0_2 fullShare s2 ∗ (∃ d, owns (c : Thread nD τ) scM0_3 fullShare d) ∗ (∃ d, owns (c : Thread nD τ) scM0_4 fullShare d) ∗ (iprop(owns (c : Thread nD τ) (ms0_0 t) fullShare (X0 m c t) ∗ owns (c : Thread nD τ) (ms0_1 t) fullShare (X1 m c t) ∗ owns (c : Thread nD τ) (ms0_2 t) fullShare (X2 m c t) ∗ owns (c : Thread nD τ) (ms0_3 t) fullShare (oOut (min 4 (t.val % 32)) (t.val % 32) (X0 m c t) (ringK (t.val % 32) (X1 m c t) s0) (ringS (t.val % 32) (X1 m c t) s1) (ringV (t.val % 32) (X2 m c t) s2)) ∗ owns (c : Thread nD τ) (ms0_4 t) fullShare (oQCodes (X0 m c t)) ∗ owns (c : Thread nD τ) (ms0_5 t) fullShare (oQScales (X0 m c t)) ∗ owns (c : Thread nD τ) (ms0_6 t) fullShare (oCodes (X1 m c t)) ∗ owns (c : Thread nD τ) (ms0_7 t) fullShare (oScales (X1 m c t)) ∗ owns (c : Thread nD τ) (ms0_8 t) fullShare (oCodes (X2 m c t)) ∗ owns (c : Thread nD τ) (ms0_9 t) fullShare (oScales (X2 m c t)) ∗ owns (c : Thread nD τ) scM0_0 fullShare (ringK (t.val % 32) (X1 m c t) s0) ∗ owns (c : Thread nD τ) scM0_1 fullShare (ringS (t.val % 32) (X1 m c t) s1) ∗ owns (c : Thread nD τ) scM0_2 fullShare (ringV (t.val % 32) (X2 m c t) s2) ∗ (∃ d, owns (c : Thread nD τ) scM0_3 fullShare d) ∗ (∃ d, owns (c : Thread nD τ) scM0_4 fullShare d)) -∗ K ⟨⟩))
    ⊢ wp frame (wpE (defs₀ (F := F)) Variants.none c none) E (bodyAt0 t) K

theorem coord (t : Fin cfg0.N) : (grid0.coords t 1).val = t.val % 32 := by
  have ht : t.val < 288 := Nat.lt_of_lt_of_eq t.isLt N_0
  have e1 : (grid0.coords t 1).val = t.val / 1 % 32 := Pipeline.Grid.coords_val t 1 (by decide) rfl
  omega

set_option maxHeartbeats 3200000 in
theorem runs (c : Dev nD) (t : Fin cfg0.N) : Runs m c t := by
  intro s0 s1 s2 E K
  have hN : t.val < 288 := lt_of_lt_of_eq t.isLt (show cfg0.N = 288 from N_0)
  have ht := coord t
  rw [← ht]
  unfold bodyAt0
  by_cases h : t.val % 32 = 0
  · rw [show min 4 (grid0.coords t 1).val = 0 by omega]
    exact kernelVal0_A c (grid0.coords t) _ _ _ _ _ _ _ _ _ _ _ _ _ _ _ _ _ _ _ _ _ _ _ _ _ _ _ _ _ _ ((hcond0_0 t).mpr h) (fun hh => absurd ((hcond0_1 t).mp hh) (by omega)) (fun hh => absurd ((hcond0_2 t).mp hh) (by omega)) (fun hh => absurd ((hcond0_3 t).mp hh) (by omega)) (fun hh => absurd ((hcond0_4 t).mp hh) (by omega)) (by omega) (X0 m c t) (X1 m c t) (X2 m c t) s0 s1 s2 E K
  rename' h => n0
  by_cases h : t.val % 32 = 1
  · rw [show min 4 (grid0.coords t 1).val = 1 by omega]
    exact kernelVal0_B c (grid0.coords t) _ _ _ _ _ _ _ _ _ _ _ _ _ _ _ _ _ _ _ _ _ _ _ _ _ _ _ _ _ _ (fun hh => absurd ((hcond0_0 t).mp hh) (by omega)) ((hcond0_1 t).mpr h) (fun hh => absurd ((hcond0_2 t).mp hh) (by omega)) (fun hh => absurd ((hcond0_3 t).mp hh) (by omega)) (fun hh => absurd ((hcond0_4 t).mp hh) (by omega)) (by omega) (X0 m c t) (X1 m c t) (X2 m c t) s0 s1 s2 E K
  rename' h => n1
  by_cases h : t.val % 32 = 2
  · rw [show min 4 (grid0.coords t 1).val = 2 by omega]
    exact kernelVal0_C c (grid0.coords t) _ _ _ _ _ _ _ _ _ _ _ _ _ _ _ _ _ _ _ _ _ _ _ _ _ _ _ _ _ _ (fun hh => absurd ((hcond0_0 t).mp hh) (by omega)) (fun hh => absurd ((hcond0_1 t).mp hh) (by omega)) ((hcond0_2 t).mpr h) (fun hh => absurd ((hcond0_3 t).mp hh) (by omega)) (fun hh => absurd ((hcond0_4 t).mp hh) (by omega)) (by omega) (X0 m c t) (X1 m c t) (X2 m c t) s0 s1 s2 E K
  rename' h => n2
  by_cases h : t.val % 32 = 3
  · rw [show min 4 (grid0.coords t 1).val = 3 by omega]
    exact kernelVal0_D c (grid0.coords t) _ _ _ _ _ _ _ _ _ _ _ _ _ _ _ _ _ _ _ _ _ _ _ _ _ _ _ _ _ _ (fun hh => absurd ((hcond0_0 t).mp hh) (by omega)) (fun hh => absurd ((hcond0_1 t).mp hh) (by omega)) (fun hh => absurd ((hcond0_2 t).mp hh) (by omega)) ((hcond0_3 t).mpr h) (fun hh => absurd ((hcond0_4 t).mp hh) (by omega)) (by omega) (X0 m c t) (X1 m c t) (X2 m c t) s0 s1 s2 E K
  rename' h => n3
  have h : 4 ≤ t.val % 32 := by omega
  rw [show min 4 (grid0.coords t 1).val = 4 by omega]
  exact kernelVal0_E c (grid0.coords t) _ _ _ _ _ _ _ _ _ _ _ _ _ _ _ _ _ _ _ _ _ _ _ _ _ _ _ _ _ _ (fun hh => absurd ((hcond0_0 t).mp hh) (by omega)) (fun hh => absurd ((hcond0_1 t).mp hh) (by omega)) (fun hh => absurd ((hcond0_2 t).mp hh) (by omega)) (fun hh => absurd ((hcond0_3 t).mp hh) (by omega)) ((hcond0_4 t).mpr h) (by omega) (X0 m c t) (X1 m c t) (X2 m c t) s0 s1 s2 E K

theorem live3 (t : Fin cfg0.N) : cfg0.idle 3 (cfg0.grid.coords t) = false := by
  show (!(k0_cond1 (grid0.coords t) == 1#1) && !(k0_cond2 (grid0.coords t) == 1#1) && !(k0_cond3 (grid0.coords t) == 1#1)
    && !(k0_cond4 (grid0.coords t) == 1#1) && !(k0_cond5 (grid0.coords t) == 1#1)) = false
  rcases (by omega : t.val % 32 = 0 ∨ t.val % 32 = 1 ∨ t.val % 32 = 2 ∨ t.val % 32 = 3 ∨ 4 ≤ t.val % 32) with h | h | h | h | h
  · have e : k0_cond1 (grid0.coords t) = 1#1 := (hcond0_0 t).mpr h
    simp [e]
  · have e : k0_cond2 (grid0.coords t) = 1#1 := (hcond0_1 t).mpr h
    simp [e]
  · have e : k0_cond3 (grid0.coords t) = 1#1 := (hcond0_2 t).mpr h
    simp [e]
  · have e : k0_cond4 (grid0.coords t) = 1#1 := (hcond0_3 t).mpr h
    simp [e]
  · have e : k0_cond5 (grid0.coords t) = 1#1 := (hcond0_4 t).mpr h
    simp [e]

/-- What the body is called with at a point, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 6000000 in
/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2]
  rw [show (dats m 0 c).owesAt () t.succ = (dats m 0 c).owesAt () t.castSucc from rfl]
  rw [show (dats m 0 c).Φ t.castSucc = inv m c t.val from rfl, show (dats m 0 c).Φ t.succ = inv m c (t.val + 1) from rfl]
  unfold inv
  rw [show (dats m 0 c).leavesExact 0 t = owns (c : Thread nD τ) (ms0_0 t) fullShare ((dats m 0 c).after 0 t) from by
    unfold Dat.leavesExact; rw [show cfg0.idle 0 (cfg0.grid.coords t) = false from rfl], after0_0]
  rw [show (dats m 0 c).leavesExact 1 t = owns (c : Thread nD τ) (ms0_1 t) fullShare ((dats m 0 c).after 1 t) from by
    unfold Dat.leavesExact; rw [show cfg0.idle 1 (cfg0.grid.coords t) = false from rfl], after0_1]
  rw [show (dats m 0 c).leavesExact 2 t = owns (c : Thread nD τ) (ms0_2 t) fullShare ((dats m 0 c).after 2 t) from by
    unfold Dat.leavesExact; rw [show cfg0.idle 2 (cfg0.grid.coords t) = false from rfl], after0_2]
  rw [show (dats m 0 c).leavesExact 3 t = owns (c : Thread nD τ) (ms0_3 t) fullShare ((dats m 0 c).after 3 t) from by
    unfold Dat.leavesExact; rw [show cfg0.idle 3 (cfg0.grid.coords t) = false from live3 t], after0_3]
  rw [show (dats m 0 c).leavesExact 4 t = owns (c : Thread nD τ) (ms0_4 t) fullShare ((dats m 0 c).after 4 t) from by
    unfold Dat.leavesExact; rw [show cfg0.idle 4 (cfg0.grid.coords t) = false from rfl], after0_4]
  rw [show (dats m 0 c).leavesExact 5 t = owns (c : Thread nD τ) (ms0_5 t) fullShare ((dats m 0 c).after 5 t) from by
    unfold Dat.leavesExact; rw [show cfg0.idle 5 (cfg0.grid.coords t) = false from rfl], after0_5]
  rw [show (dats m 0 c).leavesExact 6 t = owns (c : Thread nD τ) (ms0_6 t) fullShare ((dats m 0 c).after 6 t) from by
    unfold Dat.leavesExact; rw [show cfg0.idle 6 (cfg0.grid.coords t) = false from rfl], after0_6]
  rw [show (dats m 0 c).leavesExact 7 t = owns (c : Thread nD τ) (ms0_7 t) fullShare ((dats m 0 c).after 7 t) from by
    unfold Dat.leavesExact; rw [show cfg0.idle 7 (cfg0.grid.coords t) = false from rfl], after0_7]
  rw [show (dats m 0 c).leavesExact 8 t = owns (c : Thread nD τ) (ms0_8 t) fullShare ((dats m 0 c).after 8 t) from by
    unfold Dat.leavesExact; rw [show cfg0.idle 8 (cfg0.grid.coords t) = false from rfl], after0_8]
  rw [show (dats m 0 c).leavesExact 9 t = owns (c : Thread nD τ) (ms0_9 t) fullShare ((dats m 0 c).after 9 t) from by
    unfold Dat.leavesExact; rw [show cfg0.idle 9 (cfg0.grid.coords t) = false from rfl], after0_9]
  iintro ⟨⟨%s0, %s1, %s2, %hg, HS0, HS1, HS2, HS3, HS4, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hout : outBlk m c t = oOut (min 4 (t.val % 32)) (t.val % 32) (X0 m c t) (ringK (t.val % 32) (X1 m c t) s0) (ringS (t.val % 32) (X1 m c t) s1) (ringV (t.val % 32) (X2 m c t) s2) :=
    (oOut_upto _ _ (Nat.mod_lt _ (by decide)) _ _ _ _ _ _ _ (ringK_upto m c t s0 hg.1) (ringS_upto m c t s1 hg.2.1) (ringV_upto m c t s2 hg.2.2)).symm
  rw [hout]
  iapply (runs m c t s0 s1 s2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, HS0, HS1, HS2, HS3, HS4⟩
  isplitl [HS0 HS1 HS2 HS3 HS4 Hg]
  · iexists _; iexists _; iexists _
    isplitr; · ipureintro; exact good_step m c t s0 s1 s2 hg
    isplitl [HS0]; · iexact HS0
    isplitl [HS1]; · iexact HS1
    isplitl [HS2]; · iexact HS2
    isplitl [HS3]; · iexact HS3
    isplitl [HS4]; · iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem enters (c : Dev nD) : (Pipeline.ΦA spec0 c : sProp 𝕄) ⊢ (dats m 0 c).Φ 0 := by
  rw [show (dats m 0 c).Φ 0 = inv m c 0 from rfl, PhiA0_eq]
  unfold inv
  iintro ⟨⟨⟨%d0, HS0⟩, ⟨%d1, HS1⟩, ⟨%d2, HS2⟩, HS3, HS4⟩, Hg⟩
  iexists d0; iexists d1; iexists d2
  isplitr; · ipureintro; exact ⟨fun y hy => absurd hy (Nat.not_lt_zero _), fun y hy => absurd hy (Nat.not_lt_zero _), fun y hy => absurd hy (Nat.not_lt_zero _)⟩
  isplitl [HS0]; · iexact HS0
  isplitl [HS1]; · iexact HS1
  isplitl [HS2]; · iexact HS2
  isplitl [HS3]; · iexact HS3
  isplitl [HS4]; · iexact HS4
  iexact Hg

theorem leaves (c : Dev nD) : (dats m 0 c).Φ (Fin.last cfg0.N) ⊢ (Pipeline.ΦA spec0 c : sProp 𝕄) := by
  rw [show (dats m 0 c).Φ (Fin.last cfg0.N) = inv m c cfg0.N from rfl, PhiA0_eq]
  unfold inv
  iintro ⟨%s0, %s1, %s2, -, HS0, HS1, HS2, HS3, HS4, Hg⟩
  isplitl [HS0 HS1 HS2 HS3 HS4]
  · isplitl [HS0]; · iexists _; iexact HS0
    isplitl [HS1]; · iexists _; iexact HS1
    isplitl [HS2]; · iexists _; iexact HS2
    isplitl [HS3]; · iexact HS3
    iexact HS4
  iexact Hg

-- the launch's implicit arguments are found by unifying its conclusion with this one
set_option backward.isDefEq.respectTransparency.types false in
set_option maxHeartbeats 800000 in
/-- The launch. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := enters m) (hout := leaves m)

end Cert.KernelIdeal.Spec

end
-- ==== Proof.Quant.lean ====
module

public import proofs.«01_k».proof.Proof.Gen.KernelIdeal.Points
public import Idealize.ShloMosaic.Lib.Pointwise

/-! The quantiser's scale over the extended reals: the search for the exponent field finds the power of two above a row's
number, its reciprocal is exact, and the least power of two above the number is the same one. -/

@[expose] public section

set_option maxRecDepth 16384

noncomputable section

namespace Cert.KernelIdeal.Spec

open Idealize.ShloMosaic

/-- The number of exponent field `n`. -/
def P (w : BitVec 32) : EReal := Ideal.ofBits .f32 (IntOp.shli .vector w 23#32)

theorem field_sign (n : ℕ) (h : n ≤ 254) : BitVec.extractLsb' (8 + 23) 1 (BitVec.ofNat 32 n <<< 23) = 0#1 := by
  apply BitVec.eq_of_toNat_eq
  simp [BitVec.extractLsb'_toNat, Nat.shiftLeft_eq, Nat.shiftRight_eq_div_pow]
  omega

theorem field_exp (n : ℕ) (h : n ≤ 254) : (BitVec.extractLsb' 23 8 (BitVec.ofNat 32 n <<< 23)).toNat = n := by
  simp [BitVec.extractLsb'_toNat, Nat.shiftLeft_eq, Nat.shiftRight_eq_div_pow]
  omega

theorem field_frac (n : ℕ) : (BitVec.extractLsb' 0 23 (BitVec.ofNat 32 n <<< 23)).toNat = 0 := by
  simp [BitVec.extractLsb'_toNat, Nat.shiftLeft_eq, Nat.shiftRight_eq_div_pow]

theorem ieee_of (w : BitVec 32) (n : ℕ) (h1 : 1 ≤ n) (h2 : n ≤ 254) (a : BitVec.extractLsb' (8 + 23) 1 w = 0#1)
    (b : (BitVec.extractLsb' 23 8 w).toNat = n) (c : (BitVec.extractLsb' 0 23 w).toNat = 0) :
    Ideal.ieee 8 23 w = (((2 : ℝ) ^ ((n : ℤ) - 127) : ℝ) : EReal) := by
  have e : (((1 : ℝ) * ((2 ^ 23 + 0 : ℕ) : ℝ) * (2 : ℝ) ^ ((n : ℤ) - (2 ^ (8 - 1) - 1) - (23 : ℕ)) : ℝ)) = (2 : ℝ) ^ ((n : ℤ) - 127) := by
    rw [one_mul, Nat.add_zero, Nat.cast_pow, Nat.cast_ofNat, ← zpow_natCast, ← zpow_add₀ (by norm_num)]
    congr 1
    norm_num
  unfold Ideal.ieee
  simp only [a, b, c]
  rw [if_neg (by omega), if_neg (by omega), ← e]
  rfl

theorem P_ofNat (n : ℕ) (h1 : 1 ≤ n) (h2 : n ≤ 254) : P (BitVec.ofNat 32 n) = (((2 : ℝ) ^ ((n : ℤ) - 127) : ℝ) : EReal) := by
  have e0 : IntOp.shli .vector (BitVec.ofNat 32 n) 23#32 = BitVec.ofNat 32 n <<< 23 := by
    simp [IntOp.shli]
  rw [P, e0]
  exact ieee_of _ n h1 h2 (field_sign n h2) (field_exp n h2) (field_frac n)

theorem P_zero : P 0#32 = 0 := by
  have : IntOp.shli .vector (0#32) 23#32 = 0#32 := by decide
  rw [P, this]; exact Ideal.ofBits_zero_f32

theorem P_top : P 255#32 = ⊤ := by
  have : IntOp.shli .vector (255#32) 23#32 = 0x7F800000#32 := by decide
  rw [P, this]
  simp [Ideal.ofBits, Ideal.ieee]

/-- The number of an exponent field, and infinity past the fields. -/
def Q (n : ℕ) : EReal := if n < 256 then P (BitVec.ofNat 32 n) else ⊤

/-- One step of the search. -/
def stepS (y : EReal) (b f : BitVec 32) : BitVec 32 := if P (IntOp.addi f b) ≤ y then IntOp.addi f b else f

theorem step_spec (y : EReal) (n b : ℕ) (hb : 0 < b) (h : n + 2 * b ≤ 256) (h0 : Q n ≤ y) (h1 : y < Q (n + 2 * b)) :
    ∃ n', stepS y (BitVec.ofNat 32 b) (BitVec.ofNat 32 n) = BitVec.ofNat 32 n' ∧ n' + b ≤ 256 ∧ Q n' ≤ y ∧ y < Q (n' + b) := by
  have e : IntOp.addi (BitVec.ofNat 32 n) (BitVec.ofNat 32 b) = BitVec.ofNat 32 (n + b) := by
    show BitVec.ofNat 32 n + BitVec.ofNat 32 b = _
    rw [BitVec.ofNat_add]
  have q : P (BitVec.ofNat 32 (n + b)) = Q (n + b) := by rw [Q, if_pos (by omega)]
  unfold stepS
  rw [e, q]
  by_cases c : Q (n + b) ≤ y
  · exact ⟨n + b, if_pos c, by omega, c, by rw [show n + b + b = n + 2 * b by ring]; exact h1⟩
  · exact ⟨n, if_neg c, by omega, h0, not_le.mp c⟩

/-- The exponent field of a number, by the search. -/
def fieldS (y : EReal) : BitVec 32 :=
  stepS y 1#32 (stepS y 2#32 (stepS y 4#32 (stepS y 8#32 (stepS y 16#32 (stepS y 32#32 (stepS y 64#32 (stepS y 128#32 0#32)))))))

theorem field_spec (y : EReal) (h0 : 0 ≤ y) (h1 : y < ⊤) :
    ∃ n, fieldS y = BitVec.ofNat 32 n ∧ n + 1 ≤ 256 ∧ Q n ≤ y ∧ y < Q (n + 1) := by
  obtain ⟨a, ea, ha, qa, ra⟩ := step_spec y 0 128 (by norm_num) (by norm_num) (by rw [Q, if_pos (by norm_num)]; exact P_zero.trans_le h0)
    (by rw [Q, if_neg (by norm_num)]; exact h1)
  obtain ⟨b, eb, hb, qb, rb⟩ := step_spec y a 64 (by norm_num) (by omega) qa ra
  obtain ⟨c, ec, hc, qc, rc⟩ := step_spec y b 32 (by norm_num) (by omega) qb rb
  obtain ⟨d, ed, hd, qd, rd⟩ := step_spec y c 16 (by norm_num) (by omega) qc rc
  obtain ⟨e, ee, he, qe, re⟩ := step_spec y d 8 (by norm_num) (by omega) qd rd
  obtain ⟨f, ef, hf, qf, rf⟩ := step_spec y e 4 (by norm_num) (by omega) qe re
  obtain ⟨g, eg, hg, qg, rg⟩ := step_spec y f 2 (by norm_num) (by omega) qf rf
  obtain ⟨k, ek, hk, qk, rk⟩ := step_spec y g 1 (by norm_num) (by omega) qg rg
  refine ⟨k, ?_, hk, qk, rk⟩
  unfold fieldS
  rw [show (0#32) = BitVec.ofNat 32 0 from rfl, ea, eb, ec, ed, ee, ef, eg, ek]

/-- The scale's exponent. -/
def expS (y : EReal) : BitVec 32 := Scalar.select (IntOp.cmpi .eq (fieldS y) 0#32) (0#32) (IntOp.subi (fieldS y) 126#32)

/-- The scale. -/
def sclS (y : EReal) : EReal := P (IntOp.addi (expS y) 127#32)

/-- The scale's reciprocal. -/
def invS (y : EReal) : EReal := P (IntOp.subi 127#32 (expS y))

/-- The least power of two above a number, 1 below the least normal number. -/
def refS (y : EReal) : EReal :=
  if y < Ideal.ofBits .f32 0x00800000#32 then 1 else
    Finset.fold min ⊤ (fun i : Fin 253 => if y < (((2 : ℝ) ^ ((i.val : ℤ) - 125) : ℝ) : EReal) then
      (((2 : ℝ) ^ ((i.val : ℤ) - 125) : ℝ) : EReal) else ⊤) Finset.univ

theorem zpow_lt {a b : ℤ} (h : a < b) : (((2 : ℝ) ^ a : ℝ) : EReal) < (((2 : ℝ) ^ b : ℝ) : EReal) :=
  EReal.coe_lt_coe_iff.mpr (zpow_lt_zpow_right₀ (by norm_num) h)

theorem zpow_le {a b : ℤ} (h : a ≤ b) : (((2 : ℝ) ^ a : ℝ) : EReal) ≤ (((2 : ℝ) ^ b : ℝ) : EReal) :=
  EReal.coe_le_coe_iff.mpr (zpow_le_zpow_right₀ (by norm_num) h)

theorem fold_min_eq {n : ℕ} (f : Fin n → EReal) (j : Fin n) (h : ∀ i, f j ≤ f i) : Finset.fold min ⊤ f Finset.univ = f j := by
  apply le_antisymm
  · exact (Finset.fold_min_le _).mpr (.inr ⟨j, Finset.mem_univ _, le_rfl⟩)
  · exact (Finset.le_fold_min _).mpr ⟨le_top, fun i _ => h i⟩

theorem scale_spec (y : EReal) (h0 : 0 ≤ y) (h1 : y < (((2 : ℝ) ^ (120 : ℤ) : ℝ) : EReal)) :
    ∃ z : ℤ, -125 ≤ z ∧ z ≤ 120 ∧ sclS y = (((2 : ℝ) ^ z : ℝ) : EReal) ∧ invS y = (((2 : ℝ) ^ (-z) : ℝ) : EReal) ∧
      refS y = (((2 : ℝ) ^ z : ℝ) : EReal) := by
  obtain ⟨n, hn, hk, hq, hr⟩ := field_spec y h0 (h1.trans (EReal.coe_lt_top _))
  have least : Ideal.ofBits .f32 0x00800000#32 = (((2 : ℝ) ^ (-126 : ℤ) : ℝ) : EReal) := by
    have := P_ofNat 1 le_rfl (by norm_num)
    have e : IntOp.shli .vector (1#32) 23#32 = 0x00800000#32 := by decide
    rw [P, show BitVec.ofNat 32 1 = 1#32 from rfl, e] at this
    rw [this]; norm_num
  have hn247 : n ≤ 246 := by
    by_contra hc
    have : (((2 : ℝ) ^ (120 : ℤ) : ℝ) : EReal) ≤ Q n := by
      rw [Q, if_pos (by omega)]
      rcases Nat.lt_or_ge n 255 with h | h
      · rw [P_ofNat n (by omega) (by omega)]; exact zpow_le (by omega)
      · obtain rfl : n = 255 := by omega
        rw [show BitVec.ofNat 32 255 = 255#32 from rfl, P_top]; exact le_top
    exact absurd (this.trans hq) (not_le.mpr h1)
  rw [Q, if_pos (by omega)] at hq hr
  rw [P_ofNat (n + 1) (by omega) (by omega)] at hr
  rcases Nat.eq_zero_or_pos n with rfl | hp
  · have e : expS y = 0#32 := by rw [expS, hn]; decide
    refine ⟨0, by norm_num, by norm_num, ?_, ?_, ?_⟩
    · rw [sclS, e, show IntOp.addi (0#32) 127#32 = BitVec.ofNat 32 127 from by decide, P_ofNat _ (by norm_num) (by norm_num)]
      norm_num
    · rw [invS, e, show IntOp.subi (127#32) 0#32 = BitVec.ofNat 32 127 from by decide, P_ofNat _ (by norm_num) (by norm_num)]
      norm_num
    · rw [refS, least, if_pos (hr.trans_eq (by norm_num))]; norm_num
  · rw [P_ofNat n hp (by omega)] at hq
    have hne : IntOp.cmpi .eq (BitVec.ofNat 32 n) 0#32 = 0#1 := by
      have : (BitVec.ofNat 32 n == 0#32) = false := by
        rw [beq_eq_false_iff_ne]
        intro h
        have := congrArg BitVec.toNat h
        simp at this
        omega
      show BitVec.ofBool _ = _
      rw [this]; rfl
    have e : expS y = IntOp.subi (BitVec.ofNat 32 n) 126#32 := by rw [expS, hn, hne]; rfl
    have e1 : IntOp.addi (IntOp.subi (BitVec.ofNat 32 n) 126#32) 127#32 = BitVec.ofNat 32 (n + 1) := by
      show BitVec.ofNat 32 n - 126#32 + 127#32 = _
      rw [BitVec.ofNat_add]
      generalize BitVec.ofNat 32 n = w
      rw [BitVec.sub_eq_add_neg, BitVec.add_assoc]; rfl
    have e2 : IntOp.subi (127#32) (IntOp.subi (BitVec.ofNat 32 n) 126#32) = BitVec.ofNat 32 (253 - n) := by
      show 127#32 - (BitVec.ofNat 32 n - 126#32) = _
      apply BitVec.eq_of_toNat_eq
      simp [BitVec.toNat_sub]
      omega
    refine ⟨(n : ℤ) - 126, by omega, by omega, ?_, ?_, ?_⟩
    · rw [sclS, e, e1, P_ofNat _ (by omega) (by omega)]
      congr 2; push_cast; ring
    · rw [invS, e, e2, P_ofNat _ (by omega) (by omega)]
      congr 2; omega
    · have hr' : y < (((2 : ℝ) ^ ((n : ℤ) - 126) : ℝ) : EReal) := by
        convert hr using 3; push_cast; ring
      rw [refS, least, if_neg (not_lt.mpr ((zpow_le (by omega)).trans hq))]
      have hj : (((⟨n - 1, by omega⟩ : Fin 253).val : ℤ) - 125) = (n : ℤ) - 126 := by
        show ((n - 1 : ℕ) : ℤ) - 125 = _
        omega
      refine (fold_min_eq _ ⟨n - 1, by omega⟩ ?_).trans ?_
      · intro i
        simp only [hj]
        rw [if_pos hr']
        split_ifs with hi
        · refine zpow_le ?_
          by_contra hc
          exact absurd (hq.trans_lt hi) (not_lt.mpr (zpow_le (by omega)))
        · exact le_top
      · simp only [hj]
        rw [if_pos hr']

end Cert.KernelIdeal.Spec

end
-- ==== Proof.Row.lean ====
module

public import proofs.«01_k».proof.Proof.Spec
public import proofs.«01_k».proof.Proof.Quant

/-! The quantiser of a row over the extended reals: the block's scales and codes at an index. -/

@[expose] public section

set_option maxRecDepth 16384

noncomputable section

namespace Cert.KernelIdeal.Spec

open Idealize.ShloMosaic Idealize.ShloMosaic.TcCoe Cert.KernelIdeal Cert.KernelIdeal.Gen

/-- A magnitude that bfloat16 has. -/
def InRange (x : EReal) : Prop := max x (-x) ≤ Ideal.ofBits .bf16 0x7F7F#16

/-- The greatest magnitude of a row. -/
def amaxS (f : Fin 256 → EReal) : EReal := Finset.fold max ⊥ (fun x => max (f x) (-(f x))) Finset.univ

/-- It over 448, as the programs round that quotient. -/
def yS (f : Fin 256 → EReal) : EReal := amaxS f * Ideal.ofBits .f32 0x3B124925#32

/-- A row's scale. -/
def scaleS (f : Fin 256 → EReal) : EReal := refS (yS f)

/-- A row's codes. -/
def codeS (f : Fin 256 → EReal) (j : Fin 256) : EReal :=
  min (Ideal.ofBits .f32 0x43E00000#32) (max (Ideal.ofBits .f32 0xC3E00000#32) (Ideal.div (f j) (scaleS f)))

theorem ofBits_max : Ideal.ofBits .bf16 0x7F7F#16 = (((2 : ℝ) ^ (120 : ℤ) * 255 : ℝ) : EReal) := by
  simp [Ideal.ofBits, Ideal.ieee]
  norm_num
  exact mul_comm _ _

theorem ofBits_inv448 : Ideal.ofBits .f32 0x3B124925#32 = (((9586981 : ℝ) * (2 : ℝ) ^ (-32 : ℤ) : ℝ) : EReal) := by
  simp [Ideal.ofBits, Ideal.ieee]

theorem ofBits_448 : Ideal.ofBits .f32 0x43E00000#32 = ((448 : ℝ) : EReal) := by
  simp [Ideal.ofBits, Ideal.ieee]
  norm_num
  rw [← EReal.coe_mul]
  congr 1
  norm_num

theorem ofBits_neg448 : Ideal.ofBits .f32 0xC3E00000#32 = ((-448 : ℝ) : EReal) := by
  simp [Ideal.ofBits, Ideal.ieee]
  norm_num
  rw [← EReal.coe_mul]
  congr 1
  norm_num

theorem ofBits_bot16 : Ideal.ofBits .bf16 0xFF80#16 = ⊥ := by
  simp [Ideal.ofBits, Ideal.ieee]

theorem ofBits_bot : Ideal.ofBits .f32 0xFF800000#32 = ⊥ := by
  simp [Ideal.ofBits, Ideal.ieee]

theorem ofBits_top : Ideal.ofBits .f32 0x7F800000#32 = ⊤ := by
  simp [Ideal.ofBits, Ideal.ieee]

/-- A magnitude in range is a real number's. -/
theorem real_of (x : EReal) (h : InRange x) : ∃ r : ℝ, x = (r : EReal) := by
  unfold InRange at h
  rw [ofBits_max] at h
  induction x with
  | bot => exact absurd (top_le_iff.mp ((le_max_right (⊥ : EReal) (-⊥)).trans h)) (EReal.coe_ne_top _)
  | top => exact absurd (top_le_iff.mp ((le_max_left (⊤ : EReal) (-⊤)).trans h)) (EReal.coe_ne_top _)
  | coe r => exact ⟨r, rfl⟩

theorem y_bounds (f : Fin 256 → EReal) (h : ∀ x, InRange (f x)) : 0 ≤ yS f ∧ yS f < (((2 : ℝ) ^ (120 : ℤ) : ℝ) : EReal) := by
  have h0 : 0 ≤ amaxS f := by
    refine (Finset.le_fold_max _).mpr (.inr ⟨0, Finset.mem_univ _, ?_⟩)
    rcases le_total 0 (f 0) with hh | hh
    · exact le_max_of_le_left hh
    · refine le_max_of_le_right ?_
      rw [EReal.le_neg]; simpa using hh
  have h1 : amaxS f ≤ (((2 : ℝ) ^ (120 : ℤ) * 255 : ℝ) : EReal) := by
    refine (Finset.fold_max_le _).mpr ⟨bot_le, fun x _ => ?_⟩
    have := h x
    rwa [InRange, ofBits_max] at this
  obtain ⟨r, hr⟩ : ∃ r : ℝ, amaxS f = (r : EReal) := by
    generalize amaxS f = a at h0 h1
    induction a with
    | bot => simp at h0
    | top => exact absurd (top_le_iff.mp h1) (EReal.coe_ne_top _)
    | coe r => exact ⟨r, rfl⟩
  rw [hr] at h0 h1
  have hr0 : 0 ≤ r := by exact_mod_cast h0
  have hr1 : r ≤ (2 : ℝ) ^ (120 : ℤ) * 255 := EReal.coe_le_coe_iff.mp h1
  have hc : (9586981 : ℝ) * (2 : ℝ) ^ (-32 : ℤ) < 1 / 256 := by norm_num
  have hc0 : (0 : ℝ) ≤ (9586981 : ℝ) * (2 : ℝ) ^ (-32 : ℤ) := by positivity
  rw [yS, hr, ofBits_inv448, ← EReal.coe_mul]
  generalize (9586981 : ℝ) * (2 : ℝ) ^ (-32 : ℤ) = c at hc hc0
  have hp : (0 : ℝ) < (2 : ℝ) ^ (120 : ℤ) := by positivity
  generalize (2 : ℝ) ^ (120 : ℤ) = p at hr1 hp
  refine ⟨by exact_mod_cast mul_nonneg hr0 hc0, EReal.coe_lt_coe_iff.mpr ?_⟩
  nlinarith

/-- The scale of a row in range is a power of two, the search finds it and its reciprocal. -/
theorem row_scale (f : Fin 256 → EReal) (h : ∀ x, InRange (f x)) :
    ∃ z : ℤ, scaleS f = (((2 : ℝ) ^ z : ℝ) : EReal) ∧ sclS (yS f) = (((2 : ℝ) ^ z : ℝ) : EReal) ∧
      invS (yS f) = (((2 : ℝ) ^ (-z) : ℝ) : EReal) := by
  obtain ⟨z, -, -, a, b, c⟩ := scale_spec (yS f) (y_bounds f h).1 (y_bounds f h).2
  exact ⟨z, c, a, b⟩

theorem div_coe (x : EReal) (r : ℝ) (h : r ≠ 0) : Ideal.div x (r : EReal) = x * ((r⁻¹ : ℝ) : EReal) := by
  rw [Ideal.div, if_neg (by exact_mod_cast h), EReal.coe_inv]

theorem row_code (f : Fin 256 → EReal) (h : ∀ x, InRange (f x)) (j : Fin 256) :
    min (Ideal.ofBits .f32 0x43E00000#32) (max (Ideal.ofBits .f32 0xC3E00000#32) (f j * invS (yS f))) = codeS f j := by
  obtain ⟨z, a, -, c⟩ := row_scale f h
  rw [codeS, a, c, div_coe _ _ (by positivity), zpow_neg]

theorem code_real (f : Fin 256 → EReal) (h : ∀ x, InRange (f x)) (j : Fin 256) : ∃ r : ℝ, codeS f j = (r : EReal) := by
  obtain ⟨z, a, -⟩ := row_scale f h
  obtain ⟨x, hx⟩ := real_of (f j) (h j)
  refine ⟨min 448 (max (-448) (x * ((2 : ℝ) ^ z)⁻¹)), ?_⟩
  rw [codeS, a, div_coe _ _ (by positivity), hx, ofBits_448, ofBits_neg448, ← EReal.coe_mul]
  rw [EReal.coe_strictMono.monotone.map_min, EReal.coe_strictMono.monotone.map_max]

/-! ## The block at an index -/

theorem absf_ideal (x : EReal) : FloatOps.absf (F := Ideal) (φ := .bf16) x = max x (-x) := rfl

theorem y_at (t : FVec Ideal S256x256 .bf16) (i : Fin 256) : yV t (ix2 i 0) = yS (fun x => t (ix2 i x)) := by
  pointwise [yV]
  rw [ofBits_bot16]; rfl

theorem step_at (y : FVec Ideal S256x1 .f32) (b : BitVec 32) (f : IVec S256x1 32) (i : Fin 256) :
    stepV y b f (ix2 i 0) = stepS (y (ix2 i 0)) b (f (ix2 i 0)) := by
  pointwise [stepV]
  rfl

theorem field_at (y : FVec Ideal S256x1 .f32) (i : Fin 256) : fieldV y (ix2 i 0) = fieldS (y (ix2 i 0)) := by
  unfold fieldV fieldS
  simp only [step_at]
  rfl

theorem exp_at (y : FVec Ideal S256x1 .f32) (i : Fin 256) : expV y (ix2 i 0) = expS (y (ix2 i 0)) := by
  pointwise [expV]
  rw [field_at]; rfl

theorem scl_at (y : FVec Ideal S256x1 .f32) (i : Fin 256) : sclV y (ix2 i 0) = sclS (y (ix2 i 0)) := by
  pointwise [sclV]
  rw [exp_at]; rfl

theorem inv_at (y : FVec Ideal S256x1 .f32) (i : Fin 256) : invV y (ix2 i 0) = invS (y (ix2 i 0)) := by
  pointwise [invV]
  rw [exp_at]; rfl

theorem scale_at (t : FVec Ideal S256x256 .bf16) (i : Fin 256) (h : ∀ x, InRange (t (ix2 i x))) :
    sclV (yV t) (ix2 i 0) = scaleS (fun x => t (ix2 i x)) := by
  obtain ⟨z, a, b, -⟩ := row_scale _ h
  rw [scl_at, y_at, a, b]

theorem codes_at (t : FVec Ideal S256x256 .bf16) (i j : Fin 256) (h : ∀ x, InRange (t (ix2 i x))) :
    codesV t (ix2 i j) = codeS (fun x => t (ix2 i x)) j := by
  rw [← row_code _ h]
  pointwise [codesV]
  rw [inv_at, y_at]

theorem lanes_at (s : FVec Ideal S256x1 .f32) (i : Fin 256) (l : Fin 128) : lanesV s (ix2 i l) = s (ix2 i 0) := by
  pointwise [lanesV]

theorem row_at (s : FVec Ideal S256x1 .f32) (i : Fin 256) : rowV s (ix2 0 i) = s (ix2 i 0) := by
  pointwise [rowV, lanesV]

theorem vals_at (t : FVec Ideal S256x256 .bf16) (j i : Fin 256) (h : ∀ x, InRange (t (ix2 i x))) :
    valsV t (ix2 j i) = codeS (fun x => t (ix2 i x)) j * scaleS (fun x => t (ix2 i x)) := by
  rw [← codes_at t i j h, ← scale_at t i h]
  pointwise [valsV]

theorem blk_at (t : Vec Ideal S1x256x256 .bf16) (i j : Fin 256) : blk t (ix2 i j) = t (ix3 0 i j) := by
  pointwise [blk]

end Cert.KernelIdeal.Spec

end
-- ==== Proof.Core.lean ====
module

public import proofs.«01_k».proof.Proof.Row

/-! The attention of one query as sums and greatest values over all keys of the sequence, over the extended reals: the
window's keys lie in the own tile, up to three whole tiles behind it, and the tile four behind; the powers of two with the
constant folded in are the exponentials, and the factor 256 cancels. -/

@[expose] public section

set_option maxRecDepth 16384

noncomputable section

namespace Cert.KernelIdeal.Spec

open Idealize.ShloMosaic

/-! ## The window's keys, tile by tile -/

section Split

variable {M : Type} [AddCommMonoid M]

/-- Where query `r` of tile `i` sees key `c` of tile `u`. -/
def sees (i r u c : ℕ) : Prop := 256 * u + c ≤ 256 * i + r ∧ 256 * i + r < 256 * u + c + 1024

instance (i r u c : ℕ) : Decidable (sees i r u c) := instDecidableAnd

/-- What a tile adds. -/
def tileSum (i r : ℕ) (f : ℕ → Fin 256 → M) (u : ℕ) : M := ∑ c : Fin 256, if sees i r u c.val then f u c else 0

theorem tileSum_own (i r : ℕ) (f : ℕ → Fin 256 → M) (hr : r < 256) :
    tileSum i r f i = ∑ c : Fin 256, if c.val ≤ r then f i c else 0 := by
  refine Finset.sum_congr rfl fun c _ => if_congr ?_ rfl rfl
  unfold sees; have := c.isLt; omega

theorem tileSum_whole (i r j : ℕ) (f : ℕ → Fin 256 → M) (hr : r < 256) (h1 : 1 ≤ j) (h2 : j ≤ 3) (h3 : j ≤ i) :
    tileSum i r f (i - j) = ∑ c : Fin 256, f (i - j) c := by
  refine Finset.sum_congr rfl fun c _ => if_pos ?_
  unfold sees; have := c.isLt; omega

theorem tileSum_back (i r : ℕ) (f : ℕ → Fin 256 → M) (hr : r < 256) (h : 4 ≤ i) :
    tileSum i r f (i - 4) = ∑ c : Fin 256, if c.val ≤ r then 0 else f (i - 4) c := by
  refine Finset.sum_congr rfl fun c _ => ?_
  have := c.isLt
  by_cases hc : c.val ≤ r
  · rw [if_pos hc, if_neg]; unfold sees; omega
  · rw [if_neg hc, if_pos]; unfold sees; omega

theorem tileSum_none (i r u : ℕ) (f : ℕ → Fin 256 → M) (hr : r < 256) (h : i < u ∨ u + 4 < i) : tileSum i r f u = 0 := by
  refine Finset.sum_eq_zero fun c _ => if_neg ?_
  unfold sees; have := c.isLt; omega

/-- All keys, tile by tile. -/
theorem sum_keys (i r : ℕ) (f : ℕ → Fin 256 → M) :
    (∑ k : Fin 8192, if sees i r (k.val / 256) (k.val % 256) then f (k.val / 256) ⟨k.val % 256, Nat.mod_lt _ (by decide)⟩ else 0) =
      ∑ u ∈ Finset.range 32, tileSum i r f u := by
  rw [← Fin.sum_univ_eq_sum_range (tileSum i r f) 32]
  unfold tileSum
  rw [← Fintype.sum_prod_type' (f := fun (u : Fin 32) (c : Fin 256) => if sees i r u.val c.val then f u.val c else 0)]
  refine (Fintype.sum_equiv (finProdFinEquiv (m := 32) (n := 256)) _ _ fun x => ?_).symm
  obtain ⟨u, c⟩ := x
  have e1 : (finProdFinEquiv (u, c)).val / 256 = u.val := by
    show (c.val + 256 * u.val) / 256 = _; have := c.isLt; omega
  have e2 : (finProdFinEquiv (u, c)).val % 256 = c.val := by
    show (c.val + 256 * u.val) % 256 = _; have := c.isLt; omega
  simp only [e1, e2]

theorem keys_of (i r : ℕ) (f : ℕ → Fin 256 → M) (hr : r < 256) (hi : i < 32) (n : ℕ) (hn : n ≤ i) (hf : n = i ∨ n = 4) (hn4 : n ≤ 4) :
    ∑ u ∈ Finset.range 32, tileSum i r f u = ∑ j ∈ Finset.range (n + 1), tileSum i r f (i - j) := by
  rw [← Finset.sum_image (g := fun j => i - j) (f := tileSum i r f) (s := Finset.range (n + 1))]
  · symm
    refine Finset.sum_subset ?_ ?_
    · intro u hu
      obtain ⟨j, hj, rfl⟩ := Finset.mem_image.mp hu
      rw [Finset.mem_range] at hj ⊢; omega
    · intro u hu hno
      refine tileSum_none i r u f hr ?_
      by_contra hc
      refine hno (Finset.mem_image.mpr ⟨i - u, ?_, ?_⟩)
      · rw [Finset.mem_range]; omega
      · show i - (i - u) = u; omega
  · intro a ha b hb hab
    simp only [Finset.coe_range, Set.mem_Iio] at ha hb
    have hab' : i - a = i - b := hab
    omega

/-- The window's keys in `n` whole tiles behind the own tile, at most three, and in the tile four behind. -/
theorem split (i r : ℕ) (f : ℕ → Fin 256 → M) (hr : r < 256) (hi : i < 32) :
    (∑ k : Fin 8192, if sees i r (k.val / 256) (k.val % 256) then f (k.val / 256) ⟨k.val % 256, Nat.mod_lt _ (by decide)⟩ else 0) =
      match min 4 i with
      | 0 => ∑ c : Fin 256, if c.val ≤ r then f i c else 0
      | 1 => (∑ c : Fin 256, if c.val ≤ r then f i c else 0) + ∑ c : Fin 256, f (i - 1) c
      | 2 => (∑ c : Fin 256, if c.val ≤ r then f i c else 0) + (∑ c : Fin 256, f (i - 1) c) + ∑ c : Fin 256, f (i - 2) c
      | 3 => (∑ c : Fin 256, if c.val ≤ r then f i c else 0) + (∑ c : Fin 256, f (i - 1) c) + (∑ c : Fin 256, f (i - 2) c) +
          ∑ c : Fin 256, f (i - 3) c
      | _ => ((∑ c : Fin 256, if c.val ≤ r then f i c else 0) + ∑ c : Fin 256, if c.val ≤ r then 0 else f (i - 4) c) +
          (∑ c : Fin 256, f (i - 1) c) + (∑ c : Fin 256, f (i - 2) c) + ∑ c : Fin 256, f (i - 3) c := by
  rw [sum_keys]
  rcases Nat.lt_or_ge i 4 with h | h
  · rw [keys_of i r f hr hi i le_rfl (.inl rfl) (by omega), Nat.min_eq_right (by omega)]
    have h0 := tileSum_own i r f hr
    have h1 := tileSum_whole i r 1 f hr le_rfl (by norm_num)
    have h2 := tileSum_whole i r 2 f hr (by norm_num) (by norm_num)
    have h3 := tileSum_whole i r 3 f hr (by norm_num) (by norm_num)
    interval_cases i
    · simp only [Finset.sum_range_succ, Finset.sum_range_zero, zero_add, Nat.sub_zero, h0]
    · simp only [Finset.sum_range_succ, Finset.sum_range_zero, zero_add, Nat.sub_zero, h0, h1 le_rfl]
    · simp only [Finset.sum_range_succ, Finset.sum_range_zero, zero_add, Nat.sub_zero, h0, h1 (by norm_num), h2 le_rfl]
    · simp only [Finset.sum_range_succ, Finset.sum_range_zero, zero_add, Nat.sub_zero, h0, h1 (by norm_num), h2 (by norm_num), h3 le_rfl]
  · rw [keys_of i r f hr hi 4 h (.inr rfl) le_rfl, Nat.min_eq_left h]
    simp only [Finset.sum_range_succ, Finset.sum_range_zero, zero_add, Nat.sub_zero, tileSum_own i r f hr, tileSum_back i r f hr h,
      tileSum_whole i r 1 f hr le_rfl (by norm_num) (by omega), tileSum_whole i r 2 f hr (by norm_num) (by norm_num) (by omega),
      tileSum_whole i r 3 f hr (by norm_num) (by norm_num) (by omega)]
    ac_rfl

end Split

/-- Greatest values as sums. -/
@[reducible] def maxMonoid : AddCommMonoid EReal where
  add := max
  zero := ⊥
  add_assoc := max_assoc
  zero_add := fun _ => bot_sup_eq _
  add_zero := fun _ => sup_bot_eq _
  add_comm := max_comm
  nsmul := @nsmulRec _ ⟨⊥⟩ ⟨max⟩
  nsmul_zero := fun _ => rfl
  nsmul_succ := fun _ _ => rfl

/-- The same for greatest values. -/
theorem split_max (i r : ℕ) (f : ℕ → Fin 256 → EReal) (hr : r < 256) (hi : i < 32) :
    Finset.fold max ⊥ (fun k : Fin 8192 => if sees i r (k.val / 256) (k.val % 256) then
        f (k.val / 256) ⟨k.val % 256, Nat.mod_lt _ (by decide)⟩ else ⊥) Finset.univ =
      match min 4 i with
      | 0 => Finset.fold max ⊥ (fun c : Fin 256 => if c.val ≤ r then f i c else ⊥) Finset.univ
      | 1 => max (Finset.fold max ⊥ (fun c : Fin 256 => if c.val ≤ r then f i c else ⊥) Finset.univ)
          (Finset.fold max ⊥ (fun c : Fin 256 => f (i - 1) c) Finset.univ)
      | 2 => max (max (Finset.fold max ⊥ (fun c : Fin 256 => if c.val ≤ r then f i c else ⊥) Finset.univ)
          (Finset.fold max ⊥ (fun c : Fin 256 => f (i - 1) c) Finset.univ))
          (Finset.fold max ⊥ (fun c : Fin 256 => f (i - 2) c) Finset.univ)
      | 3 => max (max (max (Finset.fold max ⊥ (fun c : Fin 256 => if c.val ≤ r then f i c else ⊥) Finset.univ)
          (Finset.fold max ⊥ (fun c : Fin 256 => f (i - 1) c) Finset.univ))
          (Finset.fold max ⊥ (fun c : Fin 256 => f (i - 2) c) Finset.univ))
          (Finset.fold max ⊥ (fun c : Fin 256 => f (i - 3) c) Finset.univ)
      | _ => max (max (max (max (Finset.fold max ⊥ (fun c : Fin 256 => if c.val ≤ r then f i c else ⊥) Finset.univ)
          (Finset.fold max ⊥ (fun c : Fin 256 => if c.val ≤ r then ⊥ else f (i - 4) c) Finset.univ))
          (Finset.fold max ⊥ (fun c : Fin 256 => f (i - 1) c) Finset.univ))
          (Finset.fold max ⊥ (fun c : Fin 256 => f (i - 2) c) Finset.univ))
          (Finset.fold max ⊥ (fun c : Fin 256 => f (i - 3) c) Finset.univ) :=
  @split EReal maxMonoid i r f hr hi

theorem fold_max_split (p : Fin 256 → Prop) [DecidablePred p] (f g : Fin 256 → EReal) :
    Finset.fold max ⊥ (fun c : Fin 256 => if p c then f c else g c) Finset.univ =
      max (Finset.fold max ⊥ (fun c : Fin 256 => if p c then f c else ⊥) Finset.univ)
        (Finset.fold max ⊥ (fun c : Fin 256 => if p c then ⊥ else g c) Finset.univ) := by
  rw [← Finset.fold_op_distrib (op := max) (b₁ := (⊥ : EReal)) (b₂ := (⊥ : EReal)), max_self]
  refine Finset.fold_congr fun c _ => ?_
  by_cases h : p c
  · simp [h]
  · simp [h]

/-! ## The exponentials -/

/-- A probability's code before rounding. -/
def cl (x : EReal) : EReal := min (Ideal.ofBits .f32 0x43E00000#32) (max 0 x)

theorem cl_zero : cl 0 = 0 := by
  rw [cl, max_self, ofBits_448]; exact min_eq_right (by exact_mod_cast (by norm_num : (0 : ℝ) ≤ 448))

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem fold_real {N : ℕ} (vis : Fin N → Prop) [DecidablePred vis] (X : Fin N → ℝ) (k0 : Fin N) (h0 : vis k0) :
    ∃ μ : ℝ, Finset.fold max ⊥ (fun k => if vis k then (X k : EReal) else ⊥) Finset.univ = (μ : EReal) := by
  have h1 : (X k0 : EReal) ≤ Finset.fold max ⊥ (fun k => if vis k then (X k : EReal) else ⊥) Finset.univ :=
    (Finset.le_fold_max _).mpr (.inr ⟨k0, Finset.mem_univ _, by rw [if_pos h0]⟩)
  have h2 : Finset.fold max ⊥ (fun k => if vis k then (X k : EReal) else ⊥) Finset.univ < ⊤ :=
    (Finset.fold_max_lt _).mpr ⟨bot_lt_top, fun k _ => by
      split
      · exact EReal.coe_lt_top _
      · exact bot_lt_top⟩
  generalize Finset.fold max ⊥ (fun k => if vis k then (X k : EReal) else ⊥) Finset.univ = e at h1 h2
  induction e with
  | bot => exact absurd (le_bot_iff.mp h1) (EReal.coe_ne_bot _)
  | top => exact absurd h2 (lt_irrefl _)
  | coe r => exact ⟨r, rfl⟩

theorem fold_scaled {N : ℕ} (vis : Fin N → Prop) [DecidablePred vis] (X : Fin N → ℝ) (σ : ℝ) (hσ : 0 < σ) :
    Finset.fold max ⊥ (fun k => if vis k then ((X k * σ : ℝ) : EReal) else ⊥) Finset.univ =
      Finset.fold max ⊥ (fun k => if vis k then (X k : EReal) else ⊥) Finset.univ * (σ : EReal) := by
  have hb : (⊥ : EReal) * (σ : EReal) = ⊥ := EReal.bot_mul_coe_of_pos hσ
  have hm : ∀ x y : EReal, max x y * (σ : EReal) = max (x * (σ : EReal)) (y * (σ : EReal)) := fun x y =>
    Monotone.map_max (f := fun z : EReal => z * (σ : EReal)) fun a b hab =>
      mul_le_mul_of_nonneg_right hab (by exact_mod_cast hσ.le)
  rw [← Finset.fold_hom (m := fun z : EReal => z * (σ : EReal)) (op := max) (op' := max) hm, hb]
  refine Finset.fold_congr fun k _ => ?_
  by_cases h : vis k
  · simp only [if_pos h, EReal.coe_mul]
  · simp only [if_neg h, hb]

theorem two_pow (z : ℝ) : Real.rpow 2 (z * (Real.log 2)⁻¹ + 8) = 256 * Real.exp z := by
  show (2 : ℝ) ^ (z * (Real.log 2)⁻¹ + 8) = _
  rw [Real.rpow_add (by norm_num), Real.rpow_def_of_pos (by norm_num)]
  have : Real.log 2 ≠ 0 := Real.log_ne_zero_of_pos_of_ne_one (by norm_num) (by norm_num)
  rw [show Real.log 2 * (z * (Real.log 2)⁻¹) = z by field_simp]
  norm_num
  ring

/-- The attention of one query by powers of two is the attention by exponentials. -/
theorem core {N : ℕ} (vis : Fin N → Prop) [DecidablePred vis] (X V : Fin N → ℝ) (σ : ℝ) (hσ : 0 < σ) (k0 : Fin N) (h0 : vis k0)
    (M : EReal) (hM : M = Finset.fold max ⊥ (fun k => if vis k then (X k : EReal) else ⊥) Finset.univ)
    (A : EReal) (hA : A = ((σ * (Real.log 2)⁻¹ : ℝ) : EReal)) :
    (∑ k, if vis k then (V k : EReal) * cl (Ideal.exp2 ((X k : EReal) * A - (M * A - ((8 : ℝ) : EReal)))) else 0) *
        Ideal.div 1 (∑ k, if vis k then Ideal.exp2 ((X k : EReal) * A - (M * A - ((8 : ℝ) : EReal))) else 0) =
      Ideal.div
        (∑ k, cl (Ideal.exp ((if vis k then ((X k * σ : ℝ) : EReal) else ⊥) -
          Finset.fold max ⊥ (fun k => if vis k then ((X k * σ : ℝ) : EReal) else ⊥) Finset.univ) * ((256 : ℝ) : EReal)) * (V k : EReal))
        (((256 : ℝ) : EReal) * ∑ k, Ideal.exp ((if vis k then ((X k * σ : ℝ) : EReal) else ⊥) -
          Finset.fold max ⊥ (fun k => if vis k then ((X k * σ : ℝ) : EReal) else ⊥) Finset.univ)) := by
  rw [fold_scaled vis X σ hσ, ← hM]
  obtain ⟨μ, hμ⟩ := fold_real vis X k0 h0
  rw [hμ] at hM
  subst hM hA
  have e1 : ∀ k, Ideal.exp2 ((X k : EReal) * ((σ * (Real.log 2)⁻¹ : ℝ) : EReal) -
      ((μ : EReal) * ((σ * (Real.log 2)⁻¹ : ℝ) : EReal) - ((8 : ℝ) : EReal))) = ((256 * Real.exp ((X k - μ) * σ) : ℝ) : EReal) := by
    intro k
    rw [← EReal.coe_mul, ← EReal.coe_mul, ← EReal.coe_sub, ← EReal.coe_sub, Ideal.exp2_coe, ← two_pow]
    congr 2
    ring
  have e2 : ∀ k, Ideal.exp ((if vis k then ((X k * σ : ℝ) : EReal) else ⊥) - (μ : EReal) * (σ : EReal)) =
      ((if vis k then Real.exp ((X k - μ) * σ) else 0 : ℝ) : EReal) := by
    intro k
    by_cases h : vis k
    · simp only [if_pos h]
      rw [← EReal.coe_mul, ← EReal.coe_sub, Ideal.exp_coe]
      congr 2; ring
    · simp only [if_neg h]
      rw [← EReal.coe_mul, EReal.bot_sub, Ideal.exp_bot, EReal.coe_zero]
  simp only [e1, e2]
  have hL : 0 < ∑ k, (if vis k then Real.exp ((X k - μ) * σ) else 0) := by
    refine Finset.sum_pos' (fun k _ => ?_) ⟨k0, Finset.mem_univ _, ?_⟩
    · split
      · exact (Real.exp_pos _).le
      · exact le_rfl
    · rw [if_pos h0]; exact Real.exp_pos _
  have e3 : (∑ k, if vis k then ((256 * Real.exp ((X k - μ) * σ) : ℝ) : EReal) else 0) =
      ((256 * ∑ k, (if vis k then Real.exp ((X k - μ) * σ) else 0) : ℝ) : EReal) := by
    rw [Finset.mul_sum, coe_sum]
    refine Finset.sum_congr rfl fun k _ => ?_
    by_cases h : vis k
    · simp only [if_pos h]
    · simp only [if_neg h, mul_zero, EReal.coe_zero]
  have e4 : (∑ k, if vis k then (V k : EReal) * cl ((256 * Real.exp ((X k - μ) * σ) : ℝ) : EReal) else 0) =
      ∑ k, cl (((if vis k then Real.exp ((X k - μ) * σ) else 0 : ℝ) : EReal) * ((256 : ℝ) : EReal)) * (V k : EReal) := by
    refine Finset.sum_congr rfl fun k _ => ?_
    by_cases h : vis k
    · simp only [if_pos h]
      rw [mul_comm, ← EReal.coe_mul, mul_comm (256 : ℝ)]
    · simp only [if_neg h]
      rw [EReal.coe_zero, zero_mul, cl_zero, zero_mul]
  rw [e3, e4, ← coe_sum, ← EReal.coe_mul, div_coe _ _ (by positivity), div_coe _ _ (by positivity), one_mul]

end Cert.KernelIdeal.Spec

end
-- ==== Proof.Attend.lean ====
module

public import proofs.«01_k».proof.Proof.Core
public import proofs.«01_k».proof.Proof.Pieces

/-! The attention's computation at an index: sums and the greatest value over the window's keys. -/

@[expose] public section

set_option maxRecDepth 16384

noncomputable section

namespace Cert.KernelIdeal.Spec

open Idealize.ShloMosaic Idealize.ShloMosaic.TcCoe Cert.KernelIdeal Cert.KernelIdeal.Gen

theorem raw_at (q : Vec Ideal S1x256x256 .fp8e4m3) (k : Vec Ideal S1x1x256x256 .fp8e4m3) (s : Vec Ideal S1x1x256x128 .f32) (c r : Fin 256) :
    rawV q k s (ix2 c r) = (∑ x : Fin 256, (k (ix4 0 0 c x) : EReal) * q (ix3 0 r x)) *
      (if h : r.val < 128 then s (ix4 0 0 c ⟨r.val, h⟩) else s (ix4 0 0 c ⟨r.val - 128, by omega⟩)) := by
  pointwise [rawV]

theorem causal_at (c r : Fin 256) : causal (ix2 c r) = if c.val ≤ r.val then 1#1 else 0#1 := by
  pointwise [causal]
  have hc := c.isLt
  have hr := r.isLt
  show BitVec.ofBool ((BitVec.ofNat 32 c.val).sle (BitVec.ofNat 32 r.val)) = _
  have e : (BitVec.ofNat 32 c.val).sle (BitVec.ofNat 32 r.val) = decide (c.val ≤ r.val) := by
    rw [BitVec.sle_eq_decide, BitVec.toInt_ofNat', BitVec.toInt_ofNat']
    refine decide_eq_decide.mpr ?_
    rw [Int.bmod_eq_of_le (by omega) (by omega), Int.bmod_eq_of_le (by omega) (by omega)]
    exact Int.ofNat_le
  rw [e]
  by_cases h : c.val ≤ r.val <;> simp [h]

theorem pick_at (x y : FVec Ideal S256x256 .f32) (c r : Fin 256) :
    select causal x y (ix2 c r) = if c.val ≤ r.val then x (ix2 c r) else y (ix2 c r) := by
  show Scalar.select (causal (ix2 c r)) _ _ = _
  rw [causal_at]
  by_cases h : c.val ≤ r.val <;> simp [h, Scalar.select]

theorem max_at (s : FVec Ideal S256x256 .f32) (i : Fin 256) :
    maxV s (ix2 0 i) = Finset.fold max ⊥ (fun c => s (ix2 c i)) Finset.univ := by
  pointwise [maxV]
  rw [ofBits_bot]

theorem sum_at (s : FVec Ideal S256x256 .f32) (i : Fin 256) : sumV s (ix2 0 i) = ∑ c, s (ix2 c i) := by
  pointwise [sumV]

theorem ofBits_8 : Ideal.ofBits .f32 0x41000000#32 = ((8 : ℝ) : EReal) := by
  simp [Ideal.ofBits, Ideal.ieee]
  norm_num
  rw [← EReal.coe_mul]
  congr 1
  norm_num

theorem probs_at (a b : FVec Ideal S1x256 .f32) (s : FVec Ideal S256x256 .f32) (c i : Fin 256) :
    probsV a b s (ix2 c i) = Ideal.exp2 (s (ix2 c i) * a (ix2 0 i) - b (ix2 0 i)) := by
  pointwise [probsV]
  rfl

theorem pv_at (v : Vec Ideal S1x1x256x256 .bf16) (p : FVec Ideal S256x256 .f32) (d i : Fin 256) :
    pvV v p (ix2 d i) = ∑ c : Fin 256, (v (ix4 0 0 d c) : EReal) * cl (p (ix2 c i)) := by
  pointwise [pvV, codeV]
  rfl

theorem b_at (m a : FVec Ideal S1x256 .f32) (i : Fin 256) : bV m a (ix2 0 i) = m (ix2 0 i) * a (ix2 0 i) - ((8 : ℝ) : EReal) := by
  pointwise [bV]
  rw [ofBits_8]

theorem done_at (o : FVec Ideal S256x256 .f32) (l : FVec Ideal S1x256 .f32) (i d : Fin 256) :
    doneV o l (ix2 i d) = o (ix2 d i) * Ideal.div 1 (l (ix2 0 i)) := by
  pointwise [doneV]

theorem zero_at (i d : Fin 256) : zeroV (F := Ideal) (ix2 i d) = 0 := by
  pointwise [zeroV]

theorem neg_at (i d : Fin 256) : negV (F := Ideal) (ix2 i d) = ⊥ := by
  pointwise [negV]
  rw [ofBits_bot]

theorem add_at {s : Shape} (x y : FVec Ideal s .f32) (j : s.Idx) : addf x y j = (x j : EReal) + y j := rfl

theorem maximum_at {s : Shape} (x y : FVec Ideal s .f32) (j : s.Idx) : maximumf x y j = max (x j : EReal) (y j) := rfl

/-- Tile `u`'s products with query `r`. -/
def rawAt (q : Vec Ideal S1x256x256 .fp8e4m3) (T : ℕ → Tile Ideal) (r : Fin 256) (u : ℕ) (c : Fin 256) : EReal :=
  rawV q (T u).1 (T u).2.1 (ix2 c r)

/-- Tile `u`'s values in column `d`. -/
def valAt (T : ℕ → Tile Ideal) (d : Fin 256) (u : ℕ) (c : Fin 256) : EReal := (T u).2.2 (ix4 0 0 d c)

/-- The greatest product of the window. -/
def topAt (q : Vec Ideal S1x256x256 .fp8e4m3) (T : ℕ → Tile Ideal) (r : Fin 256) (i : ℕ) : EReal :=
  Finset.fold max ⊥ (fun k : Fin 8192 => if sees i r.val (k.val / 256) (k.val % 256) then
    rawAt q T r (k.val / 256) ⟨k.val % 256, Nat.mod_lt _ (by decide)⟩ else ⊥) Finset.univ

/-- A key's power of two. -/
def expAt (q : Vec Ideal S1x256x256 .fp8e4m3) (rr : Vec Ideal S1x256 .f32) (T : ℕ → Tile Ideal) (r : Fin 256) (i u : ℕ) (c : Fin 256) : EReal :=
  Ideal.exp2 (rawAt q T r u c * aV rr (ix2 0 r) - (topAt q T r i * aV rr (ix2 0 r) - ((8 : ℝ) : EReal)))

/-- The attention with the tiles named by their place. -/
def attendT (i : ℕ) (q : Vec Ideal S1x256x256 .fp8e4m3) (rr : Vec Ideal S1x256 .f32) (T : ℕ → Tile Ideal) : FVec Ideal S256x256 .bf16 :=
  match min 4 i with
  | 0 => attend q rr (T i) []
  | 1 => attend q rr (T i) [T (i - 1)]
  | 2 => attend q rr (T i) [T (i - 1), T (i - 2)]
  | 3 => attend q rr (T i) [T (i - 1), T (i - 2), T (i - 3)]
  | _ => attendFull q rr (T i) [T (i - 1), T (i - 2), T (i - 3)] (T (i - 4))

/-- The first row of sums: the own tile's products where the query sees them. -/
theorem own_sum (n : ℕ) (g : EReal → EReal) (f : Fin 256 → EReal) :
    (∑ c : Fin 256, if c.val ≤ n then g (if c.val ≤ n then f c else ⊥) else 0) = ∑ c : Fin 256, if c.val ≤ n then g (f c) else 0 := by
  refine Finset.sum_congr rfl fun c _ => ?_
  by_cases h : c.val ≤ n <;> simp [h]

theorem own_pv (n : ℕ) (g : EReal → EReal) (f v : Fin 256 → EReal) :
    (∑ c : Fin 256, v c * cl (if c.val ≤ n then (if c.val ≤ n then g (if c.val ≤ n then f c else ⊥) else 0) else 0)) =
      ∑ c : Fin 256, if c.val ≤ n then v c * cl (g (f c)) else 0 := by
  refine Finset.sum_congr rfl fun c _ => ?_
  by_cases h : c.val ≤ n <;> simp [h, cl_zero]

theorem full_sum (n : ℕ) (g : EReal → EReal) (f f' : Fin 256 → EReal) :
    (∑ c : Fin 256, g (if c.val ≤ n then f c else f' c)) =
      (∑ c : Fin 256, if c.val ≤ n then g (f c) else 0) + ∑ c : Fin 256, if c.val ≤ n then 0 else g (f' c) := by
  rw [← Finset.sum_add_distrib]
  refine Finset.sum_congr rfl fun c _ => ?_
  by_cases h : c.val ≤ n <;> simp [h]

theorem full_own (n : ℕ) (g : EReal → EReal) (f f' v : Fin 256 → EReal) :
    (∑ c : Fin 256, v c * cl (if c.val ≤ n then g (if c.val ≤ n then f c else f' c) else 0)) =
      ∑ c : Fin 256, if c.val ≤ n then v c * cl (g (f c)) else 0 := by
  refine Finset.sum_congr rfl fun c _ => ?_
  by_cases h : c.val ≤ n <;> simp [h, cl_zero]

theorem full_back (n : ℕ) (g : EReal → EReal) (f f' v : Fin 256 → EReal) :
    (∑ c : Fin 256, v c * cl (if c.val ≤ n then 0 else g (if c.val ≤ n then f c else f' c))) =
      ∑ c : Fin 256, if c.val ≤ n then 0 else v c * cl (g (f' c)) := by
  refine Finset.sum_congr rfl fun c _ => ?_
  by_cases h : c.val ≤ n <;> simp [h, cl_zero]

theorem attend_at (i : ℕ) (hi : i < 32) (q : Vec Ideal S1x256x256 .fp8e4m3) (rr : Vec Ideal S1x256 .f32) (T : ℕ → Tile Ideal) (r d : Fin 256) :
    attendT i q rr T (ix2 r d) =
      (∑ k : Fin 8192, if sees i r.val (k.val / 256) (k.val % 256) then
        valAt T d (k.val / 256) ⟨k.val % 256, Nat.mod_lt _ (by decide)⟩ *
          cl (expAt q rr T r i (k.val / 256) ⟨k.val % 256, Nat.mod_lt _ (by decide)⟩) else 0) *
      Ideal.div 1 (∑ k : Fin 8192, if sees i r.val (k.val / 256) (k.val % 256) then
        expAt q rr T r i (k.val / 256) ⟨k.val % 256, Nat.mod_lt _ (by decide)⟩ else 0) := by
  have hm : topAt q T r i = _ := split_max i r.val (rawAt q T r) r.isLt hi
  rw [split i r.val (fun u c => valAt T d u c * cl (expAt q rr T r i u c)) r.isLt hi,
    split i r.val (expAt q rr T r i) r.isLt hi]
  unfold expAt
  generalize hM : topAt q T r i = M at hm
  unfold attendT
  rcases (show min 4 i = 0 ∨ min 4 i = 1 ∨ min 4 i = 2 ∨ min 4 i = 3 ∨ min 4 i = 4 by omega) with h | h | h | h | h
  · simp only [h] at hm ⊢
    unfold rawAt at hm
    unfold rawAt valAt
    simp only [attend, List.foldl, done_at, add_at, maximum_at, pv_at, sum_at, max_at, pick_at, probs_at, b_at, zero_at, neg_at]
    rw [← hm]
    have h1 := own_pv r.val (fun z => Ideal.exp2 (z * aV rr (ix2 0 r) - (M * aV rr (ix2 0 r) - ((8 : ℝ) : EReal))))
      (fun c => rawV q (T i).1 (T i).2.1 (ix2 c r)) (fun c => (T i).2.2 (ix4 0 0 d c))
    have h2 := own_sum r.val (fun z => Ideal.exp2 (z * aV rr (ix2 0 r) - (M * aV rr (ix2 0 r) - ((8 : ℝ) : EReal))))
      (fun c => rawV q (T i).1 (T i).2.1 (ix2 c r))
    beta_reduce at h1 h2
    rw [h1, h2]
  · simp only [h] at hm ⊢
    unfold rawAt at hm
    unfold rawAt valAt
    simp only [attend, List.foldl, done_at, add_at, maximum_at, pv_at, sum_at, max_at, pick_at, probs_at, b_at, zero_at, neg_at]
    rw [← hm]
    have h1 := own_pv r.val (fun z => Ideal.exp2 (z * aV rr (ix2 0 r) - (M * aV rr (ix2 0 r) - ((8 : ℝ) : EReal))))
      (fun c => rawV q (T i).1 (T i).2.1 (ix2 c r)) (fun c => (T i).2.2 (ix4 0 0 d c))
    have h2 := own_sum r.val (fun z => Ideal.exp2 (z * aV rr (ix2 0 r) - (M * aV rr (ix2 0 r) - ((8 : ℝ) : EReal))))
      (fun c => rawV q (T i).1 (T i).2.1 (ix2 c r))
    beta_reduce at h1 h2
    rw [h1, h2]
  · simp only [h] at hm ⊢
    unfold rawAt at hm
    unfold rawAt valAt
    simp only [attend, List.foldl, done_at, add_at, maximum_at, pv_at, sum_at, max_at, pick_at, probs_at, b_at, zero_at, neg_at]
    rw [← hm]
    have h1 := own_pv r.val (fun z => Ideal.exp2 (z * aV rr (ix2 0 r) - (M * aV rr (ix2 0 r) - ((8 : ℝ) : EReal))))
      (fun c => rawV q (T i).1 (T i).2.1 (ix2 c r)) (fun c => (T i).2.2 (ix4 0 0 d c))
    have h2 := own_sum r.val (fun z => Ideal.exp2 (z * aV rr (ix2 0 r) - (M * aV rr (ix2 0 r) - ((8 : ℝ) : EReal))))
      (fun c => rawV q (T i).1 (T i).2.1 (ix2 c r))
    beta_reduce at h1 h2
    rw [h1, h2]
  · simp only [h] at hm ⊢
    unfold rawAt at hm
    unfold rawAt valAt
    simp only [attend, List.foldl, done_at, add_at, maximum_at, pv_at, sum_at, max_at, pick_at, probs_at, b_at, zero_at, neg_at]
    rw [← hm]
    have h1 := own_pv r.val (fun z => Ideal.exp2 (z * aV rr (ix2 0 r) - (M * aV rr (ix2 0 r) - ((8 : ℝ) : EReal))))
      (fun c => rawV q (T i).1 (T i).2.1 (ix2 c r)) (fun c => (T i).2.2 (ix4 0 0 d c))
    have h2 := own_sum r.val (fun z => Ideal.exp2 (z * aV rr (ix2 0 r) - (M * aV rr (ix2 0 r) - ((8 : ℝ) : EReal))))
      (fun c => rawV q (T i).1 (T i).2.1 (ix2 c r))
    beta_reduce at h1 h2
    rw [h1, h2]
  · simp only [h] at hm ⊢
    unfold rawAt at hm
    unfold rawAt valAt
    simp only [attendFull, List.foldl, done_at, add_at, maximum_at, pv_at, sum_at, max_at, pick_at, probs_at, b_at, zero_at, neg_at]
    have hf := fold_max_split (fun c => c.val ≤ r.val) (fun c => rawV q (T i).1 (T i).2.1 (ix2 c r)) (fun c => rawV q (T (i - 4)).1 (T (i - 4)).2.1 (ix2 c r))
    beta_reduce at hf
    rw [hf, ← hm]
    have h1 := full_own r.val (fun z => Ideal.exp2 (z * aV rr (ix2 0 r) - (M * aV rr (ix2 0 r) - ((8 : ℝ) : EReal))))
      (fun c => rawV q (T i).1 (T i).2.1 (ix2 c r)) (fun c => rawV q (T (i - 4)).1 (T (i - 4)).2.1 (ix2 c r)) (fun c => (T i).2.2 (ix4 0 0 d c))
    have h2 := full_back r.val (fun z => Ideal.exp2 (z * aV rr (ix2 0 r) - (M * aV rr (ix2 0 r) - ((8 : ℝ) : EReal))))
      (fun c => rawV q (T i).1 (T i).2.1 (ix2 c r)) (fun c => rawV q (T (i - 4)).1 (T (i - 4)).2.1 (ix2 c r)) (fun c => (T (i - 4)).2.2 (ix4 0 0 d c))
    have h3 := full_sum r.val (fun z => Ideal.exp2 (z * aV rr (ix2 0 r) - (M * aV rr (ix2 0 r) - ((8 : ℝ) : EReal))))
      (fun c => rawV q (T i).1 (T i).2.1 (ix2 c r)) (fun c => rawV q (T (i - 4)).1 (T (i - 4)).2.1 (ix2 c r))
    beta_reduce at h1 h2 h3
    rw [h1, h2, h3]

end Cert.KernelIdeal.Spec

end
-- ==== Proof.Arrays.lean ====
module

public import proofs.«01_k».proof.Proof.Data
public import proofs.«01_k».proof.Proof.Attend
public import Idealize.ShloMosaic.Lib.Pipeline.ValueKit

/-! The kernel's results at an index, in terms of the arguments. -/

@[expose] public section

set_option maxRecDepth 16384

noncomputable section

namespace Cert.KernelIdeal.Spec

open Idealize.ShloMosaic Idealize.ShloMosaic.TcCoe Cert.KernelIdeal Cert.KernelIdeal.Gen

variable (m : (ℓ : Loc nD τ sig) → Buf (Elt Ideal) ℓ)

/-- The arguments. -/
abbrev argQ (c : Dev nD) : Vec Ideal S9x8192x2048 .bf16 := m ((c : Thread nD τ).loc main_arg0)
abbrev argK (c : Dev nD) : Vec Ideal S9x8192x512 .bf16 := m ((c : Thread nD τ).loc main_arg1)
abbrev argV (c : Dev nD) : Vec Ideal S9x8192x512 .bf16 := m ((c : Thread nD τ).loc main_arg2)

/-- Head `h` of the query at `b`, `s`. -/
def qRowS (x : Vec Ideal S9x8192x2048 .bf16) (b : Fin 9) (s : Fin 8192) (h : Fin 8) : Fin 256 → EReal :=
  fun j => x (ix3 b s ⟨256 * h.val + j.val, by omega⟩)

/-- Head `g` of the key or the value at `b`, `s`. -/
def kRowS (x : Vec Ideal S9x8192x512 .bf16) (b : Fin 9) (s : Fin 8192) (g : Fin 2) : Fin 256 → EReal :=
  fun j => x (ix3 b s ⟨256 * g.val + j.val, by omega⟩)

theorem idx : ∀ t : Fin cfg0.N, win0_0.index t = ![t.val / 32, t.val % 32, 0] ∧ win0_1.index t = ![t.val / 32, t.val % 32, 0]
    ∧ win0_2.index t = ![t.val / 32, t.val % 32, 0] ∧ win0_3.index t = ![t.val / 32, t.val % 32, 0]
    ∧ win0_4.index t = ![t.val / 32, t.val % 32, 0, 0, 0] ∧ win0_5.index t = ![t.val / 32, 0, t.val % 32]
    ∧ win0_6.index t = ![t.val / 32, 0, t.val % 32, 0] ∧ win0_7.index t = ![t.val / 32, 0, t.val % 32]
    ∧ win0_8.index t = ![t.val / 32, 0, t.val % 32, 0] ∧ win0_9.index t = ![t.val / 32, 0, t.val % 32] := by
  decide +kernel

theorem lt288 (t : Fin cfg0.N) : t.val < 288 := lt_of_lt_of_eq t.isLt (show cfg0.N = 288 from N_0)

/-- A point's batch. -/
def bOf (t : Fin cfg0.N) : Fin 9 := ⟨t.val / 32, by have := lt288 t; omega⟩

/-- Row `r` of a point's tile in the sequence. -/
def sOf (t : Fin cfg0.N) (r : Fin 256) : Fin 8192 := ⟨256 * (t.val % 32) + r.val, by have := lt288 t; omega⟩

theorem X0_at (c : Dev nD) (t : Fin cfg0.N) (r : Fin 256) (j : Fin 2048) : X0 m c t (ix3 0 r j) = argQ m c (ix3 (bOf t) (sOf t r) j) := by
  have hi := (idx t).1
  unfold bOf sOf argQ X0
  blk_ext [iblk, V, hi]

theorem X1_at (c : Dev nD) (t : Fin cfg0.N) (r : Fin 256) (j : Fin 512) : X1 m c t (ix3 0 r j) = argK m c (ix3 (bOf t) (sOf t r) j) := by
  have hi := (idx t).2.1
  unfold bOf sOf argK X1
  blk_ext [iblk, V, hi]

theorem X2_at (c : Dev nD) (t : Fin cfg0.N) (r : Fin 256) (j : Fin 512) : X2 m c t (ix3 0 r j) = argV m c (ix3 (bOf t) (sOf t r) j) := by
  have hi := (idx t).2.2.1
  unfold bOf sOf argV X2
  blk_ext [iblk, V, hi]

theorem kRow_at (c : Dev nD) (t : Fin cfg0.N) (g : Fin 2) (r : Fin 256) :
    (fun x => kBlk g (X1 m c t) (ix2 r x)) = kRowS (argK m c) (bOf t) (sOf t r) g := funext fun x => X1_at m c t r _

theorem vRow_at (c : Dev nD) (t : Fin cfg0.N) (g : Fin 2) (r : Fin 256) :
    (fun x => kBlk g (X2 m c t) (ix2 r x)) = kRowS (argV m c) (bOf t) (sOf t r) g := funext fun x => X2_at m c t r _

theorem qRow_at (c : Dev nD) (t : Fin cfg0.N) (h : Fin 8) (r : Fin 256) :
    (fun x => qBlk h (X0 m c t) (ix2 r x)) = qRowS (argQ m c) (bOf t) (sOf t r) h := funext fun x => X0_at m c t r _

/-! ## A tile's codes and scales -/

/-- The results as functions of the arguments. -/
def keyCodes (x : Vec Ideal S9x8192x512 .bf16) : Vec Ideal S9x2x8192x256 .fp8e4m3 := fun i => codeS (kRowS x (i 0) (i 2) (i 1)) (i 3)
def keyScales (x : Vec Ideal S9x8192x512 .bf16) : Vec Ideal S9x2x8192 .f32 := fun i => scaleS (kRowS x (i 0) (i 2) (i 1))
def queryCodes (x : Vec Ideal S9x8192x2048 .bf16) : Vec Ideal S9x8192x2x8x128 .fp8e4m3 :=
  fun i => codeS (qRowS x (i 0) (i 1) (i 3))
    ⟨128 * (i 2).val + (i 4).val, by have h2 : (i 2).val < 2 := (i 2).isLt; have h4 : (i 4).val < 128 := (i 4).isLt; omega⟩
def queryScales (x : Vec Ideal S9x8192x2048 .bf16) : Vec Ideal S9x8x8192 .f32 := fun i => scaleS (qRowS x (i 0) (i 2) (i 1))

section

variable (c : Dev nD) (t : Fin cfg0.N)

theorem kIn (h : ∀ i, InRange (argK m c i)) (g : Fin 2) (r x : Fin 256) : InRange (kBlk g (X1 m c t) (ix2 r x)) :=
  (congrFun (kRow_at m c t g r) x).symm ▸ h _
theorem vIn (h : ∀ i, InRange (argV m c i)) (g : Fin 2) (r x : Fin 256) : InRange (kBlk g (X2 m c t) (ix2 r x)) :=
  (congrFun (vRow_at m c t g r) x).symm ▸ h _
theorem qIn (h : ∀ i, InRange (argQ m c i)) (g : Fin 8) (r x : Fin 256) : InRange (qBlk g (X0 m c t) (ix2 r x)) :=
  (congrFun (qRow_at m c t g r) x).symm ▸ h _

theorem kCode (h : ∀ i, InRange (argK m c i)) (g : Fin 2) (r d : Fin 256) :
    codesV (kBlk g (X1 m c t)) (ix2 r d) = codeS (kRowS (argK m c) (bOf t) (sOf t r) g) d := by
  rw [codes_at _ r d (kIn m c t h g r), kRow_at]
theorem kScale (h : ∀ i, InRange (argK m c i)) (g : Fin 2) (r : Fin 256) :
    sclV (yV (kBlk g (X1 m c t))) (ix2 r 0) = scaleS (kRowS (argK m c) (bOf t) (sOf t r) g) := by
  rw [scale_at _ r (kIn m c t h g r), kRow_at]
theorem vCode (h : ∀ i, InRange (argV m c i)) (g : Fin 2) (r d : Fin 256) :
    codesV (kBlk g (X2 m c t)) (ix2 r d) = codeS (kRowS (argV m c) (bOf t) (sOf t r) g) d := by
  rw [codes_at _ r d (vIn m c t h g r), vRow_at]
theorem vScale (h : ∀ i, InRange (argV m c i)) (g : Fin 2) (r : Fin 256) :
    sclV (yV (kBlk g (X2 m c t))) (ix2 r 0) = scaleS (kRowS (argV m c) (bOf t) (sOf t r) g) := by
  rw [scale_at _ r (vIn m c t h g r), vRow_at]
theorem vVal (h : ∀ i, InRange (argV m c i)) (g : Fin 2) (r d : Fin 256) :
    valsV (kBlk g (X2 m c t)) (ix2 d r) =
      codeS (kRowS (argV m c) (bOf t) (sOf t r) g) d * scaleS (kRowS (argV m c) (bOf t) (sOf t r) g) := by
  rw [vals_at _ d r (vIn m c t h g r), vRow_at]
theorem qCode_at (h : ∀ i, InRange (argQ m c i)) (g : Fin 8) (r d : Fin 256) :
    codesV (qBlk g (X0 m c t)) (ix2 r d) = codeS (qRowS (argQ m c) (bOf t) (sOf t r) g) d := by
  rw [codes_at _ r d (qIn m c t h g r), qRow_at]
theorem qScale (h : ∀ i, InRange (argQ m c i)) (g : Fin 8) (r : Fin 256) :
    sclV (yV (qBlk g (X0 m c t))) (ix2 r 0) = scaleS (qRowS (argQ m c) (bOf t) (sOf t r) g) := by
  rw [scale_at _ r (qIn m c t h g r), qRow_at]

end

/-- The packed codes at an index. -/
theorem pack_at (x : Vec Ideal S1x256x2048 .bf16) (r : Fin 256) (w : Fin 2) (h : Fin 8) (l : Fin 128) :
    oQCodes x (ix5 0 r w h l) = codesV (qBlk h x) (ix2 r ⟨128 * w.val + l.val, by omega⟩) := by
  unfold oQCodes
  fin_cases h <;> fin_cases w <;> pointwise [packV, joinV]

/-! ## The output arrays -/

section

variable (c : Dev nD)

theorem arr6 (h : ∀ i, InRange (argK m c i)) : (dats m 0 c).arrAt 6 cfg0.N = keyCodes (argK m c) := by
  refine (dats m 0 c).arrAt_eq_of_covers 6 _ (by decide +kernel) fun t hf y => ?_
  have hi := (idx t).2.2.2.2.2.2.1
  blk_simp
  rw [after0_6]
  refine (show _ = keyCodes (argK m c) (ix4 (bOf t) (y 1) (sOf t (y 2)) (y 3)) from kCode m c t h (y 1) (y 2) (y 3)).trans ?_
  blk_ext [hi, bOf, sOf]

theorem arr7 (h : ∀ i, InRange (argK m c i)) : (dats m 0 c).arrAt 7 cfg0.N = keyScales (argK m c) := by
  refine (dats m 0 c).arrAt_eq_of_covers 7 _ (by decide +kernel) fun t hf y => ?_
  have hi := (idx t).2.2.2.2.2.2.2.1
  blk_simp
  rw [after0_7]
  refine (show _ = keyScales (argK m c) (ix3 (bOf t) (y 1) (sOf t (y 2))) from (row_at _ (y 2)).trans (kScale m c t h (y 1) (y 2))).trans ?_
  blk_ext [hi, bOf, sOf]

theorem arr8 (h : ∀ i, InRange (argV m c i)) : (dats m 0 c).arrAt 8 cfg0.N = keyCodes (argV m c) := by
  refine (dats m 0 c).arrAt_eq_of_covers 8 _ (by decide +kernel) fun t hf y => ?_
  have hi := (idx t).2.2.2.2.2.2.2.2.1
  blk_simp
  rw [after0_8]
  refine (show _ = keyCodes (argV m c) (ix4 (bOf t) (y 1) (sOf t (y 2)) (y 3)) from vCode m c t h (y 1) (y 2) (y 3)).trans ?_
  blk_ext [hi, bOf, sOf]

theorem arr9 (h : ∀ i, InRange (argV m c i)) : (dats m 0 c).arrAt 9 cfg0.N = keyScales (argV m c) := by
  refine (dats m 0 c).arrAt_eq_of_covers 9 _ (by decide +kernel) fun t hf y => ?_
  have hi := (idx t).2.2.2.2.2.2.2.2.2
  blk_simp
  rw [after0_9]
  refine (show _ = keyScales (argV m c) (ix3 (bOf t) (y 1) (sOf t (y 2))) from (row_at _ (y 2)).trans (vScale m c t h (y 1) (y 2))).trans ?_
  blk_ext [hi, bOf, sOf]

theorem arr5 (h : ∀ i, InRange (argQ m c i)) : (dats m 0 c).arrAt 5 cfg0.N = queryScales (argQ m c) := by
  refine (dats m 0 c).arrAt_eq_of_covers 5 _ (by decide +kernel) fun t hf y => ?_
  have hi := (idx t).2.2.2.2.2.1
  blk_simp
  rw [after0_5]
  refine (show _ = queryScales (argQ m c) (ix3 (bOf t) (y 1) (sOf t (y 2))) from (row_at _ (y 2)).trans (qScale m c t h (y 1) (y 2))).trans ?_
  blk_ext [hi, bOf, sOf]

theorem arr4 (h : ∀ i, InRange (argQ m c i)) : (dats m 0 c).arrAt 4 cfg0.N = queryCodes (argQ m c) := by
  refine (dats m 0 c).arrAt_eq_of_covers 4 _ (by decide +kernel) fun t hf y => ?_
  have hi := (idx t).2.2.2.2.1
  blk_simp
  rw [after0_4]
  refine (show _ = queryCodes (argQ m c) (ix5 (bOf t) (sOf t (y 1)) (y 2) (y 3) (y 4)) from (pack_at _ (y 1) (y 2) (y 3) (y 4)).trans (qCode_at m c t h (y 3) (y 1) _)).trans ?_
  blk_ext [hi, bOf, sOf]

end

end Cert.KernelIdeal.Spec

end
-- ==== Proof.Out.lean ====
module

public import proofs.«01_k».proof.Proof.Arrays

/-! The kernel's attention at an index, as one sum over the 8192 keys. -/

@[expose] public section

set_option maxRecDepth 16384

noncomputable section

namespace Cert.KernelIdeal.Spec

open Idealize.ShloMosaic Idealize.ShloMosaic.TcCoe Cert.KernelIdeal Cert.KernelIdeal.Gen

variable (m : (ℓ : Loc nD τ sig) → Buf (Elt Ideal) ℓ)

/-- Whether the query at `s` sees the key at `n`. -/
def seesS (s n : Fin 8192) : Prop := sees (s.val / 256) (s.val % 256) (n.val / 256) (n.val % 256)

instance (s n : Fin 8192) : Decidable (seesS s n) := by unfold seesS; infer_instance

/-- The key-value head of a query head. -/
def gOf (h : Fin 8) : Fin 2 := ⟨h.val / 4, by omega⟩

/-- A key's product with a query, at the key's scale. -/
def qkS (x : Vec Ideal S9x8192x2048 .bf16) (k : Vec Ideal S9x8192x512 .bf16) (b : Fin 9) (s : Fin 8192) (h : Fin 8) (n : Fin 8192) : EReal :=
  (∑ j : Fin 256, codeS (kRowS k b n (gOf h)) j * codeS (qRowS x b s h) j) * scaleS (kRowS k b n (gOf h))

/-- A value at its scale. -/
def valS (v : Vec Ideal S9x8192x512 .bf16) (b : Fin 9) (h : Fin 8) (n : Fin 8192) (d : Fin 256) : EReal :=
  codeS (kRowS v b n (gOf h)) d * scaleS (kRowS v b n (gOf h))

/-- The greatest product of the window. -/
def topS (x : Vec Ideal S9x8192x2048 .bf16) (k : Vec Ideal S9x8192x512 .bf16) (b : Fin 9) (s : Fin 8192) (h : Fin 8) : EReal :=
  Finset.fold max ⊥ (fun n : Fin 8192 => if seesS s n then qkS x k b s h n else ⊥) Finset.univ

/-- The factor of the query's products in the exponent. -/
def facS (x : Vec Ideal S9x8192x2048 .bf16) (b : Fin 9) (s : Fin 8192) (h : Fin 8) : EReal :=
  scaleS (qRowS x b s h) * (((1 / 16) * (Real.log 2)⁻¹ : ℝ) : EReal)

/-- A key's power of two. -/
def powS (x : Vec Ideal S9x8192x2048 .bf16) (k : Vec Ideal S9x8192x512 .bf16) (b : Fin 9) (s : Fin 8192) (h : Fin 8) (n : Fin 8192) : EReal :=
  Ideal.exp2 (qkS x k b s h n * facS x b s h - (topS x k b s h * facS x b s h - ((8 : ℝ) : EReal)))

/-- The attention. -/
def outS (x : Vec Ideal S9x8192x2048 .bf16) (k v : Vec Ideal S9x8192x512 .bf16) (b : Fin 9) (s : Fin 8192) (h : Fin 8) (d : Fin 256) : EReal :=
  (∑ n : Fin 8192, if seesS s n then valS v b h n d * cl (powS x k b s h n) else 0) *
    Ideal.div 1 (∑ n : Fin 8192, if seesS s n then powS x k b s h n else 0)

theorem named_at : (Named.named κ "log2e_16" 0x3DB8AA3B#32 : Ideal .f32) = (((1 / 16) * (Real.log 2)⁻¹ : ℝ) : EReal) :=
  IdealRules.named_const.ideal_named_scalar _ _ _ _ rfl

theorem a_at (rr : Vec Ideal S1x256 .f32) (r : Fin 256) :
    aV rr (ix2 0 r) = (rr (ix2 0 r) : EReal) * (((1 / 16) * (Real.log 2)⁻¹ : ℝ) : EReal) := by
  rw [← named_at]; rfl

theorem head_eq (i : ℕ) (h : Fin 8) (x : Vec Ideal S1x256x2048 .bf16) (k : Vec Ideal S2x32x256x256 .fp8e4m3)
    (s : Vec Ideal S2x32x256x128 .f32) (v : Vec Ideal S2x32x256x256 .bf16) :
    headOut (min 4 i) i h x k s v = attendT i (qCode h x) (qRow h x) (fun u => tile (gOf h) u k s v) := by
  unfold headOut attendT
  rcases (show min 4 i = 0 ∨ min 4 i = 1 ∨ min 4 i = 2 ∨ min 4 i = 3 ∨ min 4 i = 4 by omega) with h | h | h | h | h <;> rw [h] <;> rfl

section

variable (c : Dev nD) (t : Fin cfg0.N)

/-- The point of key `n` in a point's batch. -/
def ptN (n : Fin 8192) : Fin cfg0.N := pt (32 * (t.val / 32) + n.val / 256 % 32)

theorem ptN_b (n : Fin 8192) : bOf (ptN t n) = bOf t := by
  have := lt288 t
  have e : (ptN t n).val = 32 * (t.val / 32) + n.val / 256 % 32 := by unfold ptN pt; simp only [N_0]; omega
  exact Fin.ext (by unfold bOf; simp only [e]; omega)

theorem ptN_s (n : Fin 8192) : sOf (ptN t n) ⟨n.val % 256, Nat.mod_lt _ (by decide)⟩ = n := by
  have := lt288 t
  have e : (ptN t n).val = 32 * (t.val / 32) + n.val / 256 % 32 := by unfold ptN pt; simp only [N_0]; omega
  exact Fin.ext (by unfold sOf; simp only [e]; omega)

theorem rawAt_eq (hq : ∀ i, InRange (argQ m c i)) (hk : ∀ i, InRange (argK m c i)) (h : Fin 8) (r : Fin 256) (n : Fin 8192) :
    rawAt (qCode h (X0 m c t)) (fun u => tile (gOf h) u (KR m c (t.val / 32)) (SR m c (t.val / 32)) (VR m c (t.val / 32))) r
      (n.val / 256) ⟨n.val % 256, Nat.mod_lt _ (by decide)⟩ = qkS (argQ m c) (argK m c) (bOf t) (sOf t r) h n := by
  unfold rawAt qkS
  rw [raw_at]
  have hs : ∀ l : Fin 128, (slot (gOf h) (n.val / 256) (SR m c (t.val / 32)) (ix4 0 0 ⟨n.val % 256, Nat.mod_lt _ (by decide)⟩ l) : EReal) =
      scaleS (kRowS (argK m c) (bOf t) n (gOf h)) := fun l =>
    (lanes_at _ ⟨n.val % 256, Nat.mod_lt _ (by decide)⟩ l).trans <| (kScale m c (ptN t n) hk (gOf h) ⟨n.val % 256, Nat.mod_lt _ (by decide)⟩).trans <| by rw [ptN_b, ptN_s]
  have hc : ∀ j : Fin 256, (slot (gOf h) (n.val / 256) (KR m c (t.val / 32)) (ix4 0 0 ⟨n.val % 256, Nat.mod_lt _ (by decide)⟩ j) : EReal) =
      codeS (kRowS (argK m c) (bOf t) n (gOf h)) j := fun j =>
    (kCode m c (ptN t n) hk (gOf h) ⟨n.val % 256, Nat.mod_lt _ (by decide)⟩ j).trans <| by rw [ptN_b, ptN_s]
  have hx : ∀ j : Fin 256, (qCode h (X0 m c t) (ix3 0 r j) : EReal) = codeS (qRowS (argQ m c) (bOf t) (sOf t r) h) j := fun j =>
    qCode_at m c t hq h r j
  congr 1
  · exact Finset.sum_congr rfl fun j _ => by rw [hx j]; exact congrArg (· * _) (hc j)
  · split <;> exact hs _

theorem valAt_eq (hv : ∀ i, InRange (argV m c i)) (h : Fin 8) (d : Fin 256) (n : Fin 8192) :
    valAt (fun u => tile (gOf h) u (KR m c (t.val / 32)) (SR m c (t.val / 32)) (VR m c (t.val / 32))) d
      (n.val / 256) ⟨n.val % 256, Nat.mod_lt _ (by decide)⟩ = valS (argV m c) (bOf t) h n d :=
  (vVal m c (ptN t n) hv (gOf h) ⟨n.val % 256, Nat.mod_lt _ (by decide)⟩ d).trans <| by rw [ptN_b, ptN_s]; rfl

theorem sees_eq (r : Fin 256) (n : Fin 8192) : sees (t.val % 32) r.val (n.val / 256) (n.val % 256) = seesS (sOf t r) n := by
  unfold seesS sOf
  rw [show (256 * (t.val % 32) + r.val) / 256 = t.val % 32 by omega, show (256 * (t.val % 32) + r.val) % 256 = r.val by omega]

theorem outBlk_at (hq : ∀ i, InRange (argQ m c i)) (hk : ∀ i, InRange (argK m c i)) (hv : ∀ i, InRange (argV m c i))
    (h : Fin 8) (r d : Fin 256) :
    headOut (min 4 (t.val % 32)) (t.val % 32) h (X0 m c t) (KR m c (t.val / 32)) (SR m c (t.val / 32)) (VR m c (t.val / 32)) (ix2 r d) =
      outS (argQ m c) (argK m c) (argV m c) (bOf t) (sOf t r) h d := by
  rw [head_eq, attend_at _ (by omega)]
  have hf : (aV (qRow h (X0 m c t)) (ix2 0 r) : EReal) = facS (argQ m c) (bOf t) (sOf t r) h := by
    rw [a_at]; exact congrArg (· * _) ((row_at _ r).trans (qScale m c t hq h r))
  unfold expAt topAt outS powS topS
  simp only [rawAt_eq m c t hq hk, valAt_eq m c t hv, hf]
  simp only [sees_eq]

end

/-- The attention as an array. -/
def outArr (x : Vec Ideal S9x8192x2048 .bf16) (k v : Vec Ideal S9x8192x512 .bf16) : Vec Ideal S9x8192x2048 .bf16 :=
  fun i => outS x k v (i 0) (i 1) ⟨(i 2).val / 256, Nat.div_lt_of_lt_mul (i 2).isLt⟩ ⟨(i 2).val % 256, Nat.mod_lt _ (by decide)⟩

theorem arr3 (c : Dev nD) (hq : ∀ i, InRange (argQ m c i)) (hk : ∀ i, InRange (argK m c i)) (hv : ∀ i, InRange (argV m c i)) :
    (dats m 0 c).arrAt 3 cfg0.N = outArr (argQ m c) (argK m c) (argV m c) := by
  refine (dats m 0 c).arrAt_eq_of_covers 3 _ (by decide +kernel) fun t hf y => ?_
  have hi := (idx t).2.2.2.1
  blk_simp
  rw [after0_3]
  refine (show _ = outArr (argQ m c) (argK m c) (argV m c) (ix3 (bOf t) (sOf t (y 1)) (y 2)) from
    outBlk_at m c t hq hk hv ⟨(y 2).val / 256, Nat.div_lt_of_lt_mul (y 2).isLt⟩ (y 1) ⟨(y 2).val % 256, Nat.mod_lt _ (by decide)⟩).trans ?_
  blk_ext [hi, bOf, sOf]

end Cert.KernelIdeal.Spec

end
-- ==== Proof.RefVec.lean ====
module

public import proofs.«01_k».proof.Proof.Out
public import proofs.«01_k».proof.Proof.Gen.ReferenceIdeal.Launch
public import Idealize.ShloMosaic.Lib.Pipeline.ValueKit

/-! The reference's scales and codes at an index. -/

@[expose] public section

set_option maxRecDepth 16384

noncomputable section

namespace Cert.ReferenceIdeal.Spec

open Idealize.ShloMosaic Idealize.ShloMosaic.TcCoe Cert.ReferenceIdeal Cert.ReferenceIdeal.Gen
open Cert.KernelIdeal.Spec (refS scaleS codeS yS amaxS qRowS kRowS ofBits_bot ofBits_top)

theorem splat_at {t : Shape} (h : Shape.BroadcastsInDim S_ t ![]) (w : BitVec 32) (j : t.Idx) :
    (broadcastInDim t ![] h (constant S_ .f32 w : FVec Ideal S_ .f32) j : EReal) = Ideal.ofBits .f32 w := rfl

theorem splatI {t : Shape} (h : Shape.BroadcastsInDim S_ t ![]) (w : BitVec 32) :
    broadcastInDim t ![] h (constantI S_ 32 w) = fun _ => w := rfl

theorem splat {t : Shape} (h : Shape.BroadcastsInDim S_ t ![]) (w : BitVec 32) :
    broadcastInDim t ![] h (constant S_ .f32 w : FVec Ideal S_ .f32) = fun _ => Ideal.ofBits .f32 w := rfl

section

variable {s : Shape} (v c p q : FVec Ideal s .f32) (j : s.Idx)

theorem sel_lt : (select (cmpf .olt v c) p q j : EReal) = if (v j : EReal) < c j then (p j : EReal) else q j := by
  show Scalar.select (BitVec.ofBool (decide ((v j : EReal) < c j))) (p j) (q j) = _
  by_cases h : (v j : EReal) < c j <;> simp [h, Scalar.select]

theorem sel_gt : (select (cmpf .ogt v c) p q j : EReal) = if (c j : EReal) < v j then (p j : EReal) else q j := by
  show Scalar.select (BitVec.ofBool (decide ((c j : EReal) < v j))) (p j) (q j) = _
  by_cases h : (c j : EReal) < v j <;> simp [h, Scalar.select]

theorem mulf_at : (mulf p q j : EReal) = p j * q j := rfl

theorem minf_at : (minimumf p q j : EReal) = min (p j : EReal) (q j) := rfl

theorem maxf_at : (maximumf p q j : EReal) = max (p j : EReal) (q j) := rfl

theorem divf_at : (Host.divf p q j : EReal) = Ideal.div (p j) (q j) := rfl

theorem abs_at : (Host.absf p j : EReal) = max (p j : EReal) (-(p j)) := rfl

theorem const_at (w : BitVec 32) (i : S_.Idx) : (constant S_ .f32 w i : Ideal .f32) = Ideal.ofBits .f32 w := rfl

end

theorem ofBits_1 : Ideal.ofBits .f32 0x3F800000#32 = 1 := by
  simp [Ideal.ofBits, Ideal.ieee]
  rw [← EReal.coe_mul]
  norm_num

theorem ofBits_2 : Ideal.ofBits .f32 0x40000000#32 = ((2 : ℝ) : EReal) := by
  simp [Ideal.ofBits, Ideal.ieee]
  rw [← EReal.coe_mul]
  norm_num

/-- The powers of two from the 125th negative one on. -/
def powers : FVec Ideal S253 .f32 :=
  Host.powf (broadcastInDim S253 ![] bcast_S_S253 (constant S_ .f32 0x40000000#32))
    (sitofp .f32 (addi (broadcastInDim S253 ![] bcast_S_S253 (constantI S_ 32 4294967171#32)) (iotaInDim S253 32 0)))

theorem powers_at (i : Fin 253) : (powers (ix1 i) : EReal) = (((2 : ℝ) ^ ((i.val : ℤ) - 125) : ℝ) : EReal) := by
  unfold powers
  rw [splat, splatI]
  pointwise
  rw [ofBits_2]
  have e : (IntOp.addi (4294967171#32) (BitVec.ofNat 32 i.val)).toInt = (i.val : ℤ) - 125 := by
    revert i
    decide +kernel
  show Ideal.pow ((2 : ℝ) : EReal) ((((IntOp.addi (4294967171#32) (BitVec.ofNat 32 i.val)).toInt : ℤ) : ℝ) : EReal) = _
  rw [e]
  show ((Real.rpow 2 (((i.val : ℤ) - 125 : ℤ) : ℝ) : ℝ) : EReal) = _
  rw [show Real.rpow 2 (((i.val : ℤ) - 125 : ℤ) : ℝ) = (2 : ℝ) ^ ((((i.val : ℤ) - 125 : ℤ) : ℝ)) from rfl, Real.rpow_intCast]

/-! ## The queries -/

def hQ (x : Vec Ideal S9x8192x2048 .bf16) : FVec Ideal S9x8192x8x256 .f32 :=
  extf .f32 (shapeCast S9x8192x8x256 x shapeCasts_S9x8192x2048_S9x8192x8x256 : FVec Ideal S9x8192x8x256 .bf16) bitsLt_bf16_f32

def yQ (x : Vec Ideal S9x8192x2048 .bf16) : FVec Ideal S9x8192x8 .f32 :=
  mulf (Host.reduce FloatOps.maximumf (Host.absf (hQ x)) (constant S_ .f32 0xFF800000#32) reducesTo_S9x8192x8x256_S9x8192x8_d3 h_S_)
    (broadcastInDim S9x8192x8 ![] bcast_S_S9x8192x8 (constant S_ .f32 0x3B124925#32))

def colQ (x : Vec Ideal S9x8192x2048 .bf16) : FVec Ideal S9x8192x8x1 .f32 :=
  broadcastInDim S9x8192x8x1 ![0, 1, 2] bcast_S9x8192x8_S9x8192x8x1_0_1_2 (yQ x)

def minQ (x : Vec Ideal S9x8192x2048 .bf16) : FVec Ideal S9x8192x8 .f32 :=
  Host.reduce FloatOps.minimumf
    (select (cmpf .ogt (broadcastInDim S9x8192x8x253 ![0, 1, 2, 3] bcast_S1x1x1x253_S9x8192x8x253_0_1_2_3
        (broadcastInDim S1x1x1x253 ![3] bcast_S253_S1x1x1x253_3 powers))
      (broadcastInDim S9x8192x8x253 ![0, 1, 2, 3] bcast_S9x8192x8x1_S9x8192x8x253_0_1_2_3 (colQ x)))
      (broadcastInDim S9x8192x8x253 ![3] bcast_S253_S9x8192x8x253_3 powers)
      (broadcastInDim S9x8192x8x253 ![] bcast_S_S9x8192x8x253 (constant S_ .f32 0x7F800000#32)))
    (constant S_ .f32 0x7F800000#32) reducesTo_S9x8192x8x253_S9x8192x8_d3 h_S_

def sclQ (x : Vec Ideal S9x8192x2048 .bf16) : FVec Ideal S9x8192x8x1 .f32 :=
  select (cmpf .olt (colQ x) (broadcastInDim S9x8192x8x1 ![] bcast_S_S9x8192x8x1 (constant S_ .f32 0x00800000#32)))
    (broadcastInDim S9x8192x8x1 ![] bcast_S_S9x8192x8x1 (constant S_ .f32 0x3F800000#32))
    (broadcastInDim S9x8192x8x1 ![0, 1, 2] bcast_S9x8192x8_S9x8192x8x1_0_1_2 (minQ x))

/-- The scales. -/
def scalesQ (x : Vec Ideal S9x8192x2048 .bf16) : FVec Ideal S9x8192x8 .f32 :=
  shapeCast S9x8192x8 (sclQ x) shapeCasts_S9x8192x8x1_S9x8192x8

/-- The codes. -/
def codesQ (x : Vec Ideal S9x8192x2048 .bf16) : FVec Ideal S9x8192x8x256 .f32 :=
  minimumf (broadcastInDim S9x8192x8x256 ![] bcast_S_S9x8192x8x256 (constant S_ .f32 0x43E00000#32))
    (maximumf (broadcastInDim S9x8192x8x256 ![] bcast_S_S9x8192x8x256 (constant S_ .f32 0xC3E00000#32))
      (Host.divf (hQ x) (broadcastInDim S9x8192x8x256 ![0, 1, 2, 3] bcast_S9x8192x8x1_S9x8192x8x256_0_1_2_3 (sclQ x))))

theorem rmaxQ (v : FVec Ideal S9x8192x8x256 .f32) (c : FVec Ideal S_ .f32) (b : Fin 9) (s : Fin 8192) (h : Fin 8) :
    (Host.reduce (FloatOps.maximumf (F := Ideal) (φ := .f32)) v c reducesTo_S9x8192x8x256_S9x8192x8_d3 h_S_ (ix3 b s h) : Ideal .f32) =
      Finset.fold max (c (Shape.Idx.first h_S_) : EReal) (fun k : Fin 256 => (v (ix4 b s h k) : EReal)) Finset.univ := by
  pointwise

theorem rminQ (v : FVec Ideal S9x8192x8x253 .f32) (c : FVec Ideal S_ .f32) (b : Fin 9) (s : Fin 8192) (h : Fin 8) :
    (Host.reduce (FloatOps.minimumf (F := Ideal) (φ := .f32)) v c reducesTo_S9x8192x8x253_S9x8192x8_d3 h_S_ (ix3 b s h) : Ideal .f32) =
      Finset.fold min (c (Shape.Idx.first h_S_) : EReal) (fun k : Fin 253 => (v (ix4 b s h k) : EReal)) Finset.univ := by
  pointwise

theorem blQ (v : FVec Ideal S9x8192x8x1 .f32) (b : Fin 9) (s : Fin 8192) (h : Fin 8) (k : Fin 253) :
    (broadcastInDim S9x8192x8x253 ![0, 1, 2, 3] bcast_S9x8192x8x1_S9x8192x8x253_0_1_2_3 v (ix4 b s h k) : EReal) = v (ix4 b s h 0) := by
  pointwise

theorem bpQ (v : FVec Ideal S253 .f32) (b : Fin 9) (s : Fin 8192) (h : Fin 8) (k : Fin 253) :
    (broadcastInDim S9x8192x8x253 ![3] bcast_S253_S9x8192x8x253_3 v (ix4 b s h k) : EReal) = v (ix1 k) := by
  pointwise

theorem bppQ (v : FVec Ideal S253 .f32) (b : Fin 9) (s : Fin 8192) (h : Fin 8) (k : Fin 253) :
    (broadcastInDim S9x8192x8x253 ![0, 1, 2, 3] bcast_S1x1x1x253_S9x8192x8x253_0_1_2_3
      (broadcastInDim S1x1x1x253 ![3] bcast_S253_S1x1x1x253_3 v) (ix4 b s h k) : EReal) = v (ix1 k) := by
  pointwise

theorem bcQ (v : FVec Ideal S9x8192x8x1 .f32) (b : Fin 9) (s : Fin 8192) (h : Fin 8) (k : Fin 256) :
    (broadcastInDim S9x8192x8x256 ![0, 1, 2, 3] bcast_S9x8192x8x1_S9x8192x8x256_0_1_2_3 v (ix4 b s h k) : EReal) = v (ix4 b s h 0) := by
  pointwise

theorem b31Q (w : FVec Ideal S9x8192x8 .f32) (b : Fin 9) (s : Fin 8192) (h : Fin 8) :
    (broadcastInDim S9x8192x8x1 ![0, 1, 2] bcast_S9x8192x8_S9x8192x8x1_0_1_2 w (ix4 b s h 0) : EReal) = w (ix3 b s h) := by
  pointwise

theorem hQ_at (x : Vec Ideal S9x8192x2048 .bf16) (b : Fin 9) (s : Fin 8192) (h : Fin 8) (j : Fin 256) :
    (hQ x (ix4 b s h j) : EReal) = qRowS x b s h j := by
  pointwise [hQ, qRowS]
  blk_ext []

theorem yQ_at (x : Vec Ideal S9x8192x2048 .bf16) (b : Fin 9) (s : Fin 8192) (h : Fin 8) :
    (yQ x (ix3 b s h) : EReal) = yS (qRowS x b s h) := by
  unfold yQ yS amaxS
  rw [mulf_at, rmaxQ, splat_at, const_at, ofBits_bot]
  simp only [abs_at, hQ_at]

theorem colQ_at (x : Vec Ideal S9x8192x2048 .bf16) (b : Fin 9) (s : Fin 8192) (h : Fin 8) :
    (colQ x (ix4 b s h 0) : EReal) = yS (qRowS x b s h) := by
  unfold colQ
  rw [b31Q, yQ_at]

theorem minQ_at (x : Vec Ideal S9x8192x2048 .bf16) (b : Fin 9) (s : Fin 8192) (h : Fin 8) :
    (minQ x (ix3 b s h) : EReal) = Finset.fold min ⊤ (fun i : Fin 253 => if yS (qRowS x b s h) < (((2 : ℝ) ^ ((i.val : ℤ) - 125) : ℝ) : EReal) then
      (((2 : ℝ) ^ ((i.val : ℤ) - 125) : ℝ) : EReal) else ⊤) Finset.univ := by
  unfold minQ
  rw [rminQ, const_at, ofBits_top]
  refine Finset.fold_congr fun i _ => ?_
  rw [sel_gt, blQ, bppQ, bpQ, splat_at, colQ_at, powers_at, ofBits_top]

theorem sclQ_at (x : Vec Ideal S9x8192x2048 .bf16) (b : Fin 9) (s : Fin 8192) (h : Fin 8) :
    (sclQ x (ix4 b s h 0) : EReal) = scaleS (qRowS x b s h) := by
  unfold scaleS refS sclQ
  rw [sel_lt, splat_at, splat_at, b31Q, colQ_at, minQ_at, ofBits_1]

theorem sc31Q (v : FVec Ideal S9x8192x8x1 .f32) (b : Fin 9) (s : Fin 8192) (h : Fin 8) :
    (shapeCast S9x8192x8 v shapeCasts_S9x8192x8x1_S9x8192x8 (ix3 b s h) : EReal) = v (ix4 b s h 0) := by
  pointwise

theorem scalesQ_at (x : Vec Ideal S9x8192x2048 .bf16) (b : Fin 9) (s : Fin 8192) (h : Fin 8) :
    (scalesQ x (ix3 b s h) : EReal) = scaleS (qRowS x b s h) := by
  unfold scalesQ
  rw [sc31Q, sclQ_at]

theorem codesQ_at (x : Vec Ideal S9x8192x2048 .bf16) (b : Fin 9) (s : Fin 8192) (h : Fin 8) (j : Fin 256) :
    (codesQ x (ix4 b s h j) : EReal) = codeS (qRowS x b s h) j := by
  unfold codeS codesQ
  rw [minf_at, maxf_at, divf_at, splat_at, splat_at, bcQ, sclQ_at, hQ_at]

/-! ## The keys and the values -/

def hK (x : Vec Ideal S9x8192x512 .bf16) : FVec Ideal S9x8192x2x256 .f32 :=
  extf .f32 (shapeCast S9x8192x2x256 x shapeCasts_S9x8192x512_S9x8192x2x256 : FVec Ideal S9x8192x2x256 .bf16) bitsLt_bf16_f32

def yK (x : Vec Ideal S9x8192x512 .bf16) : FVec Ideal S9x8192x2 .f32 :=
  mulf (Host.reduce FloatOps.maximumf (Host.absf (hK x)) (constant S_ .f32 0xFF800000#32) reducesTo_S9x8192x2x256_S9x8192x2_d3 h_S_)
    (broadcastInDim S9x8192x2 ![] bcast_S_S9x8192x2 (constant S_ .f32 0x3B124925#32))

def colK (x : Vec Ideal S9x8192x512 .bf16) : FVec Ideal S9x8192x2x1 .f32 :=
  broadcastInDim S9x8192x2x1 ![0, 1, 2] bcast_S9x8192x2_S9x8192x2x1_0_1_2 (yK x)

def minK (x : Vec Ideal S9x8192x512 .bf16) : FVec Ideal S9x8192x2 .f32 :=
  Host.reduce FloatOps.minimumf
    (select (cmpf .ogt (broadcastInDim S9x8192x2x253 ![0, 1, 2, 3] bcast_S1x1x1x253_S9x8192x2x253_0_1_2_3
        (broadcastInDim S1x1x1x253 ![3] bcast_S253_S1x1x1x253_3 powers))
      (broadcastInDim S9x8192x2x253 ![0, 1, 2, 3] bcast_S9x8192x2x1_S9x8192x2x253_0_1_2_3 (colK x)))
      (broadcastInDim S9x8192x2x253 ![3] bcast_S253_S9x8192x2x253_3 powers)
      (broadcastInDim S9x8192x2x253 ![] bcast_S_S9x8192x2x253 (constant S_ .f32 0x7F800000#32)))
    (constant S_ .f32 0x7F800000#32) reducesTo_S9x8192x2x253_S9x8192x2_d3 h_S_

def sclK (x : Vec Ideal S9x8192x512 .bf16) : FVec Ideal S9x8192x2x1 .f32 :=
  select (cmpf .olt (colK x) (broadcastInDim S9x8192x2x1 ![] bcast_S_S9x8192x2x1 (constant S_ .f32 0x00800000#32)))
    (broadcastInDim S9x8192x2x1 ![] bcast_S_S9x8192x2x1 (constant S_ .f32 0x3F800000#32))
    (broadcastInDim S9x8192x2x1 ![0, 1, 2] bcast_S9x8192x2_S9x8192x2x1_0_1_2 (minK x))

/-- The scales. -/
def scalesK (x : Vec Ideal S9x8192x512 .bf16) : FVec Ideal S9x8192x2 .f32 :=
  shapeCast S9x8192x2 (sclK x) shapeCasts_S9x8192x2x1_S9x8192x2

/-- The codes. -/
def codesK (x : Vec Ideal S9x8192x512 .bf16) : FVec Ideal S9x8192x2x256 .f32 :=
  minimumf (broadcastInDim S9x8192x2x256 ![] bcast_S_S9x8192x2x256 (constant S_ .f32 0x43E00000#32))
    (maximumf (broadcastInDim S9x8192x2x256 ![] bcast_S_S9x8192x2x256 (constant S_ .f32 0xC3E00000#32))
      (Host.divf (hK x) (broadcastInDim S9x8192x2x256 ![0, 1, 2, 3] bcast_S9x8192x2x1_S9x8192x2x256_0_1_2_3 (sclK x))))

theorem rmaxK (v : FVec Ideal S9x8192x2x256 .f32) (c : FVec Ideal S_ .f32) (b : Fin 9) (s : Fin 8192) (h : Fin 2) :
    (Host.reduce (FloatOps.maximumf (F := Ideal) (φ := .f32)) v c reducesTo_S9x8192x2x256_S9x8192x2_d3 h_S_ (ix3 b s h) : Ideal .f32) =
      Finset.fold max (c (Shape.Idx.first h_S_) : EReal) (fun k : Fin 256 => (v (ix4 b s h k) : EReal)) Finset.univ := by
  pointwise

theorem rminK (v : FVec Ideal S9x8192x2x253 .f32) (c : FVec Ideal S_ .f32) (b : Fin 9) (s : Fin 8192) (h : Fin 2) :
    (Host.reduce (FloatOps.minimumf (F := Ideal) (φ := .f32)) v c reducesTo_S9x8192x2x253_S9x8192x2_d3 h_S_ (ix3 b s h) : Ideal .f32) =
      Finset.fold min (c (Shape.Idx.first h_S_) : EReal) (fun k : Fin 253 => (v (ix4 b s h k) : EReal)) Finset.univ := by
  pointwise

theorem blK (v : FVec Ideal S9x8192x2x1 .f32) (b : Fin 9) (s : Fin 8192) (h : Fin 2) (k : Fin 253) :
    (broadcastInDim S9x8192x2x253 ![0, 1, 2, 3] bcast_S9x8192x2x1_S9x8192x2x253_0_1_2_3 v (ix4 b s h k) : EReal) = v (ix4 b s h 0) := by
  pointwise

theorem bpK (v : FVec Ideal S253 .f32) (b : Fin 9) (s : Fin 8192) (h : Fin 2) (k : Fin 253) :
    (broadcastInDim S9x8192x2x253 ![3] bcast_S253_S9x8192x2x253_3 v (ix4 b s h k) : EReal) = v (ix1 k) := by
  pointwise

theorem bppK (v : FVec Ideal S253 .f32) (b : Fin 9) (s : Fin 8192) (h : Fin 2) (k : Fin 253) :
    (broadcastInDim S9x8192x2x253 ![0, 1, 2, 3] bcast_S1x1x1x253_S9x8192x2x253_0_1_2_3
      (broadcastInDim S1x1x1x253 ![3] bcast_S253_S1x1x1x253_3 v) (ix4 b s h k) : EReal) = v (ix1 k) := by
  pointwise

theorem bcK (v : FVec Ideal S9x8192x2x1 .f32) (b : Fin 9) (s : Fin 8192) (h : Fin 2) (k : Fin 256) :
    (broadcastInDim S9x8192x2x256 ![0, 1, 2, 3] bcast_S9x8192x2x1_S9x8192x2x256_0_1_2_3 v (ix4 b s h k) : EReal) = v (ix4 b s h 0) := by
  pointwise

theorem b31K (w : FVec Ideal S9x8192x2 .f32) (b : Fin 9) (s : Fin 8192) (h : Fin 2) :
    (broadcastInDim S9x8192x2x1 ![0, 1, 2] bcast_S9x8192x2_S9x8192x2x1_0_1_2 w (ix4 b s h 0) : EReal) = w (ix3 b s h) := by
  pointwise

theorem hK_at (x : Vec Ideal S9x8192x512 .bf16) (b : Fin 9) (s : Fin 8192) (h : Fin 2) (j : Fin 256) :
    (hK x (ix4 b s h j) : EReal) = kRowS x b s h j := by
  pointwise [hK, kRowS]
  blk_ext []

theorem yK_at (x : Vec Ideal S9x8192x512 .bf16) (b : Fin 9) (s : Fin 8192) (h : Fin 2) :
    (yK x (ix3 b s h) : EReal) = yS (kRowS x b s h) := by
  unfold yK yS amaxS
  rw [mulf_at, rmaxK, splat_at, const_at, ofBits_bot]
  simp only [abs_at, hK_at]

theorem colK_at (x : Vec Ideal S9x8192x512 .bf16) (b : Fin 9) (s : Fin 8192) (h : Fin 2) :
    (colK x (ix4 b s h 0) : EReal) = yS (kRowS x b s h) := by
  unfold colK
  rw [b31K, yK_at]

theorem minK_at (x : Vec Ideal S9x8192x512 .bf16) (b : Fin 9) (s : Fin 8192) (h : Fin 2) :
    (minK x (ix3 b s h) : EReal) = Finset.fold min ⊤ (fun i : Fin 253 => if yS (kRowS x b s h) < (((2 : ℝ) ^ ((i.val : ℤ) - 125) : ℝ) : EReal) then
      (((2 : ℝ) ^ ((i.val : ℤ) - 125) : ℝ) : EReal) else ⊤) Finset.univ := by
  unfold minK
  rw [rminK, const_at, ofBits_top]
  refine Finset.fold_congr fun i _ => ?_
  rw [sel_gt, blK, bppK, bpK, splat_at, colK_at, powers_at, ofBits_top]

theorem sclK_at (x : Vec Ideal S9x8192x512 .bf16) (b : Fin 9) (s : Fin 8192) (h : Fin 2) :
    (sclK x (ix4 b s h 0) : EReal) = scaleS (kRowS x b s h) := by
  unfold scaleS refS sclK
  rw [sel_lt, splat_at, splat_at, b31K, colK_at, minK_at, ofBits_1]

theorem sc31K (v : FVec Ideal S9x8192x2x1 .f32) (b : Fin 9) (s : Fin 8192) (h : Fin 2) :
    (shapeCast S9x8192x2 v shapeCasts_S9x8192x2x1_S9x8192x2 (ix3 b s h) : EReal) = v (ix4 b s h 0) := by
  pointwise

theorem scalesK_at (x : Vec Ideal S9x8192x512 .bf16) (b : Fin 9) (s : Fin 8192) (h : Fin 2) :
    (scalesK x (ix3 b s h) : EReal) = scaleS (kRowS x b s h) := by
  unfold scalesK
  rw [sc31K, sclK_at]

theorem codesK_at (x : Vec Ideal S9x8192x512 .bf16) (b : Fin 9) (s : Fin 8192) (h : Fin 2) (j : Fin 256) :
    (codesK x (ix4 b s h j) : EReal) = codeS (kRowS x b s h) j := by
  unfold codeS codesK
  rw [minf_at, maxf_at, divf_at, splat_at, splat_at, bcK, sclK_at, hK_at]

end Cert.ReferenceIdeal.Spec

end
-- ==== Proof.KernelTail.lean ====
module

public import proofs.«01_k».proof.Proof.RefVec
public import Idealize.ShloMosaic.Lib.StableHlo.ReadAt
public import Idealize.ShloMosaic.Lib.Pipeline.ValueKit

/-! The kernel's results after the host's transpositions are the reference's codes and scales. -/

@[expose] public section

set_option maxRecDepth 16384

noncomputable section

namespace Cert.KernelIdeal.Spec

open Idealize.ShloMosaic Idealize.ShloMosaic.TcCoe Cert.KernelIdeal Cert.KernelIdeal.Gen
open Cert.ReferenceIdeal.Spec (codesQ codesK scalesQ scalesK codesQ_at codesK_at scalesQ_at scalesK_at)

def backQ (y : Vec Ideal S9x8192x2x8x128 .fp8e4m3) : Vec Ideal S9x8192x8x256 .fp8e4m3 :=
  shapeCast S9x8192x8x256 (transpose S9x8192x8x2x128 [0, 1, 3, 2, 4] y transposes_S9x8192x2x8x128_S9x8192x8x2x128_0_1_3_2_4)
    shapeCasts_S9x8192x8x2x128_S9x8192x8x256

def backK (y : Vec Ideal S9x2x8192x256 .fp8e4m3) : Vec Ideal S9x8192x2x256 .fp8e4m3 :=
  transpose S9x8192x2x256 [0, 2, 1, 3] y transposes_S9x2x8192x256_S9x8192x2x256_0_2_1_3

def turnQ (y : Vec Ideal S9x8x8192 .f32) : Vec Ideal S9x8192x8 .f32 :=
  transpose S9x8192x8 [0, 2, 1] y transposes_S9x8x8192_S9x8192x8_0_2_1

def turnK (y : Vec Ideal S9x2x8192 .f32) : Vec Ideal S9x8192x2 .f32 :=
  transpose S9x8192x2 [0, 2, 1] y transposes_S9x2x8192_S9x8192x2_0_2_1

section

variable (b : Fin 9) (s : Fin 8192)

theorem tranQ_at (y : Vec Ideal S9x8192x2x8x128 .fp8e4m3) (h : Fin 8) (u : Fin 2) (l : Fin 128) :
    (transpose S9x8192x8x2x128 [0, 1, 3, 2, 4] y transposes_S9x8192x2x8x128_S9x8192x8x2x128_0_1_3_2_4 (ix5 b s h u l) : EReal) = y (ix5 b s u h l) := by
  pointwise

theorem castQ_at (y : Vec Ideal S9x8192x8x2x128 .fp8e4m3) (h : Fin 8) (j : Fin 256) :
    (shapeCast S9x8192x8x256 y shapeCasts_S9x8192x8x2x128_S9x8192x8x256 (ix4 b s h j) : EReal) =
      y (ix5 b s h ⟨j.val / 128, by omega⟩ ⟨j.val % 128, by omega⟩) := by
  pointwise
  blk_ext []

theorem backK_at (y : Vec Ideal S9x2x8192x256 .fp8e4m3) (g : Fin 2) (j : Fin 256) : (backK y (ix4 b s g j) : EReal) = y (ix4 b g s j) := by
  pointwise [backK]

theorem turnQ_at (y : Vec Ideal S9x8x8192 .f32) (h : Fin 8) : (turnQ y (ix3 b s h) : EReal) = y (ix3 b h s) := by
  pointwise [turnQ]

theorem turnK_at (y : Vec Ideal S9x2x8192 .f32) (g : Fin 2) : (turnK y (ix3 b s g) : EReal) = y (ix3 b g s) := by
  pointwise [turnK]

end

theorem resQ (x : Vec Ideal S9x8192x2048 .bf16) : backQ (queryCodes x) = codesQ x := by
  funext i
  obtain ⟨b, s, h, j, rfl⟩ : ∃ b s h j, i = ix4 b s h j := ⟨i 0, i 1, i 2, i 3, by ext k; fin_cases k <;> rfl⟩
  unfold backQ
  refine ((castQ_at b s _ h j).trans (tranQ_at b s _ h _ _)).trans (Eq.trans ?_ (codesQ_at x b s h j).symm)
  show codeS (qRowS x b s h) _ = _
  refine congrArg _ (Fin.ext ?_)
  show 128 * (j.val / 128) + j.val % 128 = j.val
  omega

theorem resK (x : Vec Ideal S9x8192x512 .bf16) : backK (keyCodes x) = codesK x := by
  funext i
  obtain ⟨b, s, h, j, rfl⟩ : ∃ b s h j, i = ix4 b s h j := ⟨i 0, i 1, i 2, i 3, by ext k; fin_cases k <;> rfl⟩
  exact (backK_at b s _ h j).trans (codesK_at x b s h j).symm

theorem resQs (x : Vec Ideal S9x8192x2048 .bf16) : turnQ (queryScales x) = scalesQ x := by
  funext i
  obtain ⟨b, s, h, rfl⟩ : ∃ b s h, i = ix3 b s h := ⟨i 0, i 1, i 2, by ext k; fin_cases k <;> rfl⟩
  exact (turnQ_at b s _ h).trans (scalesQ_at x b s h).symm

theorem resKs (x : Vec Ideal S9x8192x512 .bf16) : turnK (keyScales x) = scalesK x := by
  funext i
  obtain ⟨b, s, h, rfl⟩ : ∃ b s h, i = ix3 b s h := ⟨i 0, i 1, i 2, by ext k; fin_cases k <;> rfl⟩
  exact (turnK_at b s _ h).trans (scalesK_at x b s h).symm

section

variable (W : Valuation τ sig (Elt Ideal))

theorem tail_v2 : StableHlo.after (List.flatten [hostOps1]) W (Proc.devRef .tc main_v2) = backQ (W (Proc.devRef .tc main_v0_1)) := by
  after_reads_simp
  rfl

theorem tail_v3 : StableHlo.after (List.flatten [hostOps1]) W (Proc.devRef .tc main_v3) = turnQ (W (Proc.devRef .tc main_v0_2)) := by
  after_reads_simp
  rfl

theorem tail_v4 : StableHlo.after (List.flatten [hostOps1]) W (Proc.devRef .tc main_v4) = backK (W (Proc.devRef .tc main_v0_3)) := by
  after_reads_simp
  rfl

theorem tail_v5 : StableHlo.after (List.flatten [hostOps1]) W (Proc.devRef .tc main_v5) = turnK (W (Proc.devRef .tc main_v0_4)) := by
  after_reads_simp
  rfl

theorem tail_v6 : StableHlo.after (List.flatten [hostOps1]) W (Proc.devRef .tc main_v6) = backK (W (Proc.devRef .tc main_v0_5)) := by
  after_reads_simp
  rfl

theorem tail_v7 : StableHlo.after (List.flatten [hostOps1]) W (Proc.devRef .tc main_v7) = turnK (W (Proc.devRef .tc main_v0_6)) := by
  after_reads_simp
  rfl

end

end Cert.KernelIdeal.Spec

end
-- ==== Proof.KernelEnds.lean ====
module

public import proofs.«01_k».proof.Proof.KernelTail

/-! What the kernel leaves: its results are the reference's codes, scales and attention of the arguments. -/

@[expose] public section

set_option maxRecDepth 16384

noncomputable section

namespace Cert.KernelIdeal.Spec

open Idealize.ShloMosaic Idealize.ShloMosaic.TcCoe Idealize.SL.Sem Cert.KernelIdeal Cert.KernelIdeal.Gen
open Cert.ReferenceIdeal.Spec (codesQ codesK scalesQ scalesK)

variable (m : (ℓ : Loc nD τ sig) → Buf (Elt Ideal) ℓ) (ρ : Dev nD → PrngReg)

/-- The buffers as the grid leaves them. -/
def left (c : Dev nD) : Valuation τ sig (Elt Ideal) :=
  Pipeline.withArrays (cfgs 0).spec c (V0 m c) fun w => (dats m 0 c).arrAt w (cfgs 0).N

section

variable (c : Dev nD)

theorem left4 : left m c (Proc.devRef .tc main_v0_1) = (dats m 0 c).arrAt 4 cfg0.N := Pipeline.withArrays_arr _ winFacts0.arr_inj c _ _ 4
theorem left5 : left m c (Proc.devRef .tc main_v0_2) = (dats m 0 c).arrAt 5 cfg0.N := Pipeline.withArrays_arr _ winFacts0.arr_inj c _ _ 5
theorem left6 : left m c (Proc.devRef .tc main_v0_3) = (dats m 0 c).arrAt 6 cfg0.N := Pipeline.withArrays_arr _ winFacts0.arr_inj c _ _ 6
theorem left7 : left m c (Proc.devRef .tc main_v0_4) = (dats m 0 c).arrAt 7 cfg0.N := Pipeline.withArrays_arr _ winFacts0.arr_inj c _ _ 7
theorem left8 : left m c (Proc.devRef .tc main_v0_5) = (dats m 0 c).arrAt 8 cfg0.N := Pipeline.withArrays_arr _ winFacts0.arr_inj c _ _ 8
theorem left9 : left m c (Proc.devRef .tc main_v0_6) = (dats m 0 c).arrAt 9 cfg0.N := Pipeline.withArrays_arr _ winFacts0.arr_inj c _ _ 9

end

/-- The arguments end unchanged and the semaphores at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨(Pipeline.FramePost.in_eq h.1 c 0 rfl).trans ((A_eq m c 0).trans (V_main_arg0 m c)),
      (Pipeline.FramePost.in_eq h.1 c 1 rfl).trans ((A_eq m c 1).trans (V_main_arg1 m c)),
      (Pipeline.FramePost.in_eq h.1 c 2 rfl).trans ((A_eq m c 2).trans (V_main_arg2 m c))⟩, h.2⟩) (run_main m ρ)

/-- The results. -/
theorem ends (hq : ∀ c i, InRange (argQ m c i)) (hk : ∀ c i, InRange (argK m c i)) (hv : ∀ c i, InRange (argV m c i)) :
    θ_run defs (onTc (τ := τ) (main (F := Ideal))) ⟨m, fun _ => 0, ρ⟩ (fun r => ∀ c : Dev nD,
      r.2.mem ((c.tc : Thread nD τ).loc main_v0_0) = outArr (argQ m c) (argK m c) (argV m c)
      ∧ r.2.mem ((c.tc : Thread nD τ).loc main_v2) = codesQ (argQ m c)
      ∧ r.2.mem ((c.tc : Thread nD τ).loc main_v3) = scalesQ (argQ m c)
      ∧ r.2.mem ((c.tc : Thread nD τ).loc main_v4) = codesK (argK m c)
      ∧ r.2.mem ((c.tc : Thread nD τ).loc main_v5) = scalesK (argK m c)
      ∧ r.2.mem ((c.tc : Thread nD τ).loc main_v6) = codesK (argV m c)
      ∧ r.2.mem ((c.tc : Thread nD τ).loc main_v7) = scalesK (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(Pipeline.FramePost.out_eq h.1 c 3).trans (arr3 m c (hq c) (hk c) (hv c)),
      (Pipeline.FramePost.rest_eq h.1 c main_v2 (Pipeline.mem_restRefs_of main_v2 (by decide) (by decide))).trans
        ((tail_v2 (left m c)).trans ((congrArg backQ ((left4 m c).trans (arr4 m c (hq c)))).trans (resQ _))),
      (Pipeline.FramePost.rest_eq h.1 c main_v3 (Pipeline.mem_restRefs_of main_v3 (by decide) (by decide))).trans
        ((tail_v3 (left m c)).trans ((congrArg turnQ ((left5 m c).trans (arr5 m c (hq c)))).trans (resQs _))),
      (Pipeline.FramePost.rest_eq h.1 c main_v4 (Pipeline.mem_restRefs_of main_v4 (by decide) (by decide))).trans
        ((tail_v4 (left m c)).trans ((congrArg backK ((left6 m c).trans (arr6 m c (hk c)))).trans (resK _))),
      (Pipeline.FramePost.rest_eq h.1 c main_v5 (Pipeline.mem_restRefs_of main_v5 (by decide) (by decide))).trans
        ((tail_v5 (left m c)).trans ((congrArg turnK ((left7 m c).trans (arr7 m c (hk c)))).trans (resKs _))),
      (Pipeline.FramePost.rest_eq h.1 c main_v6 (Pipeline.mem_restRefs_of main_v6 (by decide) (by decide))).trans
        ((tail_v6 (left m c)).trans ((congrArg backK ((left8 m c).trans (arr8 m c (hv c)))).trans (resK _))),
      (Pipeline.FramePost.rest_eq h.1 c main_v7 (Pipeline.mem_restRefs_of main_v7 (by decide) (by decide))).trans
        ((tail_v7 (left m c)).trans ((congrArg turnK ((left9 m c).trans (arr9 m c (hv c)))).trans (resKs _))),
      (Pipeline.FramePost.in_eq h.1 c 0 rfl).trans ((A_eq m c 0).trans (V_main_arg0 m c)),
      (Pipeline.FramePost.in_eq h.1 c 1 rfl).trans ((A_eq m c 1).trans (V_main_arg1 m c)),
      (Pipeline.FramePost.in_eq h.1 c 2 rfl).trans ((A_eq m c 2).trans (V_main_arg2 m c))⟩) (run_main m ρ)

end Cert.KernelIdeal.Spec

end
-- ==== Proof.RefRead.lean ====
module

public import proofs.«01_k».proof.Proof.RefVec
public import proofs.«01_k».proof.Proof.Gen.ReferenceIdeal.Frame
public import Idealize.ShloMosaic.Lib.StableHlo.ReadAt
public import Idealize.ShloMosaic.Lib.Pipeline.ValueKit

/-! What the reference's buffers hold when its copies are made: the scales and the codes. -/

@[expose] public section

set_option maxRecDepth 16384

noncomputable section

namespace Cert.ReferenceIdeal.Spec

open Idealize.ShloMosaic Idealize.ShloMosaic.TcCoe Cert.ReferenceIdeal Cert.ReferenceIdeal.Gen

variable (m : (ℓ : Loc nD τ sig) → Buf (Elt Ideal) ℓ)

theorem v26_eq (c : Dev nD) : V m c main_v26 = scalesQ (m ((c : Thread nD τ).loc main_arg0)) := by
  unfold V V0
  after_reads_simp
  simp -implicitDefEqProofs only [StableHlo.TRef.toBuf, StableHlo.TRef.ofBuf, cast_cast, cast_eq]
  rfl

theorem v53_eq (c : Dev nD) : V m c main_v53 = scalesK (m ((c : Thread nD τ).loc main_arg1)) := by
  unfold V V0
  after_reads_simp
  simp -implicitDefEqProofs only [StableHlo.TRef.toBuf, StableHlo.TRef.ofBuf, cast_cast, cast_eq]
  rfl

theorem v80_eq (c : Dev nD) : V m c main_v80 = scalesK (m ((c : Thread nD τ).loc main_arg2)) := by
  unfold V V0
  after_reads_simp
  simp -implicitDefEqProofs only [StableHlo.TRef.toBuf, StableHlo.TRef.ofBuf, cast_cast, cast_eq]
  rfl

theorem v25_eq (c : Dev nD) : V m c main_v25 = codesQ (m ((c : Thread nD τ).loc main_arg0)) := by
  unfold V V0
  after_reads_simp
  simp -implicitDefEqProofs only [StableHlo.TRef.toBuf, StableHlo.TRef.ofBuf, cast_cast, cast_eq]
  rfl

theorem v52_eq (c : Dev nD) : V m c main_v52 = codesK (m ((c : Thread nD τ).loc main_arg1)) := by
  unfold V V0
  after_reads_simp
  simp -implicitDefEqProofs only [StableHlo.TRef.toBuf, StableHlo.TRef.ofBuf, cast_cast, cast_eq]
  rfl

theorem v79_eq (c : Dev nD) : V m c main_v79 = codesK (m ((c : Thread nD τ).loc main_arg2)) := by
  unfold V V0
  after_reads_simp
  simp -implicitDefEqProofs only [StableHlo.TRef.toBuf, StableHlo.TRef.ofBuf, cast_cast, cast_eq]
  rfl

end Cert.ReferenceIdeal.Spec

end
-- ==== Proof.RefArr.lean ====
module

public import proofs.«01_k».proof.Proof.RefRead
public import proofs.«01_k».proof.Proof.Gen.ReferenceIdeal.Frame
public import Idealize.ShloMosaic.Lib.StableHlo.ReadAt
public import Idealize.ShloMosaic.Lib.Pipeline.ValueKit

/-! The arrays that the reference's copies leave: the codes. -/

@[expose] public section

set_option maxRecDepth 16384

noncomputable section

namespace Cert.ReferenceIdeal.Spec

open Idealize.ShloMosaic Idealize.ShloMosaic.TcCoe Cert.ReferenceIdeal Cert.ReferenceIdeal.Gen

variable (m : (ℓ : Loc nD τ sig) → Buf (Elt Ideal) ℓ)

theorem idx : ∀ t : Fin cfg0.N, win0_0.index t = ![0, 0, 0, 0] ∧ win0_1.index t = ![0, 0, 0, 0] ∧ win0_2.index t = ![0, 0, 0, 0] ∧
    win0_3.index t = ![0, 0, 0, 0] ∧ win0_4.index t = ![0, 0, 0, 0] ∧ win0_5.index t = ![0, 0, 0, 0] ∧
    win0_6.index t = ![0, 0, 0, 0] ∧ win0_7.index t = ![0, 0, 0, 0] ∧ win0_8.index t = ![0, 0, 0, 0] :=
  (by decide +kernel : ∀ t : Fin grid0.N, _)

theorem read0 (A : Vec Ideal S9x8192x8x256 .f32) : ((cfg0.win 0).blk t0_0).view.read (Elt Ideal) A = A := by
  blk_ext! [idx t0_0]

theorem iblk0 (c : Dev nD) : iblk m c 0 t0_0 = codesQ (m ((c : Thread nD τ).loc main_arg0)) :=
  (read0 _).trans (v25_eq m c)

theorem read1 (A : Vec Ideal S9x8192x2x256 .f32) : ((cfg0.win 1).blk t0_0).view.read (Elt Ideal) A = A := by
  blk_ext! [idx t0_0]

theorem iblk1 (c : Dev nD) : iblk m c 1 t0_0 = codesK (m ((c : Thread nD τ).loc main_arg1)) :=
  (read1 _).trans (v52_eq m c)

theorem read2 (A : Vec Ideal S9x8192x2x256 .f32) : ((cfg0.win 2).blk t0_0).view.read (Elt Ideal) A = A := by
  blk_ext! [idx t0_0]

theorem iblk2 (c : Dev nD) : iblk m c 2 t0_0 = codesK (m ((c : Thread nD τ).loc main_arg2)) :=
  (read2 _).trans (v79_eq m c)

theorem arr3 (c : Dev nD) : (dats m 0 c).arrAt 3 cfg0.N = codesQ (m ((c : Thread nD τ).loc main_arg0)) := by
  refine (dats m 0 c).arrAt_eq_of_after_last 3 t0_0 (by decide +kernel) _ fun j => ?_
  blk_simp
  rw [after0_3]
  unfold out0_3
  frame_out
  refine (congrFun (congrArg k0_pay3 (iblk0 m c)) _).trans ?_
  generalize codesQ (m ((c : Thread nD τ).loc main_arg0)) = A
  blk_ext! [k0_pay3, idx t0_0]

theorem arr4 (c : Dev nD) : (dats m 0 c).arrAt 4 cfg0.N = codesK (m ((c : Thread nD τ).loc main_arg1)) := by
  refine (dats m 0 c).arrAt_eq_of_after_last 4 t0_0 (by decide +kernel) _ fun j => ?_
  blk_simp
  rw [after0_4]
  unfold out0_4
  frame_out
  refine (congrFun (congrArg k0_pay5 (iblk1 m c)) _).trans ?_
  generalize codesK (m ((c : Thread nD τ).loc main_arg1)) = A
  blk_ext! [k0_pay5, idx t0_0]

theorem arr5 (c : Dev nD) : (dats m 0 c).arrAt 5 cfg0.N = codesK (m ((c : Thread nD τ).loc main_arg2)) := by
  refine (dats m 0 c).arrAt_eq_of_after_last 5 t0_0 (by decide +kernel) _ fun j => ?_
  blk_simp
  rw [after0_5]
  unfold out0_5
  frame_out
  refine (congrFun (congrArg (fun x => k0_pay1 (k0_pay7 x)) (iblk2 m c)) _).trans ?_
  generalize codesK (m ((c : Thread nD τ).loc main_arg2)) = A
  blk_ext! [k0_pay1, k0_pay7, idx t0_0]

theorem arr6 (c : Dev nD) : (dats m 0 c).arrAt 6 cfg0.N = codesQ (m ((c : Thread nD τ).loc main_arg0)) := by
  refine (dats m 0 c).arrAt_eq_of_after_last 6 t0_0 (by decide +kernel) _ fun j => ?_
  blk_simp
  rw [after0_6]
  unfold out0_6
  frame_out
  refine (congrFun (congrArg k0_pay4 (iblk0 m c)) _).trans ?_
  generalize codesQ (m ((c : Thread nD τ).loc main_arg0)) = A
  blk_ext! [k0_pay4, idx t0_0]

theorem arr7 (c : Dev nD) : (dats m 0 c).arrAt 7 cfg0.N = codesK (m ((c : Thread nD τ).loc main_arg1)) := by
  refine (dats m 0 c).arrAt_eq_of_after_last 7 t0_0 (by decide +kernel) _ fun j => ?_
  blk_simp
  rw [after0_7]
  unfold out0_7
  frame_out
  refine (congrFun (congrArg k0_pay6 (iblk1 m c)) _).trans ?_
  generalize codesK (m ((c : Thread nD τ).loc main_arg1)) = A
  blk_ext! [k0_pay6, idx t0_0]

theorem arr8 (c : Dev nD) : (dats m 0 c).arrAt 8 cfg0.N = codesK (m ((c : Thread nD τ).loc main_arg2)) := by
  refine (dats m 0 c).arrAt_eq_of_after_last 8 t0_0 (by decide +kernel) _ fun j => ?_
  blk_simp
  rw [after0_8]
  unfold out0_8
  frame_out
  refine (congrFun (congrArg k0_pay2 (iblk2 m c)) _).trans ?_
  generalize codesK (m ((c : Thread nD τ).loc main_arg2)) = A
  blk_ext! [k0_pay2, idx t0_0]

end Cert.ReferenceIdeal.Spec

end
-- ==== Proof.RefOut.lean ====
module

public import proofs.«01_k».proof.Proof.RefVec
public import proofs.«01_k».proof.Proof.Gen.ReferenceIdeal.Launch
public import Idealize.ShloMosaic.Lib.Pipeline.ValueKit

/-! The reference's attention, operation by operation, at an index. -/

@[expose] public section

set_option maxRecDepth 16384

noncomputable section

namespace Cert.ReferenceIdeal.Spec

open Idealize.ShloMosaic Idealize.ShloMosaic.TcCoe Cert.ReferenceIdeal Cert.ReferenceIdeal.Gen
open Cert.KernelIdeal.Spec (refS scaleS codeS yS amaxS qRowS kRowS ofBits_bot ofBits_top)

variable (q : FVec Ideal S9x8192x8x256 .bf16) (k v : FVec Ideal S9x8192x2x256 .bf16) (qs : FVec Ideal S9x8192x8 .f32) (ks vs : FVec Ideal S9x8192x2 .f32)

/-- The products of the codes. -/
def dotR : FVec Ideal S9x2x8192x4x8192 .f32 :=
  Host.dotGeneral dot_S9x8192x2x4x256_S9x8192x2x256_S9x2x8192x4x8192_4_3_13_1_02_02 none
    (shapeCast S9x8192x2x4x256 q shapeCasts_S9x8192x8x256_S9x8192x2x4x256 : FVec Ideal S9x8192x2x4x256 .bf16) k

/-- The queries' scales with the softmax's. -/
def qsR : FVec Ideal S9x2x8192x4 .f32 :=
  mulf (transpose S9x2x8192x4 [0, 2, 1, 3] (shapeCast S9x8192x2x4 qs shapeCasts_S9x8192x8_S9x8192x2x4 : FVec Ideal S9x8192x2x4 .f32) transposes_S9x8192x2x4_S9x2x8192x4_0_2_1_3)
    (broadcastInDim S9x2x8192x4 ![] bcast_S_S9x2x8192x4 (constant S_ .f32 0x3D800000#32))

/-- The scores. -/
def scoreR : FVec Ideal S9x2x8192x4x8192 .f32 :=
  mulf (mulf (dotR q k)
      (broadcastInDim S9x2x8192x4x8192 ![0, 1, 2, 3, 4] bcast_S9x2x8192x4x1_S9x2x8192x4x8192_0_1_2_3_4
        (broadcastInDim S9x2x8192x4x1 ![0, 1, 2, 3] bcast_S9x2x8192x4_S9x2x8192x4x1_0_1_2_3 (qsR qs))))
    (broadcastInDim S9x2x8192x4x8192 ![0, 1, 2, 3, 4] bcast_S9x2x1x1x8192_S9x2x8192x4x8192_0_1_2_3_4
      (broadcastInDim S9x2x1x1x8192 ![0, 1, 4] bcast_S9x2x8192_S9x2x1x1x8192_0_1_4
        (transpose S9x2x8192 [0, 2, 1] ks transposes_S9x8192x2_S9x2x8192_0_2_1)))

/-- The window. -/
def maskR : Vec Ideal S8192x8192 .i1 :=
  andi
    (cmpi .sle
      (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0))))
    (cmpi .sgt
      (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1
        (subi (broadcastInDim S8192x1 ![0] bcast_S8192_S8192x1_0 (iotaInDim S8192 32 0))
          (broadcastInDim S8192x1 ![] bcast_S_S8192x1 (constantI S_ 32 1024#32)))))

/-- The scores of the window. -/
def seenR : FVec Ideal S9x2x8192x4x8192 .f32 :=
  select (broadcastInDim S9x2x8192x4x8192 ![2, 3, 4] bcast_S8192x1x8192_S9x2x8192x4x8192_2_3_4
      (broadcastInDim S8192x1x8192 ![0, 2] bcast_S8192x8192_S8192x1x8192_0_2 maskR))
    (scoreR q k qs ks) (broadcastInDim S9x2x8192x4x8192 ![] bcast_S_S9x2x8192x4x8192 (constant S_ .f32 0xFF800000#32))

/-- The greatest scores. -/
def topR : FVec Ideal S9x2x8192x4 .f32 :=
  Host.reduce FloatOps.maximumf (seenR q k qs ks) (constant S_ .f32 0xFF800000#32) reducesTo_S9x2x8192x4x8192_S9x2x8192x4_d4 h_S_

/-- The exponentials. -/
def expR : FVec Ideal S9x2x8192x4x8192 .f32 :=
  Host.exp (subf (seenR q k qs ks)
    (broadcastInDim S9x2x8192x4x8192 ![0, 1, 2, 3, 4] bcast_S9x2x8192x4x1_S9x2x8192x4x8192_0_1_2_3_4
      (broadcastInDim S9x2x8192x4x1 ![0, 1, 2, 3] bcast_S9x2x8192x4_S9x2x8192x4x1_0_1_2_3 (topR q k qs ks))))

/-- Their sums. -/
def sumR : FVec Ideal S9x2x8192x4 .f32 :=
  Host.reduceAdd (expR q k qs ks) (constant S_ .f32 0x00000000#32) reducesTo_S9x2x8192x4x8192_S9x2x8192x4_d4 h_S_

/-- The exponentials, scaled and clamped. -/
def capR : FVec Ideal S9x2x8192x4x8192 .f32 :=
  minimumf (broadcastInDim S9x2x8192x4x8192 ![] bcast_S_S9x2x8192x4x8192 (constant S_ .f32 0x43E00000#32))
    (maximumf (broadcastInDim S9x2x8192x4x8192 ![] bcast_S_S9x2x8192x4x8192 (constant S_ .f32 0x00000000#32))
      (mulf (expR q k qs ks) (broadcastInDim S9x2x8192x4x8192 ![] bcast_S_S9x2x8192x4x8192 (constant S_ .f32 0x43800000#32))))

/-- The values at their scales. -/
def vR : FVec Ideal S9x8192x2x256 .bf16 :=
  mulf v (broadcastInDim S9x8192x2x256 ![0, 1, 2, 3] bcast_S9x8192x2x1_S9x8192x2x256_0_1_2_3
    (broadcastInDim S9x8192x2x1 ![0, 1, 2] bcast_S9x8192x2_S9x8192x2x1_0_1_2 (truncf .bf16 vs bitsLt_bf16_f32)))

/-- The weighted sums of the values. -/
def avR : FVec Ideal S9x2x8192x4x256 .f32 :=
  Host.dotGeneral dot_S9x2x8192x4x8192_S9x8192x2x256_S9x2x8192x4x256_4_1_23_3_01_02 none (truncf .bf16 (capR q k qs ks) bitsLt_bf16_f32) (vR v vs)

/-- The quotients. -/
def quoR : FVec Ideal S9x2x8192x4x256 .f32 :=
  Host.divf (avR q k v qs ks vs)
    (broadcastInDim S9x2x8192x4x256 ![0, 1, 2, 3, 4] bcast_S9x2x8192x4x1_S9x2x8192x4x256_0_1_2_3_4
      (broadcastInDim S9x2x8192x4x1 ![0, 1, 2, 3] bcast_S9x2x8192x4_S9x2x8192x4x1_0_1_2_3
        (mulf (broadcastInDim S9x2x8192x4 ![] bcast_S_S9x2x8192x4 (constant S_ .f32 0x43800000#32)) (sumR q k qs ks))))

/-- The attention. -/
def attR : FVec Ideal S9x8192x2048 .bf16 :=
  truncf .bf16 (shapeCast S9x8192x2048 (transpose S9x8192x2x4x256 [0, 2, 1, 3, 4] (quoR q k v qs ks vs) transposes_S9x2x8192x4x256_S9x8192x2x4x256_0_2_1_3_4)
    shapeCasts_S9x8192x2x4x256_S9x8192x2048 : FVec Ideal S9x8192x2048 .f32) bitsLt_bf16_f32

/-! ## Each operation at an index -/

section

variable (b : Fin 9) (g : Fin 2) (s : Fin 8192) (h : Fin 4) (n : Fin 8192) (d : Fin 256)

theorem dotA (x : FVec Ideal S9x8192x2x4x256 .bf16) (y : FVec Ideal S9x8192x2x256 .bf16) :
    (Host.dotGeneral dot_S9x8192x2x4x256_S9x8192x2x256_S9x2x8192x4x8192_4_3_13_1_02_02 none x y (ix5 b g s h n) : Ideal .f32) =
      ∑ j : Fin 256, (x (ix5 b s g h j) : EReal) * y (ix4 b n g j) := by
  pointwise

theorem dotB (x : FVec Ideal S9x2x8192x4x8192 .bf16) (y : FVec Ideal S9x8192x2x256 .bf16) :
    (Host.dotGeneral dot_S9x2x8192x4x8192_S9x8192x2x256_S9x2x8192x4x256_4_1_23_3_01_02 none x y (ix5 b g s h d) : Ideal .f32) =
      ∑ n : Fin 8192, (x (ix5 b g s h n) : EReal) * y (ix4 b n g d) := by
  pointwise

theorem castQ (x : FVec Ideal S9x8192x8x256 .bf16) :
    (shapeCast S9x8192x2x4x256 x shapeCasts_S9x8192x8x256_S9x8192x2x4x256 (ix5 b s g h d) : EReal) = x (ix4 b s ⟨4 * g.val + h.val, by omega⟩ d) := by
  pointwise
  blk_ext []

theorem castS (x : FVec Ideal S9x8192x8 .f32) :
    (shapeCast S9x8192x2x4 x shapeCasts_S9x8192x8_S9x8192x2x4 (ix4 b s g h) : EReal) = x (ix3 b s ⟨4 * g.val + h.val, by omega⟩) := by
  pointwise
  blk_ext []

theorem tranS (x : FVec Ideal S9x8192x2x4 .f32) :
    (transpose S9x2x8192x4 [0, 2, 1, 3] x transposes_S9x8192x2x4_S9x2x8192x4_0_2_1_3 (ix4 b g s h) : EReal) = x (ix4 b s g h) := by
  pointwise

theorem tranK (x : FVec Ideal S9x8192x2 .f32) :
    (transpose S9x2x8192 [0, 2, 1] x transposes_S9x8192x2_S9x2x8192_0_2_1 (ix3 b g n) : EReal) = x (ix3 b n g) := by
  pointwise

theorem bA (x : FVec Ideal S9x2x8192x4 .f32) :
    (broadcastInDim S9x2x8192x4x8192 ![0, 1, 2, 3, 4] bcast_S9x2x8192x4x1_S9x2x8192x4x8192_0_1_2_3_4
        (broadcastInDim S9x2x8192x4x1 ![0, 1, 2, 3] bcast_S9x2x8192x4_S9x2x8192x4x1_0_1_2_3 x) (ix5 b g s h n) : EReal) = x (ix4 b g s h) := by
  pointwise

theorem bB (x : FVec Ideal S9x2x8192x4 .f32) :
    (broadcastInDim S9x2x8192x4x256 ![0, 1, 2, 3, 4] bcast_S9x2x8192x4x1_S9x2x8192x4x256_0_1_2_3_4
        (broadcastInDim S9x2x8192x4x1 ![0, 1, 2, 3] bcast_S9x2x8192x4_S9x2x8192x4x1_0_1_2_3 x) (ix5 b g s h d) : EReal) = x (ix4 b g s h) := by
  pointwise

theorem bK (x : FVec Ideal S9x2x8192 .f32) :
    (broadcastInDim S9x2x8192x4x8192 ![0, 1, 2, 3, 4] bcast_S9x2x1x1x8192_S9x2x8192x4x8192_0_1_2_3_4
      (broadcastInDim S9x2x1x1x8192 ![0, 1, 4] bcast_S9x2x8192_S9x2x1x1x8192_0_1_4 x) (ix5 b g s h n) : EReal) = x (ix3 b g n) := by
  pointwise

theorem bV (x : FVec Ideal S9x8192x2 .bf16) :
    (broadcastInDim S9x8192x2x256 ![0, 1, 2, 3] bcast_S9x8192x2x1_S9x8192x2x256_0_1_2_3
    (broadcastInDim S9x8192x2x1 ![0, 1, 2] bcast_S9x8192x2_S9x8192x2x1_0_1_2 x) (ix4 b n g d) : EReal) = x (ix3 b n g) := by
  pointwise

theorem bM (x : Vec Ideal S8192x8192 .i1) :
    (broadcastInDim S9x2x8192x4x8192 ![2, 3, 4] bcast_S8192x1x8192_S9x2x8192x4x8192_2_3_4
      (broadcastInDim S8192x1x8192 ![0, 2] bcast_S8192x8192_S8192x1x8192_0_2 x) (ix5 b g s h n) : BitVec 1) = x (ix2 s n) := by
  pointwise

theorem rmaxA (x : FVec Ideal S9x2x8192x4x8192 .f32) (c : FVec Ideal S_ .f32) :
    (Host.reduce (FloatOps.maximumf (F := Ideal) (φ := .f32)) x c reducesTo_S9x2x8192x4x8192_S9x2x8192x4_d4 h_S_ (ix4 b g s h) : Ideal .f32) =
      Finset.fold max (c (Shape.Idx.first h_S_) : EReal) (fun n : Fin 8192 => (x (ix5 b g s h n) : EReal)) Finset.univ := by
  pointwise

theorem rsumA (x : FVec Ideal S9x2x8192x4x8192 .f32) (w : BitVec 32) :
    (Host.reduceAdd x (constant S_ .f32 w) reducesTo_S9x2x8192x4x8192_S9x2x8192x4_d4 h_S_ (ix4 b g s h) : Ideal .f32) =
      Ideal.ofBits .f32 w + ∑ n : Fin 8192, (x (ix5 b g s h n) : EReal) := by
  pointwise

theorem tranO (x : FVec Ideal S9x2x8192x4x256 .f32) :
    (transpose S9x8192x2x4x256 [0, 2, 1, 3, 4] x transposes_S9x2x8192x4x256_S9x8192x2x4x256_0_2_1_3_4 (ix5 b s g h d) : EReal) = x (ix5 b g s h d) := by
  pointwise

theorem castO (x : FVec Ideal S9x8192x2x4x256 .f32) (e : Fin 2048) :
    (shapeCast S9x8192x2048 x shapeCasts_S9x8192x2x4x256_S9x8192x2048 (ix3 b s e) : EReal) =
      x (ix5 b s ⟨e.val / 1024, by omega⟩ ⟨e.val / 256 % 4, by omega⟩ ⟨e.val % 256, by omega⟩) := by
  pointwise
  blk_ext []

theorem exp_at {t : Shape} (x : FVec Ideal t .f32) (j : t.Idx) : (Host.exp x j : EReal) = Ideal.exp (x j) := rfl

theorem sub_at {t : Shape} (x y : FVec Ideal t .f32) (j : t.Idx) : (subf x y j : EReal) = (x j : EReal) - y j := rfl

theorem cast_at {t : Shape} (x : FVec Ideal t .f32) (j : t.Idx) : (truncf .bf16 x bitsLt_bf16_f32 j : EReal) = x j := rfl

theorem mulb_at {t : Shape} (x y : FVec Ideal t .bf16) (j : t.Idx) : (mulf x y j : EReal) = (x j : EReal) * y j := rfl

theorem sel_at {t : Shape} (p : Vec Ideal t .i1) (x y : FVec Ideal t .f32) (j : t.Idx) :
    (select p x y j : EReal) = if (p j : BitVec 1) = 1#1 then (x j : EReal) else y j := by
  show Scalar.select (p j) (x j) (y j) = _
  unfold Scalar.select
  rfl

end

end Cert.ReferenceIdeal.Spec

end
-- ==== Proof.RefTail.lean ====
module

public import proofs.«01_k».proof.Proof.RefOut
public import proofs.«01_k».proof.Proof.Gen.ReferenceIdeal.Frame
public import Idealize.ShloMosaic.Lib.StableHlo.ReadAt
public import Idealize.ShloMosaic.Lib.Pipeline.ValueKit

/-! What the reference's operations after its copies leave. -/

@[expose] public section

set_option maxRecDepth 16384

noncomputable section

namespace Cert.ReferenceIdeal.Spec

open Idealize.ShloMosaic Idealize.ShloMosaic.TcCoe Cert.ReferenceIdeal Cert.ReferenceIdeal.Gen

variable (W : Valuation τ sig (Elt Ideal))

/-- The operations after the copies. -/
abbrev tailOps : List (HloOp τ sig (Elt Ideal)) := List.flatten [hostOps1, hostOps1_1, hostOps1_2, hostOps1_3, hostOps1_4]

theorem tail_v132 : StableHlo.after tailOps W (Proc.devRef .tc main_v132) =
    attR (W (Proc.devRef .tc main_v81_3)) (W (Proc.devRef .tc main_v81_4)) (W (Proc.devRef .tc main_v81_5))
      (W (Proc.devRef .tc main_v26)) (W (Proc.devRef .tc main_v53)) (W (Proc.devRef .tc main_v80)) := by
  unfold tailOps
  after_reads_simp
  simp -implicitDefEqProofs only [StableHlo.TRef.toBuf, StableHlo.TRef.ofBuf, cast_cast, cast_eq]
  rfl

theorem tail_v26 : StableHlo.after tailOps W (Proc.devRef .tc main_v26) = W (Proc.devRef .tc main_v26) := by
  unfold tailOps
  after_reads_simp

theorem tail_v53 : StableHlo.after tailOps W (Proc.devRef .tc main_v53) = W (Proc.devRef .tc main_v53) := by
  unfold tailOps
  after_reads_simp

theorem tail_v80 : StableHlo.after tailOps W (Proc.devRef .tc main_v80) = W (Proc.devRef .tc main_v80) := by
  unfold tailOps
  after_reads_simp

end Cert.ReferenceIdeal.Spec

end
-- ==== Proof.RefAtt.lean ====
module

public import proofs.«01_k».proof.Proof.RefOut
public import proofs.«01_k».proof.Proof.Gen.ReferenceIdeal.Launch
public import Idealize.ShloMosaic.Lib.Pipeline.ValueKit

/-! The reference's attention at an index is the kernel's. -/

@[expose] public section

set_option maxRecDepth 16384

noncomputable section

namespace Cert.ReferenceIdeal.Spec

open Idealize.ShloMosaic Idealize.ShloMosaic.TcCoe Cert.ReferenceIdeal Cert.ReferenceIdeal.Gen
open Cert.KernelIdeal.Spec (refS scaleS codeS yS amaxS qRowS kRowS ofBits_bot ofBits_top sees seesS gOf qkS valS topS facS powS outS outArr cl core InRange row_scale code_real)

theorem ofBits_0 : Ideal.ofBits .f32 0x00000000#32 = 0 := by
  simp [Ideal.ofBits, Ideal.ieee]

theorem ofBits_256 : Ideal.ofBits .f32 0x43800000#32 = ((256 : ℝ) : EReal) := by
  simp [Ideal.ofBits, Ideal.ieee]
  rw [← EReal.coe_mul]
  norm_num

theorem ofBits_16th : Ideal.ofBits .f32 0x3D800000#32 = ((1 / 16 : ℝ) : EReal) := by
  simp [Ideal.ofBits, Ideal.ieee]
  rw [← EReal.coe_mul]
  norm_num

section

variable (q : FVec Ideal S9x8192x8x256 .bf16) (k v : FVec Ideal S9x8192x2x256 .bf16) (qs : FVec Ideal S9x8192x8 .f32) (ks vs : FVec Ideal S9x8192x2 .f32)
  (b : Fin 9) (g : Fin 2) (s : Fin 8192) (h : Fin 4) (n : Fin 8192) (d : Fin 256)

theorem dotR_at : (dotR q k (ix5 b g s h n) : EReal) = ∑ j : Fin 256, (q (ix4 b s ⟨4 * g.val + h.val, by omega⟩ j) : EReal) * k (ix4 b n g j) := by
  unfold dotR
  rw [dotA]
  exact Finset.sum_congr rfl fun j _ => by rw [castQ]

theorem qsR_at : (qsR qs (ix4 b g s h) : EReal) = qs (ix3 b s ⟨4 * g.val + h.val, by omega⟩) * ((1 / 16 : ℝ) : EReal) := by
  unfold qsR
  rw [mulf_at, tranS, castS, splat_at, ofBits_16th]

theorem scoreR_at : (scoreR q k qs ks (ix5 b g s h n) : EReal) =
    (∑ j : Fin 256, (q (ix4 b s ⟨4 * g.val + h.val, by omega⟩ j) : EReal) * k (ix4 b n g j)) *
      (qs (ix3 b s ⟨4 * g.val + h.val, by omega⟩) * ((1 / 16 : ℝ) : EReal)) * ks (ix3 b n g) := by
  unfold scoreR
  rw [mulf_at, mulf_at, dotR_at, bA, qsR_at, bK, tranK]

theorem iotaRow (x : IVec S8192 32) :
    broadcastInDim S8192x8192 ![0, 1] bcast_S1x8192_S8192x8192_0_1 (broadcastInDim S1x8192 ![1] bcast_S8192_S1x8192_1 x) (ix2 s n) = x (ix1 n) := by
  pointwise

theorem iotaCol (x : IVec S8192x1 32) :
    broadcastInDim S8192x8192 ![0, 1] bcast_S8192x1_S8192x8192_0_1 x (ix2 s n) = x (ix2 s 0) := by
  pointwise

theorem iotaTall (x : IVec S8192 32) :
    broadcastInDim S8192x1 ![0] bcast_S8192_S8192x1_0 x (ix2 s 0) = x (ix1 s) := by
  pointwise

theorem iota_at : iotaInDim S8192 32 0 (ix1 n) = BitVec.ofNat 32 n.val := by
  pointwise

theorem toInt_small (a : ℕ) (ha : a < 8192) : (BitVec.ofNat 32 a).toInt = (a : ℤ) := by
  have e : (BitVec.ofNat 32 a).toNat = a := by rw [BitVec.toNat_ofNat]; omega
  rw [BitVec.toInt_eq_toNat_of_lt (by omega), e]

theorem ofBool_eq (p : Prop) [Decidable p] : (BitVec.ofBool (decide p) = 1#1) = p := by
  by_cases h : p <;> simp [h]

theorem sle_at (a c : ℕ) (ha : a < 8192) (hc : c < 8192) :
    (IntOp.cmpi .sle (BitVec.ofNat 32 a) (BitVec.ofNat 32 c) = 1#1) = (a ≤ c) := by
  show (BitVec.ofBool ((BitVec.ofNat 32 a).sle (BitVec.ofNat 32 c)) = 1#1) = _
  rw [BitVec.sle_eq_decide, ofBool_eq, toInt_small a ha, toInt_small c hc]
  exact propext Int.ofNat_le

theorem sgt_at (a c : ℕ) (ha : a < 8192) (hc : c < 8192) :
    (IntOp.cmpi .sgt (BitVec.ofNat 32 a) (IntOp.subi (BitVec.ofNat 32 c) 1024#32) = 1#1) = (c < a + 1024) := by
  show (BitVec.ofBool ((BitVec.ofNat 32 c - 1024#32).slt (BitVec.ofNat 32 a)) = 1#1) = _
  rw [BitVec.slt_eq_decide, ofBool_eq, toInt_small a ha]
  have e : (BitVec.ofNat 32 c - 1024#32).toInt = (c : ℤ) - 1024 := by
    rw [BitVec.toInt_sub, toInt_small c hc]
    show ((c : ℤ) - 1024).bmod (2 ^ 32) = _
    rw [Int.bmod_def]
    omega
  rw [e]
  exact propext (by omega)

theorem and_at {t : Shape} (x y : IVec t 1) (j : t.Idx) : andi x y j = IntOp.andi (x j) (y j) := rfl

theorem le_at {t : Shape} (x y : IVec t 32) (j : t.Idx) : cmpi .sle x y j = IntOp.cmpi .sle (x j) (y j) := rfl

theorem gt_at {t : Shape} (x y : IVec t 32) (j : t.Idx) : cmpi .sgt x y j = IntOp.cmpi .sgt (x j) (y j) := rfl

theorem sub1_at {t : Shape} (x y : IVec t 32) (j : t.Idx) : subi x y j = IntOp.subi (x j) (y j) := rfl

theorem thou_at (j : S8192x1.Idx) : broadcastInDim S8192x1 ![] bcast_S_S8192x1 (constantI S_ 32 1024#32) j = 1024#32 := rfl

theorem maskR_at : (maskR (ix2 s n) = 1#1) = seesS s n := by
  unfold maskR
  rw [and_at, le_at, gt_at, iotaRow, iotaCol, iotaCol, sub1_at, iotaTall, iota_at, iota_at, thou_at]
  rw [IntOp.andi_eq_one, sle_at _ _ n.isLt s.isLt, sgt_at _ _ n.isLt s.isLt]
  unfold seesS sees
  exact propext (by omega)

theorem seenR_at : (seenR q k qs ks (ix5 b g s h n) : EReal) = if seesS s n then (scoreR q k qs ks (ix5 b g s h n) : EReal) else ⊥ := by
  unfold seenR
  rw [sel_at, bM, splat_at, ofBits_bot]
  exact if_congr (iff_of_eq (maskR_at s n)) rfl rfl

theorem topR_at : (topR q k qs ks (ix4 b g s h) : EReal) = Finset.fold max ⊥ (fun n : Fin 8192 => (seenR q k qs ks (ix5 b g s h n) : EReal)) Finset.univ := by
  unfold topR
  rw [rmaxA, const_at, ofBits_bot]

theorem expR_at : (expR q k qs ks (ix5 b g s h n) : EReal) = Ideal.exp ((seenR q k qs ks (ix5 b g s h n) : EReal) - topR q k qs ks (ix4 b g s h)) := by
  unfold expR
  rw [exp_at, sub_at, bA]

theorem sumR_at : (sumR q k qs ks (ix4 b g s h) : EReal) = ∑ n : Fin 8192, (expR q k qs ks (ix5 b g s h n) : EReal) := by
  unfold sumR
  rw [rsumA, ofBits_0, zero_add]

theorem capR_at : (capR q k qs ks (ix5 b g s h n) : EReal) = cl ((expR q k qs ks (ix5 b g s h n) : EReal) * ((256 : ℝ) : EReal)) := by
  unfold capR cl
  rw [minf_at, maxf_at, mulf_at, splat_at, splat_at, splat_at, ofBits_0, ofBits_256]

theorem vR_at : (vR v vs (ix4 b n g d) : EReal) = (v (ix4 b n g d) : EReal) * vs (ix3 b n g) := by
  unfold vR
  rw [mulb_at, bV, cast_at]

theorem avR_at : (avR q k v qs ks vs (ix5 b g s h d) : EReal) =
    ∑ n : Fin 8192, cl ((expR q k qs ks (ix5 b g s h n) : EReal) * ((256 : ℝ) : EReal)) * ((v (ix4 b n g d) : EReal) * vs (ix3 b n g)) := by
  unfold avR
  rw [dotB]
  exact Finset.sum_congr rfl fun n _ => by rw [cast_at, capR_at, vR_at]

theorem quoR_at : (quoR q k v qs ks vs (ix5 b g s h d) : EReal) =
    Ideal.div (∑ n : Fin 8192, cl ((expR q k qs ks (ix5 b g s h n) : EReal) * ((256 : ℝ) : EReal)) * ((v (ix4 b n g d) : EReal) * vs (ix3 b n g)))
      (((256 : ℝ) : EReal) * ∑ n : Fin 8192, (expR q k qs ks (ix5 b g s h n) : EReal)) := by
  unfold quoR
  rw [divf_at, avR_at, bB, mulf_at, splat_at, ofBits_256, sumR_at]

theorem attR_at (e : Fin 2048) : (attR q k v qs ks vs (ix3 b s e) : EReal) =
    quoR q k v qs ks vs (ix5 b ⟨e.val / 1024, by omega⟩ s ⟨e.val / 256 % 4, by omega⟩ ⟨e.val % 256, by omega⟩) := by
  unfold attR
  rw [cast_at, castO, tranO]

end

theorem coe_sum {ι : Type} (t : Finset ι) (f : ι → ℝ) : (∑ i ∈ t, (f i : EReal)) = ((∑ i ∈ t, f i : ℝ) : EReal) :=
  (map_sum (⟨⟨Real.toEReal, EReal.coe_zero⟩, EReal.coe_add⟩ : ℝ →+ EReal) f t).symm

section

variable (x : Vec Ideal S9x8192x2048 .bf16) (k v : Vec Ideal S9x8192x512 .bf16)
  (hq : ∀ i, InRange (x i)) (hk : ∀ i, InRange (k i)) (hv : ∀ i, InRange (v i))
  (b : Fin 9) (g : Fin 2) (s : Fin 8192) (h : Fin 4) (n : Fin 8192) (d : Fin 256)

/-- The query head. -/
def hd : Fin 8 := ⟨4 * g.val + h.val, by omega⟩

theorem hd_g : gOf (hd g h) = g := Fin.ext (by unfold gOf hd; show (4 * g.val + h.val) / 4 = g.val; omega)

include hq hk in
theorem qk_real : ∃ r : ℝ, qkS x k b s (hd g h) n = (r : EReal) := by
  obtain ⟨z, hz, -⟩ := row_scale (kRowS k b n g) fun _ => hk _
  choose p hp using fun j => code_real (kRowS k b n g) (fun _ => hk _) j
  choose o ho using fun j => code_real (qRowS x b s (hd g h)) (fun _ => hq _) j
  refine ⟨(∑ j, p j * o j) * (2 : ℝ) ^ z, ?_⟩
  unfold qkS
  rw [hd_g, hz]
  simp only [hp, ho]
  rw [EReal.coe_mul, ← coe_sum]
  simp only [EReal.coe_mul]

include hv in
theorem val_real : ∃ r : ℝ, valS v b (hd g h) n d = (r : EReal) := by
  obtain ⟨z, hz, -⟩ := row_scale (kRowS v b n g) fun _ => hv _
  obtain ⟨p, hp⟩ := code_real (kRowS v b n g) (fun _ => hv _) d
  refine ⟨p * (2 : ℝ) ^ z, ?_⟩
  unfold valS
  rw [hd_g, hz, hp, EReal.coe_mul]

theorem score_eq : (scoreR (codesQ x) (codesK k) (scalesQ x) (scalesK k) (ix5 b g s h n) : EReal) =
    qkS x k b s (hd g h) n * (scaleS (qRowS x b s (hd g h)) * ((1 / 16 : ℝ) : EReal)) := by
  rw [scoreR_at]
  unfold qkS
  rw [hd_g]
  have e1 : (∑ j : Fin 256, (codesQ x (ix4 b s ⟨4 * g.val + h.val, by omega⟩ j) : EReal) * codesK k (ix4 b n g j)) =
      ∑ j : Fin 256, codeS (kRowS k b n g) j * codeS (qRowS x b s (hd g h)) j :=
    Finset.sum_congr rfl fun j _ => by rw [codesQ_at, codesK_at, mul_comm]; rfl
  have e2 : (scalesQ x (ix3 b s ⟨4 * g.val + h.val, by omega⟩) : EReal) = scaleS (qRowS x b s (hd g h)) := scalesQ_at x b s (hd g h)
  have e3 : (scalesK k (ix3 b n g) : EReal) = scaleS (kRowS k b n g) := scalesK_at k b n g
  exact (congrArg₂ (· * ·) (congrArg₂ (· * ·) e1 (congrArg (· * ((1 / 16 : ℝ) : EReal)) e2)) e3).trans (mul_right_comm _ _ _)

include hq hk hv in
theorem quo_eq : (quoR (codesQ x) (codesK k) (codesK v) (scalesQ x) (scalesK k) (scalesK v) (ix5 b g s h d) : EReal) =
    outS x k v b s (hd g h) d := by
  choose X hX using fun n => qk_real x k hq hk b g s h n
  choose V hV using fun n => val_real v hv b g h n d
  obtain ⟨z, hz, -⟩ := row_scale (qRowS x b s (hd g h)) fun _ => hq _
  have hs : ∀ n, (seenR (codesQ x) (codesK k) (scalesQ x) (scalesK k) (ix5 b g s h n) : EReal) =
      if seesS s n then ((X n * ((2 : ℝ) ^ z * (1 / 16)) : ℝ) : EReal) else ⊥ := fun n => by
    rw [seenR_at, score_eq, hX, hz, ← EReal.coe_mul, ← EReal.coe_mul]
  have hw : ∀ n, (codesK v (ix4 b n g d) : EReal) * (scalesK v (ix3 b n g) : EReal) = (V n : EReal) := fun n => by
    rw [← hV, codesK_at, scalesK_at]
    unfold valS
    rw [hd_g]
  rw [quoR_at]
  simp only [expR_at, topR_at, hs]
  refine (congrArg (fun f => Ideal.div f _) (Finset.sum_congr rfl fun n _ => congrArg _ (hw n))).trans ?_
  refine (core (seesS s) X V ((2 : ℝ) ^ z * (1 / 16)) (by positivity) s ?_ _ rfl _ rfl).symm.trans ?_
  · unfold seesS sees; omega
  · unfold outS powS topS facS
    simp only [hX, hV, hz]
    rw [← EReal.coe_mul, ← mul_assoc]

include hq hk hv in
/-- The reference's attention is the kernel's. -/
theorem att_eq : attR (codesQ x) (codesK k) (codesK v) (scalesQ x) (scalesK k) (scalesK v) = outArr x k v := by
  funext i
  obtain ⟨b, s, e, rfl⟩ : ∃ b s e, i = ix3 b s e := ⟨i 0, i 1, i 2, by ext a; fin_cases a <;> rfl⟩
  refine (attR_at _ _ _ _ _ _ b s e).trans ((quo_eq x k v hq hk hv b _ s _ _).trans ?_)
  have e : hd ⟨e.val / 1024, by omega⟩ ⟨e.val / 256 % 4, by omega⟩ = ⟨e.val / 256, by omega⟩ := Fin.ext (by unfold hd; show 4 * (e.val / 1024) + e.val / 256 % 4 = e.val / 256; omega)
  rw [e]
  rfl

end

end Cert.ReferenceIdeal.Spec

end
-- ==== Proof.RefEnds.lean ====
module

public import proofs.«01_k».proof.Proof.RefArr
public import proofs.«01_k».proof.Proof.RefTail
public import proofs.«01_k».proof.Proof.RefAtt

/-! What the reference leaves: the codes, the scales and the attention of the arguments. -/

@[expose] public section

set_option maxRecDepth 16384

noncomputable section

namespace Cert.ReferenceIdeal.Spec

open Idealize.ShloMosaic Idealize.ShloMosaic.TcCoe Idealize.SL.Sem Cert.ReferenceIdeal Cert.ReferenceIdeal.Gen
open Cert.KernelIdeal.Spec (outArr InRange)

variable (m : (ℓ : Loc nD τ sig) → Buf (Elt Ideal) ℓ) (ρ : Dev nD → PrngReg)

/-- The buffers as the copies leave them. -/
def left (c : Dev nD) : Valuation τ sig (Elt Ideal) :=
  Pipeline.withArrays (cfgs 0).spec c (V0 m c) fun w => (dats m 0 c).arrAt w (cfgs 0).N

section

variable (c : Dev nD)

abbrev argQ : Vec Ideal S9x8192x2048 .bf16 := m ((c : Thread nD τ).loc main_arg0)
abbrev argK : Vec Ideal S9x8192x512 .bf16 := m ((c : Thread nD τ).loc main_arg1)
abbrev argV : Vec Ideal S9x8192x512 .bf16 := m ((c : Thread nD τ).loc main_arg2)

theorem left6 : left m c (Proc.devRef .tc main_v81_3) = codesQ (argQ m c) := (Pipeline.withArrays_arr _ winFacts0.arr_inj c _ _ 6).trans (arr6 m c)
theorem left7 : left m c (Proc.devRef .tc main_v81_4) = codesK (argK m c) := (Pipeline.withArrays_arr _ winFacts0.arr_inj c _ _ 7).trans (arr7 m c)
theorem left8 : left m c (Proc.devRef .tc main_v81_5) = codesK (argV m c) := (Pipeline.withArrays_arr _ winFacts0.arr_inj c _ _ 8).trans (arr8 m c)

theorem left26 : left m c (Proc.devRef .tc main_v26) = scalesQ (argQ m c) :=
  (Pipeline.withArrays_of_ne _ c (V0 m c) _ main_v26 (by exact (by decide : ∀ w, Pipeline.arrRef spec0 w ≠ main_v26))).trans (v26_eq m c)
theorem left53 : left m c (Proc.devRef .tc main_v53) = scalesK (argK m c) :=
  (Pipeline.withArrays_of_ne _ c (V0 m c) _ main_v53 (by exact (by decide : ∀ w, Pipeline.arrRef spec0 w ≠ main_v53))).trans (v53_eq m c)
theorem left80 : left m c (Proc.devRef .tc main_v80) = scalesK (argV m c) :=
  (Pipeline.withArrays_of_ne _ c (V0 m c) _ main_v80 (by exact (by decide : ∀ w, Pipeline.arrRef spec0 w ≠ main_v80))).trans (v80_eq m c)

theorem left132 (hq : ∀ i, InRange (argQ m c i)) (hk : ∀ i, InRange (argK m c i)) (hv : ∀ i, InRange (argV m c i)) :
    StableHlo.after tailOps (left m c) (Proc.devRef .tc main_v132) = outArr (argQ m c) (argK m c) (argV m c) := by
  rw [tail_v132, left6, left7, left8, left26, left53, left80]
  exact att_eq _ _ _ hq hk hv

end

/-- The results. -/
theorem ends (hq : ∀ c i, InRange (argQ m c i)) (hk : ∀ c i, InRange (argK m c i)) (hv : ∀ c i, InRange (argV m c i)) :
    θ_run defs (onTc (τ := τ) (main (F := Ideal))) ⟨m, fun _ => 0, ρ⟩ (fun r => ∀ c : Dev nD,
      r.2.mem ((c.tc : Thread nD τ).loc main_v132) = outArr (argQ m c) (argK m c) (argV m c)
      ∧ r.2.mem ((c.tc : Thread nD τ).loc main_v81_0) = codesQ (argQ m c)
      ∧ r.2.mem ((c.tc : Thread nD τ).loc main_v26) = scalesQ (argQ m c)
      ∧ r.2.mem ((c.tc : Thread nD τ).loc main_v81_1) = codesK (argK m c)
      ∧ r.2.mem ((c.tc : Thread nD τ).loc main_v53) = scalesK (argK m c)
      ∧ r.2.mem ((c.tc : Thread nD τ).loc main_v81_2) = codesK (argV m c)
      ∧ r.2.mem ((c.tc : Thread nD τ).loc main_v80) = scalesK (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(Pipeline.FramePost.rest_eq h.1 c main_v132 (Pipeline.mem_restRefs_of main_v132 (by decide) (by decide))).trans (left132 m c (hq c) (hk c) (hv c)),
      (Pipeline.FramePost.out_eq h.1 c 3).trans (arr3 m c),
      (Pipeline.FramePost.rest_eq h.1 c main_v26 (Pipeline.mem_restRefs_of main_v26 (by decide) (by decide))).trans ((tail_v26 (left m c)).trans (left26 m c)),
      (Pipeline.FramePost.out_eq h.1 c 4).trans (arr4 m c),
      (Pipeline.FramePost.rest_eq h.1 c main_v53 (Pipeline.mem_restRefs_of main_v53 (by decide) (by decide))).trans ((tail_v53 (left m c)).trans (left53 m c)),
      (Pipeline.FramePost.out_eq h.1 c 5).trans (arr5 m c),
      (Pipeline.FramePost.rest_eq h.1 c main_v80 (Pipeline.mem_restRefs_of main_v80 (by decide) (by decide))).trans ((tail_v80 (left m c)).trans (left80 m c)),
      (Pipeline.FramePost.rest_eq h.1 c main_arg0 (Pipeline.mem_restRefs_of main_arg0 (by decide) (by decide))).trans (W_main_arg0 m (dats m) c),
      (Pipeline.FramePost.rest_eq h.1 c main_arg1 (Pipeline.mem_restRefs_of main_arg1 (by decide) (by decide))).trans (W_main_arg1 m (dats m) c),
      (Pipeline.FramePost.rest_eq h.1 c main_arg2 (Pipeline.mem_restRefs_of main_arg2 (by decide) (by decide))).trans (W_main_arg2 m (dats m) c)⟩) (run_main_quiescent m ρ)

end Cert.ReferenceIdeal.Spec

end
-- ==== Proof.Range.lean ====
module

public import proofs.«01_k».proof.Defs
public import proofs.«01_k».proof.Proof.Row
public import proofs.«01_k».proof.Proof.Gen.Pre_in_range
public import Idealize.ShloMosaic.Lib.ReduceAll

/-! The precondition at an index. -/

@[expose] public section

set_option maxRecDepth 16384

noncomputable section

namespace Cert.KernelIdeal.Spec

open Idealize.ShloMosaic Idealize.ShloMosaic.TcCoe

theorem one_of_le {t : Shape} (h : Cert.Pre_in_range.S_.BroadcastsInDim t ![]) (x : FVec Ideal t .bf16) (i : t.Idx)
    (e : cmpf .ole (Host.absf x) (broadcastInDim t ![] h (constant Cert.Pre_in_range.S_ .bf16 0x7F7F#16)) i = 1#1) : InRange (x i) := by
  have e' : BitVec.ofBool (decide (max (x i : EReal) (-(x i)) ≤ Ideal.ofBits .bf16 0x7F7F#16)) = 1#1 := e
  unfold InRange
  by_contra hn
  rw [decide_eq_false hn] at e'
  exact absurd e' (by decide)

instance : Subsingleton Cert.Pre_in_range.S_.Idx := ⟨fun a b => funext fun k => k.elim0⟩

theorem of_all {t : Shape} {axes : List (Fin t.rank)} (h : Cert.Pre_in_range.S_.BroadcastsInDim t ![]) (hr : t.ReducesTo axes Cert.Pre_in_range.S_)
    (hu : 0 < Cert.Pre_in_range.S_.numel) (x : FVec Ideal t .bf16)
    (e : Host.reduce IntOp.andi (cmpf .ole (Host.absf x) (broadcastInDim t ![] h (constant Cert.Pre_in_range.S_ .bf16 0x7F7F#16)))
      (constantI Cert.Pre_in_range.S_ 1 1#1) hr hu = fun _ => 1#1) (i : t.Idx) : InRange (x i) :=
  one_of_le h x i (Host.reduce_andi_all _ _ hr hu ix0 (congrFun e ix0) i)

theorem fn_range (x : Vec Ideal Cert.Pre_in_range.S9x8192x2048 .bf16) (k v : Vec Ideal Cert.Pre_in_range.S9x8192x512 .bf16)
    (h0 : (Cert.Pre_in_range.fn (F := Ideal) x k v).1 = fun _ => 1#1) (h1 : (Cert.Pre_in_range.fn (F := Ideal) x k v).2.1 = fun _ => 1#1)
    (h2 : (Cert.Pre_in_range.fn (F := Ideal) x k v).2.2 = fun _ => 1#1) :
    (∀ i, InRange (x i)) ∧ (∀ i, InRange (k i)) ∧ (∀ i, InRange (v i)) := by
  unfold Cert.Pre_in_range.fn at h0 h1 h2
  dsimp only at h0 h1 h2
  exact ⟨of_all _ _ _ x h0, of_all _ _ _ k h1, of_all _ _ _ v h2⟩

variable (m : (ℓ : Loc Cert.KernelIdeal.nD Cert.KernelIdeal.τ Cert.KernelIdeal.sig) → Buf (Elt Ideal) ℓ)

theorem range (h : Cert.Pre_KernelIdeal_in_range m) (c : Dev Cert.KernelIdeal.nD) :
    (∀ i, InRange ((m ((c.tc : Thread Cert.KernelIdeal.nD Cert.KernelIdeal.τ).loc Cert.KernelIdeal.main_arg0) : Vec Ideal Cert.KernelIdeal.S9x8192x2048 .bf16) i)) ∧
      (∀ i, InRange ((m ((c.tc : Thread Cert.KernelIdeal.nD Cert.KernelIdeal.τ).loc Cert.KernelIdeal.main_arg1) : Vec Ideal Cert.KernelIdeal.S9x8192x512 .bf16) i)) ∧
      (∀ i, InRange ((m ((c.tc : Thread Cert.KernelIdeal.nD Cert.KernelIdeal.τ).loc Cert.KernelIdeal.main_arg2) : Vec Ideal Cert.KernelIdeal.S9x8192x512 .bf16) i)) := by
  obtain ⟨h0, h1, h2⟩ := h c
  exact fn_range _ _ _ h0 h1 h2

end Cert.KernelIdeal.Spec

end
-- ==== Proof.lean ====
module

public import proofs.«01_k».proof.Defs
public import proofs.«01_k».proof.Proof.KernelFrame
public import proofs.«01_k».proof.Proof.KernelEnds
public import proofs.«01_k».proof.Proof.RefEnds
public import proofs.«01_k».proof.Proof.Range
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_in_range
public import Idealize.ShloMosaic.Adequacy
public import Idealize.ShloMosaic.Init

@[expose] public section

noncomputable section

namespace Cert.Proof

open Idealize.ShloMosaic Idealize.SL.Sem

theorem preserves : Cert.preserves_Kernel_KernelIdeal :=
  IdealRules.named_const.statement Cert.KernelIdeal.κ "log2e_16" .f32 0x3DB8AA3B#32
    (((1 / 16) * (Real.log 2)⁻¹ : ℝ) : EReal) rfl

theorem algebraic : Cert.algebraic_KernelIdeal_ReferenceIdeal_pre_in_range := by
  intro m g m' g' hpre hagree
  have hr := Cert.KernelIdeal.Spec.range m hpre
  have hq : ∀ c i, Cert.KernelIdeal.Spec.InRange (Cert.ReferenceIdeal.Spec.argQ m' c i) := fun c i => by
    rw [show Cert.ReferenceIdeal.Spec.argQ m' c = Cert.KernelIdeal.Spec.argQ m c from (hagree c).1]; exact (hr c).1 i
  have hk : ∀ c i, Cert.KernelIdeal.Spec.InRange (Cert.ReferenceIdeal.Spec.argK m' c i) := fun c i => by
    rw [show Cert.ReferenceIdeal.Spec.argK m' c = Cert.KernelIdeal.Spec.argK m c from (hagree c).2.1]; exact (hr c).2.1 i
  have hv : ∀ c i, Cert.KernelIdeal.Spec.InRange (Cert.ReferenceIdeal.Spec.argV m' c i) := fun c i => by
    rw [show Cert.ReferenceIdeal.Spec.argV m' c = Cert.KernelIdeal.Spec.argV m c from (hagree c).2.2]; exact (hr c).2.2 i
  refine ⟨_, _, _, _, _, _, _, Cert.KernelIdeal.Spec.ends m g (fun c => (hr c).1) (fun c => (hr c).2.1) (fun c => (hr c).2.2), ?_⟩
  refine (θ_run Cert.ReferenceIdeal.defs _ _).mono (fun r h c => ?_) (Cert.ReferenceIdeal.Spec.ends m' g' hq hk hv)
  have eq : Cert.ReferenceIdeal.Spec.argQ m' c = Cert.KernelIdeal.Spec.argQ m c := (hagree c).1
  have ek : Cert.ReferenceIdeal.Spec.argK m' c = Cert.KernelIdeal.Spec.argK m c := (hagree c).2.1
  have ev : Cert.ReferenceIdeal.Spec.argV m' c = Cert.KernelIdeal.Spec.argV m c := (hagree c).2.2
  obtain ⟨h0, h1, h2, h3, h4, h5, h6, h7, h8, h9⟩ := h c
  rw [eq, ek, ev] at h0
  rw [eq] at h1 h2
  rw [ek] at h3 h4
  rw [ev] at h5 h6
  exact ⟨h0, h1, h2, h3, h4, h5, h6, h7, h8, h9⟩

theorem claim : Cert.Claim :=
  ⟨Cert.Kernel.Gen.facts, Cert.KernelIdeal.Gen.facts, Cert.ReferenceIdeal.Gen.facts, Cert.Pre_in_range.Gen.facts,
    fun m ρ _ => Cert.Kernel.Gen.frame m ρ, fun m ρ _ => Cert.KernelIdeal.Spec.frame m ρ,
    fun m ρ _ => Cert.KernelIdeal.Spec.frame m ρ, fun m ρ _ => Cert.ReferenceIdeal.Gen.frame m ρ,
    fun m ρ _ => Cert.ReferenceIdeal.Gen.frame m ρ, preserves, algebraic⟩

end Cert.Proof

end
